-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_named : Cert.Pre_experts_named.Facts] (m : (ℓ : Loc Cert.Kernel3.nD Cert.Kernel3.τ Cert.Kernel3.sig) → Buf (Elt Bits) ℓ) : Prop :=
  ∀ c : Dev Cert.Kernel3.nD,
    (Cert.Pre_experts_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_named : Cert.Pre_experts_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_named [hPre_experts_named : Cert.Pre_experts_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 [hPre_rows_named : Cert.Pre_rows_named.Facts] (m : (ℓ : Loc Cert.Kernel4.nD Cert.Kernel4.τ Cert.Kernel4.sig) → Buf (Elt Bits) ℓ) : Prop :=
  ∀ c : Dev Cert.Kernel4.nD,
    (Cert.Pre_rows_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9))) = (fun _ => 1#1)

def Pre_Kernel4Ideal [hPre_rows_named : Cert.Pre_rows_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_rows_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_rows_named [hPre_rows_named : Cert.Pre_rows_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_rows_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_experts_named : Cert.Pre_experts_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_named [hReference3Ideal : Cert.Reference3Ideal.Facts] [hPre_experts_named : Cert.Pre_experts_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_named m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] [hPre_rows_named : Cert.Pre_rows_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] [hPre_rows_named : Cert.Pre_rows_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_rows_named [hReference4Ideal : Cert.Reference4Ideal.Facts] [hPre_rows_named : Cert.Pre_rows_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_rows_named m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)) (v6 : (c : Dev Cert.Kernel2Ideal.nD) → Buf (Elt Ideal) ((c.tc : Thread Cert.Kernel2Ideal.nD Cert.Kernel2Ideal.τ).loc Cert.Kernel2Ideal.main_v20_6)) (v7 : (c : Dev Cert.Kernel2Ideal.nD) → Buf (Elt Ideal) ((c.tc : Thread Cert.Kernel2Ideal.nD Cert.Kernel2Ideal.τ).loc Cert.Kernel2Ideal.main_v20_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_v20_6) = v6 c
          ∧ r.2.mem ((c.tc : Thread Cert.Kernel2Ideal.nD Cert.Kernel2Ideal.τ).loc Cert.Kernel2Ideal.main_v20_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_v91) = v1 c
          ∧ r.2.mem ((c.tc : Thread Cert.Reference2Ideal.nD Cert.Reference2Ideal.τ).loc Cert.Reference2Ideal.main_v92) = v2 c
          ∧ r.2.mem ((c.tc : Thread Cert.Reference2Ideal.nD Cert.Reference2Ideal.τ).loc Cert.Reference2Ideal.main_v93) = v3 c
          ∧ r.2.mem ((c.tc : Thread Cert.Reference2Ideal.nD Cert.Reference2Ideal.τ).loc Cert.Reference2Ideal.main_v89) = v4 c
          ∧ r.2.mem ((c.tc : Thread Cert.Reference2Ideal.nD Cert.Reference2Ideal.τ).loc Cert.Reference2Ideal.main_v96) = v5 c
          ∧ r.2.mem ((c.tc : Thread Cert.Reference2Ideal.nD Cert.Reference2Ideal.τ).loc Cert.Reference2Ideal.main_v97) = v6 c
          ∧ r.2.mem ((c.tc : Thread Cert.Reference2Ideal.nD Cert.Reference2Ideal.τ).loc Cert.Reference2Ideal.main_v98) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] [hPre_rows_named : Cert.Pre_rows_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v30_0)) (v1 : (c : Dev Cert.Kernel5Ideal.nD) → Buf (Elt Ideal) ((c.tc : Thread Cert.Kernel5Ideal.nD Cert.Kernel5Ideal.τ).loc Cert.Kernel5Ideal.main_v30_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30_0) = v0 c
          ∧ r.2.mem ((c.tc : Thread Cert.Kernel5Ideal.nD Cert.Kernel5Ideal.τ).loc Cert.Kernel5Ideal.main_v30_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_experts_named : Cert.Pre_experts_named.Facts) (hPre_rows_named : Cert.Pre_rows_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_named := hPre_experts_named)
    ∧ quiescent_Kernel3Ideal (hKernel3Ideal := hKernel3Ideal) (hPre_experts_named := hPre_experts_named)
    ∧ quiescent_Reference3Ideal (hReference3Ideal := hReference3Ideal)
    ∧ quiescent_Reference3Ideal_pre_experts_named (hReference3Ideal := hReference3Ideal) (hPre_experts_named := hPre_experts_named)
    ∧ quiescent_Kernel4 (hKernel4 := hKernel4) (hPre_rows_named := hPre_rows_named)
    ∧ quiescent_Kernel4Ideal (hKernel4Ideal := hKernel4Ideal) (hPre_rows_named := hPre_rows_named)
    ∧ quiescent_Reference4Ideal (hReference4Ideal := hReference4Ideal)
    ∧ quiescent_Reference4Ideal_pre_rows_named (hReference4Ideal := hReference4Ideal) (hPre_rows_named := hPre_rows_named)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_named := hPre_experts_named)
    ∧ preserves_Kernel4_Kernel4Ideal
    ∧ algebraic_Kernel4Ideal_Reference4Ideal (hKernel4Ideal := hKernel4Ideal) (hReference4Ideal := hReference4Ideal) (hPre_rows_named := hPre_rows_named)
    ∧ preserves_Kernel5_Kernel5Ideal
    ∧ algebraic_Kernel5Ideal_Reference5Ideal (hKernel5Ideal := hKernel5Ideal) (hReference5Ideal := hReference5Ideal)
-- ==== Pre_experts_named.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S73728x1024 .f32) (main_arg3 : FVec F S32x1024x512 .f32) (main_arg4 : FVec F S32x1024x512 .f32) (main_arg5 : FVec F S32x512x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 31#32
  let main_v2 : IVec S288 32 := broadcastInDim S288 ![] bcast_S_S288 main_c_0
  let main_v3 : IVec S288 1 := cmpi .sle main_arg0 main_v2
  let main_v4 : IVec S288 1 := andi main_v1 main_v3
  main_v4
-- ==== Pre_finite.lean ====
abbrev S32768x512 : Shape := ⟨2, ![32768, 512]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .bf16) (main_arg1 : FVec F S32768x512 .bf16) (main_arg2 : FVec F S32768x512 .bf16) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  main_v10
-- ==== Pre_rows_named.lean ====
abbrev S128x1x512 : Shape := ⟨3, ![128, 1, 512]⟩
abbrev S32768x1024 : Shape := ⟨2, ![32768, 1024]⟩
abbrev S32768x128 : Shape := ⟨2, ![32768, 128]⟩
abbrev S32768x256 : Shape := ⟨2, ![32768, 256]⟩
abbrev S73728x1024 : Shape := ⟨2, ![73728, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩

class Facts : Prop where
  bcast_S_S128x1x512 : S_.BroadcastsInDim S128x1x512 (![] : Fin 0 → Fin S128x1x512.rank)

variable [Facts]

def fn {F : FTy → Type} [FloatOps F] (main_arg0 : IVec S128x1x512 32) (main_arg1 : FVec F S32768x1024 .f32) (main_arg2 : FVec F S32768x128 .f32) (main_arg3 : FVec F S32768x256 .f32) (main_arg4 : FVec F S73728x1024 .f32) (main_arg5 : FVec F S1024x1024 .f32) (main_arg6 : FVec F S256x1024 .f32) (main_arg7 : FVec F S1024 .f32) (main_arg8 : FVec F S1024 .f32) (main_arg9 : FVec F S1024 .f32) : IVec S128x1x512 1 :=
  let main_c : IVec S_ 32 := constantI S_ 32 0#32
  let main_v0 : IVec S128x1x512 32 := broadcastInDim S128x1x512 ![] bcast_S_S128x1x512 main_c
  let main_v1 : IVec S128x1x512 1 := cmpi .sge main_arg0 main_v0
  let main_c_0 : IVec S_ 32 := constantI S_ 32 73727#32
  let main_v2 : IVec S128x1x512 32 := broadcastInDim S128x1x512 ![] bcast_S_S128x1x512 main_c_0
  let main_v3 : IVec S128x1x512 1 := cmpi .sle main_arg0 main_v2
  let main_v4 : IVec S128x1x512 1 := andi main_v1 main_v3
  main_v4
-- ==== Kernel.lean ====
abbrev S32768x512 : Shape := ⟨2, ![32768, 512]⟩
abbrev S256x128 : Shape := ⟨2, ![256, 128]⟩
abbrev S8192x128 : Shape := ⟨2, ![8192, 128]⟩
abbrev S2x256x1 : Shape := ⟨3, ![2, 256, 1]⟩
abbrev S256x256 : Shape := ⟨2, ![256, 256]⟩
abbrev S1x256x1 : Shape := ⟨3, ![1, 256, 1]⟩
abbrev S256x1 : Shape := ⟨2, ![256, 1]⟩

abbrev nBuf : Space → Nat
  | .hbm => 4
  | .vmem => 10
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S2x256x1, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 32], ![false, false, false]⟩

def k0_mult1 (i : grid0.Coords) : BitVec 32 :=
  let arg2 : BitVec 32 := BitVec.ofNat 32 (i 2).val
  let c256_i32 : BitVec 32 := 256#32
  let v23 : BitVec 32 := Scalar.muli arg2 c256_i32
  v23
def k0_off1 (i : grid0.Coords) : Fin 2 → Nat :=
  let arg2 : BitVec 32 := BitVec.ofNat 32 (i 2).val
  let c256_i32 : BitVec 32 := 256#32
  let v23 : BitVec 32 := Scalar.muli arg2 c256_i32
  let v24 : BitVec 32 := v23
  let v25 : Index := Scalar.indexCast v24
  let c0_10 : Index := 0#32
  ![v25.toNat, 0]
@[reducible] def k0_t1_loop (i : grid0.Coords) : Scf.Loop 32 :=
  let c0_i32 : BitVec 32 := 0#32
  let arg2 : BitVec 32 := BitVec.ofNat 32 (i 2).val
  let v98 : BitVec 32 := Scalar.subi arg2 c0_i32
  let c1_i32 : BitVec 32 := 1#32
  let v100 : BitVec 32 := Scalar.divsi v98 c1_i32
  let v101 : BitVec 32 := Scalar.muli v100 c1_i32
  let v102 : BitVec 32 := Scalar.addi c0_i32 v101
  let c1_i32_45 : BitVec 32 := 1#32
  ⟨c0_i32, v102, c1_i32_45⟩
def k0_mult2 (i : grid0.Coords) (k0_t1 : Fin (k0_t1_loop i).trips) : BitVec 32 :=
  let arg2 : BitVec 32 := BitVec.ofNat 32 (i 2).val
  let c1_i32_51 : BitVec 32 := 1#32
  let v108 : BitVec 32 := Scalar.subi arg2 c1_i32_51
  let c0_i32 : BitVec 32 := 0#32
  let c1_i32_45 : BitVec 32 := 1#32
  let arg9 : BitVec 32 := Scf.iv c0_i32 c1_i32_45 k0_t1
  let v109 : BitVec 32 := Scalar.subi v108 arg9
  let c256_i32_52 : BitVec 32 := 256#32
  let v110 : BitVec 32 := Scalar.muli v109 c256_i32_52
  v110
def k0_off2 (i : grid0.Coords) (k0_t1 : Fin (k0_t1_loop i).trips) : Fin 2 → Nat :=
  let arg2 : BitVec 32 := BitVec.ofNat 32 (i 2).val
  let c1_i32_51 : BitVec 32 := 1#32
  let v108 : BitVec 32 := Scalar.subi arg2 c1_i32_51
  let c0_i32 : BitVec 32 := 0#32
  let c1_i32_45 : BitVec 32 := 1#32
  let arg9 : BitVec 32 := Scf.iv c0_i32 c1_i32_45 k0_t1
  let v109 : BitVec 32 := Scalar.subi v108 arg9
  let c256_i32_52 : BitVec 32 := 256#32
  let v110 : BitVec 32 := Scalar.muli v109 c256_i32_52
  let v111 : BitVec 32 := v110
  let v112 : Index := Scalar.indexCast v111
  let c0_53 : Index := 0#32
  ![v112.toNat, 0]
@[reducible] def k0_t2_loop (i : grid0.Coords) : Scf.Loop 32 :=
  let c0_i32 : BitVec 32 := 0#32
  let arg2 : BitVec 32 := BitVec.ofNat 32 (i 2).val
  let v98 : BitVec 32 := Scalar.subi arg2 c0_i32
  let c1_i32 : BitVec 32 := 1#32
  let v100 : BitVec 32 := Scalar.divsi v98 c1_i32
  let v101 : BitVec 32 := Scalar.muli v100 c1_i32
  let v102 : BitVec 32 := Scalar.addi c0_i32 v101
  let v99 : BitVec 32 := Scalar.addi c0_i32 v98
  let c1_i32_46 : BitVec 32 := 1#32
  ⟨v102, v99, c1_i32_46⟩
def k0_mult3 (i : grid0.Coords) (k0_t2 : Fin (k0_t2_loop i).trips) : BitVec 32 :=
  let arg2 : BitVec 32 := BitVec.ofNat 32 (i 2).val
  let c1_i32_51 : BitVec 32 := 1#32
  let v108 : BitVec 32 := Scalar.subi arg2 c1_i32_51
  let c0_i32 : BitVec 32 := 0#32
  let v98 : BitVec 32 := Scalar.subi arg2 c0_i32
  let c1_i32 : BitVec 32 := 1#32
  let v100 : BitVec 32 := Scalar.divsi v98 c1_i32
  let v101 : BitVec 32 := Scalar.muli v100 c1_i32
  let v102 : BitVec 32 := Scalar.addi c0_i32 v101
  let c1_i32_46 : BitVec 32 := 1#32
  let arg9 : BitVec 32 := Scf.iv v102 c1_i32_46 k0_t2
  let v109 : BitVec 32 := Scalar.subi v108 arg9
  let c256_i32_52 : BitVec 32 := 256#32
  let v110 : BitVec 32 := Scalar.muli v109 c256_i32_52
  v110
def k0_off3 (i : grid0.Coords) (k0_t2 : Fin (k0_t2_loop i).trips) : Fin 2 → Nat :=
  let arg2 : BitVec 32 := BitVec.ofNat 32 (i 2).val
  let c1_i32_51 : BitVec 32 := 1#32
  let v108 : BitVec 32 := Scalar.subi arg2 c1_i32_51
  let c0_i32 : BitVec 32 := 0#32
  let v98 : BitVec 32 := Scalar.subi arg2 c0_i32
  let c1_i32 : BitVec 32 := 1#32
  let v100 : BitVec 32 := Scalar.divsi v98 c1_i32
  let v101 : BitVec 32 := Scalar.muli v100 c1_i32
  let v102 : BitVec 32 := Scalar.addi c0_i32 v101
  let c1_i32_46 : BitVec 32 := 1#32
  let arg9 : BitVec 32 := Scf.iv v102 c1_i32_46 k0_t2
  let v109 : BitVec 32 := Scalar.subi v108 arg9
  let c256_i32_52 : BitVec 32 := 256#32
  let v110 : BitVec 32 := Scalar.muli v109 c256_i32_52
  let v111 : BitVec 32 := v110
  let v112 : Index := Scalar.indexCast v111
  let c0_53 : Index := 0#32
  ![v112.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S32768x512 : Shape := ⟨2, ![32768, 512]⟩
abbrev S4x8192x8x64 : Shape := ⟨4, ![4, 8192, 8, 64]⟩
abbrev S4x8x8192x64 : Shape := ⟨4, ![4, 8, 8192, 64]⟩
abbrev S8192 : Shape := ⟨1, ![8192]⟩
abbrev S4x8x8192x8192 : Shape := ⟨4, ![4, 8, 8192, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .f32⟩
  | .hbm, ⟨4, _⟩ => ⟨S4x8192x8x64, .f32⟩
  | .hbm, ⟨5, _⟩ => ⟨S4x8x8192x64, .f32⟩
  | .hbm, ⟨6, _⟩ => ⟨S32768x512, .f32⟩
  | .hbm, ⟨7, _⟩ => ⟨S4x8192x8x64, .f32⟩
  | .hbm, ⟨8, _⟩ => ⟨S4x8x8192x64, .f32⟩
  | .hbm, ⟨9, _⟩ => ⟨S32768x512, .f32⟩
  | .hbm, ⟨10, _⟩ => ⟨S4x8192x8x64, .f32⟩
  | .hbm, ⟨11, _⟩ => ⟨S4x8x8192x64, .f32⟩
  | .hbm, ⟨12, _⟩ => ⟨S8192, .i32⟩
  | .hbm, ⟨13, _⟩ => ⟨S4x8x8192x8192, .f32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S4x8x8192x8192, .f32⟩
  | .hbm, ⟨20, _⟩ => ⟨S4x8x8192x8192, .f32⟩
  | .hbm, ⟨21, _⟩ => ⟨S_, .f32⟩
  | .hbm, ⟨22, _⟩ => ⟨S4x8x8192x8192, .f32⟩
  | .hbm, ⟨23, _⟩ => ⟨S4x8x8192x8192, .f32⟩
  | .hbm, ⟨24, _⟩ => ⟨S4x8x8192x8192, .f32⟩
  | .hbm, ⟨25, _⟩ => ⟨S4x8x8192x8192, .f32⟩
  | .hbm, ⟨26, _⟩ => ⟨S4x8x8192x8192, .i1⟩
  | .hbm, ⟨27, _⟩ => ⟨S4x8x8192x8192, .f32⟩
  | .hbm, ⟨28, _⟩ => ⟨S4x8x8192x8192, .f32⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .f32⟩
  | .hbm, ⟨35, _⟩ => ⟨S4x8x8192x8192, .f32⟩
  | .hbm, ⟨36, _⟩ => ⟨S_, .f32⟩
  | .hbm, ⟨37, _⟩ => ⟨S_, .f32⟩
  | .hbm, ⟨38, _⟩ => ⟨S4x8x8192x8192, .i1⟩
  | .hbm, ⟨39, _⟩ => ⟨S4x8x8192x8192, .f32⟩
  | .hbm, ⟨40, _⟩ => ⟨S4x8x8192x8192, .f32⟩
  | .hbm, ⟨41, _⟩ => ⟨S_, .f32⟩
  | .hbm, ⟨42, _⟩ => ⟨S_, .f32⟩
  | .hbm, ⟨43, _⟩ => ⟨S4x8x8192x8192, .f32⟩
  | .hbm, ⟨44, _⟩ => ⟨S4x8x8192x8192, .f32⟩
  | .hbm, ⟨45, _⟩ => ⟨S4x8x8192x8192, .f32⟩
  | .hbm, ⟨46, _⟩ => ⟨S_, .f32⟩
  | .hbm, ⟨47, _⟩ => ⟨S4x8x8192x8192, .f32⟩
  | .hbm, ⟨48, _⟩ => ⟨S4x8x8192x8192, .f32⟩
  | .hbm, ⟨49, _⟩ => ⟨S4x8x8192x8192, .f32⟩
  | .hbm, ⟨50, _⟩ => ⟨S4x8x8192x8192, .f32⟩
  | .hbm, ⟨51, _⟩ => ⟨S4x8x8192x8192, .i1⟩
  | .hbm, ⟨52, _⟩ => ⟨S4x8x8192x8192, .f32⟩
  | .hbm, ⟨53, _⟩ => ⟨S4x8x8192x8192, .f32⟩
  | .hbm, ⟨54, _⟩ => ⟨S4x8x8192x8192, .f32⟩
  | .hbm, ⟨55, _⟩ => ⟨S4x8x8192x8192, .f32⟩
  | .hbm, ⟨56, _⟩ => ⟨S4x8x8192x8192, .f32⟩
  | .hbm, ⟨57, _⟩ => ⟨S4x8x8192x8192, .f32⟩
  | .hbm, ⟨58, _⟩ => ⟨S4x8x8192x8192, .f32⟩
  | .hbm, ⟨59, _⟩ => ⟨S4x8x8192x8192, .f32⟩
  | .hbm, ⟨60, _⟩ => ⟨S4x8x8192x8192, .f32⟩
  | .hbm, ⟨61, _⟩ => ⟨S4x8x8192x8192, .f32⟩
  | .hbm, ⟨62, _⟩ => ⟨S_, .f32⟩
  | .hbm, ⟨63, _⟩ => ⟨S_, .f32⟩
  | .hbm, ⟨64, _⟩ => ⟨S4x8x8192x8192, .i1⟩
  | .hbm, ⟨65, _⟩ => ⟨S4x8x8192x8192, .f32⟩
  | .hbm, ⟨66, _⟩ => ⟨S4x8x8192x8192, .f32⟩
  | .hbm, ⟨67, _⟩ => ⟨S4x8x8192x8192, .f32⟩
  | .hbm, ⟨68, _⟩ => ⟨S4x8x8192x64, .f32⟩
  | .hbm, ⟨69, _⟩ => ⟨S4x8192x8x64, .f32⟩
  | .hbm, ⟨70, _⟩ => ⟨S32768x512, .f32⟩
  | .hbm, ⟨71, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_call2_cst : Ref sig .tc := ⟨.hbm, 41, rfl⟩
abbrev main_call2_v0 : Ref sig .tc := ⟨.hbm, 42, rfl⟩
abbrev main_v19 : Ref sig .tc := ⟨.hbm, 43, rfl⟩
abbrev main_v20 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v21 : Ref sig .tc := ⟨.hbm, 60, rfl⟩
abbrev main_v22 : Ref sig .tc := ⟨.hbm, 61, rfl⟩
abbrev main_cst_0 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x3592 : Shape := ⟨2, ![1024, 3592]⟩
abbrev S4x512 : Shape := ⟨2, ![4, 512]⟩
abbrev S1024x1024 : Shape := ⟨2, ![1024, 1024]⟩
abbrev S_ : Shape := ⟨0, ![]⟩
abbrev S1024x256 : Shape := ⟨2, ![1024, 256]⟩
abbrev S1024x4 : Shape := ⟨2, ![1024, 4]⟩
abbrev S1 : Shape := ⟨1, ![1]⟩
abbrev S1024x1536 : Shape := ⟨2, ![1024, 1536]⟩
abbrev S1024x512 : Shape := ⟨2, ![1024, 512]⟩
abbrev S1x1024 : Shape := ⟨2, ![1, 1024]⟩
abbrev S32768x512 : Shape := ⟨2, ![32768, 512]⟩
abbrev S32768x256 : Shape := ⟨2, ![32768, 256]⟩
abbrev S512x1024 : Shape := ⟨2, ![512, 1024]⟩
abbrev S512x512 : Shape := ⟨2, ![512, 512]⟩
abbrev S512x256 : Shape := ⟨2, ![512, 256]⟩
abbrev S520x1024 : Shape := ⟨2, ![520, 1024]⟩
abbrev S512 : Shape := ⟨1, ![512]⟩
abbrev S512x1 : Shape := ⟨2, ![512, 1]⟩
abbrev S8x1024 : Shape := ⟨2, ![8, 1024]⟩
abbrev S1x512 : Shape := ⟨2, ![1, 512]⟩
abbrev S512x1536 : Shape := ⟨2, ![512, 1536]⟩

abbrev nBuf : Space → Nat
  | .hbm => 37
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3592, .f32⟩
  | .hbm, ⟨3, _⟩ => ⟨S4x512, .f32⟩
  | .hbm, ⟨4, _⟩ => ⟨S4x512, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S_, .f32⟩
  | .hbm, ⟨10, _⟩ => ⟨S1024x256, .f32⟩
  | .hbm, ⟨11, _⟩ => ⟨S1024x4, .f32⟩
  | .hbm, ⟨12, _⟩ => ⟨S_, .i32⟩
  | .hbm, ⟨13, _⟩ => ⟨S1, .i32⟩
  | .hbm, ⟨14, _⟩ => ⟨S1024x256, .f32⟩
  | .hbm, ⟨15, _⟩ => ⟨S1024x4, .f32⟩
  | .hbm, ⟨16, _⟩ => ⟨S_, .i32⟩
  | .hbm, ⟨17, _⟩ => ⟨S1, .i32⟩
  | .hbm, ⟨18, _⟩ => ⟨S1024x256, .f32⟩
  | .hbm, ⟨19, _⟩ => ⟨S1024x256, .bf16⟩
  | .hbm, ⟨20, _⟩ => ⟨S1024x1536, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x1024, .f32⟩
  | .hbm, ⟨26, _⟩ => ⟨S1024x1536, .f32⟩
  | .hbm, ⟨27, _⟩ => ⟨S1024x1536, .bf16⟩
  | .hbm, ⟨28, _⟩ => ⟨S1x1024, .f32⟩
  | .hbm, ⟨29, _⟩ => ⟨S32768x512, .bf16⟩
  | .hbm, ⟨30, _⟩ => ⟨S32768x512, .bf16⟩
  | .hbm, ⟨31, _⟩ => ⟨S32768x512, .bf16⟩
  | .hbm, ⟨32, _⟩ => ⟨S32768x512, .bf16⟩
  | .hbm, ⟨33, _⟩ => ⟨S32768x256, .f32⟩
  | .hbm, ⟨34, _⟩ => ⟨S32768x512, .bf16⟩
  | .hbm, ⟨35, _⟩ => ⟨S32768x512, .bf16⟩
  | .hbm, ⟨36, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x256, .bf16⟩
  | .local _ .vmem, ⟨6, _⟩ => ⟨S1024x1536, .bf16⟩
  | .local _ .vmem, ⟨7, _⟩ => ⟨S4x512, .f32⟩
  | .local _ .vmem, ⟨8, _⟩ => ⟨S4x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x256, .f32⟩
  | .local _ .vmem, ⟨18, _⟩ => ⟨S512x256, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S520x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev main_v20_6 : Ref sig .tc := ⟨.hbm, 35, rfl⟩
abbrev main_v20_7 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S32768x1024 : Shape := ⟨2, ![32768, 1024]⟩
abbrev S1024 : Shape := ⟨1, ![1024]⟩
abbrev S1024x3592 : Shape := ⟨2, ![1024, 3592]⟩
abbrev S4x512 : Shape := ⟨2, ![4, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3592 : Shape := ⟨2, ![32768, 3592]⟩
abbrev S32768x512 : Shape := ⟨2, ![32768, 512]⟩
abbrev S32768x4 : Shape := ⟨2, ![32768, 4]⟩
abbrev S4x8192x512 : Shape := ⟨3, ![4, 8192, 512]⟩
abbrev S4x8195x512 : Shape := ⟨3, ![4, 8195, 512]⟩
abbrev S1x512 : Shape := ⟨2, ![1, 512]⟩
abbrev S512 : Shape := ⟨1, ![512]⟩
abbrev S1x1x512 : Shape := ⟨3, ![1, 1, 512]⟩
abbrev S32768x128 : Shape := ⟨2, ![32768, 128]⟩
abbrev S32768x256 : Shape := ⟨2, ![32768, 256]⟩

abbrev nBuf : Space → Nat
  | .hbm => 133
  | .vmem => 0
  | .smem => 0
  | _ => 0

abbrev hbmTy0_0 (i : Nat) : BufTy := match i % 128 with
  | 0 => ⟨S32768x1024, .f32⟩
  | 1 => ⟨S1024, .f32⟩
  | 2 => ⟨S1024x3592, .f32⟩
  | 3 => ⟨S4x512, .f32⟩
  | 4 => ⟨S4x512, .f32⟩
  | 5 => ⟨S32768x1024, .f32⟩
  | 6 => ⟨S_, .f32⟩
  | 7 => ⟨S32768, .f32⟩
  | 8 => ⟨S32768x1, .f32⟩
  | 9 => ⟨S_, .f32⟩
  | 10 => ⟨S32768x1, .f32⟩
  | 11 => ⟨S32768x1, .f32⟩
  | 12 => ⟨S_, .f32⟩
  | 13 => ⟨S32768x1, .f32⟩
  | 14 => ⟨S32768x1, .f32⟩
  | 15 => ⟨S32768x1, .f32⟩
  | 16 => ⟨S32768x1024, .f32⟩
  | 17 => ⟨S32768x1024, .f32⟩
  | 18 => ⟨S1x1024, .f32⟩
  | 19 => ⟨S32768x1024, .f32⟩
  | 20 => ⟨S32768x1024, .f32⟩
  | 21 => ⟨S32768x3592, .f32⟩
  | 22 => ⟨S32768x512, .f32⟩
  | 23 => ⟨S32768x512, .f32⟩
  | 24 => ⟨S32768x512, .f32⟩
  | 25 => ⟨S32768x512, .f32⟩
  | 26 => ⟨S32768x4, .f32⟩
  | 27 => ⟨S32768x4, .f32⟩
  | 28 => ⟨S32768x512, .f32⟩
  | 29 => ⟨S32768x512, .f32⟩
  | 30 => ⟨S32768x512, .f32⟩
  | 31 => ⟨S4x8192x512, .f32⟩
  | 32 => ⟨S_, .i32⟩
  | 33 => ⟨S_, .f32⟩
  | 34 => ⟨S4x8195x512, .f32⟩
  | 35 => ⟨S4x8192x512, .f32⟩
  | 36 => ⟨S1x512, .f32⟩
  | 37 => ⟨S512, .f32⟩
  | 38 => ⟨S1x1x512, .f32⟩
  | 39 => ⟨S4x8192x512, .f32⟩
  | 40 => ⟨S4x8192x512, .f32⟩
  | 41 => ⟨S4x8192x512, .f32⟩
  | 42 => ⟨S1x512, .f32⟩
  | 43 => ⟨S512, .f32⟩
  | 44 => ⟨S1x1x512, .f32⟩
  | 45 => ⟨S4x8192x512, .f32⟩
  | 46 => ⟨S4x8192x512, .f32⟩
  | 47 => ⟨S4x8192x512, .f32⟩
  | 48 => ⟨S4x8192x512, .f32⟩
  | 49 => ⟨S1x512, .f32⟩
  | 50 => ⟨S512, .f32⟩
  | 51 => ⟨S1x1x512, .f32⟩
  | 52 => ⟨S4x8192x512, .f32⟩
  | 53 => ⟨S4x8192x512, .f32⟩
  | 54 => ⟨S4x8192x512, .f32⟩
  | 55 => ⟨S4x8192x512, .f32⟩
  | 56 => ⟨S1x512, .f32⟩
  | 57 => ⟨S512, .f32⟩
  | 58 => ⟨S1x1x512, .f32⟩
  | 59 => ⟨S4x8192x512, .f32⟩
  | 60 => ⟨S4x8192x512, .f32⟩
  | 61 => ⟨S4x8192x512, .f32⟩
  | 62 => ⟨S4x8192x512, .f32⟩
  | 63 => ⟨S4x8192x512, .f32⟩
  | 64 => ⟨S_, .f32⟩
  | 65 => ⟨S4x8192x512, .f32⟩
  | 66 => ⟨S4x8192x512, .f32⟩
  | 67 => ⟨S_, .f32⟩
  | 68 => ⟨S4x8192x512, .f32⟩
  | 69 => ⟨S4x8192x512, .f32⟩
  | 70 => ⟨S4x8192x512, .f32⟩
  | 71 => ⟨S32768x512, .f32⟩
  | 72 => ⟨S4x8192x512, .f32⟩
  | 73 => ⟨S_, .i32⟩
  | 74 => ⟨S_, .f32⟩
  | 75 => ⟨S4x8195x512, .f32⟩
  | 76 => ⟨S4x8192x512, .f32⟩
  | 77 => ⟨S1x512, .f32⟩
  | 78 => ⟨S512, .f32⟩
  | 79 => ⟨S1x1x512, .f32⟩
  | 80 => ⟨S4x8192x512, .f32⟩
  | 81 => ⟨S4x8192x512, .f32⟩
  | 82 => ⟨S4x8192x512, .f32⟩
  | 83 => ⟨S1x512, .f32⟩
  | 84 => ⟨S512, .f32⟩
  | 85 => ⟨S1x1x512, .f32⟩
  | 86 => ⟨S4x8192x512, .f32⟩
  | 87 => ⟨S4x8192x512, .f32⟩
  | 88 => ⟨S4x8192x512, .f32⟩
  | 89 => ⟨S4x8192x512, .f32⟩
  | 90 => ⟨S1x512, .f32⟩
  | 91 => ⟨S512, .f32⟩
  | 92 => ⟨S1x1x512, .f32⟩
  | 93 => ⟨S4x8192x512, .f32⟩
  | 94 => ⟨S4x8192x512, .f32⟩
  | 95 => ⟨S4x8192x512, .f32⟩
  | 96 => ⟨S4x8192x512, .f32⟩
  | 97 => ⟨S1x512, .f32⟩
  | 98 => ⟨S512, .f32⟩
  | 99 => ⟨S1x1x512, .f32⟩
  | 100 => ⟨S4x8192x512, .f32⟩
  | 101 => ⟨S4x8192x512, .f32⟩
  | 102 => ⟨S4x8192x512, .f32⟩
  | 103 => ⟨S4x8192x512, .f32⟩
  | 104 => ⟨S4x8192x512, .f32⟩
  | 105 => ⟨S_, .f32⟩
  | 106 => ⟨S4x8192x512, .f32⟩
  | 107 => ⟨S4x8192x512, .f32⟩
  | 108 => ⟨S_, .f32⟩
  | 109 => ⟨S4x8192x512, .f32⟩
  | 110 => ⟨S4x8192x512, .f32⟩
  | 111 => ⟨S4x8192x512, .f32⟩
  | 112 => ⟨S32768x512, .f32⟩
  | 113 => ⟨S_, .f32⟩
  | 114 => ⟨S32768x512, .f32⟩
  | 115 => ⟨S32768x512, .f32⟩
  | 116 => ⟨S_, .i32⟩
  | 117 => ⟨S_, .f32⟩
  | 118 => ⟨S32768x128, .f32⟩
  | 119 => ⟨S_, .i32⟩
  | 120 => ⟨S_, .f32⟩
  | 121 => ⟨S32768x128, .f32⟩
  | 122 => ⟨S32768x256, .f32⟩
  | 123 => ⟨S32768x512, .bf16⟩
  | 124 => ⟨S32768x512, .bf16⟩
  | 125 => ⟨S32768x512, .bf16⟩
  | 126 => ⟨S32768x512, .bf16⟩
  | 127 => ⟨S_, .f32⟩
  | _ => ⟨S32768x1024, .f32⟩

abbrev hbmTy0_1 (i : Nat) : BufTy := match i % 128 with
  | 0 => ⟨S32768x512, .f32⟩
  | 1 => ⟨S32768x512, .f32⟩
  | 2 => ⟨S32768x512, .bf16⟩
  | 3 => ⟨S32768x512, .bf16⟩
  | 4 => ⟨S32768x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_2 : Ref sig .tc := ⟨.hbm, 73, rfl⟩
abbrev main_call2_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_call3_v0 : Ref sig .tc := ⟨.hbm, 103, rfl⟩
abbrev main_call3_v1 : Ref sig .tc := ⟨.hbm, 104, rfl⟩
abbrev main_call3_cst : Ref sig .tc := ⟨.hbm, 105, rfl⟩
abbrev main_call3_v2 : Ref sig .tc := ⟨.hbm, 106, rfl⟩
abbrev main_call3_v3 : Ref sig .tc := ⟨.hbm, 107, rfl⟩
abbrev main_call3_cst_0 : Ref sig .tc := ⟨.hbm, 108, rfl⟩
abbrev main_call3_v4 : Ref sig .tc := ⟨.hbm, 109, rfl⟩
abbrev main_call3_v5 : Ref sig .tc := ⟨.hbm, 110, rfl⟩
abbrev main_v83 : Ref sig .tc := ⟨.hbm, 111, rfl⟩
abbrev main_v84 : Ref sig .tc := ⟨.hbm, 112, rfl⟩
abbrev main_cst_3 : Ref sig .tc := ⟨.hbm, 113, rfl⟩
abbrev main_v85 : Ref sig .tc := ⟨.hbm, 114, rfl⟩
abbrev main_v86 : Ref sig .tc := ⟨.hbm, 115, rfl⟩
abbrev main_c_4 : Ref sig .tc := ⟨.hbm, 116, rfl⟩
abbrev main_call4_v0 : Ref sig .tc := ⟨.hbm, 117, rfl⟩
abbrev main_v87 : Ref sig .tc := ⟨.hbm, 118, rfl⟩
abbrev main_c_5 : Ref sig .tc := ⟨.hbm, 119, rfl⟩
abbrev main_call5_v0 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_6 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩

abbrev nD : Nat := 1
abbrev τ : Topo := Topo.v7x

variable {F : FTy → Type} [FloatOps F]
-- ==== Kernel3.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S73728x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v4 : BitVec 32) : BitVec 1 :=
  let arg0 : BitVec 32 := BitVec.ofNat 32 (i 0).val
  let v5 : BitVec 1 := Scalar.cmpi .slt arg0 v4
  let v14 : BitVec 32 := Scalar.extui v5
  let c0_i32_2 : BitVec 32 := 0#32
  let v15 : BitVec 1 := Scalar.cmpi .ne v14 c0_i32_2
  v15

def k0_cond3 (i : grid0.Coords) (v4 : BitVec 32) : BitVec 1 :=
  let arg0 : BitVec 32 := BitVec.ofNat 32 (i 0).val
  let v5 : BitVec 1 := Scalar.cmpi .slt arg0 v4
  let v_true : BitVec 1 := 1#1
  let v16 : BitVec 1 := Scalar.xori v5 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S_ : Shape := ⟨0, ![]⟩
abbrev S1x288 : Shape := ⟨2, ![1, 288]⟩
abbrev S32 : Shape := ⟨1, ![32]⟩
abbrev S32x1 : Shape := ⟨2, ![32, 1]⟩
abbrev S32x288 : Shape := ⟨2, ![32, 288]⟩
abbrev S32x288x256 : Shape := ⟨3, ![32, 288, 256]⟩
abbrev S32x73728 : Shape := ⟨2, ![32, 73728]⟩
abbrev S32x512x73728 : Shape := ⟨3, ![32, 512, 73728]⟩
abbrev S32x73728x512 : Shape := ⟨3, ![32, 73728, 512]⟩
abbrev S32x73728x1024 : Shape := ⟨3, ![32, 73728, 1024]⟩
abbrev S32x73728x1 : Shape := ⟨3, ![32, 73728, 1]⟩

abbrev nBuf : Space → Nat
  | .hbm => 44
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .f32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S288, .i32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S1x288, .i32⟩
  | .hbm, ⟨11, _⟩ => ⟨S32, .i32⟩
  | .hbm, ⟨12, _⟩ => ⟨S32x1, .i32⟩
  | .hbm, ⟨13, _⟩ => ⟨S32x288, .i32⟩
  | .hbm, ⟨14, _⟩ => ⟨S32x288, .i32⟩
  | .hbm, ⟨15, _⟩ => ⟨S32x288, .i1⟩
  | .hbm, ⟨16, _⟩ => ⟨S1x288, .i1⟩
  | .hbm, ⟨17, _⟩ => ⟨S32x288, .i1⟩
  | .hbm, ⟨18, _⟩ => ⟨S32x288, .i1⟩
  | .hbm, ⟨19, _⟩ => ⟨S32x288x256, .i1⟩
  | .hbm, ⟨20, _⟩ => ⟨S32x73728, .i1⟩
  | .hbm, ⟨21, _⟩ => ⟨S32x512x73728, .f32⟩
  | .hbm, ⟨22, _⟩ => ⟨S32x73728x512, .f32⟩
  | .hbm, ⟨23, _⟩ => ⟨S32x73728x512, .f32⟩
  | .hbm, ⟨24, _⟩ => ⟨S32x73728x512, .f32⟩
  | .hbm, ⟨25, _⟩ => ⟨S_, .f32⟩
  | .hbm, ⟨26, _⟩ => ⟨S32x73728x512, .f32⟩
  | .hbm, ⟨27, _⟩ => ⟨S32x73728x512, .f32⟩
  | .hbm, ⟨28, _⟩ => ⟨S_, .f32⟩
  | .hbm, ⟨29, _⟩ => ⟨S32x73728x512, .f32⟩
  | .hbm, ⟨30, _⟩ => ⟨S32x73728x512, .f32⟩
  | .hbm, ⟨31, _⟩ => ⟨S32x73728x512, .f32⟩
  | .hbm, ⟨32, _⟩ => ⟨S32x512x73728, .f32⟩
  | .hbm, ⟨33, _⟩ => ⟨S32x73728x512, .f32⟩
  | .hbm, ⟨34, _⟩ => ⟨S32x73728x512, .f32⟩
  | .hbm, ⟨35, _⟩ => ⟨S32x73728x1024, .f32⟩
  | .hbm, ⟨36, _⟩ => ⟨S32x73728x1, .i1⟩
  | .hbm, ⟨37, _⟩ => ⟨S_, .f32⟩
  | .hbm, ⟨38, _⟩ => ⟨S_, .f32⟩
  | .hbm, ⟨39, _⟩ => ⟨S32x73728x1024, .i1⟩
  | .hbm, ⟨40, _⟩ => ⟨S32x73728x1024, .f32⟩
  | .hbm, ⟨41, _⟩ => ⟨S32x73728x1024, .f32⟩
  | .hbm, ⟨42, _⟩ => ⟨S_, .f32⟩
  | .hbm, ⟨43, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Kernel4.lean ====
abbrev S128x1x512 : Shape := ⟨3, ![128, 1, 512]⟩
abbrev S32768x1024 : Shape := ⟨2, ![32768, 1024]⟩
abbrev S32768x128 : Shape := ⟨2, ![32768, 128]⟩
abbrev S32768x256 : Shape := ⟨2, ![32768, 256]⟩
abbrev S73728x1024 : Shape := ⟨2, ![73728, 1024]⟩
abbrev S1024x1024 : Shape := ⟨2, ![1024, 1024]⟩
abbrev S256x1024 : Shape := ⟨2, ![256, 1024]⟩
abbrev S1024 : Shape := ⟨1, ![1024]⟩
abbrev S1x1024 : Shape := ⟨2, ![1, 1024]⟩
abbrev S1x1x512 : Shape := ⟨3, ![1, 1, 512]⟩
abbrev S256x128 : Shape := ⟨2, ![256, 128]⟩
abbrev S256x256 : Shape := ⟨2, ![256, 256]⟩
abbrev S2x256x1024 : Shape := ⟨3, ![2, 256, 1024]⟩
abbrev S_ : Shape := ⟨0, ![]⟩
abbrev S1x1x1 : Shape := ⟨3, ![1, 1, 1]⟩
abbrev S1x256x1024 : Shape := ⟨3, ![1, 256, 1024]⟩
abbrev S256x1 : Shape := ⟨2, ![256, 1]⟩
abbrev S256 : Shape := ⟨1, ![256]⟩

abbrev nBuf : Space → Nat
  | .hbm => 16
  | .vmem => 14
  | .smem => 2
  | _ => 0

abbrev bufTy : (tb : Table) → Fin (tcTables nBuf tb) → BufTy
  | .hbm, ⟨0, _⟩ => ⟨S128x1x512, .i32⟩
  | .hbm, ⟨1, _⟩ => ⟨S32768x1024, .f32⟩
  | .hbm, ⟨2, _⟩ => ⟨S32768x128, .f32⟩
  | .hbm, ⟨3, _⟩ => ⟨S32768x256, .f32⟩
  | .hbm, ⟨4, _⟩ => ⟨S73728x1024, .f32⟩
  | .hbm, ⟨5, _⟩ => ⟨S1024x1024, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S256x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x256, .f32⟩
  | .local _ .vmem, ⟨5, _⟩ => ⟨S256x256, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S2x256x1024, .f32⟩
  | .local _ .smem, ⟨0, _⟩ => ⟨S1x1x512, .i32⟩
  | .local _ .smem, ⟨1, _⟩ => ⟨S1x1x512, .i32⟩
  | _, _ => ⟨S128x1x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0_40 : Index := 0#32
  let c0_41 : Index := 0#32
  let c2_i32 : BitVec 32 := 2#32
  let c0_i32 : BitVec 32 := 0#32
  let c1_i32 : BitVec 32 := 1#32
  let arg14 : BitVec 32 := Scf.iv c0_i32 c1_i32 k0_t1
  let v77 : BitVec 32 := Scalar.muli c2_i32 arg14
  let c0_i32_39 : BitVec 32 := 0#32
  let v78 : BitVec 32 := Scalar.addi v77 c0_i32_39
  let v79 : Index := Scalar.indexCast v78
  ![0, 0, v79.toNat]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c0_i32_45 : BitVec 32 := 0#32
  ![arg14.toNat, 0]
def k0_off3 (v80 : BitVec 32) : Fin 2 → Nat :=
  let c0_i32_46 : BitVec 32 := 0#32
  ![v80.toNat, 0]

def k0_chk1 (v80 : BitVec 32) : Prop :=
  (∀ a, (k0_off3 v80) a + S1x1024.size a ≤ S73728x1024.size a)
theorem k0_off3_inb : ∀ (v80 : BitVec 32) (k0_hw1 : k0_chk1 v80), ∀ a, (k0_off3 v80) a + S1x1024.size a ≤ S73728x1024.size a := fun v80 k0_hw1 => k0_hw1

def k0_off4 (k0_t1 : Fin k0_t1_loop.trips) : Fin 3 → Nat :=
  let c0_49 : Index := 0#32
  let c0_50 : Index := 0#32
  let c2_i32_47 : BitVec 32 := 2#32
  let c0_i32 : BitVec 32 := 0#32
  let c1_i32 : BitVec 32 := 1#32
  let arg14 : BitVec 32 := Scf.iv c0_i32 c1_i32 k0_t1
  let v85 : BitVec 32 := Scalar.muli c2_i32_47 arg14
  let c1_i32_48 : BitVec 32 := 1#32
  let v86 : BitVec 32 := Scalar.addi v85 c1_i32_48
  let v87 : Index := Scalar.indexCast v86
  ![0, 0, v87.toNat]
def k0_off5 (k0_t1 : Fin k0_t1_loop.trips) : Fin 2 → Nat :=
  let c0_i32 : BitVec 32 := 0#32
  let c1_i32 : BitVec 32 := 1#32
  let arg14 : BitVec 32 := Scf.iv c0_i32 c1_i32 k0_t1
  let c0_i32_54 : BitVec 32 := 0#32
  ![arg14.toNat, 0]
def k0_off6 (v88 : BitVec 32) : Fin 2 → Nat :=
  let c0_i32_55 : BitVec 32 := 0#32
  ![v88.toNat, 0]

def k0_chk2 (v88 : BitVec 32) : Prop :=
  (∀ a, (k0_off6 v88) a + S1x1024.size a ≤ S73728x1024.size a)
theorem k0_off6_inb : ∀ (v88 : BitVec 32) (k0_hw2 : k0_chk2 v88), ∀ a, (k0_off6 v88) a + S1x1024.size a ≤ S73728x1024.size a := fun v88 k0_hw2 => k0_hw2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S128x1x512 : Shape := ⟨3, ![128, 1, 512]⟩
abbrev S32768x1024 : Shape := ⟨2, ![32768, 1024]⟩
abbrev S32768x128 : Shape := ⟨2, ![32768, 128]⟩
abbrev S32768x256 : Shape := ⟨2, ![32768, 256]⟩
abbrev S73728x1024 : Shape := ⟨2, ![73728, 1024]⟩
abbrev S1024x1024 : Shape := ⟨2, ![1024, 1024]⟩
abbrev S256x1024 : Shape := ⟨2, ![256, 1024]⟩
abbrev S1024 : Shape := ⟨1, ![1024]⟩
abbrev S32768x2 : Shape := ⟨2, ![32768, 2]⟩
abbrev S32768x1 : Shape := ⟨2, ![32768, 1]⟩
abbrev S32768 : Shape := ⟨1, ![32768]⟩
abbrev S_ : Shape := ⟨0, ![]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S128x1x512, .i32⟩
  | .hbm, ⟨1, _⟩ => ⟨S32768x1024, .f32⟩
  | .hbm, ⟨2, _⟩ => ⟨S32768x128, .f32⟩
  | .hbm, ⟨3, _⟩ => ⟨S32768x256, .f32⟩
  | .hbm, ⟨4, _⟩ => ⟨S73728x1024, .f32⟩
  | .hbm, ⟨5, _⟩ => ⟨S1024x1024, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S32768x2, .i32⟩
  | .hbm, ⟨11, _⟩ => ⟨S32768x1, .f32⟩
  | .hbm, ⟨12, _⟩ => ⟨S32768x1, .i32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1, .f32⟩
  | .hbm, ⟨26, _⟩ => ⟨S32768x1, .i32⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S_, .f32⟩
  | .hbm, ⟨61, _⟩ => ⟨S32768x1024, .f32⟩
  | .hbm, ⟨62, _⟩ => ⟨S32768x1024, .f32⟩
  | .hbm, ⟨63, _⟩ => ⟨S_, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1, .f32⟩
  | .hbm, ⟨78, _⟩ => ⟨S32768x1024, .f32⟩
  | .hbm, ⟨79, _⟩ => ⟨S32768x1024, .f32⟩
  | .hbm, ⟨80, _⟩ => ⟨S1x1024, .f32⟩
  | .hbm, ⟨81, _⟩ => ⟨S32768x1024, .f32⟩
  | .hbm, ⟨82, _⟩ => ⟨S32768x1024, .f32⟩
  | .hbm, ⟨83, _⟩ => ⟨S32768x1024, .f32⟩
  | .hbm, ⟨84, _⟩ => ⟨S32768x1024, .f32⟩
  | .hbm, ⟨85, _⟩ => ⟨S32768x1024, .f32⟩
  | .hbm, ⟨86, _⟩ => ⟨S_, .f32⟩
  | .hbm, ⟨87, _⟩ => ⟨S32768, .f32⟩
  | .hbm, ⟨88, _⟩ => ⟨S32768x1, .f32⟩
  | .hbm, ⟨89, _⟩ => ⟨S_, .f32⟩
  | .hbm, ⟨90, _⟩ => ⟨S32768x1, .f32⟩
  | .hbm, ⟨91, _⟩ => ⟨S32768x1, .f32⟩
  | .hbm, ⟨92, _⟩ => ⟨S_, .f32⟩
  | .hbm, ⟨93, _⟩ => ⟨S32768x1, .f32⟩
  | .hbm, ⟨94, _⟩ => ⟨S32768x1, .f32⟩
  | .hbm, ⟨95, _⟩ => ⟨S32768x1, .f32⟩
  | .hbm, ⟨96, _⟩ => ⟨S32768x1024, .f32⟩
  | .hbm, ⟨97, _⟩ => ⟨S32768x1024, .f32⟩
  | .hbm, ⟨98, _⟩ => ⟨S1x1024, .f32⟩
  | .hbm, ⟨99, _⟩ => ⟨S32768x1024, .f32⟩
  | .hbm, ⟨100, _⟩ => ⟨S32768x1024, .f32⟩
  | _, _ => ⟨S128x1x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Kernel5.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x1024x128 : Shape := ⟨3, ![1, 1024, 128]⟩
abbrev S3x1024x128 : Shape := ⟨3, ![3, 1024, 128]⟩
abbrev S1x128 : Shape := ⟨2, ![1, 128]⟩
abbrev S2 : Shape := ⟨1, ![2]⟩
abbrev S512x1024 : Shape := ⟨2, ![512, 1024]⟩
abbrev S1x1024 : Shape := ⟨2, ![1, 1024]⟩
abbrev S32768x128 : Shape := ⟨2, ![32768, 128]⟩
abbrev S8x128 : Shape := ⟨2, ![8, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 51
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S1, .i32⟩
  | .hbm, ⟨13, _⟩ => ⟨S1024x128, .f32⟩
  | .hbm, ⟨14, _⟩ => ⟨S_, .i32⟩
  | .hbm, ⟨15, _⟩ => ⟨S1, .i32⟩
  | .hbm, ⟨16, _⟩ => ⟨S1024x128, .f32⟩
  | .hbm, ⟨17, _⟩ => ⟨S1024x128, .bf16⟩
  | .hbm, ⟨18, _⟩ => ⟨S1024x128, .f32⟩
  | .hbm, ⟨19, _⟩ => ⟨S1024x128, .f32⟩
  | .hbm, ⟨20, _⟩ => ⟨S1024x128, .bf16⟩
  | .hbm, ⟨21, _⟩ => ⟨S1024x128, .f32⟩
  | .hbm, ⟨22, _⟩ => ⟨S1024x128, .f32⟩
  | .hbm, ⟨23, _⟩ => ⟨S1024x128, .bf16⟩
  | .hbm, ⟨24, _⟩ => ⟨S1x1024x128, .bf16⟩
  | .hbm, ⟨25, _⟩ => ⟨S1x1024x128, .bf16⟩
  | .hbm, ⟨26, _⟩ => ⟨S1x1024x128, .bf16⟩
  | .hbm, ⟨27, _⟩ => ⟨S3x1024x128, .bf16⟩
  | .hbm, ⟨28, _⟩ => ⟨S_, .f32⟩
  | .hbm, ⟨29, _⟩ => ⟨S1x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x128, .f32⟩
  | .hbm, ⟨42, _⟩ => ⟨S512x1024, .f32⟩
  | .hbm, ⟨43, _⟩ => ⟨S512x1024, .bf16⟩
  | .hbm, ⟨44, _⟩ => ⟨S512x1024, .f32⟩
  | .hbm, ⟨45, _⟩ => ⟨S512x1024, .bf16⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S32768x128, .f32⟩
  | .hbm, ⟨50, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S3x1024x128, .bf16⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x128, .f32⟩
  | .local _ .vmem, ⟨16, _⟩ => ⟨S512x128, .f32⟩
  | .local _ .vmem, ⟨17, _⟩ => ⟨S8x128, .f32⟩
  | .local _ .vmem, ⟨18, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev main_v30_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S32768x1024, .bf16⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.Scalar.lean ====
/-
  Scalar facts of stick-breaking attention, with nothing of the kernel in them: softplus over the reals, the weight of
  a key as the exponential of its logit less the softplus of every logit between it and the query, sums of such terms
  cut into blocks of 256 keys.
-/
module

public import Idealize.ShloMosaic.Lib.Pointwise
public import Idealize.ShloMosaic.Lib.IdealHost
public import Idealize.ShloMosaic.Lib.WordCmp

@[expose] public section
noncomputable section
namespace Att
open Idealize.ShloMosaic

/-- Softplus in the numerically safe form: `max x 0 + log (1 + exp (-|x|))`. -/
def sp (x : ℝ) : ℝ := max x 0 + Real.log (1 + Real.exp (-|x|))

/-- The stick left of a query at position `t` once the keys `a, …, t - 1` have broken it: the sum of their softplus. -/
def used (z : ℕ → ℝ) (t a : ℕ) : ℝ := ∑ s ∈ Finset.Ico a t, sp (z s)

/-- The weight a query at position `t` gives the key `s`. -/
def weight (z : ℕ → ℝ) (t s : ℕ) : ℝ := Real.exp (z s - used z t s)

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem coe_max (x y : ℝ) : ((max x y : ℝ) : EReal) = max (x : EReal) (y : EReal) :=
  EReal.coe_strictMono.monotone.map_max

theorem absf_coe (x : ℝ) : max (x : EReal) (-(x : EReal)) = ((|x| : ℝ) : EReal) := by
  rw [← EReal.coe_neg, ← coe_max]; rfl

theorem one_add_exp_pos (x : ℝ) : 0 < 1 + Real.exp x := by positivity

/-- The kernel's softplus of a real. -/
theorem sp_coe (x : ℝ) :
    max (x : EReal) 0 + Ideal.log (1 + Ideal.exp (0 - max (x : EReal) (-(x : EReal)))) = ((sp x : ℝ) : EReal) := by
  rw [absf_coe, ← EReal.coe_zero, ← EReal.coe_sub, Ideal.exp_coe, ← coe_max, ← EReal.coe_one, ← EReal.coe_add, zero_sub,
    Ideal.log_coe, if_neg (not_le.mpr (one_add_exp_pos _)), ← EReal.coe_add]
  rfl

/-- The log-sigmoid identity: `x - softplus x = - softplus (-x)`. -/
theorem sub_sp (x : ℝ) : x - sp x = -sp (-x) := by
  unfold sp
  rw [abs_neg]
  rcases le_total 0 x with h | h
  · rw [max_eq_left h, max_eq_right (by linarith)]; ring
  · rw [max_eq_right h, max_eq_left (by linarith)]; ring

theorem select_ofBool {α : Type} (p : Prop) [Decidable p] (a b : α) :
    Scalar.select (BitVec.ofBool (decide p)) a b = if p then a else b := by
  by_cases h : p <;> simp [h, Scalar.select]

/-- A sum over the 256 places of a block is a sum over its range of keys. -/
theorem sum_block {M : Type} [AddCommMonoid M] (f : ℕ → M) (b : ℕ) :
    ∑ x : Fin 256, f (b + x.val) = ∑ s ∈ Finset.Ico b (b + 256), f s := by
  rw [Finset.sum_Ico_eq_sum_range, Fin.sum_univ_eq_sum_range (fun n => f (b + n))]
  simp

/-- The suffix sums of a block, from the product with the triangle of `-1`. -/
theorem sum_suffix (g : ℕ → ℝ) (b : ℕ) (c : Fin 256) :
    ∑ x : Fin 256, ((g (b + x.val) : ℝ) : EReal) * (if c.val ≤ x.val then ((-1 : ℝ) : EReal) else 0)
      = ((-∑ s ∈ Finset.Ico (b + c.val) (b + 256), g s : ℝ) : EReal) := by
  have h : ∀ x : Fin 256, ((g (b + x.val) : ℝ) : EReal) * (if c.val ≤ x.val then ((-1 : ℝ) : EReal) else 0)
      = ((if b + c.val ≤ b + x.val then -g (b + x.val) else 0 : ℝ) : EReal) := fun x => by
    by_cases hx : c.val ≤ x.val
    · rw [if_pos hx, if_pos (by omega), ← EReal.coe_mul, mul_neg_one]
    · rw [if_neg hx, if_neg (by omega), mul_zero, EReal.coe_zero]
  rw [Finset.sum_congr rfl fun x _ => h x, ← coe_sum, sum_block (fun s => if b + c.val ≤ s then -g s else 0),
    ← Finset.sum_filter, Finset.sum_neg_distrib]
  congr 3
  ext s
  simp only [Finset.mem_filter, Finset.mem_Ico]
  omega

/-- The same where the softplus of the keys at or after the query are masked away. -/
theorem sum_suffix_masked (z : ℕ → ℝ) (b t : ℕ) (ht : t ≤ b + 256) (c : Fin 256) :
    ∑ x : Fin 256, ((if b + x.val < t then sp (z (b + x.val)) else 0 : ℝ) : EReal)
        * (if c.val ≤ x.val then ((-1 : ℝ) : EReal) else 0)
      = ((-used z t (b + c.val) : ℝ) : EReal) := by
  rw [sum_suffix (fun s => if s < t then sp (z s) else 0), ← Finset.sum_filter]
  unfold used
  congr 3
  ext s
  simp only [Finset.mem_filter, Finset.mem_Ico]
  omega

theorem used_split (z : ℕ → ℝ) {t a b : ℕ} (h : a ≤ b) (h' : b ≤ t) :
    used z t a = (∑ s ∈ Finset.Ico a b, sp (z s)) + used z t b :=
  (Finset.sum_Ico_consecutive _ h h').symm

/-- The exponent of a key in a block wholly before the query. -/
theorem exponent (z : ℕ → ℝ) {t b : ℕ} (h : b + 256 ≤ t) (c : Fin 256) :
    Ideal.exp ((z (b + c.val) : EReal) + ((-∑ s ∈ Finset.Ico (b + c.val) (b + 256), sp (z s) : ℝ) : EReal)
        + ((-used z t (b + 256) : ℝ) : EReal)) = ((weight z t (b + c.val) : ℝ) : EReal) := by
  rw [← EReal.coe_add, ← EReal.coe_add, Ideal.exp_coe]
  unfold weight
  rw [used_split z (a := b + c.val) (b := b + 256) (by omega) h]
  congr 2
  ring

end Att
-- ==== Proof.Cum.lean ====
/-
  The reversed running sum of the reference, as a sum: a window of 8192 places along the last of four axes, padded
  with zeros after the end.
-/
module

public import proofs.«01_k».proof.Proof.Gen.ReferenceIdeal.Run
public import proofs.«01_k».proof.Proof.Scalar

@[expose] public section
set_option maxRecDepth 16384
noncomputable section
namespace Att.Ref
open Idealize.ShloMosaic Idealize.ShloMosaic.Tactic Cert.ReferenceIdeal Cert.ReferenceIdeal.Gen

theorem foldl_add {N : ℕ} (g : Fin N → EReal) (v : EReal) :
    (List.finRange N).foldl (fun r n => r + g n) v = v + ∑ n, g n := by
  have h : ∀ (l : List (Fin N)) (v : EReal), l.foldl (fun r n => r + g n) v = v + (l.map g).sum := fun l => by
    induction l with
    | nil => intro v; simp
    | cons a l ih => intro v; rw [List.foldl_cons, ih, List.map_cons, List.sum_cons, add_assoc]
  rw [h, ← List.ofFn_eq_map, List.sum_ofFn]

/-- A window sum at an index: the initial value and one term for each place of the window. -/
theorem window_sum {s t : Shape} (window strides lo hi : Fin s.rank → ℕ) (h : s.ReduceWindows window strides lo hi t)
    (x : s.Idx → EReal) (v : EReal) (j : t.Idx) :
    Host.reduceWindow (u := ⟨0, ![]⟩) (· + ·) window strides lo hi x (fun _ => v) h (by decide) j
      = v + ∑ y : (⟨s.rank, window⟩ : Shape).Idx,
          if hin : ∀ a : Fin s.rank, lo a ≤ (j (a.cast h.1.symm)).val * strides a + (y a).val
              ∧ (j (a.cast h.1.symm)).val * strides a + (y a).val - lo a < s.size a
          then x (fun a => ⟨_, (hin a).2⟩) else v := by
  refine (foldl_add _ _).trans ?_
  rw [← Equiv.sum_comp (⟨s.rank, window⟩ : Shape).rowMajor.symm]
  refine congrArg (v + ·) (Finset.sum_congr rfl fun n _ => ?_)
  split_ifs <;> rfl

abbrev W : Shape := ⟨4, ![1, 1, 1, 8192]⟩

/-- The places of the window are the 8192 along its last axis. -/
def places : Fin 8192 ≃ W.Idx where
  toFun w := ix4 (0 : Fin 1) (0 : Fin 1) (0 : Fin 1) w
  invFun y := y 3
  left_inv _ := rfl
  right_inv y := funext fun a => match a with
    | 0 => Subsingleton.elim (α := Fin 1) _ _
    | 1 => Subsingleton.elim (α := Fin 1) _ _
    | 2 => Subsingleton.elim (α := Fin 1) _ _
    | 3 => rfl

def zero_ : FVec Ideal S_ .f32 := broadcastInDim S_ ![] bcast_S_S_ (constant S_ .f32 0x00000000#32)

def cum (x : FVec Ideal S4x8x8192x8192 .f32) : FVec Ideal S4x8x8192x8192 .f32 :=
  Host.reduceWindowAdd ![1, 1, 1, 8192] ![1, 1, 1, 1] ![0, 0, 0, 0] ![0, 0, 0, 8191] x zero_
    reduceWindows_S4x8x8192x8192_S4x8x8192x8192_w1s1p0_0_w1s1p0_0_w1s1p0_0_w8192s1p0_8191 h_S_

theorem zero_apply (j : S_.Idx) : zero_ j = (0 : EReal) := by
  show Ideal.ofBits .f32 0x00000000#32 = 0
  exact Ideal.ofBits_zero_f32

theorem cum_apply (x : FVec Ideal S4x8x8192x8192 .f32) (b : Fin 4) (h : Fin 8) (t s : Fin 8192) :
    cum x (ix4 b h t s) = ∑ w : Fin 8192, if hw : s.val + w.val < 8192 then x (ix4 b h t ⟨s.val + w.val, hw⟩) else (0 : EReal) := by
  unfold cum Host.reduceWindowAdd
  show Ideal.hostReduceWindowAdd _ _ _ _ _ _ _ _ = _
  unfold Ideal.hostReduceWindowAdd
  refine (window_sum _ _ _ _ reduceWindows_S4x8x8192x8192_S4x8x8192x8192_w1s1p0_0_w1s1p0_0_w1s1p0_0_w8192s1p0_8191 x (zero_ _) _).trans ?_
  rw [zero_apply, zero_add, ← Equiv.sum_comp places]
  refine Finset.sum_congr rfl fun w _ => ?_
  by_cases hw : s.val + w.val < 8192
  · have hin : ∀ a : Fin 4, (![0, 0, 0, 0] : Fin 4 → ℕ) a ≤ ((ix4 b h t s : S4x8x8192x8192.Idx) a).val * (![1, 1, 1, 1] : Fin 4 → ℕ) a + (places w a).val
        ∧ ((ix4 b h t s : S4x8x8192x8192.Idx) a).val * (![1, 1, 1, 1] : Fin 4 → ℕ) a + (places w a).val - (![0, 0, 0, 0] : Fin 4 → ℕ) a < S4x8x8192x8192.size a := by
      intro a
      match a with
      | 0 => exact ⟨Nat.zero_le _, by show b.val * 1 + 0 - 0 < 4; omega⟩
      | 1 => exact ⟨Nat.zero_le _, by show h.val * 1 + 0 - 0 < 8; omega⟩
      | 2 => exact ⟨Nat.zero_le _, by show t.val * 1 + 0 - 0 < 8192; omega⟩
      | 3 => exact ⟨Nat.zero_le _, by show s.val * 1 + w.val - 0 < 8192; omega⟩
    rw [dif_pos hw]
    refine (dif_pos hin).trans (congrArg x (funext fun a => Fin.ext ?_))
    match a with
    | 0 => show b.val * 1 + 0 - 0 = b.val; omega
    | 1 => show h.val * 1 + 0 - 0 = h.val; omega
    | 2 => show t.val * 1 + 0 - 0 = t.val; omega
    | 3 => show s.val * 1 + w.val - 0 = s.val + w.val; omega
  · rw [dif_neg hw]
    refine dif_neg fun hin => hw ?_
    have h3 : s.val * 1 + w.val - 0 < 8192 := (hin 3).2
    omega

end Att.Ref
end
-- ==== Proof.Block.lean ====
/-
  One block of 256 keys, as the kernel's values compute it, read at a row of 256 queries over the extended reals: the
  new carry of each of the two heads the block holds, and what is added to the result. A block wholly before the query
  (a trip of the loop) and the block on the diagonal, masked, come to the same formulas.
-/
module

public import proofs.«01_k».proof.Proof.Gen.KernelIdeal.Skeleton
public import proofs.«01_k».proof.Proof.Scalar

@[expose] public section
set_option maxRecDepth 16384
noncomputable section
namespace Att
open Idealize.ShloMosaic Cert.KernelIdeal Cert.KernelIdeal.Gen

/-- The lanes below 64 hold the first head of the pair. -/
theorem lanes_at (i : Fin 256) (l : Fin 128) : k0_pay31 (ix2 i l) = BitVec.ofBool (decide (l.val < 64)) := by
  pointwise [k0_pay31]
  rw [WordCmp.cmpi_slt_ofNat (by have := l.isLt; omega) (by decide)]

/-- The triangle of `-1` that turns a product into suffix sums. -/
theorem triangle_at (r c : Fin 256) :
    k0_pay36 (F := Ideal) (ix2 r c) = if c.val ≤ r.val then ((-1 : ℝ) : EReal) else 0 := by
  pointwise [k0_pay36]
  rw [WordCmp.cmpi_sge_ofNat (by have := r.isLt; omega) (by have := c.isLt; omega), select_ofBool,
    show Ideal.ofBits FTy.f32 3212836864#32 = ((-1 : ℝ) : EReal) by
      simp [Ideal.ofBits, Ideal.ieee, -EReal.coe_mul, -EReal.coe_neg]; norm_num]

/-- The diagonal block's mask: keys strictly before the query. -/
theorem diag_at (i c : Fin 256) : k0_pay35 (ix2 i c) = BitVec.ofBool (decide (c.val < i.val)) := by
  pointwise [k0_pay35]
  rw [WordCmp.cmpi_slt_ofNat (by have := c.isLt; omega) (by have := i.isLt; omega)]

/-- Lane `d` of the head `h` of the pair. -/
def lane (h : Fin 2) (d : Fin 64) : Fin 128 := ⟨64 * h.val + d.val, by omega⟩

theorem sum_lanes {M : Type} [AddCommMonoid M] (f : Fin 128 → M) :
    ∑ l, f l = ∑ d, f (lane 0 d) + ∑ d, f (lane 1 d) := by
  rw [show (∑ l, f l) = ∑ l : Fin (64 + 64), f l from rfl, Fin.sum_univ_add]
  refine congrArg₂ (· + ·) (Finset.sum_congr rfl fun d _ => congrArg f (Fin.ext ?_))
    (Finset.sum_congr rfl fun d _ => congrArg f (Fin.ext ?_))
  · show d.val = 64 * 0 + d.val
    omega
  · show 64 + d.val = 64 * 1 + d.val
    omega

/-- The logits of one row of a block, of the head `h`, as real numbers. -/
def dot (q k : Fin 128 → EReal) (h : Fin 2) : ℝ := ∑ d, (q (lane h d)).toReal * (k (lane h d)).toReal

theorem coe_mul_of_real {x y : EReal} (hx : x ≠ ⊥ ∧ x ≠ ⊤) (hy : y ≠ ⊥ ∧ y ≠ ⊤) :
    x * y = ((x.toReal * y.toReal : ℝ) : EReal) := by
  rw [EReal.coe_mul, EReal.coe_toReal hx.2 hx.1, EReal.coe_toReal hy.2 hy.1]

section
variable (q k : Vec Ideal S256x128 .bf16) (i c : Fin 256)
  (hq : ∀ l, q (ix2 i l) ≠ ⊥ ∧ q (ix2 i l) ≠ ⊤) (hk : ∀ l, k (ix2 c l) ≠ ⊥ ∧ k (ix2 c l) ≠ ⊤)

include hq hk

theorem logit_first : k0_pay15 (k0_pay33 q) k (ix2 i c) = ((dot (fun l => q (ix2 i l)) (fun l => k (ix2 c l)) 0 : ℝ) : EReal) := by
  pointwise [k0_pay15, k0_pay33, k0_pay32]
  rw [sum_lanes]
  simp only [lanes_at, select_ofBool]
  rw [dot, coe_sum]
  rw [Finset.sum_eq_zero (s := Finset.univ) (f := fun d => if (lane 1 d).val < 64 then _ else (0 : EReal))
    fun d _ => by rw [if_neg (by simp [lane])], add_zero]
  refine Finset.sum_congr rfl fun d _ => ?_
  rw [if_pos (by simp [lane]), coe_mul_of_real (hq _) (hk _)]

theorem logit_second : k0_pay20 (k0_pay34 q) k (ix2 i c) = ((dot (fun l => q (ix2 i l)) (fun l => k (ix2 c l)) 1 : ℝ) : EReal) := by
  pointwise [k0_pay20, k0_pay34, k0_pay32]
  rw [sum_lanes]
  simp only [lanes_at, select_ofBool]
  rw [dot, coe_sum]
  rw [Finset.sum_eq_zero (s := Finset.univ) (f := fun d => if (lane 0 d).val < 64 then (0 : EReal) else _)
    fun d _ => by rw [if_pos (by simp [lane])], zero_add]
  refine Finset.sum_congr rfl fun d _ => ?_
  rw [if_neg (by simp [lane]), coe_mul_of_real (hq _) (hk _)]

end

/-- The logits of the head that lane `l` belongs to. -/
def pick (l : Fin 128) (zA zB : ℕ → ℝ) : ℕ → ℝ := if l.val < 64 then zA else zB

section trip
variable (q0 : Vec Ideal S256x128 .bf16) (q1 : FVec Ideal S256x128 .bf16) (k v : Vec Ideal S256x128 .bf16)
  (cA cB : Vec Ideal S1x256x1 .f32) (acc : Vec Ideal S256x128 .f32) (i : Fin 256) (zA zB : ℕ → ℝ) (b t : ℕ)
  (hA : ∀ c : Fin 256, k0_pay15 q0 k (ix2 i c) = ((zA (b + c.val) : ℝ) : EReal))
  (hB : ∀ c : Fin 256, k0_pay20 q1 k (ix2 i c) = ((zB (b + c.val) : ℝ) : EReal))

theorem rest_first (c : Fin 256) (hA : ∀ c : Fin 256, k0_pay15 q0 k (ix2 i c) = ((zA (b + c.val) : ℝ) : EReal)) :
    k0_pay16 q0 k0_pay36 k (ix2 i c) = ((-∑ s ∈ Finset.Ico (b + c.val) (b + 256), sp (zA s) : ℝ) : EReal) := by
  pointwise [k0_pay16]
  rw [← sum_suffix (fun s => sp (zA s))]
  refine Finset.sum_congr rfl fun x _ => ?_
  rw [hA, triangle_at]
  exact congrArg (· * _) (sp_coe _)

theorem rest_second (c : Fin 256) (z : FVec Ideal S256x256 .f32) (hB : ∀ c : Fin 256, z (ix2 i c) = ((zB (b + c.val) : ℝ) : EReal)) :
    k0_pay4 k0_pay36 z k0_pay21 (ix2 i c) = ((-∑ s ∈ Finset.Ico (b + c.val) (b + 256), sp (zB s) : ℝ) : EReal) := by
  pointwise [k0_pay4, k0_pay21]
  rw [← sum_suffix (fun s => sp (zB s))]
  refine Finset.sum_congr rfl fun x _ => ?_
  rw [hB, triangle_at]
  exact congrArg (· * _) (sp_coe _)

variable (hb : b + 256 ≤ t) (hcA : cA (ix3 0 i 0) = ((-used zA t (b + 256) : ℝ) : EReal))
  (hcB : cB (ix3 0 i 0) = ((-used zB t (b + 256) : ℝ) : EReal))

theorem carry_add (z : ℕ → ℝ) (hb : b + 256 ≤ t) :
    ((-used z t (b + 256) : ℝ) : EReal) + ((-∑ s ∈ Finset.Ico (b + (0 : Fin 256).val) (b + 256), sp (z s) : ℝ) : EReal)
      = ((-used z t b : ℝ) : EReal) := by
  rw [← EReal.coe_add, used_split z (a := b) (b := b + 256) (by omega) hb]
  simp only [Fin.val_zero, add_zero]
  congr 1
  ring

include hA hb hcA in
theorem trip_carry_first : k0_pay18 q0 k0_pay36 k cA (ix3 0 i 0) = ((-used zA t b : ℝ) : EReal) := by
  pointwise [k0_pay18, k0_pay17]
  rw [hcA, rest_first q0 k i zA b 0 hA, carry_add b t zA hb]

include hB hb hcB in
theorem trip_carry_second :
    k0_pay6 k0_pay36 (k0_pay20 q1 k) k0_pay21 cB (ix3 0 i 0) = ((-used zB t b : ℝ) : EReal) := by
  pointwise [k0_pay6, k0_pay5]
  rw [hcB, rest_second i zB b 0 _ hB, carry_add b t zB hb]

include hA hB hb hcA hcB in
theorem trip_acc (l : Fin 128) :
    k0_pay7 k0_pay36 (k0_pay14 k0_pay31 v) (k0_pay19 k0_pay31 q0 k0_pay36 k v cA) (k0_pay20 q1 k) k0_pay21 cB acc (ix2 i l)
      = acc (ix2 i l) + ∑ x : Fin 256, ((weight (pick l zA zB) t (b + x.val) : ℝ) : EReal) * v (ix2 x l) := by
  pointwise [k0_pay7, k0_pay5, k0_pay14, k0_pay19, k0_pay17, k0_pay13]
  simp only [lanes_at, select_ofBool, hA, hB, hcA, hcB, rest_first q0 k i zA b _ hA, rest_second i zB b _ _ hB,
    exponent _ hb]
  refine congrArg (_ + ·) ?_
  by_cases hl : l.val < 64
  · simp only [if_pos hl, pick, mul_zero, Finset.sum_const_zero, add_zero]
  · simp only [if_neg hl, pick, mul_zero, Finset.sum_const_zero, zero_add]

end trip

section diagonal
variable (q k v : Vec Ideal S256x128 .bf16) (cA cB : Vec Ideal S1x256x1 .f32) (acc : Vec Ideal S256x128 .f32)
  (i : Fin 256) (zA zB : ℕ → ℝ) (b : ℕ)

theorem masked (z : ℕ → ℝ) (b : ℕ) (i x : Fin 256) :
    (if x.val < i.val then ((sp (z (b + x.val)) : ℝ) : EReal) else 0)
      = ((if b + x.val < b + i.val then sp (z (b + x.val)) else 0 : ℝ) : EReal) := by
  by_cases h : x.val < i.val
  · rw [if_pos h, if_pos (by omega)]
  · rw [if_neg h, if_neg (by omega), EReal.coe_zero]

theorem diag_rest_first (c : Fin 256) (hA : ∀ c : Fin 256, k0_pay42 q k (ix2 i c) = ((zA (b + c.val) : ℝ) : EReal)) :
    k0_pay45 k0_pay35 k0_pay36 (k0_pay43 q k) (k0_pay44 q k) (ix2 i c)
      = ((-used zA (b + i.val) (b + c.val) : ℝ) : EReal) := by
  rw [← sum_suffix_masked zA b (b + i.val) (by omega)]
  pointwise [k0_pay45, k0_pay43, k0_pay44]
  simp only [diag_at, select_ofBool, triangle_at, hA]
  refine Finset.sum_congr rfl fun x _ => ?_
  rw [← masked]
  split_ifs <;> first | rfl | rw [zero_mul] | exact congrArg (· * _) (sp_coe _)

theorem diag_rest_second (q1 : FVec Ideal S256x128 .bf16) (c : Fin 256)
    (hB : ∀ c : Fin 256, k0_pay49 q1 k (ix2 i c) = ((zB (b + c.val) : ℝ) : EReal)) :
    k0_pay50 q1 k0_pay35 k0_pay36 k (ix2 i c) = ((-used zB (b + i.val) (b + c.val) : ℝ) : EReal) := by
  rw [← sum_suffix_masked zB b (b + i.val) (by omega)]
  pointwise [k0_pay50]
  simp only [diag_at, select_ofBool, triangle_at, hB]
  refine Finset.sum_congr rfl fun x _ => ?_
  rw [← masked]
  split_ifs <;> first | rfl | rw [zero_mul] | exact congrArg (· * _) (sp_coe _)

theorem diag_carry_first (hA : ∀ c : Fin 256, k0_pay42 q k (ix2 i c) = ((zA (b + c.val) : ℝ) : EReal))
    (hcA : cA (ix3 0 i 0) = 0) :
    k0_pay47 k0_pay35 k0_pay36 (k0_pay43 q k) (k0_pay44 q k) cA (ix3 0 i 0) = ((-used zA (b + i.val) b : ℝ) : EReal) := by
  pointwise [k0_pay47, k0_pay46]
  rw [hcA, zero_add, diag_rest_first q k i zA b 0 hA]
  simp only [Fin.val_zero, add_zero]

theorem diag_carry_second (q1 : FVec Ideal S256x128 .bf16)
    (hB : ∀ c : Fin 256, k0_pay49 q1 k (ix2 i c) = ((zB (b + c.val) : ℝ) : EReal)) (hcB : cB (ix3 0 i 0) = 0) :
    k0_pay2 (k0_pay50 q1 k0_pay35 k0_pay36 k) cB (ix3 0 i 0) = ((-used zB (b + i.val) b : ℝ) : EReal) := by
  pointwise [k0_pay2, k0_pay1]
  rw [hcB, zero_add, diag_rest_second k i zB b q1 0 hB]
  simp only [Fin.val_zero, add_zero]

theorem diag_exponent (z : ℕ → ℝ) (t s : ℕ) :
    Ideal.exp ((z s : EReal) + ((-used z t s : ℝ) : EReal)) = ((weight z t s : ℝ) : EReal) := by
  rw [← EReal.coe_add, Ideal.exp_coe, ← sub_eq_add_neg, weight]

theorem diag_acc (q1 : FVec Ideal S256x128 .bf16) (l : Fin 128)
    (hA : ∀ c : Fin 256, k0_pay42 q k (ix2 i c) = ((zA (b + c.val) : ℝ) : EReal))
    (hB : ∀ c : Fin 256, k0_pay49 q1 k (ix2 i c) = ((zB (b + c.val) : ℝ) : EReal))
    (hcA : cA (ix3 0 i 0) = 0) (hcB : cB (ix3 0 i 0) = 0) (hacc : acc (ix2 i l) = 0) :
    k0_pay3 k0_pay35 (k0_pay41 v)
        (k0_pay48 k0_pay35 k0_pay36 (k0_pay40 v) (k0_pay42 q k) (k0_pay43 q k) (k0_pay44 q k) cA)
        (k0_pay49 q1 k) (k0_pay50 q1 k0_pay35 k0_pay36 k) cB acc (ix2 i l)
      = ∑ x : Fin 256, (if x.val < i.val then ((weight (pick l zA zB) (b + i.val) (b + x.val) : ℝ) : EReal) else 0)
          * v (ix2 x l) := by
  pointwise [k0_pay3, k0_pay1, k0_pay40, k0_pay41, k0_pay39, k0_pay48, k0_pay46]
  simp only [lanes_at, diag_at, select_ofBool, hA, hB, hcA, hcB, hacc, diag_rest_first q k i zA b _ hA,
    diag_rest_second k i zB b q1 _ hB, add_zero, zero_add, diag_exponent]
  by_cases hl : l.val < 64
  · simp only [if_pos hl, pick, mul_zero, Finset.sum_const_zero, add_zero, ite_self]
    refine Finset.sum_congr rfl fun x _ => ?_
    split_ifs <;> first | rfl | rw [zero_mul]
  · simp only [if_neg hl, pick, mul_zero, Finset.sum_const_zero, zero_add, ite_self]
    refine Finset.sum_congr rfl fun x _ => ?_
    split_ifs <;> first | rfl | rw [zero_mul]

end diagonal

end Att
-- ==== Proof.State.lean ====
/-
  What the two accumulators hold between two blocks of keys. After the keys from `b` on have been taken, the carry of a
  head is minus the softplus mass of its logits from `b` to the query, and the result's row holds the weighted sum of the
  values there. The block on the diagonal establishes it and every block before it keeps it.
-/
module

public import proofs.«01_k».proof.Proof.Block

@[expose] public section
set_option maxRecDepth 16384
noncomputable section
namespace Att
open Idealize.ShloMosaic Cert.KernelIdeal Cert.KernelIdeal.Gen

/-- An extended real that is a real number. -/
def IsReal (x : EReal) : Prop := x ≠ ⊥ ∧ x ≠ ⊤

/-- The logits of row `i` of the query block, of the head `h`, against the key of position `s` (0 past the last key). -/
def logit (q : Vec Ideal S256x128 .bf16) (ks : Vec Ideal S8192x128 .bf16) (i : Fin 256) (h : Fin 2) (s : ℕ) : ℝ :=
  if hs : s < 8192 then dot (fun l => q (ix2 i l)) (fun l => ks (ix2 ⟨s, hs⟩ l)) h else 0

/-- The value of position `s` in lane `l`. -/
def value (vs : Vec Ideal S8192x128 .bf16) (l : Fin 128) (s : ℕ) : EReal :=
  if hs : s < 8192 then vs (ix2 ⟨s, hs⟩ l) else 0

/-- A block of 256 rows from row `b`. -/
def IsBlock (x : Vec Ideal S256x128 .bf16) (xs : Vec Ideal S8192x128 .bf16) (b : ℕ) : Prop :=
  ∀ (c : Fin 256) (l : Fin 128) (h : b + c.val < 8192), x (ix2 c l) = xs (ix2 ⟨b + c.val, h⟩ l)

/-- The row's result so far: the weighted values of positions `b` to `t`. -/
def part (q : Vec Ideal S256x128 .bf16) (ks vs : Vec Ideal S8192x128 .bf16) (i : Fin 256) (l : Fin 128) (b t : ℕ) : EReal :=
  ∑ s ∈ Finset.Ico b t, ((weight (pick l (logit q ks i 0) (logit q ks i 1)) t s : ℝ) : EReal) * value vs l s

/-- What the accumulators hold when the keys from `b` on have been taken, of the query block from `p`. -/
structure Inv (q : Vec Ideal S256x128 .bf16) (ks vs : Vec Ideal S8192x128 .bf16) (p b : ℕ)
    (A : Vec Ideal S256x128 .f32) (C : Vec Ideal S2x256x1 .f32) : Prop where
  first : ∀ i : Fin 256, C (ix3 0 i 0) = ((-used (logit q ks i 0) (p + i.val) b : ℝ) : EReal)
  second : ∀ i : Fin 256, C (ix3 1 i 0) = ((-used (logit q ks i 1) (p + i.val) b : ℝ) : EReal)
  result : ∀ (i : Fin 256) (l : Fin 128), A (ix2 i l) = part q ks vs i l b (p + i.val)

section
variable {q : Vec Ideal S256x128 .bf16} {ks vs : Vec Ideal S8192x128 .bf16}
  (hq : ∀ i l, IsReal (q (ix2 i l))) (hk : ∀ s l, IsReal (ks (ix2 s l)))
  {k v : Vec Ideal S256x128 .bf16} {b : ℕ} (hb : b + 256 ≤ 8192) (hkb : IsBlock k ks b) (hvb : IsBlock v vs b)

include hq hk hb hkb

theorem block_first (i c : Fin 256) : k0_pay15 (k0_pay33 q) k (ix2 i c) = ((logit q ks i 0 (b + c.val) : ℝ) : EReal) := by
  have hc : b + c.val < 8192 := by omega
  rw [logit_first q k i c (hq i) (fun l => by rw [hkb c l hc]; exact hk _ _), logit, dif_pos hc]
  simp only [hkb c _ hc]

theorem block_second (i c : Fin 256) : k0_pay20 (k0_pay34 q) k (ix2 i c) = ((logit q ks i 1 (b + c.val) : ℝ) : EReal) := by
  have hc : b + c.val < 8192 := by omega
  rw [logit_second q k i c (hq i) (fun l => by rw [hkb c l hc]; exact hk _ _), logit, dif_pos hc]
  simp only [hkb c _ hc]

theorem block_first_diag (i c : Fin 256) : k0_pay42 q k (ix2 i c) = ((logit q ks i 0 (b + c.val) : ℝ) : EReal) := by
  have h := block_first hq hk hb hkb i c
  unfold k0_pay15 at h
  unfold k0_pay42
  exact h

theorem block_second_diag (i c : Fin 256) : k0_pay49 (k0_pay34 q) k (ix2 i c) = ((logit q ks i 1 (b + c.val) : ℝ) : EReal) := by
  have h := block_second hq hk hb hkb i c
  unfold k0_pay20 at h
  unfold k0_pay49
  exact h

include hvb

/-- The block on the diagonal establishes the invariant. -/
theorem start {cA cB : Vec Ideal S1x256x1 .f32} {acc : Vec Ideal S256x128 .f32} {A : Vec Ideal S256x128 .f32}
    {C : Vec Ideal S2x256x1 .f32}
    (hcA : ∀ i : Fin 256, cA (ix3 0 i 0) = 0) (hcB : ∀ i : Fin 256, cB (ix3 0 i 0) = 0) (hacc : ∀ i l, acc (ix2 i l) = 0)
    (hC0 : ∀ i : Fin 256, C (ix3 0 i 0) = k0_pay47 k0_pay35 k0_pay36 (k0_pay43 q k) (k0_pay44 q k) cA (ix3 0 i 0))
    (hC1 : ∀ i : Fin 256, C (ix3 1 i 0) = k0_pay2 (k0_pay50 (k0_pay34 q) k0_pay35 k0_pay36 k) cB (ix3 0 i 0))
    (hA : A = k0_pay3 k0_pay35 (k0_pay41 v)
        (k0_pay48 k0_pay35 k0_pay36 (k0_pay40 v) (k0_pay42 q k) (k0_pay43 q k) (k0_pay44 q k) cA)
        (k0_pay49 (k0_pay34 q) k) (k0_pay50 (k0_pay34 q) k0_pay35 k0_pay36 k) cB acc) :
    Inv q ks vs b b A C where
  first i := (hC0 i).trans (diag_carry_first _ k cA i _ b (block_first_diag hq hk hb hkb i) (hcA i))
  second i := (hC1 i).trans (diag_carry_second k cB i _ b _ (block_second_diag hq hk hb hkb i) (hcB i))
  result i l := by
    rw [hA, diag_acc _ k v cA cB acc i _ _ b _ l (block_first_diag hq hk hb hkb i) (block_second_diag hq hk hb hkb i)
      (hcA i) (hcB i) (hacc i l), part]
    set w := weight (pick l (logit q ks i 0) (logit q ks i 1)) (b + i.val)
    rw [show (∑ x : Fin 256, (if x.val < i.val then ((w (b + x.val) : ℝ) : EReal) else 0) * v (ix2 x l))
        = ∑ x : Fin 256, (fun s => if s < b + i.val then ((w s : ℝ) : EReal) * value vs l s else 0) (b + x.val) from
      Finset.sum_congr rfl fun x _ => by
        have hx : b + x.val < 8192 := by omega
        show _ = ite _ _ _
        rw [hvb x l hx, value, dif_pos hx]
        by_cases h : x.val < i.val
        · rw [if_pos h, if_pos (by omega)]
        · rw [if_neg h, if_neg (by omega), zero_mul], sum_block (fun s => if s < b + i.val then ((w s : ℝ) : EReal) * value vs l s else 0) b,
      ← Finset.sum_Ico_consecutive _ (show b ≤ b + i.val by omega) (show b + i.val ≤ b + 256 by omega),
      Finset.sum_eq_zero (s := Finset.Ico (b + i.val) (b + 256)) (fun s hs => if_neg (by
        have := (Finset.mem_Ico.1 hs).1; omega)), add_zero]
    exact Finset.sum_congr rfl fun s hs => if_pos (Finset.mem_Ico.1 hs).2

/-- A block before the diagonal keeps it. -/
theorem step {p : ℕ} (hp : b + 256 ≤ p) {cA cB : Vec Ideal S1x256x1 .f32} {A A' : Vec Ideal S256x128 .f32}
    {C C' : Vec Ideal S2x256x1 .f32} (inv : Inv q ks vs p (b + 256) A C)
    (hcA : ∀ i : Fin 256, cA (ix3 0 i 0) = C (ix3 0 i 0)) (hcB : ∀ i : Fin 256, cB (ix3 0 i 0) = C (ix3 1 i 0))
    (hC0 : ∀ i : Fin 256, C' (ix3 0 i 0) = k0_pay18 (k0_pay33 q) k0_pay36 k cA (ix3 0 i 0))
    (hC1 : ∀ i : Fin 256, C' (ix3 1 i 0) = k0_pay6 k0_pay36 (k0_pay20 (k0_pay34 q) k) k0_pay21 cB (ix3 0 i 0))
    (hA : A' = k0_pay7 k0_pay36 (k0_pay14 k0_pay31 v) (k0_pay19 k0_pay31 (k0_pay33 q) k0_pay36 k v cA)
      (k0_pay20 (k0_pay34 q) k) k0_pay21 cB A) :
    Inv q ks vs p b A' C' where
  first i := (hC0 i).trans (trip_carry_first _ k cA i _ b _ (block_first hq hk hb hkb i) (by omega)
    ((hcA i).trans (inv.first i)))
  second i := (hC1 i).trans (trip_carry_second _ k cB i _ b _ (block_second hq hk hb hkb i) (by omega)
    ((hcB i).trans (inv.second i)))
  result i l := by
    rw [hA, trip_acc _ _ k v cA cB A i _ _ b (p + i.val) (block_first hq hk hb hkb i) (block_second hq hk hb hkb i) (by omega)
      ((hcA i).trans (inv.first i)) ((hcB i).trans (inv.second i)) l, inv.result i l, part, part]
    set w := weight (pick l (logit q ks i 0) (logit q ks i 1)) (p + i.val)
    rw [show (∑ x : Fin 256, ((w (b + x.val) : ℝ) : EReal) * v (ix2 x l))
        = ∑ x : Fin 256, (fun s => ((w s : ℝ) : EReal) * value vs l s) (b + x.val) from
      Finset.sum_congr rfl fun x _ => by
        have hx : b + x.val < 8192 := by omega
        show _ = _ * value vs l _
        rw [hvb x l hx, value, dif_pos hx], sum_block (fun s => ((w s : ℝ) : EReal) * value vs l s) b, add_comm,
      Finset.sum_Ico_consecutive _ (by omega) (by omega)]

end

end Att
end
-- ==== Proof.Trip.lean ====
/-
  The kernel's two accumulators through its loop over the blocks before the diagonal: what one trip stores in them, and
  the invariant before every trip.
-/
module

public import proofs.«01_k».proof.Proof.Gen.KernelIdeal.Frame
public import proofs.«01_k».proof.Proof.State
public import Idealize.ShloMosaic.Lib.VecWindow

@[expose] public section
set_option maxRecDepth 16384
noncomputable section
namespace Att
open Idealize.ShloMosaic Idealize.ShloMosaic.TcCoe Idealize.ShloMosaic.Tactic Cert.KernelIdeal Cert.KernelIdeal.Gen

/-! ## The loops' bounds and the blocks' offsets, as numbers -/

theorem trips_first (i : grid0.Coords) : (k0_t1_loop i).trips = (i 2).val :=
  (by decide +kernel : ∀ j : Fin 32, (⟨0#32, Scalar.addi 0#32 (Scalar.muli (Scalar.divsi (Scalar.subi (BitVec.ofNat 32 j.val) 0#32) 1#32) 1#32), 1#32⟩ : Scf.Loop 32).trips = j.val) (i 2)

theorem trips_second (i : grid0.Coords) : (k0_t2_loop i).trips = 0 :=
  (by decide +kernel : ∀ j : Fin 32, (⟨Scalar.addi 0#32 (Scalar.muli (Scalar.divsi (Scalar.subi (BitVec.ofNat 32 j.val) 0#32) 1#32) 1#32),
    Scalar.addi 0#32 (Scalar.subi (BitVec.ofNat 32 j.val) 0#32), 1#32⟩ : Scf.Loop 32).trips = 0) (i 2)

theorem off_diag (i : grid0.Coords) : k0_off1 i = ![256 * (i 2).val, 0] :=
  congrArg (fun n => ![n, 0])
    ((by decide +kernel : ∀ j : Fin 32, (Scalar.indexCast (Scalar.muli (BitVec.ofNat 32 j.val) 256#32) : Index).toNat = 256 * j.val) (i 2))

theorem off_trip (i : grid0.Coords) (k : Fin (k0_t1_loop i).trips) : k0_off2 i k = ![256 * ((i 2).val - 1 - k.val), 0] := by
  have hk : k.val < (i 2).val := trips_first i ▸ k.isLt
  exact congrArg (fun n => ![n, 0])
    ((by decide +kernel : ∀ j k : Fin 32, k.val < j.val → (Scalar.indexCast (Scalar.muli (Scalar.subi (Scalar.subi (BitVec.ofNat 32 j.val) 1#32)
      (Scf.iv 0#32 1#32 k.val)) 256#32) : Index).toNat = 256 * (j.val - 1 - k.val)) (i 2) ⟨k.val, hk.trans (i 2).isLt⟩ hk)

/-! ## Reading the memrefs -/

variable {sp : Space}

/-- A load of 256 rows from row `b`. -/
theorem isBlock_readAt (a : View sig .tc sp S8192x128 .bf16) (X : BufTy.Contents (Elt Ideal) a.ty) {off : Fin 2 → ℕ}
    (inb : ∀ x, off x + S256x128.size x ≤ S8192x128.size x) {b : ℕ} (h : off = ![b, 0]) :
    IsBlock (a.readAt (Elt Ideal) (Rect.unit (s := S8192x128) off S256x128.size inb).toLoadRect X) (a.read (Elt Ideal) X) b := by
  subst h
  intro c l hc
  show a.read (Elt Ideal) X _ = _
  refine congrArg (a.read (Elt Ideal) X) (funext fun x => Fin.ext ?_)
  match x with
  | 0 => show b + 1 * c.val = b + c.val; omega
  | 1 => show 0 + 1 * l.val = l.val; omega

theorem readAt_slot (a : View sig .tc sp S2x256x1 .f32) (X : BufTy.Contents (Elt Ideal) a.ty) (h : Fin 2)
    (inb : ∀ x, (![h.val, 0, 0] : Fin 3 → ℕ) x + S1x256x1.size x ≤ S2x256x1.size x) (i : Fin 256) :
    (a.readAt (Elt Ideal) (Rect.unit (s := S2x256x1) ![h.val, 0, 0] S1x256x1.size inb).toLoadRect X : Vec Ideal S1x256x1 .f32) (ix3 0 i 0)
      = (a.read (Elt Ideal) X : Vec Ideal S2x256x1 .f32) (ix3 h i 0) := by
  show a.read (Elt Ideal) X _ = _
  refine congrArg (a.read (Elt Ideal) X) (funext fun x => Fin.ext ?_)
  match x with
  | 0 => show h.val + 1 * 0 = h.val; omega
  | 1 => show 0 + 1 * i.val = i.val; omega
  | 2 => rfl

/-- After a store of both slots, slot 1 last. -/
theorem read_slots (a : View sig .tc sp S2x256x1 .f32) (X : BufTy.Contents (Elt Ideal) a.ty) (L : List (View.Piece (Elt Ideal) S2x256x1 .f32))
    (inb1 : ∀ x, (![1, 0, 0] : Fin 3 → ℕ) x + S1x256x1.size x ≤ S2x256x1.size x)
    (inb0 : ∀ x, (![0, 0, 0] : Fin 3 → ℕ) x + S1x256x1.size x ≤ S2x256x1.size x) (w1 w0 : Vec Ideal S1x256x1 .f32) (i : Fin 256) :
    (a.read (Elt Ideal) (a.writes (Elt Ideal) X (⟨Rect.unit (s := S2x256x1) ![1, 0, 0] S1x256x1.size inb1, w1⟩
        :: ⟨Rect.unit (s := S2x256x1) ![0, 0, 0] S1x256x1.size inb0, w0⟩ :: L)) : Vec Ideal S2x256x1 .f32) (ix3 0 i 0) = w0 (ix3 0 i 0)
    ∧ (a.read (Elt Ideal) (a.writes (Elt Ideal) X (⟨Rect.unit (s := S2x256x1) ![1, 0, 0] S1x256x1.size inb1, w1⟩
        :: ⟨Rect.unit (s := S2x256x1) ![0, 0, 0] S1x256x1.size inb0, w0⟩ :: L)) : Vec Ideal S2x256x1 .f32) (ix3 1 i 0) = w1 (ix3 0 i 0) := by
  constructor
  · rw [View.read_writes_cons_unit_of_not_mem a X inb1 w1 _ (ix3 0 i 0) rfl 0 (.inl Nat.zero_lt_one)]
    refine View.read_writes_cons_unit_of_mem a X inb0 w0 L (ix3 0 i 0) (ix3 0 i 0) rfl fun x => ?_
    match x with
    | 0 => rfl
    | 1 => show i.val = 0 + i.val; omega
    | 2 => rfl
  · refine View.read_writes_cons_unit_of_mem a X inb1 w1 _ (ix3 1 i 0) (ix3 0 i 0) rfl fun x => ?_
    match x with
    | 0 => rfl
    | 1 => show i.val = 0 + i.val; omega
    | 2 => rfl

/-! ## The loop over the blocks before the diagonal -/

section loop
variable (c : Dev nD) (i : grid0.Coords) (arg3 : Memref sig .tc .vmem S256x128 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S256x128 .bf16) (harg6 : arg6.IsWhole) (arg7 : Memref sig .tc .vmem S256x128 .f32) (harg7 : arg7.IsWhole)
  (arg8 : Memref sig .tc .vmem S2x256x1 .f32) (harg8 : arg8.IsWhole) (arg2 : BitVec 32) (q : Vec Ideal S256x128 .bf16)
  (X4 : BufTy.Contents (Elt Ideal) arg4.view.ty) (X5 : BufTy.Contents (Elt Ideal) arg5.view.ty)
  (G7 : BufTy.Contents (Elt Ideal) arg7.view.ty) (G8 : BufTy.Contents (Elt Ideal) arg8.view.ty) (init : BitVec 32)
  (hq : ∀ i l, IsReal (q (ix2 i l)))
  (hk : ∀ s l, IsReal ((arg4.view.read (Elt Ideal) X4 : Vec Ideal S8192x128 .bf16) (ix2 s l)))

/-- The block of 256 rows a trip loads. -/
abbrev rows (a : View sig .tc .vmem S8192x128 .bf16) (X : BufTy.Contents (Elt Ideal) a.ty) (k : Fin (k0_t1_loop i).trips) : Vec Ideal S256x128 .bf16 :=
  a.readAt (Elt Ideal) (Rect.unit (s := S8192x128) (k0_off2 i k) S256x128.size (k0_off2_inb i k)).toLoadRect X
abbrev slot0 (f8 : BufTy.Contents (Elt Ideal) arg8.view.ty) : Vec Ideal S1x256x1 .f32 :=
  arg8.view.readAt (Elt Ideal) (Rect.unit (s := S2x256x1) ![0, 0, 0] S1x256x1.size inb_S2x256x1_S1x256x1_0_0_0).toLoadRect f8
abbrev slot1 (f8 : BufTy.Contents (Elt Ideal) arg8.view.ty) : Vec Ideal S1x256x1 .f32 :=
  arg8.view.readAt (Elt Ideal) (Rect.unit (s := S2x256x1) ![1, 0, 0] S1x256x1.size inb_S2x256x1_S1x256x1_1_0_0).toLoadRect f8

/-- What a trip stores: the result's accumulator whole, and both slots of the carry. -/
theorem trip_pieces (k : Fin (k0_t1_loop i).trips) (w : BitVec 32) (f7 : BufTy.Contents (Elt Ideal) arg7.view.ty)
    (f8 : BufTy.Contents (Elt Ideal) arg8.view.ty) :
    tripL_k0_t1 (F := Ideal) Variants.none c none i arg3 harg3 arg4 harg4 arg5 harg5 arg6 harg6 arg7 harg7 arg8 harg8 arg2 k0_pay31 (k0_pay33 q) (k0_pay34 q) k0_pay36 X4 X5 k w f7 f8
      = ([⟨Rect.unit (s := S256x128) ![0, 0] S256x128.size inb_S256x128_S256x128_0_0,
            k0_pay7 k0_pay36 (k0_pay14 k0_pay31 (rows i arg5.view X5 k)) (k0_pay19 k0_pay31 (k0_pay33 q) k0_pay36 (rows i arg4.view X4 k) (rows i arg5.view X5 k) (slot0 arg8 f8))
              (k0_pay20 (k0_pay34 q) (rows i arg4.view X4 k)) k0_pay21 (slot1 arg8 f8)
              (arg7.view.readAt (Elt Ideal) (Rect.unit (s := S256x128) ![0, 0] S256x128.size inb_S256x128_S256x128_0_0).toLoadRect f7)⟩],
        [⟨Rect.unit (s := S2x256x1) ![1, 0, 0] S1x256x1.size inb_S2x256x1_S1x256x1_1_0_0,
            k0_pay6 k0_pay36 (k0_pay20 (k0_pay34 q) (rows i arg4.view X4 k)) k0_pay21 (slot1 arg8 f8)⟩,
          ⟨Rect.unit (s := S2x256x1) ![0, 0, 0] S1x256x1.size inb_S2x256x1_S1x256x1_0_0_0,
            k0_pay18 (k0_pay33 q) k0_pay36 (rows i arg4.view X4 k) (slot0 arg8 f8)⟩]) := by
  unfold tripL_k0_t1 trip_k0_t1
  dsimp only
  sl_unfold_words
  rfl

include hq hk in
/-- One trip, of whatever the accumulators hold. -/
theorem inv_trip (k : Fin (k0_t1_loop i).trips) (w : BitVec 32) (f7 : BufTy.Contents (Elt Ideal) arg7.view.ty)
    (f8 : BufTy.Contents (Elt Ideal) arg8.view.ty)
    (inv : Inv q (arg4.view.read (Elt Ideal) X4) (arg5.view.read (Elt Ideal) X5) (256 * (i 2).val) (256 * ((i 2).val - k.val))
      (arg7.view.read (Elt Ideal) f7) (arg8.view.read (Elt Ideal) f8)) :
    Inv q (arg4.view.read (Elt Ideal) X4) (arg5.view.read (Elt Ideal) X5) (256 * (i 2).val) (256 * ((i 2).val - (k.val + 1)))
      (arg7.view.read (Elt Ideal) (arg7.view.writes (Elt Ideal) f7 (tripL_k0_t1 (F := Ideal) Variants.none c none i arg3 harg3 arg4 harg4 arg5 harg5 arg6 harg6 arg7 harg7 arg8 harg8 arg2 k0_pay31 (k0_pay33 q) (k0_pay34 q) k0_pay36 X4 X5 k w f7 f8).1))
      (arg8.view.read (Elt Ideal) (arg8.view.writes (Elt Ideal) f8 (tripL_k0_t1 (F := Ideal) Variants.none c none i arg3 harg3 arg4 harg4 arg5 harg5 arg6 harg6 arg7 harg7 arg8 harg8 arg2 k0_pay31 (k0_pay33 q) (k0_pay34 q) k0_pay36 X4 X5 k w f7 f8).2)) := by
  have hkq : k.val < (i 2).val := trips_first i ▸ k.isLt
  have hq32 : (i 2).val < 32 := (i 2).isLt
  have off : k0_off2 i k = ![256 * ((i 2).val - (k.val + 1)), 0] := by
    rw [off_trip, show (i 2).val - 1 - k.val = (i 2).val - (k.val + 1) by omega]
  rw [show 256 * ((i 2).val - k.val) = 256 * ((i 2).val - (k.val + 1)) + 256 by omega] at inv
  rw [trip_pieces]
  refine step hq hk (by omega) (isBlock_readAt arg4.view X4 _ off) (isBlock_readAt arg5.view X5 (k0_off2_inb i k) off) (by omega) inv
    (fun r => readAt_slot arg8.view f8 0 _ r) (fun r => readAt_slot arg8.view f8 1 _ r)
    (fun r => (read_slots arg8.view f8 [] _ _ _ _ r).1) (fun r => (read_slots arg8.view f8 [] _ _ _ _ r).2) ?_
  rw [View.read_writes_full arg7.view, View.readAt_full arg7.view]
  rfl

include hq hk in
theorem inv_loop (inv : Inv q (arg4.view.read (Elt Ideal) X4) (arg5.view.read (Elt Ideal) X5) (256 * (i 2).val) (256 * (i 2).val)
      (arg7.view.read (Elt Ideal) G7) (arg8.view.read (Elt Ideal) G8)) (k : ℕ) (hk' : k ≤ (i 2).val) :
    Inv q (arg4.view.read (Elt Ideal) X4) (arg5.view.read (Elt Ideal) X5) (256 * (i 2).val) (256 * ((i 2).val - k))
      (arg7.view.read (Elt Ideal) (arg7.view.writes (Elt Ideal) G7 (st_k0_t1 (F := Ideal) Variants.none c none i arg3 harg3 arg4 harg4 arg5 harg5 arg6 harg6 arg7 harg7 arg8 harg8 arg2 k0_pay31 (k0_pay33 q) (k0_pay34 q) k0_pay36 X4 X5 G7 G8 init k).2.1))
      (arg8.view.read (Elt Ideal) (arg8.view.writes (Elt Ideal) G8 (st_k0_t1 (F := Ideal) Variants.none c none i arg3 harg3 arg4 harg4 arg5 harg5 arg6 harg6 arg7 harg7 arg8 harg8 arg2 k0_pay31 (k0_pay33 q) (k0_pay34 q) k0_pay36 X4 X5 G7 G8 init k).2.2)) := by
  induction k with
  | zero => exact inv
  | succ k ih =>
    have e := st_k0_t1_succ (F := Ideal) Variants.none c none i arg3 harg3 arg4 harg4 arg5 harg5 arg6 harg6 arg7 harg7 arg8 harg8 arg2 k0_pay31 (k0_pay33 q) (k0_pay34 q) k0_pay36 X4 X5 G7 G8 init ⟨k, by rw [trips_first]; omega⟩
    dsimp only at e
    rw [e, View.writes_append, View.writes_append]
    exact inv_trip c i arg3 harg3 arg4 harg4 arg5 harg5 arg6 harg6 arg7 harg7 arg8 harg8 arg2 q X4 X5 hq hk ⟨k, by rw [trips_first]; omega⟩ _ _ _ (ih (by omega))

end loop

end Att
end
-- ==== Proof.Run.lean ====
/-
  The block of results the kernel writes at one point of its grid: every row, in every lane, is the weighted sum of the
  values at all the positions before the query's own.
-/
module

public import proofs.«01_k».proof.Proof.Trip

@[expose] public section
set_option maxRecDepth 16384
noncomputable section
namespace Att
open Idealize.ShloMosaic Idealize.ShloMosaic.TcCoe Idealize.ShloMosaic.Tactic Cert.KernelIdeal Cert.KernelIdeal.Gen

variable (c : Dev nD) (i : grid0.Coords) (arg3 : Memref sig .tc .vmem S256x128 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S256x128 .bf16) (harg6 : arg6.IsWhole) (arg7 : Memref sig .tc .vmem S256x128 .f32) (harg7 : arg7.IsWhole)
  (arg8 : Memref sig .tc .vmem S2x256x1 .f32) (harg8 : arg8.IsWhole)
  (x0 : Vec Ideal S256x128 .bf16) (x1 x2 : Vec Ideal S8192x128 .bf16)
  (hq : ∀ i l, IsReal (x0 (ix2 i l))) (hk : ∀ s l, IsReal (x1 (ix2 s l)))

/-- What is written back after both loops — the second makes no trip —, from the invariant before them. -/
theorem finish (X4 : BufTy.Contents (Elt Ideal) arg4.view.ty) (X5 : BufTy.Contents (Elt Ideal) arg5.view.ty)
    (hq : ∀ i l, IsReal (x0 (ix2 i l)))
    (hk : ∀ s l, IsReal ((arg4.view.read (Elt Ideal) X4 : Vec Ideal S8192x128 .bf16) (ix2 s l)))
    (L7 : List (View.Piece (Elt Ideal) S256x128 .f32)) (G8 : BufTy.Contents (Elt Ideal) arg8.view.ty)
    (inv : Inv x0 (arg4.view.read (Elt Ideal) X4) (arg5.view.read (Elt Ideal) X5) (256 * (i 2).val) (256 * (i 2).val)
      (arg7.view.read (Elt Ideal) (arg7.view.writes (Elt Ideal) arg7.view.junk L7)) (arg8.view.read (Elt Ideal) G8))
    (w2 w3 w4 w5 : BitVec 32) (v2 : IVec S256x128 1) (v5 : Vec Ideal S256x128 .bf16) (v6 : FVec Ideal S256x128 .bf16) (v14 : FVec Ideal S256x256 .bf16)
    (f7 : BufTy.Contents (Elt Ideal) arg7.view.ty) (f8 : BufTy.Contents (Elt Ideal) arg8.view.ty) (r : Fin 256) (l : Fin 128) :
    k0_pay12 (arg7.view.readCov
        ((st_k0_t2 (F := Ideal) Variants.none c none i arg3 harg3 arg4 harg4 arg5 harg5 arg6 harg6 arg7 harg7 arg8 harg8 w2 v2 v5 v6 v14 w3 X4 X5 f7 f8 w4 (k0_t2_loop i).trips).2.1
          ++ ((st_k0_t1 (F := Ideal) Variants.none c none i arg3 harg3 arg4 harg4 arg5 harg5 arg6 harg6 arg7 harg7 arg8 harg8 w2 k0_pay31 (k0_pay33 x0) (k0_pay34 x0) k0_pay36 X4 X5
              (arg7.view.writes (Elt Ideal) arg7.view.junk L7) G8 w5 (k0_t1_loop i).trips).2.1 ++ L7))
        (Rect.unit (s := S256x128) ![0, 0] S256x128.size inb_S256x128_S256x128_0_0).toLoadRect) (ix2 r l)
      = part x0 (arg4.view.read (Elt Ideal) X4) (arg5.view.read (Elt Ideal) X5) r l 0 (256 * (i 2).val + r.val) := by
  have h := inv_loop c i arg3 harg3 arg4 harg4 arg5 harg5 arg6 harg6 arg7 harg7 arg8 harg8 w2 x0 X4 X5
    (arg7.view.writes (Elt Ideal) arg7.view.junk L7) G8 w5 hq hk inv (i 2).val le_rfl
  rw [Nat.sub_self, Nat.mul_zero] at h
  rw [trips_first, trips_second]
  unfold st_k0_t2
  rw [List.nil_append]
  unfold View.readCov
  rw [View.readAt_full arg7.view, View.writes_append]
  pointwise [k0_pay12]
  exact h.result r l

/-! ## What the block on the diagonal finds: zeros -/

theorem zero_slot0 (r : Fin 256) (inb : ∀ x, (![0, 0, 0] : Fin 3 → ℕ) x + S2x256x1.size x ≤ S2x256x1.size x) :
    (arg8.view.readCov (Val := Elt Ideal) [⟨Rect.unit (s := S2x256x1) ![0, 0, 0] S2x256x1.size inb, k0_pay38 (F := Ideal)⟩]
      (Rect.unit (s := S2x256x1) ![0, 0, 0] S1x256x1.size inb_S2x256x1_S1x256x1_0_0_0).toLoadRect : Vec Ideal S1x256x1 .f32) (ix3 0 r 0) = 0 := by
  refine (readAt_slot arg8.view _ 0 _ r).trans ?_
  rw [View.read_writes_full arg8.view]
  pointwise [k0_pay38]

theorem zero_slot1 (r : Fin 256) (inb : ∀ x, (![0, 0, 0] : Fin 3 → ℕ) x + S2x256x1.size x ≤ S2x256x1.size x) (w : Vec Ideal S1x256x1 .f32) :
    (arg8.view.readCov (Val := Elt Ideal) [⟨Rect.unit (s := S2x256x1) ![0, 0, 0] S1x256x1.size inb_S2x256x1_S1x256x1_0_0_0, w⟩,
        ⟨Rect.unit (s := S2x256x1) ![0, 0, 0] S2x256x1.size inb, k0_pay38 (F := Ideal)⟩]
      (Rect.unit (s := S2x256x1) ![1, 0, 0] S1x256x1.size inb_S2x256x1_S1x256x1_1_0_0).toLoadRect : Vec Ideal S1x256x1 .f32) (ix3 0 r 0) = 0 := by
  refine (readAt_slot arg8.view _ 1 _ r).trans ?_
  refine (View.read_writes_cons_unit_of_not_mem arg8.view _ (size := S1x256x1.size) inb_S2x256x1_S1x256x1_0_0_0 w _ (ix3 1 r 0) rfl 0
    (.inr le_rfl)).trans ?_
  rw [View.read_writes_full arg8.view]
  pointwise [k0_pay38]

theorem zero_result (r : Fin 256) (l : Fin 128) :
    (arg7.view.readCov (Val := Elt Ideal) [⟨Rect.unit (s := S256x128) ![0, 0] S256x128.size inb_S256x128_S256x128_0_0, k0_pay37 (F := Ideal)⟩]
      (Rect.unit (s := S256x128) ![0, 0] S256x128.size inb_S256x128_S256x128_0_0).toLoadRect : Vec Ideal S256x128 .f32) (ix2 r l) = 0 := by
  rw [View.readCov_full arg7.view]
  pointwise [k0_pay37]

include hq hk in
theorem run_value (r : Fin 256) (l : Fin 128) :
    out0_A_3 (F := Ideal) c i arg3 harg3 arg4 harg4 arg5 harg5 arg6 harg6 arg7 harg7 arg8 harg8 x0 x1 x2 (ix2 r l)
      = part x0 x1 x2 r l 0 (256 * (i 2).val + r.val) := by
  unfold out0_A_3 kernelRun0_A
  dsimp only
  sl_unfold_words
  rw [View.read_writes_full]
  rw [View.readAt_full arg3.view, harg3.read_unread]
  have hq32 : (i 2).val < 32 := (i 2).isLt
  have e1 := harg4.read_unread (Val := Elt Ideal) x1
  have e2 := harg5.read_unread (Val := Elt Ideal) x2
  rw [← e1] at hk
  have hK := isBlock_readAt arg4.view (harg4.unread x1) (k0_off1_inb i) (off_diag i)
  have hV := isBlock_readAt arg5.view (harg5.unread x2) (k0_off1_inb i) (off_diag i)
  refine (finish c i arg3 harg3 arg4 harg4 arg5 harg5 arg6 harg6 arg7 harg7 arg8 harg8 x0 (harg4.unread x1) (harg5.unread x2) hq hk
    _ _ ?_ _ _ _ _ _ _ _ _ _ _ r l).trans (by rw [e1, e2])
  refine start hq hk (by omega) hK hV (zero_slot0 arg8 · _) (zero_slot1 arg8 · _ _) (zero_result arg7)
    (fun r => (read_slots arg8.view _ _ _ _ _ _ r).1) (fun r => (read_slots arg8.view _ _ _ _ _ _ r).2) ?_
  rw [View.read_writes_full arg7.view]
  rfl

end Att
end
-- ==== Proof.Final.lean ====
/-
  The kernel's whole result: at every token and every lane, the weighted sum over the tokens before it in its sequence.
-/
module

public import proofs.«01_k».proof.Proof.Gen.KernelIdeal.Value
public import proofs.«01_k».proof.Proof.Run

@[expose] public section
set_option maxRecDepth 16384
noncomputable section
namespace Att
open Idealize.ShloMosaic Idealize.ShloMosaic.TcCoe Idealize.ShloMosaic.Tactic Idealize.SL.Sem Cert.KernelIdeal Cert.KernelIdeal.Gen

/-- The entry of an array at a row and a column given as numbers (0 outside). -/
def entry (X : Vec Ideal S32768x512 .bf16) (r c : ℕ) : EReal :=
  if h : r < 32768 ∧ c < 512 then X (ix2 ⟨r, h.1⟩ ⟨c, h.2⟩) else 0

/-- The logit of token `n` against position `s` of its sequence, of the head `h`. -/
def score (Q K : Vec Ideal S32768x512 .bf16) (n h s : ℕ) : ℝ :=
  ∑ d : Fin 64, (entry Q n (64 * h + d.val)).toReal * (entry K (8192 * (n / 8192) + s) (64 * h + d.val)).toReal

/-- The attention: token `n`, column `c`. -/
def attend (Q K V : Vec Ideal S32768x512 .bf16) (n c : ℕ) : EReal :=
  ∑ s ∈ Finset.Ico 0 (n % 8192), ((weight (score Q K n (c / 64)) (n % 8192) s : ℝ) : EReal) * entry V (8192 * (n / 8192) + s) c

theorem weight_congr {z z' : ℕ → ℝ} {t s : ℕ} (h : ∀ u, u < t → z u = z' u) (hs : s < t) : weight z t s = weight z' t s := by
  unfold weight used
  rw [h s hs, Finset.sum_congr rfl fun u hu => by rw [h u (Finset.mem_Ico.1 hu).2]]

section block
variable (Q K V : Vec Ideal S32768x512 .bf16) (x0 : Vec Ideal S256x128 .bf16) (x1 x2 : Vec Ideal S8192x128 .bf16) (b hp qi : ℕ)
  (h0 : ∀ r l, x0 (ix2 r l) = entry Q (256 * (32 * b + qi) + r.val) (128 * hp + l.val))
  (h1 : ∀ s l, x1 (ix2 s l) = entry K (8192 * b + s.val) (128 * hp + l.val))
  (h2 : ∀ s l, x2 (ix2 s l) = entry V (8192 * b + s.val) (128 * hp + l.val)) (hqi : qi < 32)

include h0 h1 hqi in
theorem logit_block (r : Fin 256) (h : Fin 2) (s : ℕ) (hs : s < 8192) :
    logit x0 x1 r h s = score Q K (256 * (32 * b + qi) + r.val) (2 * hp + h.val) s := by
  rw [logit, dif_pos hs, dot, score]
  refine Finset.sum_congr rfl fun d _ => ?_
  rw [h0, h1]
  have e : 128 * hp + (lane h d).val = 64 * (2 * hp + h.val) + d.val := by simp only [lane]; omega
  rw [e, show (256 * (32 * b + qi) + r.val) / 8192 = b by omega]

include h0 h1 h2 hqi in
theorem part_block (r : Fin 256) (l : Fin 128) :
    part x0 x1 x2 r l 0 (256 * qi + r.val) = attend Q K V (256 * (32 * b + qi) + r.val) (128 * hp + l.val) := by
  rw [part, attend, show (256 * (32 * b + qi) + r.val) % 8192 = 256 * qi + r.val by omega,
    show (256 * (32 * b + qi) + r.val) / 8192 = b by omega]
  refine Finset.sum_congr rfl fun s hs => ?_
  have hst := (Finset.mem_Ico.1 hs).2
  have hs8 : s < 8192 := by omega
  rw [value, dif_pos hs8, h2]
  refine congrArg (fun w : ℝ => (w : EReal) * _) (weight_congr (fun u hu => ?_) hst)
  unfold pick
  split_ifs with hl
  · rw [logit_block Q K x0 x1 b hp qi h0 h1 hqi r 0 u (by omega),
      show (128 * hp + l.val) / 64 = 2 * hp + (0 : Fin 2).val by simp only [Fin.val_zero]; omega]
  · rw [logit_block Q K x0 x1 b hp qi h0 h1 hqi r 1 u (by omega),
      show (128 * hp + l.val) / 64 = 2 * hp + (1 : Fin 2).val by simp only [Fin.val_one]; omega]

end block

/-! ## The blocks of the arrays -/

theorem index_rows (i : grid0.Coords) :
    cc0_transform_0 i 0 = 32 * (i 0).val + (i 2).val ∧ cc0_transform_0 i 1 = (i 1).val :=
  ⟨(by decide +kernel : ∀ a : Fin 4, ∀ k : Fin 32,
      (Scalar.addi (Scalar.muli (BitVec.ofNat 32 a.val) 32#32) (BitVec.ofNat 32 k.val)).toNat = 32 * a.val + k.val) (i 0) (i 2),
    (by decide +kernel : ∀ a : Fin 4, (BitVec.ofNat 32 a.val).toNat = a.val) (i 1)⟩

theorem index_keys (i : grid0.Coords) : cc0_transform_1 i 0 = (i 0).val ∧ cc0_transform_1 i 1 = (i 1).val :=
  ⟨(by decide +kernel : ∀ a : Fin 4, (BitVec.ofNat 32 a.val).toNat = a.val) (i 0),
    (by decide +kernel : ∀ a : Fin 4, (BitVec.ofNat 32 a.val).toNat = a.val) (i 1)⟩

variable (m : (ℓ : Loc nD τ sig) → Buf (Elt Ideal) ℓ)

/-- The arguments and the result of one device, as arrays. -/
abbrev argQ (c : Dev nD) : Vec Ideal S32768x512 .bf16 := m ((c : Thread nD τ).loc main_arg0)
abbrev argK (c : Dev nD) : Vec Ideal S32768x512 .bf16 := m ((c : Thread nD τ).loc main_arg1)
abbrev argV (c : Dev nD) : Vec Ideal S32768x512 .bf16 := m ((c : Thread nD τ).loc main_arg2)
def target (c : Dev nD) : Vec Ideal S32768x512 .bf16 := fun j => attend (argQ m c) (argK m c) (argV m c) (j 0).val (j 1).val

theorem entry_eq (X : Vec Ideal S32768x512 .bf16) (j : S32768x512.Idx) {r c : ℕ} (h0 : (j 0).val = r) (h1 : (j 1).val = c) :
    X j = entry X r c := by
  subst h0 h1
  have hj : (j 0).val < 32768 ∧ (j 1).val < 512 := ⟨(j 0).isLt, (j 1).isLt⟩
  rw [entry, dif_pos hj]
  exact congrArg X (funext fun a => match a with | 0 => rfl | 1 => rfl)

theorem read_rows (c : Dev nD) (t : Fin cfg0.N) (r : Fin 256) (l : Fin 128) :
    (iblk m c 0 t : Vec Ideal S256x128 .bf16) (ix2 r l)
      = entry (argQ m c) (256 * (32 * (grid0.coords t 0).val + (grid0.coords t 2).val) + r.val) (128 * (grid0.coords t 1).val + l.val) := by
  have e := index_rows (grid0.coords t)
  refine entry_eq (argQ m c) _ ?_ ?_
  · show cc0_transform_0 (grid0.coords t) 0 * 256 + 1 * r.val = _
    rw [e.1]; omega
  · show cc0_transform_0 (grid0.coords t) 1 * 128 + 1 * l.val = _
    rw [e.2]; omega

theorem read_keys (c : Dev nD) (t : Fin cfg0.N) (s : Fin 8192) (l : Fin 128) :
    (iblk m c 1 t : Vec Ideal S8192x128 .bf16) (ix2 s l)
      = entry (argK m c) (8192 * (grid0.coords t 0).val + s.val) (128 * (grid0.coords t 1).val + l.val) := by
  have e := index_keys (grid0.coords t)
  refine entry_eq (argK m c) _ ?_ ?_
  · show cc0_transform_1 (grid0.coords t) 0 * 8192 + 1 * s.val = _
    rw [e.1]; omega
  · show cc0_transform_1 (grid0.coords t) 1 * 128 + 1 * l.val = _
    rw [e.2]; omega

theorem read_values (c : Dev nD) (t : Fin cfg0.N) (s : Fin 8192) (l : Fin 128) :
    (iblk m c 2 t : Vec Ideal S8192x128 .bf16) (ix2 s l)
      = entry (argV m c) (8192 * (grid0.coords t 0).val + s.val) (128 * (grid0.coords t 1).val + l.val) := by
  have e : cc0_transform_2 (grid0.coords t) 0 = _ ∧ cc0_transform_2 (grid0.coords t) 1 = _ := index_keys (grid0.coords t)
  refine entry_eq (argV m c) _ ?_ ?_
  · show cc0_transform_2 (grid0.coords t) 0 * 8192 + 1 * s.val = _
    rw [e.1]; omega
  · show cc0_transform_2 (grid0.coords t) 1 * 128 + 1 * l.val = _
    rw [e.2]; omega

/-! ## The result, block by block -/

theorem real_entry {X : Vec Ideal S32768x512 .bf16} (hX : ∀ j, IsReal (X j)) (r c : ℕ) : IsReal (entry X r c) := by
  unfold entry
  split_ifs
  · exact hX _
  · exact ⟨EReal.zero_ne_bot, EReal.zero_ne_top⟩

theorem block_value (c : Dev nD) (hQ : ∀ j, IsReal (argQ m c j)) (hK : ∀ j, IsReal (argK m c j)) (t : Fin cfg0.N)
    (r : Fin 256) (l : Fin 128) (y : S256x128.Idx) (hy : y = ix2 r l) :
    out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) y
      = attend (argQ m c) (argK m c) (argV m c) ((32 * (grid0.coords t 0).val + (grid0.coords t 2).val) * 256 + 1 * r.val)
          ((grid0.coords t 1).val * 128 + 1 * l.val) := by
  subst hy
  refine (run_value _ _ _ _ _ _ _ _ _ _ _ _ _ _ _ _ _ (fun r l => by rw [read_rows]; exact real_entry hQ _ _)
    (fun s l => by rw [read_keys]; exact real_entry hK _ _) r l).trans ?_
  rw [part_block (argQ m c) (argK m c) (argV m c) _ _ _ (grid0.coords t 0).val (grid0.coords t 1).val (grid0.coords t 2).val
    (read_rows m c t) (read_keys m c t) (read_values m c t) (grid0.coords t 2).isLt]
  congr 1 <;> omega

theorem flushed_eq (c : Dev nD) (hQ : ∀ j, IsReal (argQ m c j)) (hK : ∀ j, IsReal (argK m c j)) (t : Fin cfg0.N) :
    (dats m 0 c).flushed 3 t = (win0_3.blk t).view.read (Elt Ideal) (target m c) := by
  rw [Cert.KernelIdeal.Value.flushed3_A]
  funext y
  have e : cc0_transform_3 (grid0.coords t) 0 = _ ∧ cc0_transform_3 (grid0.coords t) 1 = _ := index_rows (grid0.coords t)
  show out0_A_3 (F := Ideal) c (grid0.coords t) _ _ _ _ _ _ _ _ _ _ _ _ _ _ _ _ = attend _ _ _ (cc0_transform_3 (grid0.coords t) 0 * 256 + 1 * (y 0).val)
    (cc0_transform_3 (grid0.coords t) 1 * 128 + 1 * (y 1).val)
  rw [e.1, e.2]
  exact block_value m c hQ hK t (y 0) (y 1) _ (funext fun a => match a with | 0 => rfl | 1 => rfl)

theorem coords_of (b hp qi : ℕ) (hb : b < 4) (hhp : hp < 4) (hqi : qi < 32) :
    ∃ t : Fin cfg0.N, (grid0.coords t 0).val = b ∧ (grid0.coords t 1).val = hp ∧ (grid0.coords t 2).val = qi := by
  have hN : cfg0.N = 512 := N_0
  have key : ∀ t : Fin grid0.N, (grid0.coords t 0).val = t.val / 128 % 4 ∧ (grid0.coords t 1).val = t.val / 32 % 4
      ∧ (grid0.coords t 2).val = t.val % 32 := by decide +kernel
  refine ⟨⟨128 * b + 32 * hp + qi, by omega⟩, ?_⟩
  have h := key ⟨128 * b + 32 * hp + qi, by rw [N_0]; omega⟩
  dsimp only at h
  refine ⟨h.1.trans ?_, h.2.1.trans ?_, h.2.2.trans ?_⟩ <;> omega

theorem cover (j : S32768x512.Idx) :
    ∃ t : Fin cfg0.N, (cfg0.win 3).flush t = true ∧ j ∈ ((cfg0.win 3).blk t).view.set := by
  have h0 : (j 0).val < 32768 := (j 0).isLt
  have h1 : (j 1).val < 512 := (j 1).isLt
  obtain ⟨t, e0, e1, e2⟩ := coords_of ((j 0).val / 8192) ((j 1).val / 128) ((j 0).val / 256 % 32) (by omega) (by omega) (by omega)
  refine ⟨t, flush0_3 t, ?_⟩
  show j ∈ ((View.whole main_v0).slice (win0_3.rect t)).set
  rw [View.set_slice_whole, Rect.mem_set_unit]
  have e : cc0_transform_3 (grid0.coords t) 0 = _ ∧ cc0_transform_3 (grid0.coords t) 1 = _ := index_rows (grid0.coords t)
  rw [e0, e1, e2] at e
  intro a
  match a with
  | ⟨0, _⟩ =>
    show cc0_transform_3 (grid0.coords t) 0 * 256 ≤ (j 0).val ∧ (j 0).val < cc0_transform_3 (grid0.coords t) 0 * 256 + 256
    rw [e.1]; omega
  | ⟨1, _⟩ =>
    show cc0_transform_3 (grid0.coords t) 1 * 128 ≤ (j 1).val ∧ (j 1).val < cc0_transform_3 (grid0.coords t) 1 * 128 + 128
    rw [e.2]; omega

theorem final (c : Dev nD) (hQ : ∀ j, IsReal (argQ m c j)) (hK : ∀ j, IsReal (argK m c j)) :
    (dats m 0 c).arrAt 3 cfg0.N = target m c :=
  (dats m 0 c).arrAt_eq_of_cover 3 (target m c) (fun t _ => flushed_eq m c hQ hK t) cover

end Att
end
-- ==== Proof.Ref.lean ====
/-
  The reference's result at an index: the same sum over the tokens before the query, from its scores over the reals.
-/
module

public import proofs.«01_k».proof.Proof.Cum
public import proofs.«01_k».proof.Proof.Final

@[expose] public section
set_option maxRecDepth 16384
noncomputable section
namespace Att.Ref
open Idealize.ShloMosaic Idealize.ShloMosaic.TcCoe Idealize.ShloMosaic.Tactic Cert.ReferenceIdeal Cert.ReferenceIdeal.Gen

/-! ## The reference's steps by name -/

section steps
variable (X Q K V : FVec Ideal S32768x512 .bf16) (x z : FVec Ideal S4x8x8192x8192 .f32)

/-- An array of tokens as sequences and heads. -/
def heads : FVec Ideal S4x8x8192x64 .f32 :=
  transpose S4x8x8192x64 [0, 2, 1, 3] (shapeCast S4x8192x8x64 (extf .f32 X bitsLt_bf16_f32) shapeCasts_S32768x512_S4x8192x8x64)
    transposes_S4x8192x8x64_S4x8x8192x64_0_2_1_3

def logits : FVec Ideal S4x8x8192x8192 .f32 :=
  Host.dotGeneral dot_S4x8x8192x64_S4x8x8192x64_S4x8x8192x8192_3_3_2_2_01_01 none (heads Q) (heads K)

def zeros : FVec Ideal S4x8x8192x8192 .f32 :=
  broadcastInDim S4x8x8192x8192 ![] bcast_S_S4x8x8192x8192 (constant S_ .f32 0x00000000#32)

/-- The logarithm of the sigmoid, as minus the softplus of minus its argument. -/
def logSig : FVec Ideal S4x8x8192x8192 .f32 :=
  Host.negf (select (cmpf .une (subf (Host.negf x) zeros) (subf (Host.negf x) zeros)) (addf (Host.negf x) zeros)
    (addf (maximumf (Host.negf x) zeros) (Host.log1p (Host.exp (Host.negf (Host.absf (subf (Host.negf x) zeros)))))))

/-- The keys strictly before the query. -/
def before : IVec S4x8x8192x8192 1 :=
  broadcastInDim S4x8x8192x8192 ![2, 3] bcast_S8192x8192_S4x8x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

def kept : FVec Ideal S4x8x8192x8192 .f32 := select before (logSig (Host.negf z)) zeros

def weights : FVec Ideal S4x8x8192x8192 .f32 :=
  Host.exp (select before (addf (logSig z) (subf (cum (kept z)) (kept z)))
    (broadcastInDim S4x8x8192x8192 ![] bcast_S_S4x8x8192x8192 (constant S_ .f32 0xFF800000#32)))

def mixed : FVec Ideal S4x8x8192x64 .f32 :=
  Host.dotGeneral dot_S4x8x8192x8192_S4x8x8192x64_S4x8x8192x64_3_2_2_3_01_01 none (weights (logits Q K)) (heads V)

def result : FVec Ideal S32768x512 .bf16 :=
  truncf .bf16 (shapeCast S32768x512 (transpose S4x8192x8x64 [0, 2, 1, 3] (mixed Q K V) transposes_S4x8x8192x64_S4x8192x8x64_0_2_1_3)
    shapeCasts_S4x8192x8x64_S32768x512) bitsLt_bf16_f32

end steps

theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2)) := rfl

/-! ## The steps at an index -/

theorem heads_apply (X : FVec Ideal S32768x512 .bf16) (b : Fin 4) (h : Fin 8) (t : Fin 8192) (d : Fin 64) :
    heads X (ix4 b h t d) = entry X (8192 * b.val + t.val) (64 * h.val + d.val) := by
  unfold heads
  rw [transpose_apply _ _ _ _ (ix4 b t h d) (fun a => by match a with | 0 => rfl | 1 => rfl | 2 => rfl | 3 => rfl)]
  rw [shapeCast_apply _ _ _ (ix2 (⟨8192 * b.val + t.val, by omega⟩ : Fin 32768) (⟨64 * h.val + d.val, by omega⟩ : Fin 512)) (by
    rw [Shape.rowMajor_val_two, Shape.rowMajor_val_four]
    show (8192 * b.val + t.val) * 512 + (64 * h.val + d.val) = ((b.val * 8192 + t.val) * 8 + h.val) * 64 + d.val
    omega)]
  exact entry_eq X _ rfl rfl

theorem logits_apply (Q K : FVec Ideal S32768x512 .bf16) (b : Fin 4) (h : Fin 8) (t s : Fin 8192) :
    logits Q K (ix4 b h t s) = ∑ d : Fin 64, heads Q (ix4 b h t d) * heads K (ix4 b h s d) := by
  let D := dot_S4x8x8192x64_S4x8x8192x64_S4x8x8192x8192_3_3_2_2_01_01
  unfold logits Host.dotGeneral
  rw [Ideal.dotGeneral_apply, ← Equiv.sum_comp (ValueIdx.contrEquiv1 D 64 rfl rfl).symm]
  refine Finset.sum_congr rfl fun d _ => ?_
  have hd := ValueIdx.contrEquiv1_symm_val D 64 rfl rfl d
  refine congrArg₂ (fun y w => heads Q y * heads K w) (funext fun a => Fin.ext ?_) (funext fun a => Fin.ext ?_)
  · match a with
    | 0 => rfl
    | 1 => rfl
    | 2 => rfl
    | 3 => exact hd
  · match a with
    | 0 => rfl
    | 1 => rfl
    | 2 => rfl
    | 3 => exact hd

theorem mixed_apply (Q K V : FVec Ideal S32768x512 .bf16) (b : Fin 4) (h : Fin 8) (t : Fin 8192) (d : Fin 64) :
    mixed Q K V (ix4 b h t d) = ∑ s : Fin 8192, weights (logits Q K) (ix4 b h t s) * heads V (ix4 b h s d) := by
  let D := dot_S4x8x8192x8192_S4x8x8192x64_S4x8x8192x64_3_2_2_3_01_01
  unfold mixed Host.dotGeneral
  rw [Ideal.dotGeneral_apply, ← Equiv.sum_comp (ValueIdx.contrEquiv1 D 8192 rfl rfl).symm]
  refine Finset.sum_congr rfl fun s _ => ?_
  have hd := ValueIdx.contrEquiv1_symm_val D 8192 rfl rfl s
  refine congrArg₂ (fun y w => weights (logits Q K) y * heads V w) (funext fun a => Fin.ext ?_) (funext fun a => Fin.ext ?_)
  · match a with
    | 0 => rfl
    | 1 => rfl
    | 2 => rfl
    | 3 => exact hd
  · match a with
    | 0 => rfl
    | 1 => rfl
    | 2 => exact hd
    | 3 => rfl

theorem result_apply (Q K V : FVec Ideal S32768x512 .bf16) (n : Fin 32768) (c : Fin 512) :
    result Q K V (ix2 n c) = mixed Q K V (ix4 (⟨n.val / 8192, by omega⟩ : Fin 4) (⟨c.val / 64, by omega⟩ : Fin 8)
      (⟨n.val % 8192, by omega⟩ : Fin 8192) (⟨c.val % 64, by omega⟩ : Fin 64)) := by
  unfold result
  show shapeCast S32768x512 (transpose S4x8192x8x64 [0, 2, 1, 3] (mixed Q K V) _) _ (ix2 n c) = _
  rw [shapeCast_apply _ _ _ (ix4 (⟨n.val / 8192, by omega⟩ : Fin 4) (⟨n.val % 8192, by omega⟩ : Fin 8192) (⟨c.val / 64, by omega⟩ : Fin 8)
      (⟨c.val % 64, by omega⟩ : Fin 64)) (by
    rw [Shape.rowMajor_val_two, Shape.rowMajor_val_four]
    show ((n.val / 8192 * 8192 + n.val % 8192) * 8 + c.val / 64) * 64 + c.val % 64 = n.val * 512 + c.val
    omega)]
  exact transpose_apply _ _ _ _ _ (fun a => by match a with | 0 => rfl | 1 => rfl | 2 => rfl | 3 => rfl)

theorem before_apply (b : Fin 4) (h : Fin 8) (t s : Fin 8192) :
    before (ix4 b h t s) = BitVec.ofBool (decide (s.val < t.val)) := by
  show IntOp.cmpi .slt (BitVec.ofNat 32 s.val) (BitVec.ofNat 32 t.val) = _
  exact WordCmp.cmpi_slt_ofNat (by omega) (by omega)

theorem zeros_apply (j : S4x8x8192x8192.Idx) : zeros j = (0 : EReal) := Ideal.ofBits_zero_f32

/-- The log-sigmoid of a real. -/
theorem logSig_real (x : FVec Ideal S4x8x8192x8192 .f32) (j : S4x8x8192x8192.Idx) (r : ℝ) (hx : x j = (r : EReal)) :
    logSig x j = ((-sp (-r) : ℝ) : EReal) := by
  have hz := zeros_apply j
  show -(Scalar.select (Ideal.cmp .une (-(x j) - zeros j) (-(x j) - zeros j)) (-(x j) + zeros j)
    (max (-(x j)) (zeros j) + Ideal.log (1 + Ideal.exp (-(max (-(x j) - zeros j) (-(-(x j) - zeros j))))))) = _
  rw [hx, hz, sub_zero, ← EReal.coe_neg, EReal.coe_neg (sp _), ← sp_coe (-r)]
  congr 1
  have e : Ideal.cmp .une ((-r : ℝ) : EReal) ((-r : ℝ) : EReal) = 0#1 := by simp [Ideal.cmp]
  rw [e, zero_sub]
  rfl

theorem kept_real (z : FVec Ideal S4x8x8192x8192 .f32) (b : Fin 4) (h : Fin 8) (t s : Fin 8192) (r : ℝ)
    (hz : z (ix4 b h t s) = (r : EReal)) : kept z (ix4 b h t s) = ((if s.val < t.val then -sp r else 0 : ℝ) : EReal) := by
  show Scalar.select (before (ix4 b h t s)) (logSig (Host.negf z) (ix4 b h t s)) (zeros (ix4 b h t s)) = _
  rw [before_apply, select_ofBool, zeros_apply, logSig_real (Host.negf z) _ (-r) (by
    show -(z (ix4 b h t s)) = _
    rw [hz, EReal.coe_neg]), neg_neg]
  split_ifs <;> rfl

/-- The sum of a tail of 8192 terms. -/
theorem tail_sum (g : ℕ → ℝ) (s : ℕ) (hs : s < 8192) :
    ∑ w : Fin 8192, (if s + w.val < 8192 then (g (s + w.val) : EReal) else 0) = ((∑ u ∈ Finset.Ico s 8192, g u : ℝ) : EReal) := by
  rw [Fin.sum_univ_eq_sum_range (fun w => if s + w < 8192 then (g (s + w) : EReal) else 0), ← Finset.sum_filter, coe_sum,
    Finset.sum_Ico_eq_sum_range]
  refine Finset.sum_congr ?_ fun _ _ => rfl
  ext w
  simp only [Finset.mem_filter, Finset.mem_range]
  omega

theorem weights_real (z : FVec Ideal S4x8x8192x8192 .f32) (b : Fin 4) (h : Fin 8) (t : Fin 8192) (r : ℕ → ℝ)
    (hz : ∀ s : Fin 8192, z (ix4 b h t s) = (r s.val : EReal)) (s : Fin 8192) :
    weights z (ix4 b h t s) = if s.val < t.val then ((weight r t.val s.val : ℝ) : EReal) else 0 := by
  show Ideal.exp (Scalar.select (before (ix4 b h t s)) (logSig z (ix4 b h t s) + (cum (kept z) (ix4 b h t s) - kept z (ix4 b h t s)))
    (Ideal.ofBits .f32 0xFF800000#32)) = _
  rw [before_apply, select_ofBool]
  split_ifs with hst
  · rw [logSig_real z _ _ (hz s), cum_apply, kept_real z b h t s _ (hz s)]
    have e : ∀ w : Fin 8192, (if hw : s.val + w.val < 8192 then kept z (ix4 b h t ⟨s.val + w.val, hw⟩) else (0 : EReal))
        = if s.val + w.val < 8192 then ((if s.val + w.val < t.val then -sp (r (s.val + w.val)) else 0 : ℝ) : EReal) else 0 := fun w => by
      by_cases hw : s.val + w.val < 8192
      · rw [dif_pos hw, if_pos hw, kept_real z b h t ⟨_, hw⟩ _ (hz _)]
      · rw [dif_neg hw, if_neg hw]
    rw [Finset.sum_congr rfl fun w _ => e w, tail_sum (fun u => if u < t.val then -sp (r u) else 0) s.val s.isLt, if_pos hst,
      ← EReal.coe_sub, ← EReal.coe_add, Ideal.exp_coe]
    unfold weight used
    congr 2
    rw [← Finset.sum_filter, ← sub_sp]
    have ef : (Finset.Ico s.val 8192).filter (fun u => u < t.val) = Finset.Ico s.val t.val := by
      ext u
      simp only [Finset.mem_filter, Finset.mem_Ico]
      omega
    rw [ef, Finset.sum_neg_distrib]
    ring
  · have e : Ideal.ofBits .f32 0xFF800000#32 = ⊥ := by simp [Ideal.ofBits, Ideal.ieee]
    rw [e]
    simp

/-- The reference's result, over finite queries and keys. -/
theorem result_eq (Q K V : FVec Ideal S32768x512 .bf16) (hQ : ∀ j, IsReal (Q j)) (hK : ∀ j, IsReal (K j)) (n : Fin 32768) (c : Fin 512) :
    result Q K V (ix2 n c) = attend Q K V n.val c.val := by
  rw [result_apply, mixed_apply]
  have hz : ∀ s : Fin 8192, logits Q K (ix4 (⟨n.val / 8192, by omega⟩ : Fin 4) (⟨c.val / 64, by omega⟩ : Fin 8)
      (⟨n.val % 8192, by omega⟩ : Fin 8192) s) = (score Q K n.val (c.val / 64) s.val : EReal) := fun s => by
    rw [logits_apply, score, coe_sum]
    refine Finset.sum_congr rfl fun d _ => ?_
    rw [heads_apply, heads_apply]
    have en : 8192 * (n.val / 8192) + n.val % 8192 = n.val := by omega
    simp only [en]
    exact coe_mul_of_real (real_entry hQ _ _) (real_entry hK _ _)
  rw [attend, ← Finset.range_eq_Ico]
  have e : ∀ s : Fin 8192, weights (logits Q K) (ix4 (⟨n.val / 8192, by omega⟩ : Fin 4) (⟨c.val / 64, by omega⟩ : Fin 8)
      (⟨n.val % 8192, by omega⟩ : Fin 8192) s) * heads V (ix4 (⟨n.val / 8192, by omega⟩ : Fin 4) (⟨c.val / 64, by omega⟩ : Fin 8) s
      (⟨c.val % 64, by omega⟩ : Fin 64))
      = if s.val < n.val % 8192 then ((weight (score Q K n.val (c.val / 64)) (n.val % 8192) s.val : ℝ) : EReal)
          * entry V (8192 * (n.val / 8192) + s.val) c.val else 0 := fun s => by
    rw [weights_real _ _ _ _ (score Q K n.val (c.val / 64)) hz s, heads_apply]
    have ec : 64 * (c.val / 64) + c.val % 64 = c.val := by omega
    simp only [ec]
    split_ifs
    · rfl
    · exact zero_mul _
  rw [Finset.sum_congr rfl fun s _ => e s, Fin.sum_univ_eq_sum_range (fun s => if s < n.val % 8192 then
    ((weight (score Q K n.val (c.val / 64)) (n.val % 8192) s : ℝ) : EReal) * entry V (8192 * (n.val / 8192) + s) c.val else 0),
    ← Finset.sum_filter]
  refine Finset.sum_congr ?_ fun _ _ => rfl
  ext s
  simp only [Finset.mem_filter, Finset.mem_range]
  omega

end Att.Ref
end
-- ==== Proof.Finite.lean ====
/-
  What the precondition says: no query and no key is infinite.
-/
module

public import proofs.«01_k».proof.Defs
public import proofs.«01_k».proof.Proof.Gen.Pre_finite
public import proofs.«01_k».proof.Proof.Final
public import Idealize.ShloMosaic.Lib.ReduceAll

@[expose] public section
set_option maxRecDepth 16384
noncomputable section
namespace Att
open Idealize.ShloMosaic Cert.KernelIdeal

theorem real_of_lt {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  constructor
  · rintro rfl
    simp [Ideal.cmp] at h
  · rintro rfl
    simp [Ideal.cmp] at h

theorem real_of_all (X : FVec Ideal S32768x512 .bf16) (j : (⟨0, ![]⟩ : Shape).Idx)
    (h : Host.reduce IntOp.andi (cmpf .olt (Host.absf (extf .f32 X Cert.Pre_finite.Gen.facts.bitsLt_bf16_f32))
      (broadcastInDim S32768x512 ![] Cert.Pre_finite.Gen.facts.bcast_S_S32768x512 (constant (⟨0, ![]⟩ : Shape) .f32 0x7F800000#32)))
      (constantI (⟨0, ![]⟩ : Shape) 1 1#1) Cert.Pre_finite.Gen.facts.reducesTo_S32768x512_S_d0_1 Cert.Pre_finite.Gen.facts.h_S_ j = 1#1)
    (i : S32768x512.Idx) : IsReal (X i) :=
  haveI : Subsingleton (⟨0, ![]⟩ : Shape).Idx := ⟨fun a b => funext fun x => x.elim0⟩
  real_of_lt (Host.reduce_andi_all _ _ _ _ _ h i)

theorem and_one : ∀ a b : BitVec 1, IntOp.andi a b = 1#1 → a = 1#1 ∧ b = 1#1 := by decide

theorem real_args (m : (ℓ : Loc nD τ sig) → Buf (Elt Ideal) ℓ)
    (h : Cert.Pre_KernelIdeal_finite (hPre_finite := Cert.Pre_finite.Gen.facts) m) (c : Dev nD) :
    (∀ j, IsReal (argQ m c j)) ∧ ∀ j, IsReal (argK m c j) := by
  have e := congrFun (h c) (fun a => a.elim0)
  have e' : IntOp.andi _ _ = 1#1 := e
  have e2 := and_one _ _ e'
  exact ⟨real_of_all _ _ e2.1, real_of_all _ _ e2.2⟩

end Att
end
-- ==== Proof.InSpec.lean ====
/-
  The input projections in plain terms: a row scaled by the reciprocal root of its mean square and by its gains, its product with a
  column of weights, the causal filter of four taps over a sequence, and `y·σ(y)`.
-/
module

public import proofs.«01_k».proof.Proof.Scalar

@[expose] public section
noncomputable section
namespace Proj
open Idealize.ShloMosaic

/-- The real number (or infinity) a 32-bit pattern names. -/
abbrev lit (b : BitVec 32) : EReal := Ideal.ofBits .f32 b

/-- Entry `k` of the row `x`, over the root of the row's mean square (plus a small constant), times the gain. -/
def rms (x g : Fin 1024 → EReal) (k : Fin 1024) : EReal :=
  x k * Ideal.rsqrt (Ideal.div (∑ l, x l * x l) (lit 0x44800000#32) + lit 0x358637BD#32) * g k

/-- The scaled row times a column of weights. -/
def dotp (x g w : Fin 1024 → EReal) : EReal := ∑ k, rms x g k * w k

/-- `y·σ(y)`. -/
def silu (y : EReal) : EReal := y * Ideal.div 1 (1 + Ideal.exp (-y))

/-- What tap `j` of the filter reads at row `r`: the entry `3 - j` rows before, or zero before the start of the row's sequence of 8192. -/
def tap (u : ℕ → EReal) (r j : ℕ) : EReal := if 3 ≤ r % 8192 + j then u (r + j - 3) else 0

/-- The causal filter of four taps. -/
def conv (u : ℕ → EReal) (w : Fin 4 → EReal) (r : ℕ) : EReal := tap u r 0 * w 0 + tap u r 1 * w 1 + tap u r 2 * w 2 + tap u r 3 * w 3

theorem conv_of {u : ℕ → EReal} {w : Fin 4 → EReal} {r : ℕ} {a0 b0 a1 b1 a2 b2 a3 b3 : EReal} (h0 : a0 = tap u r 0) (k0 : b0 = w 0)
    (h1 : a1 = tap u r 1) (k1 : b1 = w 1) (h2 : a2 = tap u r 2) (k2 : b2 = w 2) (h3 : a3 = tap u r 3) (k3 : b3 = w 3) :
    a0 * b0 + a1 * b1 + a2 * b2 + a3 * b3 = conv u w r := by
  rw [h0, k0, h1, k1, h2, k2, h3, k3]
  rfl

end Proj
end
-- ==== Proof.InRows.lean ====
/-
  What the input projections deliver, entry by entry, in terms of the token's row, the gains, the weights and the filters.
-/
module

public import proofs.«01_k».proof.Proof.InSpec

@[expose] public section
noncomputable section
namespace Proj
open Idealize.ShloMosaic

/-- A constant whose product with a sum of extended reals is the sum of the products. -/
theorem sum_scale {n : ℕ} (f : Fin n → EReal) {c : EReal} (h0 : 0 ≤ c) (h1 : c ≠ ⊤) : (∑ l, f l * c) = (∑ l, f l) * c := by
  let M : EReal →+ EReal :=
    { toFun := fun y => y * c, map_zero' := zero_mul c, map_add' := fun x y => EReal.right_distrib_of_nonneg_of_ne_top h0 h1 x y }
  exact (map_sum M f Finset.univ).symm

theorem eighth : lit 0x3E000000#32 = ((1 / 8 : ℝ) : EReal) := by
  simp [Ideal.ofBits, Ideal.ieee, -EReal.coe_mul, -EReal.coe_neg]; norm_num

/-- An eighth may be taken into the weights. -/
theorem dotp_eighth (x g w : Fin 1024 → EReal) : dotp x g (fun l => w l * lit 0x3E000000#32) = dotp x g w * lit 0x3E000000#32 := by
  unfold dotp
  rw [← sum_scale _ (by rw [eighth]; exact EReal.coe_nonneg.2 (by norm_num)) (by rw [eighth]; exact EReal.coe_ne_top _)]
  exact Finset.sum_congr rfl fun l _ => (mul_assoc _ _ _).symm

/-- A column of zeros gives zero. -/
theorem dotp_zero (x g : Fin 1024 → EReal) : dotp x g (fun _ => 0) = 0 :=
  Finset.sum_eq_zero fun _ _ => mul_zero _

section rows
variable (X : (⟨2, ![32768, 1024]⟩ : Shape).Idx → EReal) (G : (⟨1, ![1024]⟩ : Shape).Idx → EReal) (W : (⟨2, ![1024, 3592]⟩ : Shape).Idx → EReal)
  (C : (⟨2, ![4, 512]⟩ : Shape).Idx → EReal)

/-- Row `t` of the tokens (zeros outside). -/
def rowOf (t : ℕ) (l : Fin 1024) : EReal := if h : t < 32768 then X (ix2 ⟨t, h⟩ l) else 0

/-- Token `t`, scaled, times column `k` of the weights. -/
def proj (t k : ℕ) (h : k < 3592) : EReal := dotp (rowOf X t) (fun l => G (ix1 l)) (fun l => W (ix2 l ⟨k, h⟩))

/-- Column `o + k` of the projection, filtered along the sequence, and `y·σ(y)` of it. -/
def filt (o : ℕ) (ho : o + 512 ≤ 3592) (t : ℕ) (k : Fin 512) : EReal :=
  silu (conv (fun t => proj X G W t (o + k.val) (by omega)) (fun j => C (ix2 j k)) t)

/-- The two bands of gates in an array of zeros. -/
def gates (t : ℕ) (k : Fin 256) : EReal :=
  if h : k.val < 4 then proj X G W t (2048 + k.val) (by omega)
  else if h : 128 ≤ k.val ∧ k.val < 132 then proj X G W t (2052 + (k.val - 128)) (by omega) else 0

end rows

end Proj
end
-- ==== Proof.InHost.lean ====
/-
  The arrays the input projections prepare before their grid, read at an entry: pieces of the weights, the first scaled, the gate
  columns laid into a wider array of zeros.
-/
module

public import proofs.«01_k».proof.Proof.InSpec
public import proofs.«01_k».proof.Proof.Gen.Kernel2Ideal.Value
public import Idealize.ShloMosaic.Lib.Routing.OpsOne

@[expose] public section
set_option maxRecDepth 16384
noncomputable section
namespace Proj
open Idealize.ShloMosaic Idealize.ShloMosaic.TcCoe Idealize.ShloMosaic.Tactic Idealize.SL.Sem Cert.Kernel2Ideal Cert.Kernel2Ideal.Gen
open Idealize.ShloMosaic.Routing

/-- An update of a band of columns lands where its column is, the band's first column added. -/
theorem lands_band (idx : IVec S1 32) (k : ℕ) (hidx : (idx (ix1 0)).toInt = (k : Int)) (a r : Fin 1024) (b : Fin 4) (e : Fin 256) :
    scatter_S1024x256_S1_S1024x4_01_n_1_0.resultIdx? (ix2 a b) idx = some (ix2 r e) ↔ r = a ∧ e.val = k + b.val := by
  have hwin0 : scatter_S1024x256_S1_S1024x4_01_n_1_0.window (ix2 a b) 0 = a.val := rfl
  have hwin1 : scatter_S1024x256_S1_S1024x4_01_n_1_0.window (ix2 a b) 1 = b.val := rfl
  have hstart0 : scatter_S1024x256_S1_S1024x4_01_n_1_0.start (ix2 a b) idx 0 = 0 := rfl
  have hstart1 : scatter_S1024x256_S1_S1024x4_01_n_1_0.start (ix2 a b) idx 1 = (k : Int) := by
    rw [← hidx]
    unfold ScatterDims.start
    rw [dif_pos (by decide)]
    refine congrArg (fun i => (idx i).toInt) (funext fun x => ?_)
    match x with
    | ⟨0, _⟩ => exact Subsingleton.elim (α := Fin 1) _ _
  refine (resultIdx?_ix2 (R := 1024) (C := 256) scatter_S1024x256_S1_S1024x4_01_n_1_0 (ix2 a b) idx r e).trans ?_
  rw [hstart0, hwin0, hstart1, hwin1, Fin.ext_iff]
  omega

/-- A band of four columns set in an array. -/
theorem set_band (x : Vec Ideal S1024x256 .f32) (idx : IVec S1 32) (upd : Vec Ideal S1024x4 .f32) (k : ℕ)
    (hidx : (idx (ix1 0)).toInt = (k : Int)) (r : Fin 1024) (e : Fin 256) :
    Host.scatter scatter_S1024x256_S1_S1024x4_01_n_1_0 (fun _ b => b) x idx upd (ix2 r e)
      = if h : k ≤ e.val ∧ e.val < k + 4 then upd (ix2 r ⟨e.val - k, by omega⟩) else x (ix2 r e) := by
  split_ifs with h
  · refine scatter_set_hit _ x idx upd _ _ (fun j hj => ?_) (ix2 r (⟨e.val - k, by omega⟩ : Fin 4))
      ((lands_band idx k hidx r r _ e).2 ⟨rfl, by show e.val = k + (e.val - k); omega⟩)
    rw [eq_ix2 j] at hj ⊢
    have q := (lands_band idx k hidx _ _ _ _).1 hj
    congr 2
    · exact q.1.symm
    · exact Fin.ext (by show (j 1).val = e.val - k; have := q.2; omega)
  · refine scatter_set_miss _ x idx upd _ fun j hj => h ?_
    rw [eq_ix2 j] at hj
    have q := (lands_band idx k hidx _ _ _ _).1 hj
    have := (j 1).isLt
    have h4 : (j 1).val < 4 := this
    omega

/-- A change of format at an entry changes nothing. -/
theorem cast_at {s : Shape} (z : FVec Ideal s .f32) (j : s.Idx) : truncf .bf16 z bitsLt_bf16_f32 j = z j := rfl

variable (m : (ℓ : Loc nD τ sig) → Buf (Elt Ideal) ℓ) (c : Dev nD)

abbrev argX : Vec Ideal S32768x1024 .f32 := m ((c : Thread nD τ).loc main_arg0)
abbrev argG : Vec Ideal S1024 .f32 := m ((c : Thread nD τ).loc main_arg1)
abbrev argW : Vec Ideal S1024x3592 .f32 := m ((c : Thread nD τ).loc main_arg2)
abbrev argCq : Vec Ideal S4x512 .f32 := m ((c : Thread nD τ).loc main_arg3)
abbrev argCk : Vec Ideal S4x512 .f32 := m ((c : Thread nD τ).loc main_arg4)

/-- The entry `(l, k)` of the weights, the column a number below 3592. -/
abbrev wAt (k : ℕ) (h : k < 3592) (l : Fin 1024) : EReal := argW m c (ix2 l ⟨k, h⟩)

theorem host_gain (l : Fin 1024) : (V m c main_v19 : Vec Ideal S1x1024 .f32) (ix2 0 l) = argG m c (ix1 l) := by
  have e : @Eq (FVec Ideal S1x1024 .f32) (V m c main_v19) <| shapeCast S1x1024 (argG m c) shapeCasts_S1024_S1x1024 := by
    unfold_abbrev_sides
    after_results
    rfl
  rw [e]
  exact shapeCast_apply _ _ _ (ix1 l) (by rw [Shape.rowMajor_val_one, Shape.rowMajor_val_two]; show l.val = 0 * 1024 + l.val; omega)

theorem host_keys (l k : Fin 1024) : (V m c main_v1 : Vec Ideal S1024x1024 .bf16) (ix2 l k) = wAt m c k.val (by omega) l := by
  have e : @Eq (FVec Ideal S1024x1024 .bf16) (V m c main_v1) <| truncf .bf16 (extractStridedSlice S1024x1024 ![0, 0] (argW m c) slices_S1024x3592_S1024x1024_0_0) bitsLt_bf16_f32 := by
    unfold_abbrev_sides
    after_results
  rw [e]
  pointwise

theorem host_values (l k : Fin 1024) : (V m c main_v3 : Vec Ideal S1024x1024 .bf16) (ix2 l k) = wAt m c (1024 + k.val) (by omega) l := by
  have e : @Eq (FVec Ideal S1024x1024 .bf16) (V m c main_v3) <| truncf .bf16 (extractStridedSlice S1024x1024 ![0, 1024] (argW m c) slices_S1024x3592_S1024x1024_0_1024) bitsLt_bf16_f32 := by
    unfold_abbrev_sides
    after_results
  rw [e]
  pointwise

theorem host_gates (l : Fin 1024) (k : Fin 256) : (V m c main_v11 : Vec Ideal S1024x256 .bf16) (ix2 l k)
    = if h : k.val < 4 then wAt m c (2048 + k.val) (by omega) l
      else if h : 128 ≤ k.val ∧ k.val < 132 then wAt m c (2052 + (k.val - 128)) (by omega) l else 0 := by
  have e : @Eq (FVec Ideal S1024x256 .bf16) (V m c main_v11) <| truncf .bf16 (Host.scatter scatter_S1024x256_S1_S1024x4_01_n_1_0 (fun _ b => b)
          (Host.scatter scatter_S1024x256_S1_S1024x4_01_n_1_0 (fun _ b => b)
            (broadcastInDim S1024x256 ![] bcast_S_S1024x256 (constant (F := Ideal) S_ .f32 0x00000000#32))
            (broadcastInDim S1 ![] bcast_S_S1 (constantI S_ 32 0#32))
            (extractStridedSlice S1024x4 ![0, 2048] (argW m c) slices_S1024x3592_S1024x4_0_2048))
          (broadcastInDim S1 ![] bcast_S_S1 (constantI S_ 32 128#32))
          (extractStridedSlice S1024x4 ![0, 2052] (argW m c) slices_S1024x3592_S1024x4_0_2052)) bitsLt_bf16_f32 := by
    unfold_abbrev_sides
    after_results
  rw [e]
  rw [cast_at, set_band _ (broadcastInDim S1 ![] bcast_S_S1 (constantI S_ 32 128#32)) _ 128 (by decide) l k]
  by_cases h : 128 ≤ k.val ∧ k.val < 132
  · rw [dif_pos (by omega), dif_neg (by omega), dif_pos h]
    pointwise
  · rw [dif_neg (by omega), set_band _ (broadcastInDim S1 ![] bcast_S_S1 (constantI S_ 32 0#32)) _ 0 (by decide) l k]
    by_cases h4 : k.val < 4
    · rw [dif_pos (by omega), dif_pos h4]
      pointwise
    · rw [dif_neg (by omega), dif_neg h4, dif_neg h]
      pointwise

theorem host_rest (l : Fin 1024) (k : Fin 1536) : (V m c main_v18 : Vec Ideal S1024x1536 .bf16) (ix2 l k)
    = if k.val < 512 then wAt m c (2056 + k.val) (by omega) l * lit 0x3E000000#32 else wAt m c (2056 + k.val) (by omega) l := by
  have e : @Eq (FVec Ideal S1024x1536 .bf16) (V m c main_v18) <| truncf .bf16 (concatenate S1024x1536 1
          [⟨S1024x512, mulf (extractStridedSlice S1024x512 ![0, 0] (extractStridedSlice S1024x1536 ![0, 2056] (argW m c) slices_S1024x3592_S1024x1536_0_2056) slices_S1024x1536_S1024x512_0_0)
              (broadcastInDim S1024x512 ![] bcast_S_S1024x512 (constant (F := Ideal) S_ .f32 0x3E000000#32))⟩,
            ⟨S1024x1024, extractStridedSlice S1024x1024 ![0, 512] (extractStridedSlice S1024x1536 ![0, 2056] (argW m c) slices_S1024x3592_S1024x1536_0_2056) slices_S1024x1536_S1024x1024_0_512⟩]
          concatenates_S1024x512_S1024x1024_S1024x1536_d1) bitsLt_bf16_f32 := by
    unfold_abbrev_sides
    after_results
  rw [e]
  pointwise
  by_cases h : k.val < 512
  · rw [dif_pos h, if_pos h]
  · rw [dif_neg h, if_neg h]
    exact congrArg (fun q => argW m c (ix2 l q)) (Fin.ext (by show 2056 + (512 + (k.val - 512)) = 2056 + k.val; omega))

end Proj
end
-- ==== Proof.InBlock.lean ====
/-
  What one point of the grid of the input projections computes from the blocks it loads, read at an entry.
-/
module

public import proofs.«01_k».proof.Proof.Gen.Kernel2Ideal.Skeleton
public import proofs.«01_k».proof.Proof.InSpec

@[expose] public section
set_option maxRecDepth 16384
noncomputable section
namespace Proj
open Idealize.ShloMosaic Idealize.ShloMosaic.TcCoe Idealize.ShloMosaic.Tactic Cert.Kernel2Ideal Cert.Kernel2Ideal.Gen

theorem pay7_apply (v0 : Vec Ideal S512x1024 .f32) (v1 : Vec Ideal S1x1024 .f32) (r : Fin 512) (k : Fin 1024) :
    k0_pay7 v0 v1 (ix2 r k) = rms (fun l => v0 (ix2 r l)) (fun l => v1 (ix2 0 l)) k := by
  pointwise [k0_pay7]
  rfl

theorem pay9_apply (v0 : Vec Ideal S512x1024 .f32) (v1 : Vec Ideal S1x1024 .f32) (w : Vec Ideal S1024x1024 .bf16) (r : Fin 512) (k : Fin 1024) :
    k0_pay9 v0 v1 w (ix2 r k) = dotp (fun l => v0 (ix2 r l)) (fun l => v1 (ix2 0 l)) (fun l => w (ix2 l k)) := by
  pointwise [k0_pay9]
  simp only [pay7_apply]
  rfl

theorem pay13_apply (v : Vec Ideal S8x1024 .f32) (r : Fin 8) (k : Fin 1024) : k0_pay13 v (ix2 r k) = v (ix2 r k) := by
  pointwise [k0_pay13]

theorem pay8_apply (r : Fin 8) (k : Fin 1024) : k0_pay8 (F := Ideal) (ix2 r k) = 0 := by
  pointwise [k0_pay8]

theorem pay10_apply (a0 : Vec Ideal S512x512 .f32) (b0 : Vec Ideal S1x512 .f32) (a1 : Vec Ideal S512x512 .f32) (b1 : Vec Ideal S1x512 .f32)
    (a2 : Vec Ideal S512x512 .f32) (b2 : Vec Ideal S1x512 .f32) (a3 : Vec Ideal S512x512 .f32) (b3 : Vec Ideal S1x512 .f32) (r k : Fin 512) :
    k0_pay10 a0 b0 a1 b1 a2 b2 a3 b3 (ix2 r k)
      = silu (a0 (ix2 r k) * b0 (ix2 0 k) + a1 (ix2 r k) * b1 (ix2 0 k) + a2 (ix2 r k) * b2 (ix2 0 k) + a3 (ix2 r k) * b3 (ix2 0 k)) := by
  pointwise [k0_pay10]
  rw [zero_sub]
  rfl

theorem pay12_apply (a0 : Vec Ideal S512x512 .f32) (b0 : Vec Ideal S1x512 .f32) (a1 : Vec Ideal S512x512 .f32) (b1 : Vec Ideal S1x512 .f32)
    (a2 : Vec Ideal S512x512 .f32) (b2 : Vec Ideal S1x512 .f32) (a3 : Vec Ideal S512x512 .f32) (b3 : Vec Ideal S1x512 .f32) (r k : Fin 512) :
    k0_pay12 (k0_pay11 a0 b0) a1 b1 a2 b2 a3 b3 (ix2 r k)
      = silu (a0 (ix2 r k) * b0 (ix2 0 k) + a1 (ix2 r k) * b1 (ix2 0 k) + a2 (ix2 r k) * b2 (ix2 0 k) + a3 (ix2 r k) * b3 (ix2 0 k))
        * lit 0x3DB504F3#32 := by
  pointwise [k0_pay12, k0_pay11]
  rw [zero_sub]
  rfl

section dots
variable (v0 : Vec Ideal S512x1024 .f32) (v1 : Vec Ideal S1x1024 .f32) (w : Vec Ideal S1024x1024 .bf16) (wg : Vec Ideal S1024x256 .bf16)
  (ws : Vec Ideal S1024x1536 .bf16) (r : Fin 512)

theorem pay15_apply (k : Fin 512) : k0_pay15 (k0_pay7 v0 v1) w (ix2 r k)
    = dotp (fun l => v0 (ix2 r l)) (fun l => v1 (ix2 0 l)) (fun l => w (ix2 l ⟨k.val, by omega⟩)) := by
  pointwise [k0_pay15, k0_pay14]
  simp only [pay7_apply]
  rfl

theorem pay1_apply (k : Fin 512) : k0_pay1 (k0_pay14 (k0_pay7 v0 v1) w) (ix2 r k)
    = dotp (fun l => v0 (ix2 r l)) (fun l => v1 (ix2 0 l)) (fun l => w (ix2 l ⟨512 + k.val, by omega⟩)) := by
  pointwise [k0_pay1, k0_pay14]
  simp only [pay7_apply]
  rfl

theorem pay2_apply (k : Fin 256) : k0_pay2 (k0_pay7 v0 v1) wg (ix2 r k)
    = dotp (fun l => v0 (ix2 r l)) (fun l => v1 (ix2 0 l)) (fun l => wg (ix2 l k)) := by
  pointwise [k0_pay2]
  simp only [pay7_apply]
  rfl

theorem pay4_apply (k : Fin 512) : k0_pay4 (k0_pay7 v0 v1) ws (ix2 r k)
    = dotp (fun l => v0 (ix2 r l)) (fun l => v1 (ix2 0 l)) (fun l => ws (ix2 l ⟨k.val, by omega⟩)) := by
  pointwise [k0_pay4, k0_pay3]
  simp only [pay7_apply]
  rfl

theorem pay5_apply (k : Fin 512) : k0_pay5 (k0_pay7 v0 v1) ws (ix2 r k)
    = dotp (fun l => v0 (ix2 r l)) (fun l => v1 (ix2 0 l)) (fun l => ws (ix2 l ⟨512 + k.val, by omega⟩)) := by
  pointwise [k0_pay5, k0_pay3]
  simp only [pay7_apply]
  rfl

theorem pay6_apply (k : Fin 512) : k0_pay6 (k0_pay7 v0 v1) ws (ix2 r k)
    = dotp (fun l => v0 (ix2 r l)) (fun l => v1 (ix2 0 l)) (fun l => ws (ix2 l ⟨1024 + k.val, by omega⟩)) := by
  pointwise [k0_pay6, k0_pay3]
  simp only [pay7_apply]
  rfl
end dots

end Proj
end
-- ==== Proof.InRead.lean ====
/-
  Loads from the buffer the input projections keep between points: eight rows of the tile before, then the tile's own 512 rows. A load
  of 512 rows from row `5 + j` is what tap `j` of the filter reads.
-/
module

public import proofs.«01_k».proof.Proof.InBlock
public import Idealize.ShloMosaic.Lib.VecWindow
public import Idealize.ShloMosaic.Lib.WritesUnit

@[expose] public section
set_option maxRecDepth 16384
noncomputable section
namespace Proj
open Idealize.ShloMosaic Idealize.ShloMosaic.TcCoe Idealize.ShloMosaic.Tactic Cert.Kernel2Ideal Cert.Kernel2Ideal.Gen

variable {κ : Kind} {sp : Space}

/-- A load of a window of a matrix, read at an entry. -/
theorem readAt_win {A B C D : ℕ} {e : EltTy} (a : View sig κ sp (⟨2, ![A, B]⟩ : Shape) e) (f : a.ty.Contents (Elt Ideal)) (o p : ℕ)
    (inb : ∀ x, (![o, p] : Fin 2 → ℕ) x + (⟨2, ![C, D]⟩ : Shape).size x ≤ (⟨2, ![A, B]⟩ : Shape).size x) (r : Fin C) (k : Fin D)
    (r' : Fin A) (k' : Fin B) (hr : r'.val = o + r.val) (hk : k'.val = p + k.val) :
    a.readAt (Elt Ideal) (Rect.unit (s := ⟨2, ![A, B]⟩) ![o, p] (⟨2, ![C, D]⟩ : Shape).size inb).toLoadRect f (ix2 r k)
      = a.read (Elt Ideal) f (ix2 r' k') := by
  refine congrArg (a.read (Elt Ideal) f) (funext fun x => Fin.ext ?_)
  match x with
  | 0 => show o + 1 * r.val = r'.val; omega
  | 1 => show p + 1 * k.val = k'.val; omega

section ext
variable (a : View sig κ sp S520x1024 .f32) (X : BufTy.Contents (Elt Ideal) a.ty) (w : Vec Ideal S512x1024 .f32)
  (L : List (View.Piece (Elt Ideal) S520x1024 .f32)) (u : ℕ → Fin 1024 → EReal) (n : ℕ)
  (inb8 : ∀ x, (![8, 0] : Fin 2 → ℕ) x + S512x1024.size x ≤ S520x1024.size x)
  (hw : ∀ r k, w (ix2 r k) = u (512 * n + r.val) k)
  (hold : ∀ (l : Fin 520) k, l.val < 8 → (a.read (Elt Ideal) (a.writes (Elt Ideal) X L) : Vec Ideal S520x1024 .f32) (ix2 l k)
    = if n % 16 = 0 then 0 else u (512 * n + l.val - 8) k)

include hw in
/-- A row of the tile's own, after it is stored. -/
theorem read_new (l : Fin 520) (k : Fin 1024) (h : 8 ≤ l.val) :
    (a.read (Elt Ideal) (a.writes (Elt Ideal) X (⟨Rect.unit (s := S520x1024) ![8, 0] S512x1024.size inb8, w⟩ :: L)) : Vec Ideal S520x1024 .f32) (ix2 l k)
      = u (512 * n + l.val - 8) k := by
  refine (View.read_writes_cons_unit_of_mem a X inb8 w L (ix2 l k) (ix2 (⟨l.val - 8, by omega⟩ : Fin 512) k) rfl fun x => ?_).trans ?_
  · match x with
    | 0 => show l.val = 8 + (l.val - 8); omega
    | 1 => show k.val = 0 + k.val; omega
  · rw [hw]
    congr 1
    show 512 * n + (l.val - 8) = _
    omega

/-- A row of the tile before is not touched by it. -/
theorem read_old (l : Fin 520) (k : Fin 1024) (h : l.val < 8) :
    (a.read (Elt Ideal) (a.writes (Elt Ideal) X (⟨Rect.unit (s := S520x1024) ![8, 0] S512x1024.size inb8, w⟩ :: L)) : Vec Ideal S520x1024 .f32) (ix2 l k)
      = (a.read (Elt Ideal) (a.writes (Elt Ideal) X L) : Vec Ideal S520x1024 .f32) (ix2 l k) :=
  View.read_writes_cons_unit_of_not_mem a X inb8 w L (ix2 l k) rfl 0 (.inl h)

include hw hold in
theorem tap_read (j : ℕ) (hj : j ≤ 3) (o : ℕ) (ho : o + 512 ≤ 1024)
    (inb : ∀ x, (![5 + j, o] : Fin 2 → ℕ) x + S512x512.size x ≤ S520x1024.size x) (r k : Fin 512) :
    (a.readAt (Elt Ideal) (Rect.unit (s := S520x1024) ![5 + j, o] S512x512.size inb).toLoadRect
        (a.writes (Elt Ideal) X (⟨Rect.unit (s := S520x1024) ![8, 0] S512x1024.size inb8, w⟩ :: L)) : Vec Ideal S512x512 .f32) (ix2 r k)
      = tap (fun t => u t ⟨o + k.val, by omega⟩) (512 * n + r.val) j := by
  refine (readAt_win a _ (5 + j) o inb r k ⟨5 + j + r.val, by omega⟩ ⟨o + k.val, by omega⟩ rfl rfl).trans ?_
  unfold tap
  by_cases h : 8 ≤ 5 + j + r.val
  · rw [read_new a X w L u n inb8 hw _ _ h, if_pos (by omega)]
    congr 1
    show 512 * n + (5 + j + r.val) - 8 = _
    omega
  · rw [read_old a X w L inb8 _ _ (by show 5 + j + r.val < 8; omega), hold _ _ (by show 5 + j + r.val < 8; omega)]
    by_cases h0 : n % 16 = 0
    · rw [if_pos h0, if_neg (by omega)]
    · rw [if_neg h0, if_pos (by omega)]
      congr 1
      show 512 * n + (5 + j + r.val) - 8 = _
      omega

include hw in
/-- The last tap reads the tile's own rows only. -/
theorem tap3_read (o : ℕ) (ho : o + 512 ≤ 1024) (inb : ∀ x, (![8, o] : Fin 2 → ℕ) x + S512x512.size x ≤ S520x1024.size x) (r k : Fin 512) :
    (a.readAt (Elt Ideal) (Rect.unit (s := S520x1024) ![8, o] S512x512.size inb).toLoadRect
        (a.writes (Elt Ideal) X (⟨Rect.unit (s := S520x1024) ![8, 0] S512x1024.size inb8, w⟩ :: L)) : Vec Ideal S512x512 .f32) (ix2 r k)
      = tap (fun t => u t ⟨o + k.val, by omega⟩) (512 * n + r.val) 3 := by
  refine (readAt_win a _ 8 o inb r k ⟨8 + r.val, by omega⟩ ⟨o + k.val, by omega⟩ rfl rfl).trans ?_
  unfold tap
  rw [read_new a X w L u n inb8 hw _ _ (by show 8 ≤ 8 + r.val; omega), if_pos (by omega)]
  congr 1
  show 512 * n + (8 + r.val) - 8 = _
  omega

include hw in
/-- What is carried to the next tile: the tile's last eight rows. -/
theorem carry_read (inb : ∀ x, (![512, 0] : Fin 2 → ℕ) x + S8x1024.size x ≤ S520x1024.size x) (l : Fin 8) (k : Fin 1024) :
    (a.readAt (Elt Ideal) (Rect.unit (s := S520x1024) ![512, 0] S8x1024.size inb).toLoadRect
        (a.writes (Elt Ideal) X (⟨Rect.unit (s := S520x1024) ![8, 0] S512x1024.size inb8, w⟩ :: L)) : Vec Ideal S8x1024 .f32) (ix2 l k)
      = u (512 * (n + 1) + l.val - 8) k := by
  refine (readAt_win a _ 512 0 inb l k ⟨512 + l.val, by omega⟩ k rfl (by omega)).trans ?_
  rw [read_new a X w L u n inb8 hw _ _ (by show 8 ≤ 512 + l.val; omega)]
  congr 1
  show 512 * n + (512 + l.val) - 8 = _
  omega
end ext

end Proj
end
-- ==== Proof.InRunA.lean ====
/-
  What the input projections write at a point of the grid that begins a sequence, read at an entry.
-/
module

public import proofs.«01_k».proof.Proof.InRead
public import proofs.«01_k».proof.Proof.Gen.Kernel2Ideal.Value

@[expose] public section
set_option maxRecDepth 16384
noncomputable section
namespace Proj
open Idealize.ShloMosaic Idealize.ShloMosaic.TcCoe Idealize.ShloMosaic.Tactic Cert.Kernel2Ideal Cert.Kernel2Ideal.Gen

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1024x1024 .bf16) (harg3 : arg3.IsWhole)
  (arg4 : Memref sig .tc .vmem S1024x1024 .bf16) (harg4 : arg4.IsWhole)
  (arg5 : Memref sig .tc .vmem S1024x256 .bf16) (harg5 : arg5.IsWhole)
  (arg6 : Memref sig .tc .vmem S1024x1536 .bf16) (harg6 : arg6.IsWhole)
  (arg7 : Memref sig .tc .vmem S4x512 .f32) (harg7 : arg7.IsWhole)
  (arg8 : Memref sig .tc .vmem S4x512 .f32) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x512 .bf16) (harg12 : arg12.IsWhole)
  (arg13 : Memref sig .tc .vmem S512x256 .f32) (harg13 : arg13.IsWhole)
  (arg14 : Memref sig .tc .vmem S512x512 .bf16) (harg14 : arg14.IsWhole)
  (arg15 : Memref sig .tc .vmem S512x512 .bf16) (harg15 : arg15.IsWhole)
  (arg16 : Memref sig .tc .vmem S512x512 .bf16) (harg16 : arg16.IsWhole)
  (arg17 : Memref sig .tc .vmem S520x1024 .f32) (harg17 : arg17.IsWhole)
  (x0 : Vec Ideal S512x1024 .f32) (x1 : Vec Ideal S1x1024 .f32) (x2 x3 : Vec Ideal S1024x1024 .bf16) (x4 : Vec Ideal S1024x256 .bf16)
  (x5 : Vec Ideal S1024x1536 .bf16) (x6 x7 : Vec Ideal S4x512 .f32) (hc0 : cond0_0 i)
  (u : ℕ → Fin 1024 → EReal) (n : ℕ)
  (hu : ∀ r k, dotp (fun l => x0 (ix2 r l)) (fun l => x1 (ix2 0 l)) (fun l => x2 (ix2 l k)) = u (512 * n + r.val) k)
  (hn : n % 16 = 0)

/-- The eight rows before a sequence are zeros. -/
theorem zeros_read (a : View sig .tc .vmem S520x1024 .f32) (X : BufTy.Contents (Elt Ideal) a.ty) (l : Fin 520) (k : Fin 1024) (h : l.val < 8) :
    (a.read (Elt Ideal) (a.writes (Elt Ideal) X [⟨Rect.unit (s := S520x1024) ![0, 0] S8x1024.size inb_S520x1024_S8x1024_0_0, k0_pay8 (F := Ideal)⟩]) :
      Vec Ideal S520x1024 .f32) (ix2 l k) = 0 := by
  refine (View.read_writes_cons_unit_of_mem a X inb_S520x1024_S8x1024_0_0 (k0_pay8 (F := Ideal)) [] (ix2 l k) (ix2 (⟨l.val, h⟩ : Fin 8) k) rfl fun x => ?_).trans
    (pay8_apply _ _)
  match x with
  | 0 => show l.val = 0 + l.val; omega
  | 1 => show k.val = 0 + k.val; omega

include hu in
/-- The products stored to the buffer. -/
theorem storedA (r : Fin 512) (k : Fin 1024) :
    k0_pay9 (arg1.view.readAt (Elt Ideal) (Rect.unit ![0, 0] S512x1024.size inb_S512x1024_S512x1024_0_0).toLoadRect (harg1.unread x0))
      (arg2.view.readAt (Elt Ideal) (Rect.unit ![0, 0] S1x1024.size inb_S1x1024_S1x1024_0_0).toLoadRect (harg2.unread x1))
      (arg3.view.readAt (Elt Ideal) (Rect.unit ![0, 0] S1024x1024.size inb_S1024x1024_S1024x1024_0_0).toLoadRect (harg3.unread x2)) (ix2 r k)
      = u (512 * n + r.val) k := by
  rw [View.readAt_full arg1.view, harg1.read_unread, View.readAt_full arg2.view, harg2.read_unread, View.readAt_full arg3.view, harg3.read_unread,
    pay9_apply, hu]

include hu hn in
theorem outA_8 (r k : Fin 512) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 r k)
      = silu (conv (fun t => u t ⟨0 + k.val, by omega⟩) (fun j => x6 (ix2 j k)) (512 * n + r.val)) := by
  unfold out0_A_8 kernelRun0_A
  dsimp only
  sl_unfold_words
  unfold View.readCov
  rw [View.read_writes_full]
  refine (pay10_apply _ _ _ _ _ _ _ _ r k).trans ?_
  refine congrArg silu (conv_of ?_ ?_ ?_ ?_ ?_ ?_ ?_ ?_)
  · exact tap_read arg17.view _ _ _ u n inb_S520x1024_S512x1024_8_0 (storedA arg1 harg1 arg2 harg2 arg3 harg3 x0 x1 x2 u n hu) (fun l k h => (zeros_read arg17.view _ l k h).trans (if_pos hn).symm)
      0 (by omega) 0 (by omega) inb_S520x1024_S512x512_5_0 r k
  · exact (readAt_win arg7.view _ 0 0 inb_S4x512_S1x512_0_0 0 k 0 k rfl (by omega)).trans (congrFun (harg7.read_unread x6) _)
  · exact tap_read arg17.view _ _ _ u n inb_S520x1024_S512x1024_8_0 (storedA arg1 harg1 arg2 harg2 arg3 harg3 x0 x1 x2 u n hu) (fun l k h => (zeros_read arg17.view _ l k h).trans (if_pos hn).symm)
      1 (by omega) 0 (by omega) inb_S520x1024_S512x512_6_0 r k
  · exact (readAt_win arg7.view _ 1 0 inb_S4x512_S1x512_1_0 0 k 1 k rfl (by omega)).trans (congrFun (harg7.read_unread x6) _)
  · exact tap_read arg17.view _ _ _ u n inb_S520x1024_S512x1024_8_0 (storedA arg1 harg1 arg2 harg2 arg3 harg3 x0 x1 x2 u n hu) (fun l k h => (zeros_read arg17.view _ l k h).trans (if_pos hn).symm)
      2 (by omega) 0 (by omega) inb_S520x1024_S512x512_7_0 r k
  · exact (readAt_win arg7.view _ 2 0 inb_S4x512_S1x512_2_0 0 k 2 k rfl (by omega)).trans (congrFun (harg7.read_unread x6) _)
  · exact tap3_read arg17.view _ _ _ u n inb_S520x1024_S512x1024_8_0 (storedA arg1 harg1 arg2 harg2 arg3 harg3 x0 x1 x2 u n hu) 0 (by omega) inb_S520x1024_S512x512_8_0 r k
  · exact (readAt_win arg7.view _ 3 0 inb_S4x512_S1x512_3_0 0 k 3 k rfl (by omega)).trans (congrFun (harg7.read_unread x6) _)

include hu hn in
theorem outA_9 (r k : Fin 512) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 r k)
      = silu (conv (fun t => u t ⟨512 + k.val, by omega⟩) (fun j => x7 (ix2 j k)) (512 * n + r.val)) * lit 0x3DB504F3#32 := by
  unfold out0_A_9 kernelRun0_A
  dsimp only
  sl_unfold_words
  unfold View.readCov
  rw [View.read_writes_full]
  refine (pay12_apply _ _ _ _ _ _ _ _ r k).trans ?_
  refine congrArg (silu · * lit 0x3DB504F3#32) (conv_of ?_ ?_ ?_ ?_ ?_ ?_ ?_ ?_)
  · exact tap_read arg17.view _ _ _ u n inb_S520x1024_S512x1024_8_0 (storedA arg1 harg1 arg2 harg2 arg3 harg3 x0 x1 x2 u n hu) (fun l k h => (zeros_read arg17.view _ l k h).trans (if_pos hn).symm)
      0 (by omega) 512 (by omega) inb_S520x1024_S512x512_5_512 r k
  · exact (readAt_win arg8.view _ 0 0 inb_S4x512_S1x512_0_0 0 k 0 k rfl (by omega)).trans (congrFun (harg8.read_unread x7) _)
  · exact tap_read arg17.view _ _ _ u n inb_S520x1024_S512x1024_8_0 (storedA arg1 harg1 arg2 harg2 arg3 harg3 x0 x1 x2 u n hu) (fun l k h => (zeros_read arg17.view _ l k h).trans (if_pos hn).symm)
      1 (by omega) 512 (by omega) inb_S520x1024_S512x512_6_512 r k
  · exact (readAt_win arg8.view _ 1 0 inb_S4x512_S1x512_1_0 0 k 1 k rfl (by omega)).trans (congrFun (harg8.read_unread x7) _)
  · exact tap_read arg17.view _ _ _ u n inb_S520x1024_S512x1024_8_0 (storedA arg1 harg1 arg2 harg2 arg3 harg3 x0 x1 x2 u n hu) (fun l k h => (zeros_read arg17.view _ l k h).trans (if_pos hn).symm)
      2 (by omega) 512 (by omega) inb_S520x1024_S512x512_7_512 r k
  · exact (readAt_win arg8.view _ 2 0 inb_S4x512_S1x512_2_0 0 k 2 k rfl (by omega)).trans (congrFun (harg8.read_unread x7) _)
  · exact tap3_read arg17.view _ _ _ u n inb_S520x1024_S512x1024_8_0 (storedA arg1 harg1 arg2 harg2 arg3 harg3 x0 x1 x2 u n hu) 512 (by omega) inb_S520x1024_S512x512_8_512 r k
  · exact (readAt_win arg8.view _ 3 0 inb_S4x512_S1x512_3_0 0 k 3 k rfl (by omega)).trans (congrFun (harg8.read_unread x7) _)

include hu in
theorem soutA (l : Fin 520) (k : Fin 1024) (h : l.val < 8) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 l k) = u (512 * (n + 1) + l.val - 8) k := by
  unfold sout0_A_0 kernelRun0_A
  dsimp only
  sl_unfold_words
  unfold View.readCov
  refine (View.read_writes_cons_unit_of_mem VS0_0 _ inb_S520x1024_S8x1024_0_0 _ _ (ix2 l k) (ix2 (⟨l.val, h⟩ : Fin 8) k) rfl fun x => ?_).trans ?_
  · match x with
    | 0 => show l.val = 0 + l.val; omega
    | 1 => show k.val = 0 + k.val; omega
  · refine (pay13_apply _ _ _).trans ?_
    exact carry_read arg17.view _ _ _ u n inb_S520x1024_S512x1024_8_0 (storedA arg1 harg1 arg2 harg2 arg3 harg3 x0 x1 x2 u n hu) inb_S520x1024_S8x1024_512_0 ⟨l.val, h⟩ k

theorem outA_10 (r : Fin 512) (k : Fin 512) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 r k)
      = dotp (fun l => x0 (ix2 r l)) (fun l => x1 (ix2 0 l)) (fun l => x3 (ix2 l ⟨k.val, by omega⟩)) := by
  unfold out0_A_10 kernelRun0_A
  dsimp only
  sl_unfold_words
  rw [View.read_writes_full, View.readAt_full arg1.view, harg1.read_unread, View.readAt_full arg2.view, harg2.read_unread, View.readAt_full arg4.view, harg4.read_unread]
  exact pay15_apply x0 x1 x3 r k

theorem outA_11 (r : Fin 512) (k : Fin 512) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 r k)
      = dotp (fun l => x0 (ix2 r l)) (fun l => x1 (ix2 0 l)) (fun l => x3 (ix2 l ⟨512 + k.val, by omega⟩)) := by
  unfold out0_A_11 kernelRun0_A
  dsimp only
  sl_unfold_words
  rw [View.read_writes_full, View.readAt_full arg1.view, harg1.read_unread, View.readAt_full arg2.view, harg2.read_unread, View.readAt_full arg4.view, harg4.read_unread]
  exact pay1_apply x0 x1 x3 r k

theorem outA_12 (r : Fin 512) (k : Fin 256) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 r k)
      = dotp (fun l => x0 (ix2 r l)) (fun l => x1 (ix2 0 l)) (fun l => x4 (ix2 l k)) := by
  unfold out0_A_12 kernelRun0_A
  dsimp only
  sl_unfold_words
  rw [View.read_writes_full, View.readAt_full arg1.view, harg1.read_unread, View.readAt_full arg2.view, harg2.read_unread, View.readAt_full arg5.view, harg5.read_unread]
  exact pay2_apply x0 x1 x4 r k

theorem outA_13 (r : Fin 512) (k : Fin 512) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 r k)
      = dotp (fun l => x0 (ix2 r l)) (fun l => x1 (ix2 0 l)) (fun l => x5 (ix2 l ⟨k.val, by omega⟩)) := by
  unfold out0_A_13 kernelRun0_A
  dsimp only
  sl_unfold_words
  rw [View.read_writes_full, View.readAt_full arg1.view, harg1.read_unread, View.readAt_full arg2.view, harg2.read_unread, View.readAt_full arg6.view, harg6.read_unread]
  exact pay4_apply x0 x1 x5 r k

theorem outA_14 (r : Fin 512) (k : Fin 512) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 r k)
      = dotp (fun l => x0 (ix2 r l)) (fun l => x1 (ix2 0 l)) (fun l => x5 (ix2 l ⟨512 + k.val, by omega⟩)) := by
  unfold out0_A_14 kernelRun0_A
  dsimp only
  sl_unfold_words
  rw [View.read_writes_full, View.readAt_full arg1.view, harg1.read_unread, View.readAt_full arg2.view, harg2.read_unread, View.readAt_full arg6.view, harg6.read_unread]
  exact pay5_apply x0 x1 x5 r k

theorem outA_15 (r : Fin 512) (k : Fin 512) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 r k)
      = dotp (fun l => x0 (ix2 r l)) (fun l => x1 (ix2 0 l)) (fun l => x5 (ix2 l ⟨1024 + k.val, by omega⟩)) := by
  unfold out0_A_15 kernelRun0_A
  dsimp only
  sl_unfold_words
  rw [View.read_writes_full, View.readAt_full arg1.view, harg1.read_unread, View.readAt_full arg2.view, harg2.read_unread, View.readAt_full arg6.view, harg6.read_unread]
  exact pay6_apply x0 x1 x5 r k

end Proj
end
-- ==== Proof.InRunB.lean ====
/-
  What the input projections write at a point of the grid that continues a sequence, read at an entry.
-/
module

public import proofs.«01_k».proof.Proof.InRead
public import proofs.«01_k».proof.Proof.Gen.Kernel2Ideal.Value

@[expose] public section
set_option maxRecDepth 16384
noncomputable section
namespace Proj
open Idealize.ShloMosaic Idealize.ShloMosaic.TcCoe Idealize.ShloMosaic.Tactic Cert.Kernel2Ideal Cert.Kernel2Ideal.Gen

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1024x1024 .bf16) (harg3 : arg3.IsWhole)
  (arg4 : Memref sig .tc .vmem S1024x1024 .bf16) (harg4 : arg4.IsWhole)
  (arg5 : Memref sig .tc .vmem S1024x256 .bf16) (harg5 : arg5.IsWhole)
  (arg6 : Memref sig .tc .vmem S1024x1536 .bf16) (harg6 : arg6.IsWhole)
  (arg7 : Memref sig .tc .vmem S4x512 .f32) (harg7 : arg7.IsWhole)
  (arg8 : Memref sig .tc .vmem S4x512 .f32) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x512 .bf16) (harg12 : arg12.IsWhole)
  (arg13 : Memref sig .tc .vmem S512x256 .f32) (harg13 : arg13.IsWhole)
  (arg14 : Memref sig .tc .vmem S512x512 .bf16) (harg14 : arg14.IsWhole)
  (arg15 : Memref sig .tc .vmem S512x512 .bf16) (harg15 : arg15.IsWhole)
  (arg16 : Memref sig .tc .vmem S512x512 .bf16) (harg16 : arg16.IsWhole)
  (arg17 : Memref sig .tc .vmem S520x1024 .f32) (harg17 : arg17.IsWhole)
  (x0 : Vec Ideal S512x1024 .f32) (x1 : Vec Ideal S1x1024 .f32) (x2 x3 : Vec Ideal S1024x1024 .bf16) (x4 : Vec Ideal S1024x256 .bf16)
  (x5 : Vec Ideal S1024x1536 .bf16) (x6 x7 : Vec Ideal S4x512 .f32) (hc0 : ¬cond0_0 i) (xs0 : Vec Ideal S520x1024 .f32)
  (u : ℕ → Fin 1024 → EReal) (n : ℕ)
  (hu : ∀ r k, dotp (fun l => x0 (ix2 r l)) (fun l => x1 (ix2 0 l)) (fun l => x2 (ix2 l k)) = u (512 * n + r.val) k)
  (hprev : ∀ (l : Fin 520) k, l.val < 8 → xs0 (ix2 l k) = if n % 16 = 0 then 0 else u (512 * n + l.val - 8) k)

include hu in
/-- The products stored to the buffer. -/
theorem storedB (r : Fin 512) (k : Fin 1024) :
    k0_pay9 (arg1.view.readAt (Elt Ideal) (Rect.unit ![0, 0] S512x1024.size inb_S512x1024_S512x1024_0_0).toLoadRect (harg1.unread x0))
      (arg2.view.readAt (Elt Ideal) (Rect.unit ![0, 0] S1x1024.size inb_S1x1024_S1x1024_0_0).toLoadRect (harg2.unread x1))
      (arg3.view.readAt (Elt Ideal) (Rect.unit ![0, 0] S1024x1024.size inb_S1024x1024_S1024x1024_0_0).toLoadRect (harg3.unread x2)) (ix2 r k)
      = u (512 * n + r.val) k := by
  rw [View.readAt_full arg1.view, harg1.read_unread, View.readAt_full arg2.view, harg2.read_unread, View.readAt_full arg3.view, harg3.read_unread,
    pay9_apply, hu]

include hu hprev in
theorem outB_8 (r k : Fin 512) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix2 r k)
      = silu (conv (fun t => u t ⟨0 + k.val, by omega⟩) (fun j => x6 (ix2 j k)) (512 * n + r.val)) := by
  unfold out0_B_8 kernelRun0_B
  dsimp only
  sl_unfold_words
  unfold View.readCov
  rw [View.read_writes_full]
  refine (pay10_apply _ _ _ _ _ _ _ _ r k).trans ?_
  refine congrArg silu (conv_of ?_ ?_ ?_ ?_ ?_ ?_ ?_ ?_)
  · exact tap_read arg17.view (harg17.unread xs0) _ [] u n inb_S520x1024_S512x1024_8_0 (storedB arg1 harg1 arg2 harg2 arg3 harg3 x0 x1 x2 u n hu) (fun l k h => (congrFun (harg17.read_unread xs0) _).trans (hprev l k h))
      0 (by omega) 0 (by omega) inb_S520x1024_S512x512_5_0 r k
  · exact (readAt_win arg7.view _ 0 0 inb_S4x512_S1x512_0_0 0 k 0 k rfl (by omega)).trans (congrFun (harg7.read_unread x6) _)
  · exact tap_read arg17.view (harg17.unread xs0) _ [] u n inb_S520x1024_S512x1024_8_0 (storedB arg1 harg1 arg2 harg2 arg3 harg3 x0 x1 x2 u n hu) (fun l k h => (congrFun (harg17.read_unread xs0) _).trans (hprev l k h))
      1 (by omega) 0 (by omega) inb_S520x1024_S512x512_6_0 r k
  · exact (readAt_win arg7.view _ 1 0 inb_S4x512_S1x512_1_0 0 k 1 k rfl (by omega)).trans (congrFun (harg7.read_unread x6) _)
  · exact tap_read arg17.view (harg17.unread xs0) _ [] u n inb_S520x1024_S512x1024_8_0 (storedB arg1 harg1 arg2 harg2 arg3 harg3 x0 x1 x2 u n hu) (fun l k h => (congrFun (harg17.read_unread xs0) _).trans (hprev l k h))
      2 (by omega) 0 (by omega) inb_S520x1024_S512x512_7_0 r k
  · exact (readAt_win arg7.view _ 2 0 inb_S4x512_S1x512_2_0 0 k 2 k rfl (by omega)).trans (congrFun (harg7.read_unread x6) _)
  · exact tap3_read arg17.view _ _ _ u n inb_S520x1024_S512x1024_8_0 (storedB arg1 harg1 arg2 harg2 arg3 harg3 x0 x1 x2 u n hu) 0 (by omega) inb_S520x1024_S512x512_8_0 r k
  · exact (readAt_win arg7.view _ 3 0 inb_S4x512_S1x512_3_0 0 k 3 k rfl (by omega)).trans (congrFun (harg7.read_unread x6) _)

include hu hprev in
theorem outB_9 (r k : Fin 512) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix2 r k)
      = silu (conv (fun t => u t ⟨512 + k.val, by omega⟩) (fun j => x7 (ix2 j k)) (512 * n + r.val)) * lit 0x3DB504F3#32 := by
  unfold out0_B_9 kernelRun0_B
  dsimp only
  sl_unfold_words
  unfold View.readCov
  rw [View.read_writes_full]
  refine (pay12_apply _ _ _ _ _ _ _ _ r k).trans ?_
  refine congrArg (silu · * lit 0x3DB504F3#32) (conv_of ?_ ?_ ?_ ?_ ?_ ?_ ?_ ?_)
  · exact tap_read arg17.view (harg17.unread xs0) _ [] u n inb_S520x1024_S512x1024_8_0 (storedB arg1 harg1 arg2 harg2 arg3 harg3 x0 x1 x2 u n hu) (fun l k h => (congrFun (harg17.read_unread xs0) _).trans (hprev l k h))
      0 (by omega) 512 (by omega) inb_S520x1024_S512x512_5_512 r k
  · exact (readAt_win arg8.view _ 0 0 inb_S4x512_S1x512_0_0 0 k 0 k rfl (by omega)).trans (congrFun (harg8.read_unread x7) _)
  · exact tap_read arg17.view (harg17.unread xs0) _ [] u n inb_S520x1024_S512x1024_8_0 (storedB arg1 harg1 arg2 harg2 arg3 harg3 x0 x1 x2 u n hu) (fun l k h => (congrFun (harg17.read_unread xs0) _).trans (hprev l k h))
      1 (by omega) 512 (by omega) inb_S520x1024_S512x512_6_512 r k
  · exact (readAt_win arg8.view _ 1 0 inb_S4x512_S1x512_1_0 0 k 1 k rfl (by omega)).trans (congrFun (harg8.read_unread x7) _)
  · exact tap_read arg17.view (harg17.unread xs0) _ [] u n inb_S520x1024_S512x1024_8_0 (storedB arg1 harg1 arg2 harg2 arg3 harg3 x0 x1 x2 u n hu) (fun l k h => (congrFun (harg17.read_unread xs0) _).trans (hprev l k h))
      2 (by omega) 512 (by omega) inb_S520x1024_S512x512_7_512 r k
  · exact (readAt_win arg8.view _ 2 0 inb_S4x512_S1x512_2_0 0 k 2 k rfl (by omega)).trans (congrFun (harg8.read_unread x7) _)
  · exact tap3_read arg17.view _ _ _ u n inb_S520x1024_S512x1024_8_0 (storedB arg1 harg1 arg2 harg2 arg3 harg3 x0 x1 x2 u n hu) 512 (by omega) inb_S520x1024_S512x512_8_512 r k
  · exact (readAt_win arg8.view _ 3 0 inb_S4x512_S1x512_3_0 0 k 3 k rfl (by omega)).trans (congrFun (harg8.read_unread x7) _)

include hu in
theorem soutB (l : Fin 520) (k : Fin 1024) (h : l.val < 8) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix2 l k) = u (512 * (n + 1) + l.val - 8) k := by
  unfold sout0_B_0 kernelRun0_B
  dsimp only
  sl_unfold_words
  unfold View.readCov
  refine (View.read_writes_cons_unit_of_mem VS0_0 _ inb_S520x1024_S8x1024_0_0 _ _ (ix2 l k) (ix2 (⟨l.val, h⟩ : Fin 8) k) rfl fun x => ?_).trans ?_
  · match x with
    | 0 => show l.val = 0 + l.val; omega
    | 1 => show k.val = 0 + k.val; omega
  · refine (pay13_apply _ _ _).trans ?_
    exact carry_read arg17.view _ _ _ u n inb_S520x1024_S512x1024_8_0 (storedB arg1 harg1 arg2 harg2 arg3 harg3 x0 x1 x2 u n hu) inb_S520x1024_S8x1024_512_0 ⟨l.val, h⟩ k

theorem outB_10 (r : Fin 512) (k : Fin 512) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix2 r k)
      = dotp (fun l => x0 (ix2 r l)) (fun l => x1 (ix2 0 l)) (fun l => x3 (ix2 l ⟨k.val, by omega⟩)) := by
  unfold out0_B_10 kernelRun0_B
  dsimp only
  sl_unfold_words
  rw [View.read_writes_full, View.readAt_full arg1.view, harg1.read_unread, View.readAt_full arg2.view, harg2.read_unread, View.readAt_full arg4.view, harg4.read_unread]
  exact pay15_apply x0 x1 x3 r k

theorem outB_11 (r : Fin 512) (k : Fin 512) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix2 r k)
      = dotp (fun l => x0 (ix2 r l)) (fun l => x1 (ix2 0 l)) (fun l => x3 (ix2 l ⟨512 + k.val, by omega⟩)) := by
  unfold out0_B_11 kernelRun0_B
  dsimp only
  sl_unfold_words
  rw [View.read_writes_full, View.readAt_full arg1.view, harg1.read_unread, View.readAt_full arg2.view, harg2.read_unread, View.readAt_full arg4.view, harg4.read_unread]
  exact pay1_apply x0 x1 x3 r k

theorem outB_12 (r : Fin 512) (k : Fin 256) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix2 r k)
      = dotp (fun l => x0 (ix2 r l)) (fun l => x1 (ix2 0 l)) (fun l => x4 (ix2 l k)) := by
  unfold out0_B_12 kernelRun0_B
  dsimp only
  sl_unfold_words
  rw [View.read_writes_full, View.readAt_full arg1.view, harg1.read_unread, View.readAt_full arg2.view, harg2.read_unread, View.readAt_full arg5.view, harg5.read_unread]
  exact pay2_apply x0 x1 x4 r k

theorem outB_13 (r : Fin 512) (k : Fin 512) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix2 r k)
      = dotp (fun l => x0 (ix2 r l)) (fun l => x1 (ix2 0 l)) (fun l => x5 (ix2 l ⟨k.val, by omega⟩)) := by
  unfold out0_B_13 kernelRun0_B
  dsimp only
  sl_unfold_words
  rw [View.read_writes_full, View.readAt_full arg1.view, harg1.read_unread, View.readAt_full arg2.view, harg2.read_unread, View.readAt_full arg6.view, harg6.read_unread]
  exact pay4_apply x0 x1 x5 r k

theorem outB_14 (r : Fin 512) (k : Fin 512) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix2 r k)
      = dotp (fun l => x0 (ix2 r l)) (fun l => x1 (ix2 0 l)) (fun l => x5 (ix2 l ⟨512 + k.val, by omega⟩)) := by
  unfold out0_B_14 kernelRun0_B
  dsimp only
  sl_unfold_words
  rw [View.read_writes_full, View.readAt_full arg1.view, harg1.read_unread, View.readAt_full arg2.view, harg2.read_unread, View.readAt_full arg6.view, harg6.read_unread]
  exact pay5_apply x0 x1 x5 r k

theorem outB_15 (r : Fin 512) (k : Fin 512) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 (ix2 r k)
      = dotp (fun l => x0 (ix2 r l)) (fun l => x1 (ix2 0 l)) (fun l => x5 (ix2 l ⟨1024 + k.val, by omega⟩)) := by
  unfold out0_B_15 kernelRun0_B
  dsimp only
  sl_unfold_words
  rw [View.read_writes_full, View.readAt_full arg1.view, harg1.read_unread, View.readAt_full arg2.view, harg2.read_unread, View.readAt_full arg6.view, harg6.read_unread]
  exact pay6_apply x0 x1 x5 r k

end Proj
end
-- ==== Proof.InFinal.lean ====
/-
  The input projections' results, entry by entry: what each point of the grid writes, with the weights it was given and the rows it
  carried over from the point before, put together.
-/
module

public import proofs.«01_k».proof.Proof.InRows
public import proofs.«01_k».proof.Proof.InHost
public import proofs.«01_k».proof.Proof.InRunA
public import proofs.«01_k».proof.Proof.InRunB

@[expose] public section
set_option maxRecDepth 16384
noncomputable section
namespace Proj
open Idealize.ShloMosaic Idealize.ShloMosaic.TcCoe Idealize.ShloMosaic.Tactic Idealize.SL.Sem Cert.Kernel2Ideal Cert.Kernel2Ideal.Gen Cert.Kernel2Ideal.Value

/-! ## The blocks -/

theorem index_tokens : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)

variable (m : (ℓ : Loc nD τ sig) → Buf (Elt Ideal) ℓ) (c : Dev nD)

theorem points (t : Fin cfg0.N) : t.val < 64 := lt_of_lt_of_eq t.isLt (show cfg0.N = 64 from N_0)

theorem read_tokens (t : Fin cfg0.N) (r : Fin 512) (l : Fin 1024) :
    (iblk m c 0 t : Vec Ideal S512x1024 .f32) (ix2 r l) = rowOf (argX m c) (512 * t.val + r.val) l := by
  have e := index_tokens t
  have ht := points t
  rw [rowOf, dif_pos (by omega)]
  refine (congrArg (V m c main_arg0) (funext fun a => Fin.ext ?_)).trans (congrFun (V_main_arg0 m c) (ix2 ⟨512 * t.val + r.val, by omega⟩ l))
  match a with
  | 0 =>
    show cc0_transform_0 (grid0.coords t) 0 * 512 + 1 * r.val = 512 * t.val + r.val
    rw [e.1]; omega
  | 1 =>
    show cc0_transform_0 (grid0.coords t) 1 * 1024 + 1 * l.val = l.val
    rw [e.2]; omega

theorem read_1 (t : Fin cfg0.N) (r : Fin 1) (l : Fin 1024) :
    (iblk m c 1 t : Vec Ideal S1x1024 .f32) (ix2 r l) = (V m c main_v19 : Vec Ideal S1x1024 .f32) (ix2 r l) := by
  refine congrArg (V m c main_v19) (funext fun a => Fin.ext ?_)
  match a with
  | 0 =>
    show 0 * 1 + 1 * r.val = r.val
    omega
  | 1 =>
    show 0 * 1024 + 1 * l.val = l.val
    omega

theorem read_2 (t : Fin cfg0.N) (r : Fin 1024) (l : Fin 1024) :
    (iblk m c 2 t : Vec Ideal S1024x1024 .bf16) (ix2 r l) = (V m c main_v1 : Vec Ideal S1024x1024 .bf16) (ix2 r l) := by
  refine congrArg (V m c main_v1) (funext fun a => Fin.ext ?_)
  match a with
  | 0 =>
    show 0 * 1024 + 1 * r.val = r.val
    omega
  | 1 =>
    show 0 * 1024 + 1 * l.val = l.val
    omega

theorem read_3 (t : Fin cfg0.N) (r : Fin 1024) (l : Fin 1024) :
    (iblk m c 3 t : Vec Ideal S1024x1024 .bf16) (ix2 r l) = (V m c main_v3 : Vec Ideal S1024x1024 .bf16) (ix2 r l) := by
  refine congrArg (V m c main_v3) (funext fun a => Fin.ext ?_)
  match a with
  | 0 =>
    show 0 * 1024 + 1 * r.val = r.val
    omega
  | 1 =>
    show 0 * 1024 + 1 * l.val = l.val
    omega

theorem read_4 (t : Fin cfg0.N) (r : Fin 1024) (l : Fin 256) :
    (iblk m c 4 t : Vec Ideal S1024x256 .bf16) (ix2 r l) = (V m c main_v11 : Vec Ideal S1024x256 .bf16) (ix2 r l) := by
  refine congrArg (V m c main_v11) (funext fun a => Fin.ext ?_)
  match a with
  | 0 =>
    show 0 * 1024 + 1 * r.val = r.val
    omega
  | 1 =>
    show 0 * 256 + 1 * l.val = l.val
    omega

theorem read_5 (t : Fin cfg0.N) (r : Fin 1024) (l : Fin 1536) :
    (iblk m c 5 t : Vec Ideal S1024x1536 .bf16) (ix2 r l) = (V m c main_v18 : Vec Ideal S1024x1536 .bf16) (ix2 r l) := by
  refine congrArg (V m c main_v18) (funext fun a => Fin.ext ?_)
  match a with
  | 0 =>
    show 0 * 1024 + 1 * r.val = r.val
    omega
  | 1 =>
    show 0 * 1536 + 1 * l.val = l.val
    omega

theorem read_6 (t : Fin cfg0.N) (r : Fin 4) (l : Fin 512) :
    (iblk m c 6 t : Vec Ideal S4x512 .f32) (ix2 r l) = (V m c main_arg3 : Vec Ideal S4x512 .f32) (ix2 r l) := by
  refine congrArg (V m c main_arg3) (funext fun a => Fin.ext ?_)
  match a with
  | 0 =>
    show 0 * 4 + 1 * r.val = r.val
    omega
  | 1 =>
    show 0 * 512 + 1 * l.val = l.val
    omega

theorem read_7 (t : Fin cfg0.N) (r : Fin 4) (l : Fin 512) :
    (iblk m c 7 t : Vec Ideal S4x512 .f32) (ix2 r l) = (V m c main_arg4 : Vec Ideal S4x512 .f32) (ix2 r l) := by
  refine congrArg (V m c main_arg4) (funext fun a => Fin.ext ?_)
  match a with
  | 0 =>
    show 0 * 4 + 1 * r.val = r.val
    omega
  | 1 =>
    show 0 * 512 + 1 * l.val = l.val
    omega

theorem dotp_block (t : Fin cfg0.N) (r : Fin 512) (w w' : Fin 1024 → EReal) (h : ∀ l, w l = w' l) :
    dotp (fun l => (iblk m c 0 t : Vec Ideal S512x1024 .f32) (ix2 r l)) (fun l => (iblk m c 1 t : Vec Ideal S1x1024 .f32) (ix2 0 l)) w
      = dotp (rowOf (argX m c) (512 * t.val + r.val)) (fun l => argG m c (ix1 l)) w' := by
  rw [funext h, show (fun l => (iblk m c 0 t : Vec Ideal S512x1024 .f32) (ix2 r l)) = rowOf (argX m c) (512 * t.val + r.val) from
      funext fun l => read_tokens m c t r l,
    show (fun l => (iblk m c 1 t : Vec Ideal S1x1024 .f32) (ix2 0 l)) = fun l => argG m c (ix1 l) from
      funext fun l => (read_1 m c t 0 l).trans (host_gain m c l)]

/-- The first 1024 columns of the projection of token `t`. -/
abbrev first (t : ℕ) (k : Fin 1024) : EReal := proj (argX m c) (argG m c) (argW m c) t k.val (by omega)

theorem first_block (t : Fin cfg0.N) (r : Fin 512) (k : Fin 1024) :
    dotp (fun l => (iblk m c 0 t : Vec Ideal S512x1024 .f32) (ix2 r l)) (fun l => (iblk m c 1 t : Vec Ideal S1x1024 .f32) (ix2 0 l))
        (fun l => (iblk m c 2 t : Vec Ideal S1024x1024 .bf16) (ix2 l k))
      = first m c (512 * t.val + r.val) k :=
  dotp_block m c t r _ _ fun l => (read_2 m c t l k).trans (host_keys m c l k)

/-! ## What each point leaves -/

/-- The rows carried over to the next point are the last rows of this one. -/
theorem carried (t : Fin cfg0.N) (l : Fin 520) (k : Fin 1024) (h : l.val < 8) :
    ((outsAt0 m c t.val t.isLt).2.2.2.2.2.2.2.2 : Vec Ideal S520x1024 .f32) (ix2 l k) = first m c (512 * (t.val + 1) + l.val - 8) k := by
  by_cases h0 : t.val % 16 = 0
  · rw [outsAt0_A m c t h0]
    dsimp only
    exact soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) (first m c) t.val (first_block m c t) l k h
  · rw [outsAt0_B m c t h0]
    dsimp only
    exact soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (lt_of_le_of_lt (Nat.sub_le _ _) t.isLt)).2.2.2.2.2.2.2.2 (first m c) t.val (first_block m c t) l k h

/-- What a point that does not begin a sequence finds carried over. -/
theorem found (t : Fin cfg0.N) (h0 : ¬t.val % 16 = 0) (l : Fin 520) (k : Fin 1024) (h : l.val < 8) :
    ((outsAt0 m c (t.val - 1) (lt_of_le_of_lt (Nat.sub_le _ _) t.isLt)).2.2.2.2.2.2.2.2 : Vec Ideal S520x1024 .f32) (ix2 l k)
      = if t.val % 16 = 0 then 0 else first m c (512 * t.val + l.val - 8) k := by
  rw [if_neg h0]
  have ht := points t
  refine (carried m c ⟨t.val - 1, lt_of_le_of_lt (Nat.sub_le _ _) t.isLt⟩ l k h).trans ?_
  show first m c (512 * (t.val - 1 + 1) + l.val - 8) k = _
  rw [show t.val - 1 + 1 = t.val by omega]

theorem proj_congr (X : Vec Ideal S32768x1024 .f32) (G : Vec Ideal S1024 .f32) (W : Vec Ideal S1024x3592 .f32) (t : ℕ) {a b : ℕ} {ha : a < 3592}
    {hb : b < 3592} (h : a = b) : proj X G W t a ha = proj X G W t b hb := by
  subst h
  rfl

theorem gates_block (t : ℕ) (k : Fin 256) :
    dotp (rowOf (argX m c) t) (fun l => argG m c (ix1 l)) (fun l => if h : k.val < 4 then wAt m c (2048 + k.val) (by omega) l
      else if h : 128 ≤ k.val ∧ k.val < 132 then wAt m c (2052 + (k.val - 128)) (by omega) l else 0)
      = gates (argX m c) (argG m c) (argW m c) t k := by
  unfold gates
  split_ifs
  · rfl
  · rfl
  · exact dotp_zero _ _

theorem at_8 (t : Fin cfg0.N) (r : Fin 512) (k : Fin 512) :
    ((outsAt0 m c t.val t.isLt).1 : Vec Ideal S512x512 .bf16) (ix2 r k)
      = filt (argX m c) (argG m c) (argW m c) (argCq m c) 0 (by omega) (512 * t.val + r.val) k := by
  have hw : (fun j => (iblk m c 6 t : Vec Ideal S4x512 .f32) (ix2 j k)) = fun j => argCq m c (ix2 j k) :=
    funext fun j => (read_6 m c t j k).trans (congrFun (V_main_arg3 m c) (ix2 j k))
  unfold filt
  rw [← hw]
  by_cases h0 : t.val % 16 = 0
  · rw [outsAt0_A m c t h0]
    dsimp only
    exact outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) (first m c) t.val (first_block m c t) h0 r k
  · rw [outsAt0_B m c t h0]
    dsimp only
    exact outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (lt_of_le_of_lt (Nat.sub_le _ _) t.isLt)).2.2.2.2.2.2.2.2 (first m c) t.val (first_block m c t) (found m c t h0) r k

theorem at_9 (t : Fin cfg0.N) (r : Fin 512) (k : Fin 512) :
    ((outsAt0 m c t.val t.isLt).2.1 : Vec Ideal S512x512 .bf16) (ix2 r k)
      = filt (argX m c) (argG m c) (argW m c) (argCk m c) 512 (by omega) (512 * t.val + r.val) k * lit 0x3DB504F3#32 := by
  have hw : (fun j => (iblk m c 7 t : Vec Ideal S4x512 .f32) (ix2 j k)) = fun j => argCk m c (ix2 j k) :=
    funext fun j => (read_7 m c t j k).trans (congrFun (V_main_arg4 m c) (ix2 j k))
  unfold filt
  rw [← hw]
  by_cases h0 : t.val % 16 = 0
  · rw [outsAt0_A m c t h0]
    dsimp only
    exact outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) (first m c) t.val (first_block m c t) h0 r k
  · rw [outsAt0_B m c t h0]
    dsimp only
    exact outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (lt_of_le_of_lt (Nat.sub_le _ _) t.isLt)).2.2.2.2.2.2.2.2 (first m c) t.val (first_block m c t) (found m c t h0) r k

theorem at_10 (t : Fin cfg0.N) (r : Fin 512) (k : Fin 512) :
    ((outsAt0 m c t.val t.isLt).2.2.1 : Vec Ideal S512x512 .bf16) (ix2 r k)
      = proj (argX m c) (argG m c) (argW m c) (512 * t.val + r.val) (1024 + k.val) (by omega) := by
  have e : ((outsAt0 m c t.val t.isLt).2.2.1 : Vec Ideal S512x512 .bf16) (ix2 r k)
      = dotp (fun l => (iblk m c 0 t : Vec Ideal S512x1024 .f32) (ix2 r l)) (fun l => (iblk m c 1 t : Vec Ideal S1x1024 .f32) (ix2 0 l))
          (fun l => (iblk m c 3 t : Vec Ideal S1024x1024 .bf16) (ix2 l ⟨k.val, by omega⟩)) := by
    by_cases h0 : t.val % 16 = 0
    · rw [outsAt0_A m c t h0]
      dsimp only
      exact outA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) t.val r k
    · rw [outsAt0_B m c t h0]
      dsimp only
      exact outB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (lt_of_le_of_lt (Nat.sub_le _ _) t.isLt)).2.2.2.2.2.2.2.2 r k
  refine e.trans ?_
  · refine dotp_block m c t r _ _ fun l => (read_3 m c t l ⟨k.val, by omega⟩).trans (host_values m c l ⟨k.val, by omega⟩)

theorem at_11 (t : Fin cfg0.N) (r : Fin 512) (k : Fin 512) :
    ((outsAt0 m c t.val t.isLt).2.2.2.1 : Vec Ideal S512x512 .bf16) (ix2 r k)
      = proj (argX m c) (argG m c) (argW m c) (512 * t.val + r.val) (1536 + k.val) (by omega) := by
  have e : ((outsAt0 m c t.val t.isLt).2.2.2.1 : Vec Ideal S512x512 .bf16) (ix2 r k)
      = dotp (fun l => (iblk m c 0 t : Vec Ideal S512x1024 .f32) (ix2 r l)) (fun l => (iblk m c 1 t : Vec Ideal S1x1024 .f32) (ix2 0 l))
          (fun l => (iblk m c 3 t : Vec Ideal S1024x1024 .bf16) (ix2 l ⟨512 + k.val, by omega⟩)) := by
    by_cases h0 : t.val % 16 = 0
    · rw [outsAt0_A m c t h0]
      dsimp only
      exact outA_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) t.val r k
    · rw [outsAt0_B m c t h0]
      dsimp only
      exact outB_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (lt_of_le_of_lt (Nat.sub_le _ _) t.isLt)).2.2.2.2.2.2.2.2 r k
  refine e.trans ?_
  · refine (dotp_block m c t r _ _ fun l => (read_3 m c t l ⟨512 + k.val, by omega⟩).trans (host_values m c l ⟨512 + k.val, by omega⟩)).trans ?_
    exact proj_congr _ _ _ _ (by show 1024 + (512 + k.val) = 1536 + k.val; omega)

theorem at_12 (t : Fin cfg0.N) (r : Fin 512) (k : Fin 256) :
    ((outsAt0 m c t.val t.isLt).2.2.2.2.1 : Vec Ideal S512x256 .f32) (ix2 r k)
      = gates (argX m c) (argG m c) (argW m c) (512 * t.val + r.val) k := by
  have e : ((outsAt0 m c t.val t.isLt).2.2.2.2.1 : Vec Ideal S512x256 .f32) (ix2 r k)
      = dotp (fun l => (iblk m c 0 t : Vec Ideal S512x1024 .f32) (ix2 r l)) (fun l => (iblk m c 1 t : Vec Ideal S1x1024 .f32) (ix2 0 l))
          (fun l => (iblk m c 4 t : Vec Ideal S1024x256 .bf16) (ix2 l k)) := by
    by_cases h0 : t.val % 16 = 0
    · rw [outsAt0_A m c t h0]
      dsimp only
      exact outA_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) r k
    · rw [outsAt0_B m c t h0]
      dsimp only
      exact outB_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (lt_of_le_of_lt (Nat.sub_le _ _) t.isLt)).2.2.2.2.2.2.2.2 r k
  refine e.trans ?_
  · refine (dotp_block m c t r _ _ fun l => (read_4 m c t l k).trans (host_gates m c l k)).trans ?_
    exact gates_block m c _ k

theorem at_13 (t : Fin cfg0.N) (r : Fin 512) (k : Fin 512) :
    ((outsAt0 m c t.val t.isLt).2.2.2.2.2.1 : Vec Ideal S512x512 .bf16) (ix2 r k)
      = proj (argX m c) (argG m c) (argW m c) (512 * t.val + r.val) (2056 + k.val) (by omega) * lit 0x3E000000#32 := by
  have e : ((outsAt0 m c t.val t.isLt).2.2.2.2.2.1 : Vec Ideal S512x512 .bf16) (ix2 r k)
      = dotp (fun l => (iblk m c 0 t : Vec Ideal S512x1024 .f32) (ix2 r l)) (fun l => (iblk m c 1 t : Vec Ideal S1x1024 .f32) (ix2 0 l))
          (fun l => (iblk m c 5 t : Vec Ideal S1024x1536 .bf16) (ix2 l ⟨k.val, by omega⟩)) := by
    by_cases h0 : t.val % 16 = 0
    · rw [outsAt0_A m c t h0]
      dsimp only
      exact outA_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) t.val r k
    · rw [outsAt0_B m c t h0]
      dsimp only
      exact outB_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (lt_of_le_of_lt (Nat.sub_le _ _) t.isLt)).2.2.2.2.2.2.2.2 r k
  refine e.trans ?_
  · refine (dotp_block m c t r _ _ fun l => (read_5 m c t l ⟨k.val, by omega⟩).trans ((host_rest m c l ⟨k.val, by omega⟩).trans
      (if_pos (by show k.val < 512; omega)))).trans ?_
    exact dotp_eighth _ _ _

theorem at_14 (t : Fin cfg0.N) (r : Fin 512) (k : Fin 512) :
    ((outsAt0 m c t.val t.isLt).2.2.2.2.2.2.1 : Vec Ideal S512x512 .bf16) (ix2 r k)
      = proj (argX m c) (argG m c) (argW m c) (512 * t.val + r.val) (2568 + k.val) (by omega) := by
  have e : ((outsAt0 m c t.val t.isLt).2.2.2.2.2.2.1 : Vec Ideal S512x512 .bf16) (ix2 r k)
      = dotp (fun l => (iblk m c 0 t : Vec Ideal S512x1024 .f32) (ix2 r l)) (fun l => (iblk m c 1 t : Vec Ideal S1x1024 .f32) (ix2 0 l))
          (fun l => (iblk m c 5 t : Vec Ideal S1024x1536 .bf16) (ix2 l ⟨512 + k.val, by omega⟩)) := by
    by_cases h0 : t.val % 16 = 0
    · rw [outsAt0_A m c t h0]
      dsimp only
      exact outA_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) t.val r k
    · rw [outsAt0_B m c t h0]
      dsimp only
      exact outB_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (lt_of_le_of_lt (Nat.sub_le _ _) t.isLt)).2.2.2.2.2.2.2.2 r k
  refine e.trans ?_
  · refine (dotp_block m c t r _ _ fun l => (read_5 m c t l ⟨512 + k.val, by omega⟩).trans ((host_rest m c l ⟨512 + k.val, by omega⟩).trans
      (if_neg (by show ¬512 + k.val < 512; omega)))).trans ?_
    exact proj_congr _ _ _ _ (by show 2056 + (512 + k.val) = 2568 + k.val; omega)

theorem at_15 (t : Fin cfg0.N) (r : Fin 512) (k : Fin 512) :
    ((outsAt0 m c t.val t.isLt).2.2.2.2.2.2.2.1 : Vec Ideal S512x512 .bf16) (ix2 r k)
      = proj (argX m c) (argG m c) (argW m c) (512 * t.val + r.val) (3080 + k.val) (by omega) := by
  have e : ((outsAt0 m c t.val t.isLt).2.2.2.2.2.2.2.1 : Vec Ideal S512x512 .bf16) (ix2 r k)
      = dotp (fun l => (iblk m c 0 t : Vec Ideal S512x1024 .f32) (ix2 r l)) (fun l => (iblk m c 1 t : Vec Ideal S1x1024 .f32) (ix2 0 l))
          (fun l => (iblk m c 5 t : Vec Ideal S1024x1536 .bf16) (ix2 l ⟨1024 + k.val, by omega⟩)) := by
    by_cases h0 : t.val % 16 = 0
    · rw [outsAt0_A m c t h0]
      dsimp only
      exact outA_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) t.val r k
    · rw [outsAt0_B m c t h0]
      dsimp only
      exact outB_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (lt_of_le_of_lt (Nat.sub_le _ _) t.isLt)).2.2.2.2.2.2.2.2 r k
  refine e.trans ?_
  · refine (dotp_block m c t r _ _ fun l => (read_5 m c t l ⟨1024 + k.val, by omega⟩).trans ((host_rest m c l ⟨1024 + k.val, by omega⟩).trans
      (if_neg (by show ¬1024 + k.val < 512; omega)))).trans ?_
    exact proj_congr _ _ _ _ (by show 2056 + (1024 + k.val) = 3080 + k.val; omega)

/-! ## The whole results -/

theorem final_8 (n : Fin 32768) (k : Fin 512) : (G8 m c : Vec Ideal S32768x512 .bf16) (ix2 n k)
    = filt (argX m c) (argG m c) (argW m c) (argCq m c) 0 (by omega) n.val k := by
  have ht : pt8Of (ix2 n k) = n.val / 512 := by
    show 1 * (n.val / 512 - 0) + 1 * (k.val / 512 - 0) = n.val / 512
    omega
  have hp : pt8Of (ix2 n k) < cfg0.N := by
    rw [show cfg0.N = 64 from N_0, ht]
    omega
  unfold G8
  rw [dif_pos hp, ← outsAt0_sweep m c _ hp,
    show loc8Of (ix2 n k) = ix2 (⟨n.val % 512, by omega⟩ : Fin 512) k from funext fun a => Fin.ext (by
      match a with
      | 0 => rfl
      | 1 => show k.val % 512 = k.val; omega)]
  refine (at_8 m c ⟨pt8Of (ix2 n k), hp⟩ ⟨n.val % 512, by omega⟩ k).trans ?_
  show filt (argX m c) (argG m c) (argW m c) (argCq m c) 0 (by omega) (512 * pt8Of (ix2 n k) + n.val % 512) k = _
  rw [ht, show 512 * (n.val / 512) + n.val % 512 = n.val by omega]

theorem final_9 (n : Fin 32768) (k : Fin 512) : (G9 m c : Vec Ideal S32768x512 .bf16) (ix2 n k)
    = filt (argX m c) (argG m c) (argW m c) (argCk m c) 512 (by omega) n.val k * lit 0x3DB504F3#32 := by
  have ht : pt9Of (ix2 n k) = n.val / 512 := by
    show 1 * (n.val / 512 - 0) + 1 * (k.val / 512 - 0) = n.val / 512
    omega
  have hp : pt9Of (ix2 n k) < cfg0.N := by
    rw [show cfg0.N = 64 from N_0, ht]
    omega
  unfold G9
  rw [dif_pos hp, ← outsAt0_sweep m c _ hp,
    show loc9Of (ix2 n k) = ix2 (⟨n.val % 512, by omega⟩ : Fin 512) k from funext fun a => Fin.ext (by
      match a with
      | 0 => rfl
      | 1 => show k.val % 512 = k.val; omega)]
  refine (at_9 m c ⟨pt9Of (ix2 n k), hp⟩ ⟨n.val % 512, by omega⟩ k).trans ?_
  show filt (argX m c) (argG m c) (argW m c) (argCk m c) 512 (by omega) (512 * pt9Of (ix2 n k) + n.val % 512) k * lit 0x3DB504F3#32 = _
  rw [ht, show 512 * (n.val / 512) + n.val % 512 = n.val by omega]

theorem final_10 (n : Fin 32768) (k : Fin 512) : (G10 m c : Vec Ideal S32768x512 .bf16) (ix2 n k)
    = proj (argX m c) (argG m c) (argW m c) n.val (1024 + k.val) (by omega) := by
  have ht : pt10Of (ix2 n k) = n.val / 512 := by
    show 1 * (n.val / 512 - 0) + 1 * (k.val / 512 - 0) = n.val / 512
    omega
  have hp : pt10Of (ix2 n k) < cfg0.N := by
    rw [show cfg0.N = 64 from N_0, ht]
    omega
  unfold G10
  rw [dif_pos hp, ← outsAt0_sweep m c _ hp,
    show loc10Of (ix2 n k) = ix2 (⟨n.val % 512, by omega⟩ : Fin 512) k from funext fun a => Fin.ext (by
      match a with
      | 0 => rfl
      | 1 => show k.val % 512 = k.val; omega)]
  refine (at_10 m c ⟨pt10Of (ix2 n k), hp⟩ ⟨n.val % 512, by omega⟩ k).trans ?_
  show proj (argX m c) (argG m c) (argW m c) (512 * pt10Of (ix2 n k) + n.val % 512) (1024 + k.val) (by omega) = _
  rw [ht, show 512 * (n.val / 512) + n.val % 512 = n.val by omega]

theorem final_11 (n : Fin 32768) (k : Fin 512) : (G11 m c : Vec Ideal S32768x512 .bf16) (ix2 n k)
    = proj (argX m c) (argG m c) (argW m c) n.val (1536 + k.val) (by omega) := by
  have ht : pt11Of (ix2 n k) = n.val / 512 := by
    show 1 * (n.val / 512 - 0) + 1 * (k.val / 512 - 0) = n.val / 512
    omega
  have hp : pt11Of (ix2 n k) < cfg0.N := by
    rw [show cfg0.N = 64 from N_0, ht]
    omega
  unfold G11
  rw [dif_pos hp, ← outsAt0_sweep m c _ hp,
    show loc11Of (ix2 n k) = ix2 (⟨n.val % 512, by omega⟩ : Fin 512) k from funext fun a => Fin.ext (by
      match a with
      | 0 => rfl
      | 1 => show k.val % 512 = k.val; omega)]
  refine (at_11 m c ⟨pt11Of (ix2 n k), hp⟩ ⟨n.val % 512, by omega⟩ k).trans ?_
  show proj (argX m c) (argG m c) (argW m c) (512 * pt11Of (ix2 n k) + n.val % 512) (1536 + k.val) (by omega) = _
  rw [ht, show 512 * (n.val / 512) + n.val % 512 = n.val by omega]

theorem final_12 (n : Fin 32768) (k : Fin 256) : (G12 m c : Vec Ideal S32768x256 .f32) (ix2 n k)
    = gates (argX m c) (argG m c) (argW m c) n.val k := by
  have ht : pt12Of (ix2 n k) = n.val / 512 := by
    show 1 * (n.val / 512 - 0) + 1 * (k.val / 256 - 0) = n.val / 512
    omega
  have hp : pt12Of (ix2 n k) < cfg0.N := by
    rw [show cfg0.N = 64 from N_0, ht]
    omega
  unfold G12
  rw [dif_pos hp, ← outsAt0_sweep m c _ hp,
    show loc12Of (ix2 n k) = ix2 (⟨n.val % 512, by omega⟩ : Fin 512) k from funext fun a => Fin.ext (by
      match a with
      | 0 => rfl
      | 1 => show k.val % 256 = k.val; omega)]
  refine (at_12 m c ⟨pt12Of (ix2 n k), hp⟩ ⟨n.val % 512, by omega⟩ k).trans ?_
  show gates (argX m c) (argG m c) (argW m c) (512 * pt12Of (ix2 n k) + n.val % 512) k = _
  rw [ht, show 512 * (n.val / 512) + n.val % 512 = n.val by omega]

theorem final_13 (n : Fin 32768) (k : Fin 512) : (G13 m c : Vec Ideal S32768x512 .bf16) (ix2 n k)
    = proj (argX m c) (argG m c) (argW m c) n.val (2056 + k.val) (by omega) * lit 0x3E000000#32 := by
  have ht : pt13Of (ix2 n k) = n.val / 512 := by
    show 1 * (n.val / 512 - 0) + 1 * (k.val / 512 - 0) = n.val / 512
    omega
  have hp : pt13Of (ix2 n k) < cfg0.N := by
    rw [show cfg0.N = 64 from N_0, ht]
    omega
  unfold G13
  rw [dif_pos hp, ← outsAt0_sweep m c _ hp,
    show loc13Of (ix2 n k) = ix2 (⟨n.val % 512, by omega⟩ : Fin 512) k from funext fun a => Fin.ext (by
      match a with
      | 0 => rfl
      | 1 => show k.val % 512 = k.val; omega)]
  refine (at_13 m c ⟨pt13Of (ix2 n k), hp⟩ ⟨n.val % 512, by omega⟩ k).trans ?_
  show proj (argX m c) (argG m c) (argW m c) (512 * pt13Of (ix2 n k) + n.val % 512) (2056 + k.val) (by omega) * lit 0x3E000000#32 = _
  rw [ht, show 512 * (n.val / 512) + n.val % 512 = n.val by omega]

theorem final_14 (n : Fin 32768) (k : Fin 512) : (G14 m c : Vec Ideal S32768x512 .bf16) (ix2 n k)
    = proj (argX m c) (argG m c) (argW m c) n.val (2568 + k.val) (by omega) := by
  have ht : pt14Of (ix2 n k) = n.val / 512 := by
    show 1 * (n.val / 512 - 0) + 1 * (k.val / 512 - 0) = n.val / 512
    omega
  have hp : pt14Of (ix2 n k) < cfg0.N := by
    rw [show cfg0.N = 64 from N_0, ht]
    omega
  unfold G14
  rw [dif_pos hp, ← outsAt0_sweep m c _ hp,
    show loc14Of (ix2 n k) = ix2 (⟨n.val % 512, by omega⟩ : Fin 512) k from funext fun a => Fin.ext (by
      match a with
      | 0 => rfl
      | 1 => show k.val % 512 = k.val; omega)]
  refine (at_14 m c ⟨pt14Of (ix2 n k), hp⟩ ⟨n.val % 512, by omega⟩ k).trans ?_
  show proj (argX m c) (argG m c) (argW m c) (512 * pt14Of (ix2 n k) + n.val % 512) (2568 + k.val) (by omega) = _
  rw [ht, show 512 * (n.val / 512) + n.val % 512 = n.val by omega]

theorem final_15 (n : Fin 32768) (k : Fin 512) : (G15 m c : Vec Ideal S32768x512 .bf16) (ix2 n k)
    = proj (argX m c) (argG m c) (argW m c) n.val (3080 + k.val) (by omega) := by
  have ht : pt15Of (ix2 n k) = n.val / 512 := by
    show 1 * (n.val / 512 - 0) + 1 * (k.val / 512 - 0) = n.val / 512
    omega
  have hp : pt15Of (ix2 n k) < cfg0.N := by
    rw [show cfg0.N = 64 from N_0, ht]
    omega
  unfold G15
  rw [dif_pos hp, ← outsAt0_sweep m c _ hp,
    show loc15Of (ix2 n k) = ix2 (⟨n.val % 512, by omega⟩ : Fin 512) k from funext fun a => Fin.ext (by
      match a with
      | 0 => rfl
      | 1 => show k.val % 512 = k.val; omega)]
  refine (at_15 m c ⟨pt15Of (ix2 n k), hp⟩ ⟨n.val % 512, by omega⟩ k).trans ?_
  show proj (argX m c) (argG m c) (argW m c) (512 * pt15Of (ix2 n k) + n.val % 512) (3080 + k.val) (by omega) = _
  rw [ht, show 512 * (n.val / 512) + n.val % 512 = n.val by omega]

end Proj
end
-- ==== Proof.InRef.lean ====
/-
  The reference's projections, entry by entry.
-/
module

public import proofs.«01_k».proof.Proof.InRows
public import proofs.«01_k».proof.Proof.Gen.Reference2Ideal.Run

@[expose] public section
set_option maxRecDepth 16384
noncomputable section
namespace Proj.Ref
open Idealize.ShloMosaic Idealize.ShloMosaic.TcCoe Idealize.ShloMosaic.Tactic Cert.Reference2Ideal Cert.Reference2Ideal.Gen

/-! ## The reference's steps by name -/

section steps
variable (X : FVec Ideal S32768x1024 .f32) (G : FVec Ideal S1024 .f32) (W : FVec Ideal S1024x3592 .f32) (C : FVec Ideal S4x512 .f32)
  (y : FVec Ideal S32768x512 .f32) (z : FVec Ideal S4x8192x512 .f32)

/-- Every token over the root of its mean square, times the gains. -/
def normed : FVec Ideal S32768x1024 .f32 :=
  mulf (mulf X (broadcastInDim S32768x1024 ![0, 1] bcast_S32768x1_S32768x1024_0_1 (Host.rsqrt (addf (Host.divf
    (broadcastInDim S32768x1 ![0] bcast_S32768_S32768x1_0 (Host.reduceAdd (mulf X X) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 G))

def product : FVec Ideal S32768x3592 .f32 :=
  Host.dotGeneral dot_S32768x1024_S1024x3592_S32768x3592_1_0_0_1_n_n none (normed X G) W

/-- The sequences, three rows of zeros before each. -/
def padded : FVec Ideal S4x8195x512 .f32 :=
  pad S4x8195x512 ![0, 3, 0] ![0, 0, 0] ![0, 0, 0] (shapeCast S4x8192x512 y shapeCasts_S32768x512_S4x8192x512) (sitofp .f32 (constantI S_ 32 0#32))
    pads_S4x8192x512_S4x8195x512_000_300_000 h_S_

def tapRow (o : Fin 2 → ℕ) (h : S4x512.Slices o S1x512) : FVec Ideal S4x8192x512 .f32 :=
  broadcastInDim S4x8192x512 ![0, 1, 2] bcast_S1x1x512_S4x8192x512_0_1_2 (broadcastInDim S1x1x512 ![2] bcast_S512_S1x1x512_2
    (shapeCast S512 (extractStridedSlice S1x512 o C h) shapeCasts_S1x512_S512))

def filtered : FVec Ideal S4x8192x512 .f32 :=
  addf (addf (addf
    (mulf (extractStridedSlice S4x8192x512 ![0, 0, 0] (padded y) slices_S4x8195x512_S4x8192x512_0_0_0) (tapRow C ![0, 0] slices_S4x512_S1x512_0_0))
    (mulf (extractStridedSlice S4x8192x512 ![0, 1, 0] (padded y) slices_S4x8195x512_S4x8192x512_0_1_0) (tapRow C ![1, 0] slices_S4x512_S1x512_1_0)))
    (mulf (extractStridedSlice S4x8192x512 ![0, 2, 0] (padded y) slices_S4x8195x512_S4x8192x512_0_2_0) (tapRow C ![2, 0] slices_S4x512_S1x512_2_0)))
    (mulf (extractStridedSlice S4x8192x512 ![0, 3, 0] (padded y) slices_S4x8195x512_S4x8192x512_0_3_0) (tapRow C ![3, 0] slices_S4x512_S1x512_3_0))

/-- `z·σ(z)`. -/
def siluOf : FVec Ideal S4x8192x512 .f32 :=
  mulf z (Host.divf (broadcastInDim S4x8192x512 ![] bcast_S_S4x8192x512 (constant S_ .f32 0x3F800000#32))
    (addf (broadcastInDim S4x8192x512 ![] bcast_S_S4x8192x512 (constant S_ .f32 0x3F800000#32)) (Host.exp (Host.negf z))))

/-- A piece of the projections, filtered, and `·σ(·)` of it, as an array of tokens. -/
def path : FVec Ideal S32768x512 .f32 := shapeCast S32768x512 (siluOf (filtered C y)) shapeCasts_S4x8192x512_S32768x512

end steps

section results
open Idealize.SL.Sem
variable (m : (ℓ : Loc nD τ sig) → Buf (Elt Ideal) ℓ) (c : Dev nD)

abbrev argX : FVec Ideal S32768x1024 .f32 := m ((c.tc : Thread nD τ).loc main_arg0)
abbrev argG : FVec Ideal S1024 .f32 := m ((c.tc : Thread nD τ).loc main_arg1)
abbrev argW : FVec Ideal S1024x3592 .f32 := m ((c.tc : Thread nD τ).loc main_arg2)
abbrev argCq : FVec Ideal S4x512 .f32 := m ((c.tc : Thread nD τ).loc main_arg3)
abbrev argCk : FVec Ideal S4x512 .f32 := m ((c.tc : Thread nD τ).loc main_arg4)
abbrev prods : FVec Ideal S32768x3592 .f32 := product (argX m c) (argG m c) (argW m c)

theorem res_0 : Value.res_out0 m c = truncf .bf16 (path (argCq m c) (extractStridedSlice S32768x512 ![0, 0] (prods m c) slices_S32768x3592_S32768x512_0_0)) bitsLt_bf16_f32 := rfl

theorem res_1 : Value.res_out1 m c = truncf .bf16 (mulf (path (argCk m c) (extractStridedSlice S32768x512 ![0, 512] (prods m c) slices_S32768x3592_S32768x512_0_512))
    (broadcastInDim S32768x512 ![] bcast_S_S32768x512 (constant S_ .f32 0x3DB504F3#32))) bitsLt_bf16_f32 := rfl

end results

/-! ## The steps at an entry -/

section entries
variable (X : FVec Ideal S32768x1024 .f32) (G : FVec Ideal S1024 .f32) (W : FVec Ideal S1024x3592 .f32) (C : FVec Ideal S4x512 .f32)
  (y : FVec Ideal S32768x512 .f32) (z : FVec Ideal S4x8192x512 .f32)

theorem normed_apply (n : Fin 32768) (l : Fin 1024) : normed X G (ix2 n l) = rms (rowOf X n.val) (fun l => G (ix1 l)) l := by
  have e : rowOf X n.val = fun l => X (ix2 n l) := funext fun l => dif_pos n.isLt
  rw [e]
  pointwise [normed]
  rfl

theorem product_apply (n : Fin 32768) (k : Fin 3592) : product X G W (ix2 n k) = proj X G W n.val k.val k.isLt := by
  let D := dot_S32768x1024_S1024x3592_S32768x3592_1_0_0_1_n_n
  unfold product Host.dotGeneral proj dotp
  rw [Ideal.dotGeneral_apply, ← Equiv.sum_comp (ValueIdx.contrEquiv1 D 1024 rfl rfl).symm]
  refine Finset.sum_congr rfl fun d _ => ?_
  have hd := ValueIdx.contrEquiv1_symm_val D 1024 rfl rfl d
  rw [← normed_apply]
  refine congrArg₂ (fun a b => normed X G a * W b) (funext fun a => Fin.ext ?_) (funext fun a => Fin.ext ?_)
  · match a with
    | 0 => rfl
    | 1 => exact hd
  · match a with
    | 0 => exact hd
    | 1 => rfl

/-- The integer zero, as a value. -/
theorem zero_int : (FloatOps.sitofp (F := Ideal) FTy.f32 (0#32 : BitVec 32) : EReal) = 0 := by
  show (((0#32 : BitVec 32).toInt : ℝ) : EReal) = 0
  simp

theorem padded_apply (b : Fin 4) (s : Fin 8195) (k : Fin 512) :
    padded y (ix3 b s k) = if h : 3 ≤ s.val then y (ix2 ⟨8192 * b.val + (s.val - 3), by omega⟩ k) else 0 := by
  pointwise [padded]
  by_cases h : 3 ≤ s.val
  · rw [dif_pos ⟨h, by omega⟩, dif_pos h]
    exact congrArg (fun q => y (ix2 q k)) (Fin.ext (by show b.val * 8192 + (s.val - 3) = 8192 * b.val + (s.val - 3); omega))
  · rw [dif_neg fun q => h q.1, dif_neg h]
    exact zero_int

theorem tapRow_apply (o : Fin 2 → ℕ) (h : S4x512.Slices o S1x512) (b : Fin 4) (s : Fin 8192) (k : Fin 512) (j : Fin 4) (h0 : o 0 = j.val) (h1 : o 1 = 0) :
    tapRow C o h (ix3 b s k) = C (ix2 j k) := by
  pointwise [tapRow]
  exact congrArg₂ (fun p q => C (ix2 p q)) (Fin.ext h0) (Fin.ext (by show o 1 + k.val = k.val; omega))

theorem siluOf_apply (i : S4x8192x512.Idx) : siluOf z i = silu (z i) := by
  pointwise [siluOf]
  rfl

/-- What tap `j` reads. -/
theorem tap_apply (u : ℕ → EReal) (k : Fin 512) (hy : ∀ n : Fin 32768, y (ix2 n k) = u n.val) (b : Fin 4) (s : Fin 8192) (j : ℕ) (q : Fin 8195)
    (hq : q.val = j + s.val) : padded y (ix3 b q k) = tap u (8192 * b.val + s.val) j := by
  rw [padded_apply, tap]
  by_cases h : 3 ≤ q.val
  · rw [dif_pos h, if_pos (by omega), hy]
    exact congrArg u (by show 8192 * b.val + (q.val - 3) = 8192 * b.val + s.val + j - 3; omega)
  · rw [dif_neg h, if_neg (by omega)]

theorem filtered_apply (u : ℕ → EReal) (k : Fin 512) (hy : ∀ n : Fin 32768, y (ix2 n k) = u n.val) (b : Fin 4) (s : Fin 8192) :
    filtered C y (ix3 b s k) = conv u (fun j => C (ix2 j k)) (8192 * b.val + s.val) := by
  pointwise [filtered]
  refine conv_of ?_ (tapRow_apply C _ _ b s k 0 rfl rfl) ?_ (tapRow_apply C _ _ b s k 1 rfl rfl) ?_ (tapRow_apply C _ _ b s k 2 rfl rfl)
    ?_ (tapRow_apply C _ _ b s k 3 rfl rfl)
  · exact tap_apply y u k hy b s 0 _ (by show s.val = 0 + s.val; omega)
  · exact tap_apply y u k hy b s 1 _ rfl
  · exact tap_apply y u k hy b s 2 _ rfl
  · exact tap_apply y u k hy b s 3 _ rfl

theorem path_apply (u : ℕ → EReal) (k : Fin 512) (hy : ∀ n : Fin 32768, y (ix2 n k) = u n.val) (n : Fin 32768) :
    path C y (ix2 n k) = silu (conv u (fun j => C (ix2 j k)) n.val) := by
  unfold path
  rw [shapeCast_apply _ _ _ (ix3 (⟨n.val / 8192, by omega⟩ : Fin 4) (⟨n.val % 8192, by omega⟩ : Fin 8192) k) (by
    rw [Shape.rowMajor_val_two, Shape.rowMajor_val_three]
    show (n.val / 8192 * 8192 + n.val % 8192) * 512 + k.val = n.val * 512 + k.val
    omega), siluOf_apply, filtered_apply C y u k hy]
  exact congrArg (fun t => silu (conv u (fun j => C (ix2 j k)) t)) (by show 8192 * (n.val / 8192) + n.val % 8192 = n.val; omega)

end entries

/-! ## The results -/

section finals
open Idealize.SL.Sem
variable (m : (ℓ : Loc nD τ sig) → Buf (Elt Ideal) ℓ) (c : Dev nD)

theorem final_0 (n : Fin 32768) (k : Fin 512) :
    (Value.res_out0 m c : FVec Ideal S32768x512 .bf16) (ix2 n k) = filt (argX m c) (argG m c) (argW m c) (argCq m c) 0 (by omega) n.val k := by
  rw [res_0]
  exact path_apply _ _ (fun t => proj (argX m c) (argG m c) (argW m c) t (0 + k.val) (by omega)) k (fun n => by pointwise; exact product_apply _ _ _ _ _) n

theorem final_1 (n : Fin 32768) (k : Fin 512) :
    (Value.res_out1 m c : FVec Ideal S32768x512 .bf16) (ix2 n k)
      = filt (argX m c) (argG m c) (argW m c) (argCk m c) 512 (by omega) n.val k * lit 0x3DB504F3#32 := by
  rw [res_1]
  refine congrArg (· * lit 0x3DB504F3#32) ?_
  exact path_apply _ _ (fun t => proj (argX m c) (argG m c) (argW m c) t (512 + k.val) (by omega)) k (fun n => by pointwise; exact product_apply _ _ _ _ _) n

/-- A piece of the projections. -/
theorem final_piece (o : Fin 2 → ℕ) (h : S32768x3592.Slices o S32768x512) (a : ℕ) (h0 : o 0 = 0) (h1 : o 1 = a) (ha : a + 512 ≤ 3592) (n : Fin 32768) (k : Fin 512) :
    extractStridedSlice S32768x512 o (prods m c) h (ix2 n k) = proj (argX m c) (argG m c) (argW m c) n.val (a + k.val) (by omega) := by
  subst h1
  pointwise
  refine (product_apply _ _ _ _ _).trans ?_
  show proj _ _ _ (o 0 + n.val) (o 1 + k.val) _ = _
  simp only [h0, Nat.zero_add]

theorem final_gates (n : Fin 32768) (k : Fin 256) :
    concatenate S32768x256 1
      [⟨S32768x128, pad S32768x128 ![0, 0] ![0, 124] ![0, 0] (extractStridedSlice S32768x4 ![0, 2048] (prods m c) slices_S32768x3592_S32768x4_0_2048)
          (sitofp .f32 (constantI S_ 32 0#32)) pads_S32768x4_S32768x128_000_01240 h_S_⟩,
        ⟨S32768x128, pad S32768x128 ![0, 0] ![0, 124] ![0, 0] (extractStridedSlice S32768x4 ![0, 2052] (prods m c) slices_S32768x3592_S32768x4_0_2052)
          (sitofp .f32 (constantI S_ 32 0#32)) pads_S32768x4_S32768x128_000_01240 h_S_⟩]
      concatenates_S32768x128_S32768x128_S32768x256_d1 (ix2 n k)
      = gates (argX m c) (argG m c) (argW m c) n.val k := by
  pointwise
  unfold gates
  by_cases h4 : k.val < 4
  · rw [dif_pos (by omega), dif_pos h4, dif_pos h4]
    exact product_apply _ _ _ _ _
  · by_cases h : 128 ≤ k.val ∧ k.val < 132
    · rw [dif_neg (by omega), dif_pos (by omega), dif_neg h4, dif_pos h]
      exact product_apply _ _ _ _ _
    · rw [dif_neg h4, dif_neg h]
      split_ifs
      all_goals first | omega | exact zero_int

end finals

end Proj.Ref
end
-- ==== Proof.InValue.lean ====
/-
  The input projections and their reference end with the same arrays.
-/
module

public import proofs.«01_k».proof.Proof.InFinal
public import proofs.«01_k».proof.Proof.InRef

@[expose] public section
set_option maxRecDepth 16384
noncomputable section
namespace Proj
open Idealize.ShloMosaic Idealize.ShloMosaic.TcCoe Idealize.SL.Sem Cert.Kernel2Ideal Cert.Kernel2Ideal.Value

variable (m : (ℓ : Loc nD τ sig) → Buf (Elt Ideal) ℓ)
  (m' : (ℓ : Loc Cert.Reference2Ideal.nD Cert.Reference2Ideal.τ Cert.Reference2Ideal.sig) → Buf (Elt Ideal) ℓ) (c : Dev nD)

/-- The two programs are given the same arrays. -/
def Same : Prop := Ref.argX m' c = argX m c ∧ Ref.argG m' c = argG m c ∧ Ref.argW m' c = argW m c ∧ Ref.argCq m' c = argCq m c ∧ Ref.argCk m' c = argCk m c

variable {m m' c} (h : Same m m' c)
include h

theorem same_8 (n : Fin 32768) (k : Fin 512) :
    (Cert.Reference2Ideal.Value.res_out0 m' c : Vec Ideal S32768x512 .bf16) (ix2 n k) = (G8 m c : Vec Ideal S32768x512 .bf16) (ix2 n k) := by
  rw [final_8, ← h.1, ← h.2.1, ← h.2.2.1, ← h.2.2.2.1]
  exact Ref.final_0 m' c n k

theorem same_9 (n : Fin 32768) (k : Fin 512) :
    (Cert.Reference2Ideal.Value.res_out1 m' c : Vec Ideal S32768x512 .bf16) (ix2 n k) = (G9 m c : Vec Ideal S32768x512 .bf16) (ix2 n k) := by
  rw [final_9, ← h.1, ← h.2.1, ← h.2.2.1, ← h.2.2.2.2]
  exact Ref.final_1 m' c n k

theorem same_10 (n : Fin 32768) (k : Fin 512) :
    extractStridedSlice Cert.Reference2Ideal.S32768x512 ![0, 1024] (Ref.prods m' c) Cert.Reference2Ideal.Gen.slices_S32768x3592_S32768x512_0_1024 (ix2 n k) = (G10 m c : Vec Ideal S32768x512 .bf16) (ix2 n k) := by
  rw [final_10, ← h.1, ← h.2.1, ← h.2.2.1]
  exact Ref.final_piece m' c ![0, 1024] _ 1024 rfl rfl (by omega) n k

theorem same_11 (n : Fin 32768) (k : Fin 512) :
    extractStridedSlice Cert.Reference2Ideal.S32768x512 ![0, 1536] (Ref.prods m' c) Cert.Reference2Ideal.Gen.slices_S32768x3592_S32768x512_0_1536 (ix2 n k) = (G11 m c : Vec Ideal S32768x512 .bf16) (ix2 n k) := by
  rw [final_11, ← h.1, ← h.2.1, ← h.2.2.1]
  exact Ref.final_piece m' c ![0, 1536] _ 1536 rfl rfl (by omega) n k

theorem same_13 (n : Fin 32768) (k : Fin 512) :
    (extractStridedSlice Cert.Reference2Ideal.S32768x512 ![0, 2056] (Ref.prods m' c) Cert.Reference2Ideal.Gen.slices_S32768x3592_S32768x512_0_2056 (ix2 n k) * lit 0x3E000000#32) = (G13 m c : Vec Ideal S32768x512 .bf16) (ix2 n k) := by
  rw [final_13, ← h.1, ← h.2.1, ← h.2.2.1]
  exact congrArg (· * lit 0x3E000000#32) (Ref.final_piece m' c ![0, 2056] _ 2056 rfl rfl (by omega) n k)

theorem same_14 (n : Fin 32768) (k : Fin 512) :
    extractStridedSlice Cert.Reference2Ideal.S32768x512 ![0, 2568] (Ref.prods m' c) Cert.Reference2Ideal.Gen.slices_S32768x3592_S32768x512_0_2568 (ix2 n k) = (G14 m c : Vec Ideal S32768x512 .bf16) (ix2 n k) := by
  rw [final_14, ← h.1, ← h.2.1, ← h.2.2.1]
  exact Ref.final_piece m' c ![0, 2568] _ 2568 rfl rfl (by omega) n k

theorem same_15 (n : Fin 32768) (k : Fin 512) :
    extractStridedSlice Cert.Reference2Ideal.S32768x512 ![0, 3080] (Ref.prods m' c) Cert.Reference2Ideal.Gen.slices_S32768x3592_S32768x512_0_3080 (ix2 n k) = (G15 m c : Vec Ideal S32768x512 .bf16) (ix2 n k) := by
  rw [final_15, ← h.1, ← h.2.1, ← h.2.2.1]
  exact Ref.final_piece m' c ![0, 3080] _ 3080 rfl rfl (by omega) n k

theorem same_12 (n : Fin 32768) (k : Fin 256) : gates (Ref.argX m' c) (Ref.argG m' c) (Ref.argW m' c) n.val k = (G12 m c : Vec Ideal S32768x256 .f32) (ix2 n k) := by
  rw [final_12, ← h.1, ← h.2.1, ← h.2.2.1]

end Proj
end
-- ==== Proof.ExpTab.lean ====
/-
  The experts' tables: which expert each block of rows names, how many blocks are live, and what the control of one grid point
  decides from them. Nothing here reads a block of rows or a weight.
-/
module

public import proofs.«01_k».proof.Proof.Gen.Kernel3Ideal.Launch
public import proofs.«01_k».proof.Proof.Gen.Kernel3Ideal.Flash.Runs
public import proofs.«01_k».proof.Proof.Scalar

@[expose] public section
set_option maxRecDepth 16384
noncomputable section
namespace Exp
open Idealize.ShloMosaic Idealize.ShloMosaic.TcCoe Idealize.ShloMosaic.Tactic Idealize.SL.Sem Cert.Kernel3Ideal Cert.Kernel3Ideal.Gen

variable (m : (ℓ : Loc nD τ sig) → Buf (Elt Ideal) ℓ)

/-- The two tables, as the launch memory holds them. -/
def tabs : pre0.Contents (Elt Ideal) := fun j => m (((0 : Dev nD) : Thread nD τ).loc (pre0.ref j))

/-- The table of experts: one word per block of rows. -/
def table : S288.Idx → Elt Ideal .i32 := tabs m 0

/-- The table of one word: the number of live blocks. -/
def lives : S1.Idx → Elt Ideal .i32 := tabs m 1

/-- The expert that block `b` names. -/
def expert (b : Fin 288) : BitVec 32 := table m (ix1 b)

/-- The number of live blocks. -/
def live : BitVec 32 := lives m (ix1 0)

/-- Every block names one of the thirty-two experts. -/
def Named : Prop := ∀ b : Fin 288, (expert m b).toNat < 32

/-! ## Where the control reads the tables -/

theorem off_here : ∀ i : grid0.Coords, k0_off1 i 0 = (i 0).val := by decide +kernel
theorem off_before : ∀ i : grid0.Coords, k0_off2 i 0 = (i 0).val - 1 := by decide +kernel

theorem first_S1 (h : 0 < S1.numel) (a : Fin 1) : (Shape.Idx.first h a).val = 0 := by
  have : (Shape.Idx.first h a).val < S1.size a := (Shape.Idx.first h a).isLt
  match a with
  | 0 => exact Nat.lt_one_iff.mp this

/-- The block of a point. -/
def blockOf (i : grid0.Coords) : Fin 288 := ⟨(i 0).val, (i 0).isLt⟩

/-- The block before it, the first standing for itself. -/
def before (b : Fin 288) : Fin 288 := ⟨b.val - 1, by omega⟩

theorem word_here (i : grid0.Coords) (h : 0 < S1.numel) :
    (Rect.unit (s := S288) (k0_off1 i) S1.size (k0_off1_inb i)).emb (Shape.Idx.first h) = ix1 (blockOf i) := by
  funext a
  match a with
  | 0 =>
    refine Fin.ext ?_
    show k0_off1 i 0 + 1 * (Shape.Idx.first h 0).val = (i 0).val
    rw [first_S1 h 0, off_here]; omega

theorem word_before (i : grid0.Coords) (h : 0 < S1.numel) :
    (Rect.unit (s := S288) (k0_off2 i) S1.size (k0_off2_inb i)).emb (Shape.Idx.first h) = ix1 (before (blockOf i)) := by
  funext a
  match a with
  | 0 =>
    refine Fin.ext ?_
    show k0_off2 i 0 + 1 * (Shape.Idx.first h 0).val = (i 0).val - 1
    rw [first_S1 h 0, off_before]; omega

theorem word_live (h : 0 < S1.numel) :
    (Rect.unit (s := S1) ![0] S1.size inb_S1_S1_0).emb (Shape.Idx.first h) = ix1 0 := by
  funext a
  match a with
  | 0 =>
    refine Fin.ext ?_
    show 0 + 1 * (Shape.Idx.first h 0).val = 0
    rw [first_S1 h 0]

theorem load_here (i : grid0.Coords) (h : 0 < S1.numel) :
    View.readAt (Elt Ideal) (tbM0_0).view (Rect.unit (s := S288) (k0_off1 i) S1.size (k0_off1_inb i)).toLoadRect (table m) (Shape.Idx.first h)
      = expert m (blockOf i) := congrArg (table m) (word_here i h)

theorem load_before (i : grid0.Coords) (h : 0 < S1.numel) :
    View.readAt (Elt Ideal) (tbM0_0).view (Rect.unit (s := S288) (k0_off2 i) S1.size (k0_off2_inb i)).toLoadRect (table m) (Shape.Idx.first h)
      = expert m (before (blockOf i)) := congrArg (table m) (word_before i h)

theorem load_live (h : 0 < S1.numel) :
    View.readAt (Elt Ideal) (tbM0_1).view (Rect.unit (s := S1) ![0] S1.size inb_S1_S1_0).toLoadRect (lives m) (Shape.Idx.first h)
      = live m := congrArg (lives m) (word_live h)

/-! ## The decisions of a point -/

/-- Block `b` is live: its number is below the count, both read with their signs. -/
def Live (b : Fin 288) : Prop := (b.val : ℤ) < (live m).toInt

instance (b : Fin 288) : Decidable (Live m b) := by unfold Live; infer_instance

/-- At block `b` the weights are fetched anew: the first block, or one naming another expert than the block before. -/
def Anew (b : Fin 288) : Prop := b.val = 0 ∨ expert m b ≠ expert m (before b)

instance (b : Fin 288) : Decidable (Anew m b) := by unfold Anew; infer_instance

theorem bit_cond (b : BitVec 1) : Scalar.cmpi .ne (Scalar.extui b : BitVec 32) 0#32 = b := by
  revert b; decide

theorem ofBool_one (b : Bool) : (BitVec.ofBool b = 1#1) ↔ b = true := by cases b <;> decide

theorem slt_bit (n : ℕ) (hn : n < 288) (v : BitVec 32) : (Scalar.cmpi .slt (BitVec.ofNat 32 n) v = 1#1) ↔ (n : ℤ) < v.toInt := by
  have e : (BitVec.ofNat 32 n).toInt = n := by
    rw [BitVec.toInt_eq_toNat_of_lt (by rw [BitVec.toNat_ofNat]; omega), BitVec.toNat_ofNat]; omega
  show BitVec.ofBool ((BitVec.ofNat 32 n).slt v) = 1#1 ↔ _
  rw [ofBool_one, BitVec.slt_iff_toInt_lt, e]

theorem live_cond (i : grid0.Coords) : k0_cond2 i (live m) = 1#1 ↔ Live m (blockOf i) := by
  unfold k0_cond2
  dsimp only
  rw [bit_cond]
  exact slt_bit _ (i 0).isLt _

theorem dead_cond (i : grid0.Coords) : k0_cond3 i (live m) = 1#1 ↔ ¬ Live m (blockOf i) := by
  rw [← live_cond]
  unfold k0_cond2 k0_cond3
  dsimp only
  rw [bit_cond, bit_cond]
  generalize Scalar.cmpi .slt (BitVec.ofNat 32 (i 0).val) (live m) = b
  revert b; decide

theorem eq_bit (a b : BitVec 32) : (Scalar.cmpi .eq a b = 1#1) ↔ a = b := by
  show BitVec.ofBool (a == b) = 1#1 ↔ _
  rw [ofBool_one, beq_iff_eq]

theorem ne_bit (a b : BitVec 32) : (Scalar.cmpi .ne a b = 1#1) ↔ a ≠ b := by
  show BitVec.ofBool (a != b) = 1#1 ↔ _
  rw [ofBool_one, bne_iff_ne]

theorem and_bit (a b : BitVec 1) : (Scalar.andi a b = 1#1) ↔ a = 1#1 ∧ b = 1#1 := by
  revert a b; decide

theorem or_bit (a b : BitVec 1) : (Scalar.ori a b = 1#1) ↔ a = 1#1 ∨ b = 1#1 := by
  revert a b; decide

theorem anew_cond (i : grid0.Coords) (e e' : BitVec 32) (he : e = expert m (blockOf i)) (he' : e' = expert m (before (blockOf i))) :
    (Scalar.cmpi .ne (Scalar.extui (Scalar.andi (Scalar.cmpi .slt (BitVec.ofNat 32 (i 0).val) (live m))
      (Scalar.ori (Scalar.cmpi .eq (BitVec.ofNat 32 (i 0).val) 0#32) (Scalar.cmpi .ne e e'))) : BitVec 32) 0#32 = 1#1)
      ↔ Live m (blockOf i) ∧ Anew m (blockOf i) := by
  subst he he'
  have hi : (i 0).val < 288 := (i 0).isLt
  rw [bit_cond, and_bit, or_bit, slt_bit _ hi, eq_bit, ne_bit]
  refine and_congr Iff.rfl (or_congr ?_ Iff.rfl)
  show _ ↔ (i 0).val = 0
  constructor
  · intro h
    have := congrArg BitVec.toNat h
    rw [BitVec.toNat_ofNat, BitVec.toNat_ofNat] at this; omega
  · intro h; rw [h]

/-- Blocks below a live block are live. -/
theorem Live.of_le {b b' : Fin 288} (h : Live m b) (hb : b'.val ≤ b.val) : Live m b' := by
  unfold Live at *; omega

end Exp
end
-- ==== Proof.ExpPre.lean ====
/-
  What the experts' precondition says of the launch memory: every block names one of the thirty-two experts.
-/
module

public import proofs.«01_k».proof.Defs
public import proofs.«01_k».proof.Proof.Gen.Pre_experts_named
public import proofs.«01_k».proof.Proof.ExpTab
public import proofs.«01_k».proof.Proof.ExpBitsTab

@[expose] public section
noncomputable section
namespace Exp.Pre
open Idealize.ShloMosaic Idealize.ShloMosaic.TcCoe Cert.Pre_experts_named Cert.Pre_experts_named.Gen

/-- The predicate, all ones, bounds every word of the table. -/
theorem word_named {F : FTy → Type} [FloatOps F] (B : IVec S288 32) (N : IVec S1 32) (X : FVec F S73728x1024 .f32)
    (G U : FVec F S32x1024x512 .f32) (D : FVec F S32x512x1024 .f32) (h : fn (F := F) B N X G U D = fun _ => 1#1) (b : Fin 288) :
    (B (ix1 b)).toNat < 32 := by
  have both (x y : BitVec 1) : IntOp.andi x y = 1#1 ↔ x = 1#1 ∧ y = 1#1 := by revert x y; decide
  have bit (x : Bool) : BitVec.ofBool x = 1#1 ↔ x = true := by cases x <;> decide
  have at_b := congrFun h (ix1 b)
  simp only [fn, constantI, broadcastInDim, cmpi, andi, both] at at_b
  obtain ⟨lo, hi⟩ := at_b
  change BitVec.ofBool ((0#32).sle (B (ix1 b))) = 1#1 at lo
  change BitVec.ofBool ((B (ix1 b)).sle 31#32) = 1#1 at hi
  rw [bit, BitVec.sle_iff_toInt_le] at lo hi
  have z : (0#32 : BitVec 32).toInt = 0 := by decide
  have t : (31#32 : BitVec 32).toInt = 31 := by decide
  rw [z] at lo
  rw [t] at hi
  have := BitVec.toInt_eq_toNat_cond (B (ix1 b))
  have := (B (ix1 b)).isLt
  split at * <;> omega

theorem named (m : (ℓ : Loc Cert.Kernel3Ideal.nD Cert.Kernel3Ideal.τ Cert.Kernel3Ideal.sig) → Buf (Elt Ideal) ℓ)
    (h : Cert.Pre_Kernel3Ideal m) : Exp.Named m := fun b => word_named _ _ _ _ _ _ (h 0) b

theorem named_bits (m : (ℓ : Loc Cert.Kernel3.nD Cert.Kernel3.τ Cert.Kernel3.sig) → Buf (Elt Bits) ℓ)
    (h : Cert.Pre_Kernel3 m) : ExpBits.Named m := fun b => word_named _ _ _ _ _ _ (h 0) b

end Exp.Pre
end
-- ==== Proof.ExpBitsCfg.lean ====
/-
  The experts' pipeline at the tables of the launch memory: the blocks it fetches, and that the weights of two blocks naming the
  same expert are the same weights.
-/
module

public import proofs.«01_k».proof.Proof.ExpBitsTab
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section
set_option maxRecDepth 16384
noncomputable section
namespace ExpBits
open Idealize.ShloMosaic Idealize.ShloMosaic.TcCoe Idealize.ShloMosaic.Tactic Idealize.SL.Sem Cert.Kernel3 Cert.Kernel3.Gen

variable (m : (ℓ : Loc nD τ sig) → Buf (Elt Bits) ℓ)

theorem weight_index (i : grid0.Coords) :
    cc0_transform_1 k0_off1_inb numel1_S1 (tabs m) i = ![(expert m (blockOf i)).toNat, 0, 0]
      ∧ cc0_transform_2 k0_off1_inb numel1_S1 (tabs m) i = ![(expert m (blockOf i)).toNat, 0, 0]
      ∧ cc0_transform_3 k0_off1_inb numel1_S1 (tabs m) i = ![(expert m (blockOf i)).toNat, 0, 0] := by
  have e : (tabs m 0) ((Rect.unit (s := S288) (k0_off1 i) S1.size (k0_off1_inb i)).emb (Shape.Idx.first (numel1_S1.symm ▸ Nat.one_pos)))
      = expert m (blockOf i) := congrArg (table m) (word_here i _)
  have e' : ![BitVec.toNat ((tabs m 0) ((Rect.unit (s := S288) (k0_off1 i) S1.size (k0_off1_inb i)).emb
      (Shape.Idx.first (numel1_S1.symm ▸ Nat.one_pos)))), 0, 0] = ![(expert m (blockOf i)).toNat, 0, 0] :=
    congrArg (fun v : BitVec 32 => ![v.toNat, 0, 0]) e
  exact ⟨e', e', e'⟩

variable {m} (h : Named m)

include h in
theorem weight_inb (i : grid0.Coords) (n d : ℕ) (a : Fin 3) :
    (![(expert m (blockOf i)).toNat, 0, 0] a + 1) * (Shape.mk 3 ![1, n, d]).size a ≤ (Shape.mk 3 ![32, n, d]).size a := by
  have hb := h (blockOf i)
  match a with
  | 0 => show ((expert m (blockOf i)).toNat + 1) * 1 ≤ 32; omega
  | 1 => show (0 + 1) * n ≤ n; omega
  | 2 => show (0 + 1) * d ≤ d; omega

include h in
/-- Every block the tables name lies inside its array. -/
theorem inside : ok0 (F := Bits) (tabs m) := by
  refine ⟨fun i => ?_, fun i => ?_, fun i => ?_⟩
  · exact ⟨fun a => by rw [(weight_index m i).1]; exact weight_inb h i 1024 512 a, .inl rfl⟩
  · exact ⟨fun a => by rw [(weight_index m i).2.1]; exact weight_inb h i 1024 512 a, .inl rfl⟩
  · exact ⟨fun a => by rw [(weight_index m i).2.2]; exact weight_inb h i 512 1024 a, .inl rfl⟩

/-- The tables, as the pipeline takes them. -/
def named : (pcfg0 (F := Bits)).Adm := ⟨tabs m, inside h⟩

/-- The pipeline at these tables. -/
abbrev pipe : Pipeline.Cfg sig Λ₀ := cfg0 (F := Bits) (named h)
abbrev pipes : Fin 1 → Pipeline.Cfg sig Λ₀ := Pipeline.pin (pcfgs (F := Bits)) fun _ => named h

/-- A point's coordinates. -/
abbrev at_ (t : Fin (pipe h).N) : (pipe h).grid.Coords := (pipe h).grid.coords t

/-- The block of rows of a point. -/
abbrev row (t : Fin (pipe h).N) : Fin 288 := blockOf (at_ h t)

abbrev stg0 (t : Fin (pipe h).N) : Memref sig .tc .vmem S256x1024 .f32 := spec0_0.stage ((pipe h).slots t (0 : Fin 5))
abbrev whole0 (t : Fin (pipe h).N) : (stg0 h t).IsWhole := hstage0_0 (((pipe h).slots t (0 : Fin 5)).cast nbuf0_0)
abbrev stg1 (t : Fin (pipe h).N) : Memref sig .tc .vmem S1x1024x512 .f32 := spec0_1.stage ((pipe h).slots t (1 : Fin 5))
abbrev whole1 (t : Fin (pipe h).N) : (stg1 h t).IsWhole := hstage0_1 (((pipe h).slots t (1 : Fin 5)).cast nbuf0_1)
abbrev stg2 (t : Fin (pipe h).N) : Memref sig .tc .vmem S1x1024x512 .f32 := spec0_2.stage ((pipe h).slots t (2 : Fin 5))
abbrev whole2 (t : Fin (pipe h).N) : (stg2 h t).IsWhole := hstage0_2 (((pipe h).slots t (2 : Fin 5)).cast nbuf0_2)
abbrev stg3 (t : Fin (pipe h).N) : Memref sig .tc .vmem S1x512x1024 .f32 := spec0_3.stage ((pipe h).slots t (3 : Fin 5))
abbrev whole3 (t : Fin (pipe h).N) : (stg3 h t).IsWhole := hstage0_3 (((pipe h).slots t (3 : Fin 5)).cast nbuf0_3)
abbrev stg4 (t : Fin (pipe h).N) : Memref sig .tc .vmem S256x1024 .f32 := spec0_4.stage ((pipe h).slots t (4 : Fin 5))
abbrev whole4 (t : Fin (pipe h).N) : (stg4 h t).IsWhole := hstage0_4 (((pipe h).slots t (4 : Fin 5)).cast nbuf0_4)

/-- A window's block at a point, read off its array as the launch memory holds it. -/
def blk (c : Dev nD) (w : Fin (pipe h).W) (t : Fin (pipe h).N) : (((pipe h).win w).xblock (at_ h t)).Idx → Elt Bits ((pipe h).win w).elt :=
  (((pipe h).win w).blk t).view.read (Elt Bits) (m (((pipe h).win w).arr.view.loc (c : Thread nD τ)))

/-- The points of the grid are the blocks of rows. -/
theorem coord_val : ∀ t : Fin grid0.N, (grid0.coords t 0).val = t.val := by decide +kernel

theorem row_val (t : Fin (pipe h).N) : (row h t).val = t.val := coord_val t

/-- Every point stores its block of the result, so the result's window is idle nowhere, -/
theorem busy (t : Fin (pipe h).N) : (pipe h).idle (4 : Fin 5) ((pipe h).grid.coords t) = false := by
  have e : (tabs m).atD 1 ![0] = live m := (dif_pos (by decide)).trans (congrArg (lives m) (funext fun (a : Fin 1) => match a with | 0 => rfl))
  show (!(k0_cond2 (at_ h t) ((tabs m).atD 1 ![0]) == 1#1) && !(k0_cond3 (at_ h t) ((tabs m).atD 1 ![0]) == 1#1)) = false
  rw [e]
  by_cases hl : Live m (row h t)
  · rw [(live_cond m _).2 hl]; rfl
  · rw [(dead_cond m _).2 hl]; simp

theorem moves : ∀ t : Fin grid0.N, Pipeline.Window.flushOf grid0 true cc0_transform_4 t = true := by decide +kernel

/-- and it is written back at every point. -/
theorem back (t : Fin (pipe h).N) : ((pipe h).win (4 : Fin 5)).flush t = true := moves t

/-! ## The weights of an expert -/

/-- The launch's arrays. -/
abbrev argX (c : Dev nD) : Vec Bits S73728x1024 .f32 := m ((c : Thread nD τ).loc main_arg2)
abbrev argG (c : Dev nD) : Vec Bits S32x1024x512 .f32 := m ((c : Thread nD τ).loc main_arg3)
abbrev argU (c : Dev nD) : Vec Bits S32x1024x512 .f32 := m ((c : Thread nD τ).loc main_arg4)
abbrev argD (c : Dev nD) : Vec Bits S32x512x1024 .f32 := m ((c : Thread nD τ).loc main_arg5)

/-- The expert of a block, as a number below thirty-two. -/
def pick (b : Fin 288) : Fin 32 := ⟨(expert m b).toNat, h b⟩

theorem blk_gate (c : Dev nD) (t : Fin (pipe h).N) (a : Fin 1) (d : Fin 1024) (f : Fin 512) :
    (blk h c 1 t : Vec Bits S1x1024x512 .f32) (ix3 a d f) = argG (m := m) c (ix3 (pick h (row h t)) d f) := by
  have e := (weight_index m (at_ h t)).1
  refine congrArg (argG (m := m) c) (funext fun (x : Fin 3) => Fin.ext ?_)
  match x with
  | 0 =>
    show cc0_transform_1 k0_off1_inb numel1_S1 (tabs m) (at_ h t) 0 * 1 + 1 * a.val = (expert m (row h t)).toNat
    rw [e]; show (expert m (row h t)).toNat * 1 + 1 * a.val = _; omega
  | 1 =>
    show cc0_transform_1 k0_off1_inb numel1_S1 (tabs m) (at_ h t) 1 * 1024 + 1 * d.val = d.val
    rw [e]; show 0 * 1024 + 1 * d.val = _; omega
  | 2 =>
    show cc0_transform_1 k0_off1_inb numel1_S1 (tabs m) (at_ h t) 2 * 512 + 1 * f.val = f.val
    rw [e]; show 0 * 512 + 1 * f.val = _; omega

theorem blk_up (c : Dev nD) (t : Fin (pipe h).N) (a : Fin 1) (d : Fin 1024) (f : Fin 512) :
    (blk h c 2 t : Vec Bits S1x1024x512 .f32) (ix3 a d f) = argU (m := m) c (ix3 (pick h (row h t)) d f) := by
  have e := (weight_index m (at_ h t)).2.1
  refine congrArg (argU (m := m) c) (funext fun (x : Fin 3) => Fin.ext ?_)
  match x with
  | 0 =>
    show cc0_transform_2 k0_off1_inb numel1_S1 (tabs m) (at_ h t) 0 * 1 + 1 * a.val = (expert m (row h t)).toNat
    rw [e]; show (expert m (row h t)).toNat * 1 + 1 * a.val = _; omega
  | 1 =>
    show cc0_transform_2 k0_off1_inb numel1_S1 (tabs m) (at_ h t) 1 * 1024 + 1 * d.val = d.val
    rw [e]; show 0 * 1024 + 1 * d.val = _; omega
  | 2 =>
    show cc0_transform_2 k0_off1_inb numel1_S1 (tabs m) (at_ h t) 2 * 512 + 1 * f.val = f.val
    rw [e]; show 0 * 512 + 1 * f.val = _; omega

theorem blk_down (c : Dev nD) (t : Fin (pipe h).N) (a : Fin 1) (f : Fin 512) (d : Fin 1024) :
    (blk h c 3 t : Vec Bits S1x512x1024 .f32) (ix3 a f d) = argD (m := m) c (ix3 (pick h (row h t)) f d) := by
  have e := (weight_index m (at_ h t)).2.2
  refine congrArg (argD (m := m) c) (funext fun (x : Fin 3) => Fin.ext ?_)
  match x with
  | 0 =>
    show cc0_transform_3 k0_off1_inb numel1_S1 (tabs m) (at_ h t) 0 * 1 + 1 * a.val = (expert m (row h t)).toNat
    rw [e]; show (expert m (row h t)).toNat * 1 + 1 * a.val = _; omega
  | 1 =>
    show cc0_transform_3 k0_off1_inb numel1_S1 (tabs m) (at_ h t) 1 * 512 + 1 * f.val = f.val
    rw [e]; show 0 * 512 + 1 * f.val = _; omega
  | 2 =>
    show cc0_transform_3 k0_off1_inb numel1_S1 (tabs m) (at_ h t) 2 * 1024 + 1 * d.val = d.val
    rw [e]; show 0 * 1024 + 1 * d.val = _; omega

theorem blk_rows (c : Dev nD) (t : Fin (pipe h).N) (r : Fin 256) (d : Fin 1024) :
    (blk h c 0 t : Vec Bits S256x1024 .f32) (ix2 r d) = argX (m := m) c (ix2 ⟨t.val * 256 + r.val, by have : t.val < 288 := t.isLt; omega⟩ d) := by
  refine congrArg (argX (m := m) c) (funext fun (x : Fin 2) => Fin.ext ?_)
  have e : (BitVec.ofNat 32 (grid0.coords t 0).val).toNat = t.val := by
    have : t.val < 288 := t.isLt
    rw [coord_val t, BitVec.toNat_ofNat]; omega
  match x with
  | 0 =>
    show (BitVec.ofNat 32 (grid0.coords t 0).val).toNat * 256 + 1 * r.val = t.val * 256 + r.val
    rw [e]; omega
  | 1 =>
    show 0 * 1024 + 1 * d.val = d.val
    omega

/-- Two points whose blocks name the same expert fetch the same weights. -/
theorem same (c : Dev nD) (t t' : Fin (pipe h).N) (e : expert m (row h t) = expert m (row h t')) :
    (blk h c 1 t : Vec Bits S1x1024x512 .f32) = blk h c 1 t' ∧ (blk h c 2 t : Vec Bits S1x1024x512 .f32) = blk h c 2 t'
      ∧ (blk h c 3 t : Vec Bits S1x512x1024 .f32) = blk h c 3 t' := by
  have p : pick h (row h t) = pick h (row h t') := Fin.ext (by show (expert m (row h t)).toNat = (expert m (row h t')).toNat; rw [e])
  refine ⟨funext fun j => ?_, funext fun j => ?_, funext fun j => ?_⟩
  · rw [eq_ix3 j]; exact ((blk_gate h c t _ _ _).trans (by rw [p])).trans (blk_gate h c t' _ _ _).symm
  · rw [eq_ix3 j]; exact ((blk_up h c t _ _ _).trans (by rw [p])).trans (blk_up h c t' _ _ _).symm
  · rw [eq_ix3 j]; exact ((blk_down h c t _ _ _).trans (by rw [p])).trans (blk_down h c t' _ _ _).symm

end ExpBits
end
-- ==== Proof.ExpBitsRun.lean ====
/-
  What one grid point of the experts leaves: its block of the result, and the three scratch buffers of converted weights.
-/
module

public import proofs.«01_k».proof.Proof.ExpBitsCfg
public import Idealize.ShloMosaic.Lib.VecWindow

@[expose] public section
set_option maxRecDepth 16384
noncomputable section
namespace ExpBits
open Idealize.ShloMosaic Idealize.ShloMosaic.TcCoe Idealize.ShloMosaic.Tactic Idealize.SL.Sem Cert.Kernel3 Cert.Kernel3.Gen

/-! ## Where the weights are fetched anew -/
section fetch
variable (c : Dev nD) (i : grid0.Coords) (arg3 : Memref sig .tc .vmem S256x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S256x1024 .f32) (harg7 : arg7.IsWhole) (T0 : (S288.Idx → Elt Bits .i32)) (T1 : (S1.Idx → Elt Bits .i32))
     (x0 : (S256x1024.Idx → Elt Bits .f32)) (x1 : (S1x1024x512.Idx → Elt Bits .f32)) (x2 : (S1x1024x512.Idx → Elt Bits .f32)) (x3 : (S1x512x1024.Idx → Elt Bits .f32)) (hc0 : (Scalar.cmpi .ne (Scalar.extui (Scalar.andi (Scalar.cmpi .slt (BitVec.ofNat 32 (i 0).val) (View.readAt (Elt Bits) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt Bits) (tbM0_0).view (Rect.unit (s := S288) (k0_off1 i) S1.size (k0_off1_inb i)).toLoadRect T0 (Shape.Idx.first (numel1_S1.symm ▸ Nat.one_pos))) (View.readAt (Elt Bits) (tbM0_0).view (Rect.unit (s := S288) (k0_off2 i) S1.size (k0_off2_inb i)).toLoadRect T0 (Shape.Idx.first (numel1_S1.symm ▸ Nat.one_pos))))))) 0#32) = 1#1) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1))

/-- The gate weights, converted. -/
theorem gateA : scM0_0.view.read (Elt Bits) (kernelRun0_A c i arg3 harg3 arg4 harg4 arg5 harg5 arg6 harg6 arg7 harg7 T0 T1 x0 x1 x2 x3 hc0 k0_h2 k0_h3).2.1 = k0_pay1 x1 := by
  unfold kernelRun0_A
  dsimp only
  sl_unfold_words
  exact (View.read_writes_full _ _ _ _ _).trans (congrArg k0_pay1 (View.readAt_rep_full arg4.view x1 _))

/-- The up weights, converted. -/
theorem upA : scM0_1.view.read (Elt Bits) (kernelRun0_A c i arg3 harg3 arg4 harg4 arg5 harg5 arg6 harg6 arg7 harg7 T0 T1 x0 x1 x2 x3 hc0 k0_h2 k0_h3).2.2.1 = k0_pay2 x2 := by
  unfold kernelRun0_A
  dsimp only
  sl_unfold_words
  exact (View.read_writes_full _ _ _ _ _).trans (congrArg k0_pay2 (View.readAt_rep_full arg5.view x2 _))

/-- The down weights, converted. -/
theorem downA : scM0_2.view.read (Elt Bits) (kernelRun0_A c i arg3 harg3 arg4 harg4 arg5 harg5 arg6 harg6 arg7 harg7 T0 T1 x0 x1 x2 x3 hc0 k0_h2 k0_h3).2.2.2.1 = k0_pay3 x3 := by
  unfold kernelRun0_A
  dsimp only
  sl_unfold_words
  exact (View.read_writes_full _ _ _ _ _).trans (congrArg k0_pay3 (View.readAt_rep_full arg6.view x3 _))

/-- The block of the result. -/
theorem blockA : out0_A_4 c i arg3 harg3 arg4 harg4 arg5 harg5 arg6 harg6 arg7 harg7 T0 T1 x0 x1 x2 x3 hc0 k0_h2 k0_h3
    = k0_pay4 x0 (k0_pay1 x1) (k0_pay2 x2) (k0_pay3 x3) := by
  unfold out0_A_4 kernelRun0_A
  dsimp only
  sl_unfold_words
  unfold View.readCov
  exact (View.read_writes_full _ _ _ _ _).trans (congr (congr (congr (congrArg k0_pay4 (View.readAt_rep_full arg3.view x0 _))
    ((View.readAt_writes_full _ _ _ _ _ _).trans (congrArg k0_pay1 (View.readAt_rep_full arg4.view x1 _))))
    ((View.readAt_writes_full _ _ _ _ _ _).trans (congrArg k0_pay2 (View.readAt_rep_full arg5.view x2 _))))
    ((View.readAt_writes_full _ _ _ _ _ _).trans (congrArg k0_pay3 (View.readAt_rep_full arg6.view x3 _))))

end fetch

/-! ## Where the weights of the point before serve again -/
section keep
variable (c : Dev nD) (i : grid0.Coords) (arg3 : Memref sig .tc .vmem S256x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S256x1024 .f32) (harg7 : arg7.IsWhole) (T0 : (S288.Idx → Elt Bits .i32)) (T1 : (S1.Idx → Elt Bits .i32))
     (x0 : (S256x1024.Idx → Elt Bits .f32)) (x1 : (S1x1024x512.Idx → Elt Bits .f32)) (x2 : (S1x1024x512.Idx → Elt Bits .f32)) (x3 : (S1x512x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.andi (Scalar.cmpi .slt (BitVec.ofNat 32 (i 0).val) (View.readAt (Elt Bits) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt Bits) (tbM0_0).view (Rect.unit (s := S288) (k0_off1 i) S1.size (k0_off1_inb i)).toLoadRect T0 (Shape.Idx.first (numel1_S1.symm ▸ Nat.one_pos))) (View.readAt (Elt Bits) (tbM0_0).view (Rect.unit (s := S288) (k0_off2 i) S1.size (k0_off2_inb i)).toLoadRect T0 (Shape.Idx.first (numel1_S1.symm ▸ Nat.one_pos))))))) 0#32) = 1#1)) (k0_h2 : k0_cond2 i (View.readAt (Elt Bits) (tbM0_1).view (Rect.unit (s := S1) ![0] S1.size inb_S1_S1_0).toLoadRect T1 (Shape.Idx.first (numel1_S1.symm ▸ Nat.one_pos))) = 1#1) (k0_h3 : ¬(k0_cond3 i (View.readAt (Elt Bits) (tbM0_1).view (Rect.unit (s := S1) ![0] S1.size inb_S1_S1_0).toLoadRect T1 (Shape.Idx.first (numel1_S1.symm ▸ Nat.one_pos))) = 1#1))

theorem keptB : (kernelRun0_B c i arg3 harg3 arg4 harg4 arg5 harg5 arg6 harg6 arg7 harg7 T0 T1 x0 x1 x2 x3 xa0 xa1 xa2 hc0 k0_h2 k0_h3).2.1 = xa0 ∧ (kernelRun0_B c i arg3 harg3 arg4 harg4 arg5 harg5 arg6 harg6 arg7 harg7 T0 T1 x0 x1 x2 x3 xa0 xa1 xa2 hc0 k0_h2 k0_h3).2.2.1 = xa1 ∧ (kernelRun0_B c i arg3 harg3 arg4 harg4 arg5 harg5 arg6 harg6 arg7 harg7 T0 T1 x0 x1 x2 x3 xa0 xa1 xa2 hc0 k0_h2 k0_h3).2.2.2.1 = xa2 := by
  unfold kernelRun0_B
  exact ⟨rfl, rfl, rfl⟩

/-- The block of the result. -/
theorem blockB : out0_B_4 c i arg3 harg3 arg4 harg4 arg5 harg5 arg6 harg6 arg7 harg7 T0 T1 x0 x1 x2 x3 xa0 xa1 xa2 hc0 k0_h2 k0_h3
    = k0_pay4 x0 (scM0_0.view.read (Elt Bits) xa0) (scM0_1.view.read (Elt Bits) xa1) (scM0_2.view.read (Elt Bits) xa2) := by
  unfold out0_B_4 kernelRun0_B
  dsimp only
  sl_unfold_words
  exact (View.read_writes_full _ _ _ _ _).trans (congr (congr (congr (congrArg k0_pay4 (View.readAt_rep_full arg3.view x0 _))
    (View.readAt_full _ _ _)) (View.readAt_full _ _ _)) (View.readAt_full _ _ _))

end keep

/-! ## Where the block is not live -/
section dead
variable (c : Dev nD) (i : grid0.Coords) (arg3 : Memref sig .tc .vmem S256x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S256x1024 .f32) (harg7 : arg7.IsWhole) (T0 : (S288.Idx → Elt Bits .i32)) (T1 : (S1.Idx → Elt Bits .i32))
     (x0 : (S256x1024.Idx → Elt Bits .f32)) (x1 : (S1x1024x512.Idx → Elt Bits .f32)) (x2 : (S1x1024x512.Idx → Elt Bits .f32)) (x3 : (S1x512x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.andi (Scalar.cmpi .slt (BitVec.ofNat 32 (i 0).val) (View.readAt (Elt Bits) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt Bits) (tbM0_0).view (Rect.unit (s := S288) (k0_off1 i) S1.size (k0_off1_inb i)).toLoadRect T0 (Shape.Idx.first (numel1_S1.symm ▸ Nat.one_pos))) (View.readAt (Elt Bits) (tbM0_0).view (Rect.unit (s := S288) (k0_off2 i) S1.size (k0_off2_inb i)).toLoadRect T0 (Shape.Idx.first (numel1_S1.symm ▸ Nat.one_pos))))))) 0#32) = 1#1)) (k0_h2 : ¬(k0_cond2 i (View.readAt (Elt Bits) (tbM0_1).view (Rect.unit (s := S1) ![0] S1.size inb_S1_S1_0).toLoadRect T1 (Shape.Idx.first (numel1_S1.symm ▸ Nat.one_pos))) = 1#1)) (k0_h3 : k0_cond3 i (View.readAt (Elt Bits) (tbM0_1).view (Rect.unit (s := S1) ![0] S1.size inb_S1_S1_0).toLoadRect T1 (Shape.Idx.first (numel1_S1.symm ▸ Nat.one_pos))) = 1#1)

theorem keptC : (kernelRun0_C c i arg3 harg3 arg4 harg4 arg5 harg5 arg6 harg6 arg7 harg7 T0 T1 x0 x1 x2 x3 xa0 xa1 xa2 hc0 k0_h2 k0_h3).2.1 = xa0 ∧ (kernelRun0_C c i arg3 harg3 arg4 harg4 arg5 harg5 arg6 harg6 arg7 harg7 T0 T1 x0 x1 x2 x3 xa0 xa1 xa2 hc0 k0_h2 k0_h3).2.2.1 = xa1 ∧ (kernelRun0_C c i arg3 harg3 arg4 harg4 arg5 harg5 arg6 harg6 arg7 harg7 T0 T1 x0 x1 x2 x3 xa0 xa1 xa2 hc0 k0_h2 k0_h3).2.2.2.1 = xa2 := by
  unfold kernelRun0_C
  exact ⟨rfl, rfl, rfl⟩

/-- The block of the result. -/
theorem blockC : out0_C_4 c i arg3 harg3 arg4 harg4 arg5 harg5 arg6 harg6 arg7 harg7 T0 T1 x0 x1 x2 x3 xa0 xa1 xa2 hc0 k0_h2 k0_h3
    = k0_pay5 (F := Bits) := by
  unfold out0_C_4 kernelRun0_C
  dsimp only
  sl_unfold_words
  exact View.read_writes_full _ _ _ _ _

end dead

end ExpBits
end
-- ==== Proof.ExpBitsBody.lean ====
/-
  Every grid point of the experts, and the launch: each point leaves its block of the result as the tables and the arrays say, and the
  scratch buffers hold, after a live block, that block's expert's weights.
-/
module

public import proofs.«01_k».proof.Proof.ExpBitsRun

@[expose] public section
set_option maxRecDepth 16384
set_option Elab.async false
noncomputable section
namespace ExpBits
open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The rounds of the pipeline's cells are all of this proof's own resources. -/
abbrev rounds : Emb (UR sig nD τ) 𝕄 := emb₁

variable (m : (ℓ : Loc nD τ sig) → Buf (Elt Bits) ℓ)

/-! ## The decisions, of the words as the body reads them -/

theorem fetches (i : grid0.Coords) :
    (Scalar.cmpi .ne (Scalar.extui (Scalar.andi (Scalar.cmpi .slt (BitVec.ofNat 32 (i 0).val) (View.readAt (Elt Bits) (tbM0_1).view (Rect.unit (s := S1) ![0] S1.size inb_S1_S1_0).toLoadRect (lives m) (Shape.Idx.first (numel1_S1.symm ▸ Nat.one_pos)))) (Scalar.ori (Scalar.cmpi .eq (BitVec.ofNat 32 (i 0).val) 0#32) (Scalar.cmpi .ne (View.readAt (Elt Bits) (tbM0_0).view (Rect.unit (s := S288) (k0_off1 i) S1.size (k0_off1_inb i)).toLoadRect (table m) (Shape.Idx.first (numel1_S1.symm ▸ Nat.one_pos))) (View.readAt (Elt Bits) (tbM0_0).view (Rect.unit (s := S288) (k0_off2 i) S1.size (k0_off2_inb i)).toLoadRect (table m) (Shape.Idx.first (numel1_S1.symm ▸ Nat.one_pos))))))) 0#32) = 1#1
      ↔ Live m (blockOf i) ∧ Anew m (blockOf i) := by
  rw [load_live, load_here, load_before]
  exact anew_cond m i _ _ rfl rfl

theorem lives_at (i : grid0.Coords) :
    k0_cond2 i (View.readAt (Elt Bits) (tbM0_1).view (Rect.unit (s := S1) ![0] S1.size inb_S1_S1_0).toLoadRect (lives m) (Shape.Idx.first (numel1_S1.symm ▸ Nat.one_pos))) = 1#1 ↔ Live m (blockOf i) := by
  rw [load_live]; exact live_cond m i

theorem dead_at (i : grid0.Coords) :
    k0_cond3 i (View.readAt (Elt Bits) (tbM0_1).view (Rect.unit (s := S1) ![0] S1.size inb_S1_S1_0).toLoadRect (lives m) (Shape.Idx.first (numel1_S1.symm ▸ Nat.one_pos))) = 1#1 ↔ ¬ Live m (blockOf i) := by
  rw [load_live]; exact dead_cond m i

variable {m} (h : Named m)

/-! ## What the pipeline leaves -/

/-- The block of the result that point `t` leaves. -/
def left (c : Dev nD) (t : Fin (pipe h).N) : S256x1024.Idx → Elt Bits .f32 :=
  if Live m (row h t) then k0_pay4 (blk h c 0 t) (k0_pay1 (blk h c 1 t)) (k0_pay2 (blk h c 2 t)) (k0_pay3 (blk h c 3 t)) else k0_pay5 (F := Bits)

/-- The scratch buffers hold the weights of the block before position `n`, if that block is live. -/
def Holds (c : Dev nD) (n : ℕ) (a0 : Buf (Elt Bits) ((c : Thread nD τ).loc cc0_scratch0)) (a1 : Buf (Elt Bits) ((c : Thread nD τ).loc cc0_scratch1))
    (a2 : Buf (Elt Bits) ((c : Thread nD τ).loc cc0_scratch2)) : Prop :=
  ∀ t : Fin (pipe h).N, t.val + 1 = n → Live m (row h t) →
    scM0_0.view.read (Elt Bits) a0 = k0_pay1 (blk h c 1 t) ∧ scM0_1.view.read (Elt Bits) a1 = k0_pay2 (blk h c 2 t)
      ∧ scM0_2.view.read (Elt Bits) a2 = k0_pay3 (blk h c 3 t)

/-- The invariant before position `n`: the scratch buffers as `Holds` says, and the body's halves of the tables. -/
def Inv (c : Dev nD) (n : ℕ) : sProp 𝕄 :=
  iprop(∃ a0 a1 a2, ⌜Holds h c n a0 a1 a2⌝ ∗ (scM0_0.view.loc (c : Thread nD τ) ↦{fullShare} a0) ∗ (scM0_1.view.loc (c : Thread nD τ) ↦{fullShare} a1)
    ∗ (scM0_2.view.loc (c : Thread nD τ) ↦{fullShare} a2)
    ∗ (tbM0_0.view.loc (c : Thread nD τ) ↦{fullShare.right} table m) ∗ (tbM0_1.view.loc (c : Thread nD τ) ↦{fullShare.right} lives m))

/-- The proof data of the pipeline on core `c`. -/
def data (_ : Fin 1) (c : Dev nD) : Dat τ (Elt Bits) Unit ℕ (UR sig nD τ) ℕ (pipe h) c where
  A w := m (((pipe h).win w).arr.view.loc (c : Thread nD τ))
  after w t := match w with
    | ⟨0, _⟩ => blk h c (0 : Fin 5) t
    | ⟨1, _⟩ => blk h c (1 : Fin 5) t
    | ⟨2, _⟩ => blk h c (2 : Fin 5) t
    | ⟨3, _⟩ => blk h c (3 : Fin 5) t
    | ⟨4, _⟩ => left h c t
  Φ t := Inv h c t.val
  q _ := fullShare
  owed _ := 0

theorem after_0 (c : Dev nD) (t : Fin (pipe h).N) : (data h 0 c).after (0 : Fin 5) t = blk h c (0 : Fin 5) t := rfl
theorem after_1 (c : Dev nD) (t : Fin (pipe h).N) : (data h 0 c).after (1 : Fin 5) t = blk h c (1 : Fin 5) t := rfl
theorem after_2 (c : Dev nD) (t : Fin (pipe h).N) : (data h 0 c).after (2 : Fin 5) t = blk h c (2 : Fin 5) t := rfl
theorem after_3 (c : Dev nD) (t : Fin (pipe h).N) : (data h 0 c).after (3 : Fin 5) t = blk h c (3 : Fin 5) t := rfl
theorem after_4 (c : Dev nD) (t : Fin (pipe h).N) : (data h 0 c).after (4 : Fin 5) t = left h c t := rfl

/-- Window 0 holds its block when the body runs. -/
theorem held_0 (c : Dev nD) (t : Fin (pipe h).N) (d) : (data h 0 c).before (0 : Fin 5) t d = blk h c (0 : Fin 5) t :=
  ((data h 0 c).before_in_eq_fetched (0 : Fin 5) rfl (fun _ => rfl) (fun _ _ _ => rfl) (fun t => by rw [after_0]; unfold Dat.blockOf blk; rfl) t d).trans
    (by unfold Dat.fetched Dat.blockOf blk; rfl)

/-- Window 1 holds its block when the body runs. -/
theorem held_1 (c : Dev nD) (t : Fin (pipe h).N) (d) : (data h 0 c).before (1 : Fin 5) t d = blk h c (1 : Fin 5) t :=
  ((data h 0 c).before_in_eq_fetched (1 : Fin 5) rfl (fun _ => rfl) (fun _ _ _ => rfl) (fun t => by rw [after_1]; unfold Dat.blockOf blk; rfl) t d).trans
    (by unfold Dat.fetched Dat.blockOf blk; rfl)

/-- Window 2 holds its block when the body runs. -/
theorem held_2 (c : Dev nD) (t : Fin (pipe h).N) (d) : (data h 0 c).before (2 : Fin 5) t d = blk h c (2 : Fin 5) t :=
  ((data h 0 c).before_in_eq_fetched (2 : Fin 5) rfl (fun _ => rfl) (fun _ _ _ => rfl) (fun t => by rw [after_2]; unfold Dat.blockOf blk; rfl) t d).trans
    (by unfold Dat.fetched Dat.blockOf blk; rfl)

/-- Window 3 holds its block when the body runs. -/
theorem held_3 (c : Dev nD) (t : Fin (pipe h).N) (d) : (data h 0 c).before (3 : Fin 5) t d = blk h c (3 : Fin 5) t :=
  ((data h 0 c).before_in_eq_fetched (3 : Fin 5) rfl (fun _ => rfl) (fun _ _ _ => rfl) (fun t => by rw [after_3]; unfold Dat.blockOf blk; rfl) t d).trans
    (by unfold Dat.fetched Dat.blockOf blk; rfl)

/-! ## One point -/

/-- The body at point `t`, on its staging buffers. -/
abbrev bodyOf (t : Fin (pipe h).N) : Prog (TpuEff nD τ sig (Elt Bits) Λ₀ .tc) PUnit :=
  cc0_experts (at_ h t) (Memref.whole main_arg0) (Memref.isWhole_whole _) (Memref.whole main_arg1) (Memref.isWhole_whole _) (stg0 h t) (whole0 h t) (stg1 h t) (whole1 h t) (stg2 h t) (whole2 h t) (stg3 h t) (whole3 h t) (stg4 h t) (whole4 h t) (Memref.whole cc0_scratch0) (Memref.isWhole_whole _) (Memref.whole cc0_scratch1) (Memref.isWhole_whole _) (Memref.whole cc0_scratch2) (Memref.isWhole_whole _)

/-- What the body gets of the pipeline at point `t`. -/
def Pre (c : Dev nD) (t : Fin (pipe h).N) : sProp 𝕄 :=
  iprop((owns (c : Thread nD τ) (stg0 h t) fullShare (blk h c (0 : Fin 5) t))
    ∗ (owns (c : Thread nD τ) (stg1 h t) fullShare (blk h c (1 : Fin 5) t))
    ∗ (owns (c : Thread nD τ) (stg2 h t) fullShare (blk h c (2 : Fin 5) t))
    ∗ (owns (c : Thread nD τ) (stg3 h t) fullShare (blk h c (3 : Fin 5) t))
    ∗ (∃ d, owns (c : Thread nD τ) (stg4 h t) fullShare d))

/-- What it gives back. -/
def Post (c : Dev nD) (t : Fin (pipe h).N) : sProp 𝕄 :=
  iprop((owns (c : Thread nD τ) (stg0 h t) fullShare (blk h c (0 : Fin 5) t))
    ∗ (owns (c : Thread nD τ) (stg1 h t) fullShare (blk h c (1 : Fin 5) t))
    ∗ (owns (c : Thread nD τ) (stg2 h t) fullShare (blk h c (2 : Fin 5) t))
    ∗ (owns (c : Thread nD τ) (stg3 h t) fullShare (blk h c (3 : Fin 5) t))
    ∗ (owns (c : Thread nD τ) (stg4 h t) fullShare (left h c t)))

set_option maxHeartbeats 4000000 in
theorem pointA (R : sProp 𝕄) (c : Dev nD) (t : Fin (pipe h).N) (hl : Live m (row h t)) (ha : Anew m (row h t)) :
    iprop(Inv h c t.val ∗ R ∗ Pre h c t) ⊢ wp frame (wpE (defs₀ (F := Bits)) Variants.none c none) Set.univ (bodyOf h t) fun _ => iprop(Inv h c (t.val + 1) ∗ R ∗ Post h c t) := by
  have hc0 := (fetches m (at_ h t)).2 ⟨hl, ha⟩
  have hc2 := (lives_at m (at_ h t)).2 hl
  have hc3 := fun e => (dead_at m (at_ h t)).1 e hl
  unfold Pre Post Inv
  iintro ⟨⟨%a0, %a1, %a2, %ha, HS0, HS1, HS2, HT0, HT1⟩, Ho, H0, H1, H2, H3, ⟨%d4, H4⟩⟩
  iapply ((kernelRun0_A c (at_ h t) (stg0 h t) (whole0 h t) (stg1 h t) (whole1 h t) (stg2 h t) (whole2 h t) (stg3 h t) (whole3 h t) (stg4 h t) (whole4 h t) (table m) (lives m) (blk h c (0 : Fin 5) t) (blk h c (1 : Fin 5) t) (blk h c (2 : Fin 5) t) (blk h c (3 : Fin 5) t) hc0 hc2 hc3).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, ⟨%e4, H4⟩, HS0, HS1, HS2⟩
  isplitl [HS0 HS1 HS2 HT0 HT1]
  · iexists _; iexists _; iexists _
    isplitr; swap
    · isplitl [HS0]; · iexact HS0
      isplitl [HS1]; · iexact HS1
      isplitl [HS2]; · iexact HS2
      isplitl [HT0]; · iexact HT0
      iexact HT1
    ipureintro
    intro t' ht' hl'
    have e : t' = t := Fin.ext (by omega)
    subst e
    exact ⟨gateA _ _ _ _ _ _ _ _ _ _ _ _ _ _ _ _ _ _ _ _ _, upA _ _ _ _ _ _ _ _ _ _ _ _ _ _ _ _ _ _ _ _ _, downA _ _ _ _ _ _ _ _ _ _ _ _ _ _ _ _ _ _ _ _ _⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns
  iexists _
  isplitr; swap
  · iexact H4
  ipureintro
  refine (View.read_writes_of_cover _ _ VO0_4 VO0_4.junk _ (cover0_A_4 c _ _ _ _ _ _ _ _ _ _ _ _ _ _ _ _ _ _ _ _)).trans ?_
  refine (blockA _ _ _ _ _ _ _ _ _ _ _ _ _ _ _ _ _ _ _ _ _).trans ?_
  unfold left; rw [if_pos hl]

/-- The point before, of a point that is not the first. -/
def prior (t : Fin (pipe h).N) : Fin (pipe h).N := ⟨t.val - 1, by omega⟩

/-- Where nothing is fetched anew, the scratch buffers hold the block's own expert's weights already. -/
theorem again (c : Dev nD) (t : Fin (pipe h).N) (hl : Live m (row h t)) (hn : ¬ Anew m (row h t)) {a0 : Buf (Elt Bits) ((c : Thread nD τ).loc cc0_scratch0)}
    {a1 : Buf (Elt Bits) ((c : Thread nD τ).loc cc0_scratch1)} {a2 : Buf (Elt Bits) ((c : Thread nD τ).loc cc0_scratch2)} (ha : Holds h c t.val a0 a1 a2) :
    scM0_0.view.read (Elt Bits) a0 = k0_pay1 (blk h c 1 t) ∧ scM0_1.view.read (Elt Bits) a1 = k0_pay2 (blk h c 2 t)
      ∧ scM0_2.view.read (Elt Bits) a2 = k0_pay3 (blk h c 3 t) := by
  have hz : t.val ≠ 0 := fun e => hn (.inl ((row_val h t).trans e))
  have hb : row h (prior h t) = before (row h t) := Fin.ext (by
    show (row h (prior h t)).val = (row h t).val - 1
    rw [row_val, row_val]; rfl)
  have he : expert m (row h t) = expert m (row h (prior h t)) := by
    rw [hb]; exact Classical.not_not.1 fun e => hn (.inr e)
  have hl' : Live m (row h (prior h t)) := Live.of_le m hl (by rw [row_val, row_val]; show t.val - 1 ≤ t.val; omega)
  have hh := ha (prior h t) (by show t.val - 1 + 1 = t.val; omega) hl'
  have hs := same h c t (prior h t) he
  rw [hh.1, hh.2.1, hh.2.2]
  exact ⟨congrArg k0_pay1 hs.1.symm, congrArg k0_pay2 hs.2.1.symm, congrArg k0_pay3 hs.2.2.symm⟩

set_option maxHeartbeats 4000000 in
theorem pointB (R : sProp 𝕄) (c : Dev nD) (t : Fin (pipe h).N) (hl : Live m (row h t)) (hn : ¬ Anew m (row h t)) :
    iprop(Inv h c t.val ∗ R ∗ Pre h c t) ⊢ wp frame (wpE (defs₀ (F := Bits)) Variants.none c none) Set.univ (bodyOf h t) fun _ => iprop(Inv h c (t.val + 1) ∗ R ∗ Post h c t) := by
  have hc0 := fun e => hn ((fetches m (at_ h t)).1 e).2
  have hc2 := (lives_at m (at_ h t)).2 hl
  have hc3 := fun e => (dead_at m (at_ h t)).1 e hl
  unfold Pre Post Inv
  iintro ⟨⟨%a0, %a1, %a2, %ha, HS0, HS1, HS2, HT0, HT1⟩, Ho, H0, H1, H2, H3, ⟨%d4, H4⟩⟩
  iapply ((kernelRun0_B c (at_ h t) (stg0 h t) (whole0 h t) (stg1 h t) (whole1 h t) (stg2 h t) (whole2 h t) (stg3 h t) (whole3 h t) (stg4 h t) (whole4 h t) (table m) (lives m) (blk h c (0 : Fin 5) t) (blk h c (1 : Fin 5) t) (blk h c (2 : Fin 5) t) (blk h c (3 : Fin 5) t) a0 a1 a2 hc0 hc2 hc3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, ⟨%e4, H4⟩, HS0, HS1, HS2⟩
  isplitl [HS0 HS1 HS2 HT0 HT1]
  · iexists _; iexists _; iexists _
    isplitr; swap
    · isplitl [HS0]; · iexact HS0
      isplitl [HS1]; · iexact HS1
      isplitl [HS2]; · iexact HS2
      isplitl [HT0]; · iexact HT0
      iexact HT1
    ipureintro
    intro t' ht' hl'
    have e : t' = t := Fin.ext (by omega)
    subst e
    have kp := keptB c (at_ h t') (stg0 h t') (whole0 h t') (stg1 h t') (whole1 h t') (stg2 h t') (whole2 h t') (stg3 h t') (whole3 h t') (stg4 h t') (whole4 h t') (table m) (lives m) (blk h c (0 : Fin 5) t') (blk h c (1 : Fin 5) t') (blk h c (2 : Fin 5) t') (blk h c (3 : Fin 5) t') a0 a1 a2 hc0 hc2 hc3
    have ag := again h c t' hl hn ha
    exact ⟨(congrArg (scM0_0.view.read (Elt Bits)) kp.1).trans ag.1, (congrArg (scM0_1.view.read (Elt Bits)) kp.2.1).trans ag.2.1, (congrArg (scM0_2.view.read (Elt Bits)) kp.2.2).trans ag.2.2⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns
  iexists _
  isplitr; swap
  · iexact H4
  ipureintro
  refine (View.read_writes_of_cover _ _ VO0_4 VO0_4.junk _ (cover0_B_4 c _ _ _ _ _ _ _ _ _ _ _ _ _ _ _ _ _ _ _ _ _ _ _)).trans ?_
  refine (blockB _ _ _ _ _ _ _ _ _ _ _ _ _ _ _ _ _ _ _ _ _ _ _ _).trans ?_
  have ag := again h c t hl hn ha
  unfold left; rw [if_pos hl, ag.1, ag.2.1, ag.2.2]

set_option maxHeartbeats 4000000 in
theorem pointC (R : sProp 𝕄) (c : Dev nD) (t : Fin (pipe h).N) (hl : ¬ Live m (row h t)) :
    iprop(Inv h c t.val ∗ R ∗ Pre h c t) ⊢ wp frame (wpE (defs₀ (F := Bits)) Variants.none c none) Set.univ (bodyOf h t) fun _ => iprop(Inv h c (t.val + 1) ∗ R ∗ Post h c t) := by
  have hc0 := fun e => hl ((fetches m (at_ h t)).1 e).1
  have hc2 := fun e => hl ((lives_at m (at_ h t)).1 e)
  have hc3 := (dead_at m (at_ h t)).2 hl
  unfold Pre Post Inv
  iintro ⟨⟨%a0, %a1, %a2, %ha, HS0, HS1, HS2, HT0, HT1⟩, Ho, H0, H1, H2, H3, ⟨%d4, H4⟩⟩
  iapply ((kernelRun0_C c (at_ h t) (stg0 h t) (whole0 h t) (stg1 h t) (whole1 h t) (stg2 h t) (whole2 h t) (stg3 h t) (whole3 h t) (stg4 h t) (whole4 h t) (table m) (lives m) (blk h c (0 : Fin 5) t) (blk h c (1 : Fin 5) t) (blk h c (2 : Fin 5) t) (blk h c (3 : Fin 5) t) a0 a1 a2 hc0 hc2 hc3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, ⟨%e4, H4⟩, HS0, HS1, HS2⟩
  isplitl [HS0 HS1 HS2 HT0 HT1]
  · iexists _; iexists _; iexists _
    isplitr; swap
    · isplitl [HS0]; · iexact HS0
      isplitl [HS1]; · iexact HS1
      isplitl [HS2]; · iexact HS2
      isplitl [HT0]; · iexact HT0
      iexact HT1
    ipureintro
    intro t' ht' hl'
    have e : t' = t := Fin.ext (by omega)
    subst e
    exact absurd hl' hl
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns
  iexists _
  isplitr; swap
  · iexact H4
  ipureintro
  refine (View.read_writes_of_cover _ _ VO0_4 VO0_4.junk _ (cover0_C_4 c _ _ _ _ _ _ _ _ _ _ _ _ _ _ _ _ _ _ _ _ _ _ _)).trans ?_
  refine (blockC _ _ _ _ _ _ _ _ _ _ _ _ _ _ _ _ _ _ _ _ _ _ _ _).trans ?_
  unfold left; rw [if_neg hl]

/-- Every point, whatever its case. -/
theorem point (R : sProp 𝕄) (c : Dev nD) (t : Fin (pipe h).N) :
    iprop(Inv h c t.val ∗ R ∗ Pre h c t) ⊢ wp frame (wpE (defs₀ (F := Bits)) Variants.none c none) Set.univ (bodyOf h t) fun _ => iprop(Inv h c (t.val + 1) ∗ R ∗ Post h c t) := by
  by_cases hl : Live m (row h t)
  · by_cases ha : Anew m (row h t)
    · exact pointA h R c t hl ha
    · exact pointB h R c t hl ha
  · exact pointC h R c t hl

end ExpBits
end
-- ==== Proof.ExpBitsLaunch.lean ====
/-
  The launch of the experts: from any memory whose table names experts, every execution ends, the arguments unchanged, and the result array
  holds, block by block, what the points leave.
-/
module

public import proofs.«01_k».proof.Proof.ExpBitsBody
public import Idealize.ShloMosaic.Lib.Pipeline.ValueKit.Geometry

@[expose] public section
set_option maxRecDepth 16384
set_option Elab.async false
noncomputable section
namespace ExpBits
open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable {m : (ℓ : Loc nD τ sig) → Buf (Elt Bits) ℓ} (h : Named m) (ρ : Dev nD → PrngReg)

theorem obligation (c : Dev nD) : BodyObligation (data h 0 c) (defs₀ (F := Bits)) Variants.none () Set.univ := fun t => by
  rw [bigSep_W0, bigSep_W0, busy h t]
  simp only [held_0, held_1, held_2, held_3]
  rewrite [show (data h 0 c).Φ t.castSucc = Inv h c t.val from rfl]
  show _ ⊢ wp frame (wpE (defs₀ (F := Bits)) Variants.none c none) Set.univ (bodyOf h t) fun _ =>
    iprop(Inv h c (t.val + 1) ∗ (data h 0 c).owesAt () t.castSucc ∗ Post h c t)
  iintro ⟨HI, Ho, ⟨%d0, H0⟩, ⟨%d1, H1⟩, ⟨%d2, H2⟩, ⟨%d3, H3⟩, ⟨%d4, H4⟩⟩
  iapply (point h ((data h 0 c).owesAt () t.castSucc) c t)
  isplitl [HI]; · iexact HI
  isplitl [Ho]; · iexact Ho
  unfold Pre
  isplitl [H0]; · iexact H0
  isplitl [H1]; · iexact H1
  isplitl [H2]; · iexact H2
  isplitl [H3]; · iexact H3
  iexists _; iexact H4

/-- The pipeline's resources at launch. -/
def stock : UR sig nD τ :=
  initOf (Pipeline.cells (pipes h) ((launch0 (F := Bits)).cellOf_inj fun _ => named h))
    (Pipeline.launchToks (pipes h) ((launch0 (F := Bits)).cellOf_inj fun _ => named h))

theorem all_share (c : Dev nD) (w : Fin (pipe h).W) : (data h 0 c).share w = fullShare := by unfold Dat.share; split <;> rfl

theorem held_tables (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem enter (c : Dev nD) :
    iprop(BI.emp ∗ Pipeline.prefHeld pre0 c (fun _ => fullShare.right) (named h).1 ∗ Pipeline.scopedRest spec0 c) ⊢ (data h 0 c).Φ 0 := by
  rw [held_tables, scopedRest0_eq, show (data h 0 c).Φ 0 = Inv h c 0 from rfl]
  unfold Inv
  iintro ⟨-, ⟨HT0, HT1⟩, ⟨%a0, HS0⟩, ⟨%a1, HS1⟩, ⟨%a2, HS2⟩⟩
  iexists a0; iexists a1; iexists a2
  isplitr
  · ipureintro; intro t ht; exact absurd ht (Nat.succ_ne_zero _)
  isplitl [HS0]; · iexact HS0
  isplitl [HS1]; · iexact HS1
  isplitl [HS2]; · iexact HS2
  isplitl [HT0]; · iexact HT0
  iexact HT1

theorem leave (c : Dev nD) : (data h 0 c).Φ (Fin.last (pipe h).N) ⊢ iprop(BI.emp ∗ Pipeline.scopedRest spec0 c) := by
  rw [scopedRest0_eq, show (data h 0 c).Φ (Fin.last (pipe h).N) = Inv h c (pipe h).N from rfl]
  unfold Inv
  iintro ⟨%a0, %a1, %a2, -, HS0, HS1, HS2, -, -⟩
  isplitr; · iempintro
  isplitl [HS0]; · iexists a0; iexact HS0
  isplitl [HS1]; · iexists a1; iexact HS1
  iexists a2; iexact HS2

/-- Every array at what the pipeline computes, the tables as they were. -/
def Done : PUnit × MemSt nD τ sig (Elt Bits) → Prop := fun r =>
  ∀ c : Dev nD, (∀ w : Fin (pipe h).W, r.2.mem (((pipe h).win w).arr.view.loc (c : Thread nD τ)) = (data h 0 c).arrAt w (pipe h).N)
    ∧ ∀ j, r.2.mem ((c : Thread nD τ).loc (pre0.ref j)) = (named h).1 j

theorem one_device (c : Dev nD) : c = 0 := Fin.ext (by have : c.val < 1 := c.isLt; show c.val = 0; omega)

theorem tables_here (c : Dev nD) (j : Fin 2) : m ((c : Thread nD τ).loc (pre0.ref j)) = (named h).1 j := by
  rw [one_device c]; rfl

set_option backward.isDefEq.respectTransparency.types false in
set_option maxHeartbeats 4000000 in
theorem runs : θ_run (defs (F := Bits)) (onTc (τ := τ) (main (F := Bits))) ⟨m, fun _ => 0, ρ⟩ (fun r => Done h r ∧ r.2.sem = fun _ => 0) :=
  Pipeline.θ_run_region_noSem_pf_quiescent pcfgs (fun _ => named h) (data h) () ((launch0 (F := Bits)).cellOf_inj fun _ => named h) (0 : Fin 1)
    (launch0 (F := Bits)).win.to₀ (launch0 (F := Bits)).pre rounds defs₀ Variants.none m ρ main
    (hbody := fun c => (obligation h c).loose) (hne := (launch0 (F := Bits)).block_pos)
    (harr := (launch0 (F := Bits)).arr_whole) (hstage := (launch0 (F := Bits)).stage_whole) (howed := fun _ _ => rfl)
    (u₀ := stock h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes h) (data h) 0 (launch0 (F := Bits)).win.arr_inj c (launch0 (F := Bits)).arr_whole
      (all_share h c) _ _ fun _ => rfl)
    (hpf := tables_here h)
    (X := fun _ => iprop(emp)) (Y := fun _ => iprop(emp)) (Z := fun _ => iprop(emp))
    (hX := fun c => by rw [unscopedRestP0_eq]; iintro -; isplitr <;> iempintro)
    (hin := enter h)
    (hout := leave h)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include h in
/-- Every execution ends, the arguments unchanged and every counter at zero. -/
theorem unchanged :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ e => ⟨fun c => ⟨((e.1 c).2 0).trans (tables_here h c 0).symm, ((e.1 c).2 1).trans (tables_here h c 1).symm,
    ((e.1 c).1 (0 : Fin 5)).trans ((data h 0 c).arrAt_in (0 : Fin 5) rfl _), ((e.1 c).1 (1 : Fin 5)).trans ((data h 0 c).arrAt_in (1 : Fin 5) rfl _),
    ((e.1 c).1 (2 : Fin 5)).trans ((data h 0 c).arrAt_in (2 : Fin 5) rfl _), ((e.1 c).1 (3 : Fin 5)).trans ((data h 0 c).arrAt_in (3 : Fin 5) rfl _)⟩, e.2⟩)
    (runs h ρ)

end ExpBits
end
-- ==== Proof.ExpCfg.lean ====
/-
  The experts' pipeline at the tables of the launch memory: the blocks it fetches, and that the weights of two blocks naming the
  same expert are the same weights.
-/
module

public import proofs.«01_k».proof.Proof.ExpTab
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section
set_option maxRecDepth 16384
noncomputable section
namespace Exp
open Idealize.ShloMosaic Idealize.ShloMosaic.TcCoe Idealize.ShloMosaic.Tactic Idealize.SL.Sem Cert.Kernel3Ideal Cert.Kernel3Ideal.Gen

variable (m : (ℓ : Loc nD τ sig) → Buf (Elt Ideal) ℓ)

theorem weight_index (i : grid0.Coords) :
    cc0_transform_1 k0_off1_inb numel1_S1 (tabs m) i = ![(expert m (blockOf i)).toNat, 0, 0]
      ∧ cc0_transform_2 k0_off1_inb numel1_S1 (tabs m) i = ![(expert m (blockOf i)).toNat, 0, 0]
      ∧ cc0_transform_3 k0_off1_inb numel1_S1 (tabs m) i = ![(expert m (blockOf i)).toNat, 0, 0] := by
  have e : (tabs m 0) ((Rect.unit (s := S288) (k0_off1 i) S1.size (k0_off1_inb i)).emb (Shape.Idx.first (numel1_S1.symm ▸ Nat.one_pos)))
      = expert m (blockOf i) := congrArg (table m) (word_here i _)
  have e' : ![BitVec.toNat ((tabs m 0) ((Rect.unit (s := S288) (k0_off1 i) S1.size (k0_off1_inb i)).emb
      (Shape.Idx.first (numel1_S1.symm ▸ Nat.one_pos)))), 0, 0] = ![(expert m (blockOf i)).toNat, 0, 0] :=
    congrArg (fun v : BitVec 32 => ![v.toNat, 0, 0]) e
  exact ⟨e', e', e'⟩

variable {m} (h : Named m)

include h in
theorem weight_inb (i : grid0.Coords) (n d : ℕ) (a : Fin 3) :
    (![(expert m (blockOf i)).toNat, 0, 0] a + 1) * (Shape.mk 3 ![1, n, d]).size a ≤ (Shape.mk 3 ![32, n, d]).size a := by
  have hb := h (blockOf i)
  match a with
  | 0 => show ((expert m (blockOf i)).toNat + 1) * 1 ≤ 32; omega
  | 1 => show (0 + 1) * n ≤ n; omega
  | 2 => show (0 + 1) * d ≤ d; omega

include h in
/-- Every block the tables name lies inside its array. -/
theorem inside : ok0 (F := Ideal) (tabs m) := by
  refine ⟨fun i => ?_, fun i => ?_, fun i => ?_⟩
  · exact ⟨fun a => by rw [(weight_index m i).1]; exact weight_inb h i 1024 512 a, .inl rfl⟩
  · exact ⟨fun a => by rw [(weight_index m i).2.1]; exact weight_inb h i 1024 512 a, .inl rfl⟩
  · exact ⟨fun a => by rw [(weight_index m i).2.2]; exact weight_inb h i 512 1024 a, .inl rfl⟩

/-- The tables, as the pipeline takes them. -/
def named : (pcfg0 (F := Ideal)).Adm := ⟨tabs m, inside h⟩

/-- The pipeline at these tables. -/
abbrev pipe : Pipeline.Cfg sig Λ₀ := cfg0 (F := Ideal) (named h)
abbrev pipes : Fin 1 → Pipeline.Cfg sig Λ₀ := Pipeline.pin (pcfgs (F := Ideal)) fun _ => named h

/-- A point's coordinates. -/
abbrev at_ (t : Fin (pipe h).N) : (pipe h).grid.Coords := (pipe h).grid.coords t

/-- The block of rows of a point. -/
abbrev row (t : Fin (pipe h).N) : Fin 288 := blockOf (at_ h t)

abbrev stg0 (t : Fin (pipe h).N) : Memref sig .tc .vmem S256x1024 .f32 := spec0_0.stage ((pipe h).slots t (0 : Fin 5))
abbrev whole0 (t : Fin (pipe h).N) : (stg0 h t).IsWhole := hstage0_0 (((pipe h).slots t (0 : Fin 5)).cast nbuf0_0)
abbrev stg1 (t : Fin (pipe h).N) : Memref sig .tc .vmem S1x1024x512 .f32 := spec0_1.stage ((pipe h).slots t (1 : Fin 5))
abbrev whole1 (t : Fin (pipe h).N) : (stg1 h t).IsWhole := hstage0_1 (((pipe h).slots t (1 : Fin 5)).cast nbuf0_1)
abbrev stg2 (t : Fin (pipe h).N) : Memref sig .tc .vmem S1x1024x512 .f32 := spec0_2.stage ((pipe h).slots t (2 : Fin 5))
abbrev whole2 (t : Fin (pipe h).N) : (stg2 h t).IsWhole := hstage0_2 (((pipe h).slots t (2 : Fin 5)).cast nbuf0_2)
abbrev stg3 (t : Fin (pipe h).N) : Memref sig .tc .vmem S1x512x1024 .f32 := spec0_3.stage ((pipe h).slots t (3 : Fin 5))
abbrev whole3 (t : Fin (pipe h).N) : (stg3 h t).IsWhole := hstage0_3 (((pipe h).slots t (3 : Fin 5)).cast nbuf0_3)
abbrev stg4 (t : Fin (pipe h).N) : Memref sig .tc .vmem S256x1024 .f32 := spec0_4.stage ((pipe h).slots t (4 : Fin 5))
abbrev whole4 (t : Fin (pipe h).N) : (stg4 h t).IsWhole := hstage0_4 (((pipe h).slots t (4 : Fin 5)).cast nbuf0_4)

/-- A window's block at a point, read off its array as the launch memory holds it. -/
def blk (c : Dev nD) (w : Fin (pipe h).W) (t : Fin (pipe h).N) : (((pipe h).win w).xblock (at_ h t)).Idx → Elt Ideal ((pipe h).win w).elt :=
  (((pipe h).win w).blk t).view.read (Elt Ideal) (m (((pipe h).win w).arr.view.loc (c : Thread nD τ)))

/-- The points of the grid are the blocks of rows. -/
theorem coord_val : ∀ t : Fin grid0.N, (grid0.coords t 0).val = t.val := by decide +kernel

theorem row_val (t : Fin (pipe h).N) : (row h t).val = t.val := coord_val t

/-- Every point stores its block of the result, so the result's window is idle nowhere, -/
theorem busy (t : Fin (pipe h).N) : (pipe h).idle (4 : Fin 5) ((pipe h).grid.coords t) = false := by
  have e : (tabs m).atD 1 ![0] = live m := (dif_pos (by decide)).trans (congrArg (lives m) (funext fun (a : Fin 1) => match a with | 0 => rfl))
  show (!(k0_cond2 (at_ h t) ((tabs m).atD 1 ![0]) == 1#1) && !(k0_cond3 (at_ h t) ((tabs m).atD 1 ![0]) == 1#1)) = false
  rw [e]
  by_cases hl : Live m (row h t)
  · rw [(live_cond m _).2 hl]; rfl
  · rw [(dead_cond m _).2 hl]; simp

theorem moves : ∀ t : Fin grid0.N, Pipeline.Window.flushOf grid0 true cc0_transform_4 t = true := by decide +kernel

/-- and it is written back at every point. -/
theorem back (t : Fin (pipe h).N) : ((pipe h).win (4 : Fin 5)).flush t = true := moves t

/-! ## The weights of an expert -/

/-- The launch's arrays. -/
abbrev argX (c : Dev nD) : Vec Ideal S73728x1024 .f32 := m ((c : Thread nD τ).loc main_arg2)
abbrev argG (c : Dev nD) : Vec Ideal S32x1024x512 .f32 := m ((c : Thread nD τ).loc main_arg3)
abbrev argU (c : Dev nD) : Vec Ideal S32x1024x512 .f32 := m ((c : Thread nD τ).loc main_arg4)
abbrev argD (c : Dev nD) : Vec Ideal S32x512x1024 .f32 := m ((c : Thread nD τ).loc main_arg5)

/-- The expert of a block, as a number below thirty-two. -/
def pick (b : Fin 288) : Fin 32 := ⟨(expert m b).toNat, h b⟩

theorem blk_gate (c : Dev nD) (t : Fin (pipe h).N) (a : Fin 1) (d : Fin 1024) (f : Fin 512) :
    (blk h c 1 t : Vec Ideal S1x1024x512 .f32) (ix3 a d f) = argG (m := m) c (ix3 (pick h (row h t)) d f) := by
  have e := (weight_index m (at_ h t)).1
  refine congrArg (argG (m := m) c) (funext fun (x : Fin 3) => Fin.ext ?_)
  match x with
  | 0 =>
    show cc0_transform_1 k0_off1_inb numel1_S1 (tabs m) (at_ h t) 0 * 1 + 1 * a.val = (expert m (row h t)).toNat
    rw [e]; show (expert m (row h t)).toNat * 1 + 1 * a.val = _; omega
  | 1 =>
    show cc0_transform_1 k0_off1_inb numel1_S1 (tabs m) (at_ h t) 1 * 1024 + 1 * d.val = d.val
    rw [e]; show 0 * 1024 + 1 * d.val = _; omega
  | 2 =>
    show cc0_transform_1 k0_off1_inb numel1_S1 (tabs m) (at_ h t) 2 * 512 + 1 * f.val = f.val
    rw [e]; show 0 * 512 + 1 * f.val = _; omega

theorem blk_up (c : Dev nD) (t : Fin (pipe h).N) (a : Fin 1) (d : Fin 1024) (f : Fin 512) :
    (blk h c 2 t : Vec Ideal S1x1024x512 .f32) (ix3 a d f) = argU (m := m) c (ix3 (pick h (row h t)) d f) := by
  have e := (weight_index m (at_ h t)).2.1
  refine congrArg (argU (m := m) c) (funext fun (x : Fin 3) => Fin.ext ?_)
  match x with
  | 0 =>
    show cc0_transform_2 k0_off1_inb numel1_S1 (tabs m) (at_ h t) 0 * 1 + 1 * a.val = (expert m (row h t)).toNat
    rw [e]; show (expert m (row h t)).toNat * 1 + 1 * a.val = _; omega
  | 1 =>
    show cc0_transform_2 k0_off1_inb numel1_S1 (tabs m) (at_ h t) 1 * 1024 + 1 * d.val = d.val
    rw [e]; show 0 * 1024 + 1 * d.val = _; omega
  | 2 =>
    show cc0_transform_2 k0_off1_inb numel1_S1 (tabs m) (at_ h t) 2 * 512 + 1 * f.val = f.val
    rw [e]; show 0 * 512 + 1 * f.val = _; omega

theorem blk_down (c : Dev nD) (t : Fin (pipe h).N) (a : Fin 1) (f : Fin 512) (d : Fin 1024) :
    (blk h c 3 t : Vec Ideal S1x512x1024 .f32) (ix3 a f d) = argD (m := m) c (ix3 (pick h (row h t)) f d) := by
  have e := (weight_index m (at_ h t)).2.2
  refine congrArg (argD (m := m) c) (funext fun (x : Fin 3) => Fin.ext ?_)
  match x with
  | 0 =>
    show cc0_transform_3 k0_off1_inb numel1_S1 (tabs m) (at_ h t) 0 * 1 + 1 * a.val = (expert m (row h t)).toNat
    rw [e]; show (expert m (row h t)).toNat * 1 + 1 * a.val = _; omega
  | 1 =>
    show cc0_transform_3 k0_off1_inb numel1_S1 (tabs m) (at_ h t) 1 * 512 + 1 * f.val = f.val
    rw [e]; show 0 * 512 + 1 * f.val = _; omega
  | 2 =>
    show cc0_transform_3 k0_off1_inb numel1_S1 (tabs m) (at_ h t) 2 * 1024 + 1 * d.val = d.val
    rw [e]; show 0 * 1024 + 1 * d.val = _; omega

theorem blk_rows (c : Dev nD) (t : Fin (pipe h).N) (r : Fin 256) (d : Fin 1024) :
    (blk h c 0 t : Vec Ideal S256x1024 .f32) (ix2 r d) = argX (m := m) c (ix2 ⟨t.val * 256 + r.val, by have : t.val < 288 := t.isLt; omega⟩ d) := by
  refine congrArg (argX (m := m) c) (funext fun (x : Fin 2) => Fin.ext ?_)
  have e : (BitVec.ofNat 32 (grid0.coords t 0).val).toNat = t.val := by
    have : t.val < 288 := t.isLt
    rw [coord_val t, BitVec.toNat_ofNat]; omega
  match x with
  | 0 =>
    show (BitVec.ofNat 32 (grid0.coords t 0).val).toNat * 256 + 1 * r.val = t.val * 256 + r.val
    rw [e]; omega
  | 1 =>
    show 0 * 1024 + 1 * d.val = d.val
    omega

/-- Two points whose blocks name the same expert fetch the same weights. -/
theorem same (c : Dev nD) (t t' : Fin (pipe h).N) (e : expert m (row h t) = expert m (row h t')) :
    (blk h c 1 t : Vec Ideal S1x1024x512 .f32) = blk h c 1 t' ∧ (blk h c 2 t : Vec Ideal S1x1024x512 .f32) = blk h c 2 t'
      ∧ (blk h c 3 t : Vec Ideal S1x512x1024 .f32) = blk h c 3 t' := by
  have p : pick h (row h t) = pick h (row h t') := Fin.ext (by show (expert m (row h t)).toNat = (expert m (row h t')).toNat; rw [e])
  refine ⟨funext fun j => ?_, funext fun j => ?_, funext fun j => ?_⟩
  · rw [eq_ix3 j]; exact ((blk_gate h c t _ _ _).trans (by rw [p])).trans (blk_gate h c t' _ _ _).symm
  · rw [eq_ix3 j]; exact ((blk_up h c t _ _ _).trans (by rw [p])).trans (blk_up h c t' _ _ _).symm
  · rw [eq_ix3 j]; exact ((blk_down h c t _ _ _).trans (by rw [p])).trans (blk_down h c t' _ _ _).symm

end Exp
end
-- ==== Proof.ExpRun.lean ====
/-
  What one grid point of the experts leaves: its block of the result, and the three scratch buffers of converted weights.
-/
module

public import proofs.«01_k».proof.Proof.ExpCfg
public import Idealize.ShloMosaic.Lib.VecWindow

@[expose] public section
set_option maxRecDepth 16384
noncomputable section
namespace Exp
open Idealize.ShloMosaic Idealize.ShloMosaic.TcCoe Idealize.ShloMosaic.Tactic Idealize.SL.Sem Cert.Kernel3Ideal Cert.Kernel3Ideal.Gen

/-! ## Where the weights are fetched anew -/
section fetch
variable (c : Dev nD) (i : grid0.Coords) (arg3 : Memref sig .tc .vmem S256x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S256x1024 .f32) (harg7 : arg7.IsWhole) (T0 : (S288.Idx → Elt Ideal .i32)) (T1 : (S1.Idx → Elt Ideal .i32))
     (x0 : (S256x1024.Idx → Elt Ideal .f32)) (x1 : (S1x1024x512.Idx → Elt Ideal .f32)) (x2 : (S1x1024x512.Idx → Elt Ideal .f32)) (x3 : (S1x512x1024.Idx → Elt Ideal .f32)) (hc0 : (Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt Ideal) (tbM0_0).view (Rect.unit (s := S288) (k0_off1 i) S1.size (k0_off1_inb i)).toLoadRect T0 (Shape.Idx.first (numel1_S1.symm ▸ Nat.one_pos))) (View.readAt (Elt Ideal) (tbM0_0).view (Rect.unit (s := S288) (k0_off2 i) S1.size (k0_off2_inb i)).toLoadRect T0 (Shape.Idx.first (numel1_S1.symm ▸ Nat.one_pos))))))) 0#32) = 1#1) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1))

/-- The gate weights, converted. -/
theorem gateA : scM0_0.view.read (Elt Ideal) (kernelRun0_A c i arg3 harg3 arg4 harg4 arg5 harg5 arg6 harg6 arg7 harg7 T0 T1 x0 x1 x2 x3 hc0 k0_h2 k0_h3).2.1 = k0_pay1 x1 := by
  unfold kernelRun0_A
  dsimp only
  sl_unfold_words
  exact (View.read_writes_full _ _ _ _ _).trans (congrArg k0_pay1 (View.readAt_rep_full arg4.view x1 _))

/-- The up weights, converted. -/
theorem upA : scM0_1.view.read (Elt Ideal) (kernelRun0_A c i arg3 harg3 arg4 harg4 arg5 harg5 arg6 harg6 arg7 harg7 T0 T1 x0 x1 x2 x3 hc0 k0_h2 k0_h3).2.2.1 = k0_pay2 x2 := by
  unfold kernelRun0_A
  dsimp only
  sl_unfold_words
  exact (View.read_writes_full _ _ _ _ _).trans (congrArg k0_pay2 (View.readAt_rep_full arg5.view x2 _))

/-- The down weights, converted. -/
theorem downA : scM0_2.view.read (Elt Ideal) (kernelRun0_A c i arg3 harg3 arg4 harg4 arg5 harg5 arg6 harg6 arg7 harg7 T0 T1 x0 x1 x2 x3 hc0 k0_h2 k0_h3).2.2.2.1 = k0_pay3 x3 := by
  unfold kernelRun0_A
  dsimp only
  sl_unfold_words
  exact (View.read_writes_full _ _ _ _ _).trans (congrArg k0_pay3 (View.readAt_rep_full arg6.view x3 _))

/-- The block of the result. -/
theorem blockA : out0_A_4 c i arg3 harg3 arg4 harg4 arg5 harg5 arg6 harg6 arg7 harg7 T0 T1 x0 x1 x2 x3 hc0 k0_h2 k0_h3
    = k0_pay4 x0 (k0_pay1 x1) (k0_pay2 x2) (k0_pay3 x3) := by
  unfold out0_A_4 kernelRun0_A
  dsimp only
  sl_unfold_words
  unfold View.readCov
  exact (View.read_writes_full _ _ _ _ _).trans (congr (congr (congr (congrArg k0_pay4 (View.readAt_rep_full arg3.view x0 _))
    ((View.readAt_writes_full _ _ _ _ _ _).trans (congrArg k0_pay1 (View.readAt_rep_full arg4.view x1 _))))
    ((View.readAt_writes_full _ _ _ _ _ _).trans (congrArg k0_pay2 (View.readAt_rep_full arg5.view x2 _))))
    ((View.readAt_writes_full _ _ _ _ _ _).trans (congrArg k0_pay3 (View.readAt_rep_full arg6.view x3 _))))

end fetch

/-! ## Where the weights of the point before serve again -/
section keep
variable (c : Dev nD) (i : grid0.Coords) (arg3 : Memref sig .tc .vmem S256x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S256x1024 .f32) (harg7 : arg7.IsWhole) (T0 : (S288.Idx → Elt Ideal .i32)) (T1 : (S1.Idx → Elt Ideal .i32))
     (x0 : (S256x1024.Idx → Elt Ideal .f32)) (x1 : (S1x1024x512.Idx → Elt Ideal .f32)) (x2 : (S1x1024x512.Idx → Elt Ideal .f32)) (x3 : (S1x512x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt Ideal) (tbM0_0).view (Rect.unit (s := S288) (k0_off1 i) S1.size (k0_off1_inb i)).toLoadRect T0 (Shape.Idx.first (numel1_S1.symm ▸ Nat.one_pos))) (View.readAt (Elt Ideal) (tbM0_0).view (Rect.unit (s := S288) (k0_off2 i) S1.size (k0_off2_inb i)).toLoadRect T0 (Shape.Idx.first (numel1_S1.symm ▸ Nat.one_pos))))))) 0#32) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1))

theorem keptB : (kernelRun0_B c i arg3 harg3 arg4 harg4 arg5 harg5 arg6 harg6 arg7 harg7 T0 T1 x0 x1 x2 x3 xa0 xa1 xa2 hc0 k0_h2 k0_h3).2.1 = xa0 ∧ (kernelRun0_B c i arg3 harg3 arg4 harg4 arg5 harg5 arg6 harg6 arg7 harg7 T0 T1 x0 x1 x2 x3 xa0 xa1 xa2 hc0 k0_h2 k0_h3).2.2.1 = xa1 ∧ (kernelRun0_B c i arg3 harg3 arg4 harg4 arg5 harg5 arg6 harg6 arg7 harg7 T0 T1 x0 x1 x2 x3 xa0 xa1 xa2 hc0 k0_h2 k0_h3).2.2.2.1 = xa2 := by
  unfold kernelRun0_B
  exact ⟨rfl, rfl, rfl⟩

/-- The block of the result. -/
theorem blockB : out0_B_4 c i arg3 harg3 arg4 harg4 arg5 harg5 arg6 harg6 arg7 harg7 T0 T1 x0 x1 x2 x3 xa0 xa1 xa2 hc0 k0_h2 k0_h3
    = k0_pay4 x0 (scM0_0.view.read (Elt Ideal) xa0) (scM0_1.view.read (Elt Ideal) xa1) (scM0_2.view.read (Elt Ideal) xa2) := by
  unfold out0_B_4 kernelRun0_B
  dsimp only
  sl_unfold_words
  exact (View.read_writes_full _ _ _ _ _).trans (congr (congr (congr (congrArg k0_pay4 (View.readAt_rep_full arg3.view x0 _))
    (View.readAt_full _ _ _)) (View.readAt_full _ _ _)) (View.readAt_full _ _ _))

end keep

/-! ## Where the block is not live -/
section dead
variable (c : Dev nD) (i : grid0.Coords) (arg3 : Memref sig .tc .vmem S256x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S256x1024 .f32) (harg7 : arg7.IsWhole) (T0 : (S288.Idx → Elt Ideal .i32)) (T1 : (S1.Idx → Elt Ideal .i32))
     (x0 : (S256x1024.Idx → Elt Ideal .f32)) (x1 : (S1x1024x512.Idx → Elt Ideal .f32)) (x2 : (S1x1024x512.Idx → Elt Ideal .f32)) (x3 : (S1x512x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.ori (Scalar.cmpi .eq (BitVec.ofNat 32 (i 0).val) 0#32) (Scalar.cmpi .ne (View.readAt (Elt Ideal) (tbM0_0).view (Rect.unit (s := S288) (k0_off1 i) S1.size (k0_off1_inb i)).toLoadRect T0 (Shape.Idx.first (numel1_S1.symm ▸ Nat.one_pos))) (View.readAt (Elt Ideal) (tbM0_0).view (Rect.unit (s := S288) (k0_off2 i) S1.size (k0_off2_inb i)).toLoadRect T0 (Shape.Idx.first (numel1_S1.symm ▸ Nat.one_pos))))))) 0#32) = 1#1)) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) (k0_h3 : k0_cond3 i (View.readAt (Elt Ideal) (tbM0_1).view (Rect.unit (s := S1) ![0] S1.size inb_S1_S1_0).toLoadRect T1 (Shape.Idx.first (numel1_S1.symm ▸ Nat.one_pos))) = 1#1)

theorem keptC : (kernelRun0_C c i arg3 harg3 arg4 harg4 arg5 harg5 arg6 harg6 arg7 harg7 T0 T1 x0 x1 x2 x3 xa0 xa1 xa2 hc0 k0_h2 k0_h3).2.1 = xa0 ∧ (kernelRun0_C c i arg3 harg3 arg4 harg4 arg5 harg5 arg6 harg6 arg7 harg7 T0 T1 x0 x1 x2 x3 xa0 xa1 xa2 hc0 k0_h2 k0_h3).2.2.1 = xa1 ∧ (kernelRun0_C c i arg3 harg3 arg4 harg4 arg5 harg5 arg6 harg6 arg7 harg7 T0 T1 x0 x1 x2 x3 xa0 xa1 xa2 hc0 k0_h2 k0_h3).2.2.2.1 = xa2 := by
  unfold kernelRun0_C
  exact ⟨rfl, rfl, rfl⟩

/-- The block of the result. -/
theorem blockC : out0_C_4 c i arg3 harg3 arg4 harg4 arg5 harg5 arg6 harg6 arg7 harg7 T0 T1 x0 x1 x2 x3 xa0 xa1 xa2 hc0 k0_h2 k0_h3
    = k0_pay5 (F := Ideal) := by
  unfold out0_C_4 kernelRun0_C
  dsimp only
  sl_unfold_words
  exact View.read_writes_full _ _ _ _ _

end dead

end Exp
end
-- ==== Proof.ExpBody.lean ====
/-
  Every grid point of the experts, and the launch: each point leaves its block of the result as the tables and the arrays say, and the
  scratch buffers hold, after a live block, that block's expert's weights.
-/
module

public import proofs.«01_k».proof.Proof.ExpRun

@[expose] public section
set_option maxRecDepth 16384
set_option Elab.async false
noncomputable section
namespace Exp
open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The rounds of the pipeline's cells are all of this proof's own resources. -/
abbrev rounds : Emb (UR sig nD τ) 𝕄 := emb₁

variable (m : (ℓ : Loc nD τ sig) → Buf (Elt Ideal) ℓ)

/-! ## The decisions, of the words as the body reads them -/

theorem fetches (i : grid0.Coords) :
    (Scalar.cmpi .ne (Scalar.extui (Scalar.andi (Scalar.cmpi .slt (BitVec.ofNat 32 (i 0).val) (View.readAt (Elt Ideal) (tbM0_1).view (Rect.unit (s := S1) ![0] S1.size inb_S1_S1_0).toLoadRect (lives m) (Shape.Idx.first (numel1_S1.symm ▸ Nat.one_pos)))) (Scalar.ori (Scalar.cmpi .eq (BitVec.ofNat 32 (i 0).val) 0#32) (Scalar.cmpi .ne (View.readAt (Elt Ideal) (tbM0_0).view (Rect.unit (s := S288) (k0_off1 i) S1.size (k0_off1_inb i)).toLoadRect (table m) (Shape.Idx.first (numel1_S1.symm ▸ Nat.one_pos))) (View.readAt (Elt Ideal) (tbM0_0).view (Rect.unit (s := S288) (k0_off2 i) S1.size (k0_off2_inb i)).toLoadRect (table m) (Shape.Idx.first (numel1_S1.symm ▸ Nat.one_pos))))))) 0#32) = 1#1
      ↔ Live m (blockOf i) ∧ Anew m (blockOf i) := by
  rw [load_live, load_here, load_before]
  exact anew_cond m i _ _ rfl rfl

theorem lives_at (i : grid0.Coords) :
    k0_cond2 i (View.readAt (Elt Ideal) (tbM0_1).view (Rect.unit (s := S1) ![0] S1.size inb_S1_S1_0).toLoadRect (lives m) (Shape.Idx.first (numel1_S1.symm ▸ Nat.one_pos))) = 1#1 ↔ Live m (blockOf i) := by
  rw [load_live]; exact live_cond m i

theorem dead_at (i : grid0.Coords) :
    k0_cond3 i (View.readAt (Elt Ideal) (tbM0_1).view (Rect.unit (s := S1) ![0] S1.size inb_S1_S1_0).toLoadRect (lives m) (Shape.Idx.first (numel1_S1.symm ▸ Nat.one_pos))) = 1#1 ↔ ¬ Live m (blockOf i) := by
  rw [load_live]; exact dead_cond m i

variable {m} (h : Named m)

/-! ## What the pipeline leaves -/

/-- The block of the result that point `t` leaves. -/
def left (c : Dev nD) (t : Fin (pipe h).N) : S256x1024.Idx → Elt Ideal .f32 :=
  if Live m (row h t) then k0_pay4 (blk h c 0 t) (k0_pay1 (blk h c 1 t)) (k0_pay2 (blk h c 2 t)) (k0_pay3 (blk h c 3 t)) else k0_pay5 (F := Ideal)

/-- The scratch buffers hold the weights of the block before position `n`, if that block is live. -/
def Holds (c : Dev nD) (n : ℕ) (a0 : Buf (Elt Ideal) ((c : Thread nD τ).loc cc0_scratch0)) (a1 : Buf (Elt Ideal) ((c : Thread nD τ).loc cc0_scratch1))
    (a2 : Buf (Elt Ideal) ((c : Thread nD τ).loc cc0_scratch2)) : Prop :=
  ∀ t : Fin (pipe h).N, t.val + 1 = n → Live m (row h t) →
    scM0_0.view.read (Elt Ideal) a0 = k0_pay1 (blk h c 1 t) ∧ scM0_1.view.read (Elt Ideal) a1 = k0_pay2 (blk h c 2 t)
      ∧ scM0_2.view.read (Elt Ideal) a2 = k0_pay3 (blk h c 3 t)

/-- The invariant before position `n`: the scratch buffers as `Holds` says, and the body's halves of the tables. -/
def Inv (c : Dev nD) (n : ℕ) : sProp 𝕄 :=
  iprop(∃ a0 a1 a2, ⌜Holds h c n a0 a1 a2⌝ ∗ (scM0_0.view.loc (c : Thread nD τ) ↦{fullShare} a0) ∗ (scM0_1.view.loc (c : Thread nD τ) ↦{fullShare} a1)
    ∗ (scM0_2.view.loc (c : Thread nD τ) ↦{fullShare} a2)
    ∗ (tbM0_0.view.loc (c : Thread nD τ) ↦{fullShare.right} table m) ∗ (tbM0_1.view.loc (c : Thread nD τ) ↦{fullShare.right} lives m))

/-- The proof data of the pipeline on core `c`. -/
def data (_ : Fin 1) (c : Dev nD) : Dat τ (Elt Ideal) Unit ℕ (UR sig nD τ) ℕ (pipe h) c where
  A w := m (((pipe h).win w).arr.view.loc (c : Thread nD τ))
  after w t := match w with
    | ⟨0, _⟩ => blk h c (0 : Fin 5) t
    | ⟨1, _⟩ => blk h c (1 : Fin 5) t
    | ⟨2, _⟩ => blk h c (2 : Fin 5) t
    | ⟨3, _⟩ => blk h c (3 : Fin 5) t
    | ⟨4, _⟩ => left h c t
  Φ t := Inv h c t.val
  q _ := fullShare
  owed _ := 0

theorem after_0 (c : Dev nD) (t : Fin (pipe h).N) : (data h 0 c).after (0 : Fin 5) t = blk h c (0 : Fin 5) t := rfl
theorem after_1 (c : Dev nD) (t : Fin (pipe h).N) : (data h 0 c).after (1 : Fin 5) t = blk h c (1 : Fin 5) t := rfl
theorem after_2 (c : Dev nD) (t : Fin (pipe h).N) : (data h 0 c).after (2 : Fin 5) t = blk h c (2 : Fin 5) t := rfl
theorem after_3 (c : Dev nD) (t : Fin (pipe h).N) : (data h 0 c).after (3 : Fin 5) t = blk h c (3 : Fin 5) t := rfl
theorem after_4 (c : Dev nD) (t : Fin (pipe h).N) : (data h 0 c).after (4 : Fin 5) t = left h c t := rfl

/-- Window 0 holds its block when the body runs. -/
theorem held_0 (c : Dev nD) (t : Fin (pipe h).N) (d) : (data h 0 c).before (0 : Fin 5) t d = blk h c (0 : Fin 5) t :=
  ((data h 0 c).before_in_eq_fetched (0 : Fin 5) rfl (fun _ => rfl) (fun _ _ _ => rfl) (fun t => by rw [after_0]; unfold Dat.blockOf blk; rfl) t d).trans
    (by unfold Dat.fetched Dat.blockOf blk; rfl)

/-- Window 1 holds its block when the body runs. -/
theorem held_1 (c : Dev nD) (t : Fin (pipe h).N) (d) : (data h 0 c).before (1 : Fin 5) t d = blk h c (1 : Fin 5) t :=
  ((data h 0 c).before_in_eq_fetched (1 : Fin 5) rfl (fun _ => rfl) (fun _ _ _ => rfl) (fun t => by rw [after_1]; unfold Dat.blockOf blk; rfl) t d).trans
    (by unfold Dat.fetched Dat.blockOf blk; rfl)

/-- Window 2 holds its block when the body runs. -/
theorem held_2 (c : Dev nD) (t : Fin (pipe h).N) (d) : (data h 0 c).before (2 : Fin 5) t d = blk h c (2 : Fin 5) t :=
  ((data h 0 c).before_in_eq_fetched (2 : Fin 5) rfl (fun _ => rfl) (fun _ _ _ => rfl) (fun t => by rw [after_2]; unfold Dat.blockOf blk; rfl) t d).trans
    (by unfold Dat.fetched Dat.blockOf blk; rfl)

/-- Window 3 holds its block when the body runs. -/
theorem held_3 (c : Dev nD) (t : Fin (pipe h).N) (d) : (data h 0 c).before (3 : Fin 5) t d = blk h c (3 : Fin 5) t :=
  ((data h 0 c).before_in_eq_fetched (3 : Fin 5) rfl (fun _ => rfl) (fun _ _ _ => rfl) (fun t => by rw [after_3]; unfold Dat.blockOf blk; rfl) t d).trans
    (by unfold Dat.fetched Dat.blockOf blk; rfl)

/-! ## One point -/

/-- The body at point `t`, on its staging buffers. -/
abbrev bodyOf (t : Fin (pipe h).N) : Prog (TpuEff nD τ sig (Elt Ideal) Λ₀ .tc) PUnit :=
  cc0_experts (at_ h t) (Memref.whole main_arg0) (Memref.isWhole_whole _) (Memref.whole main_arg1) (Memref.isWhole_whole _) (stg0 h t) (whole0 h t) (stg1 h t) (whole1 h t) (stg2 h t) (whole2 h t) (stg3 h t) (whole3 h t) (stg4 h t) (whole4 h t) (Memref.whole cc0_scratch0) (Memref.isWhole_whole _) (Memref.whole cc0_scratch1) (Memref.isWhole_whole _) (Memref.whole cc0_scratch2) (Memref.isWhole_whole _)

/-- What the body gets of the pipeline at point `t`. -/
def Pre (c : Dev nD) (t : Fin (pipe h).N) : sProp 𝕄 :=
  iprop((owns (c : Thread nD τ) (stg0 h t) fullShare (blk h c (0 : Fin 5) t))
    ∗ (owns (c : Thread nD τ) (stg1 h t) fullShare (blk h c (1 : Fin 5) t))
    ∗ (owns (c : Thread nD τ) (stg2 h t) fullShare (blk h c (2 : Fin 5) t))
    ∗ (owns (c : Thread nD τ) (stg3 h t) fullShare (blk h c (3 : Fin 5) t))
    ∗ (∃ d, owns (c : Thread nD τ) (stg4 h t) fullShare d))

/-- What it gives back. -/
def Post (c : Dev nD) (t : Fin (pipe h).N) : sProp 𝕄 :=
  iprop((owns (c : Thread nD τ) (stg0 h t) fullShare (blk h c (0 : Fin 5) t))
    ∗ (owns (c : Thread nD τ) (stg1 h t) fullShare (blk h c (1 : Fin 5) t))
    ∗ (owns (c : Thread nD τ) (stg2 h t) fullShare (blk h c (2 : Fin 5) t))
    ∗ (owns (c : Thread nD τ) (stg3 h t) fullShare (blk h c (3 : Fin 5) t))
    ∗ (owns (c : Thread nD τ) (stg4 h t) fullShare (left h c t)))

set_option maxHeartbeats 4000000 in
theorem pointA (R : sProp 𝕄) (c : Dev nD) (t : Fin (pipe h).N) (hl : Live m (row h t)) (ha : Anew m (row h t)) :
    iprop(Inv h c t.val ∗ R ∗ Pre h c t) ⊢ wp frame (wpE (defs₀ (F := Ideal)) Variants.none c none) Set.univ (bodyOf h t) fun _ => iprop(Inv h c (t.val + 1) ∗ R ∗ Post h c t) := by
  have hc0 := (fetches m (at_ h t)).2 ⟨hl, ha⟩
  have hc2 := (lives_at m (at_ h t)).2 hl
  have hc3 := fun e => (dead_at m (at_ h t)).1 e hl
  unfold Pre Post Inv
  iintro ⟨⟨%a0, %a1, %a2, %ha, HS0, HS1, HS2, HT0, HT1⟩, Ho, H0, H1, H2, H3, ⟨%d4, H4⟩⟩
  iapply ((kernelRun0_A c (at_ h t) (stg0 h t) (whole0 h t) (stg1 h t) (whole1 h t) (stg2 h t) (whole2 h t) (stg3 h t) (whole3 h t) (stg4 h t) (whole4 h t) (table m) (lives m) (blk h c (0 : Fin 5) t) (blk h c (1 : Fin 5) t) (blk h c (2 : Fin 5) t) (blk h c (3 : Fin 5) t) hc0 hc2 hc3).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, ⟨%e4, H4⟩, HS0, HS1, HS2⟩
  isplitl [HS0 HS1 HS2 HT0 HT1]
  · iexists _; iexists _; iexists _
    isplitr; swap
    · isplitl [HS0]; · iexact HS0
      isplitl [HS1]; · iexact HS1
      isplitl [HS2]; · iexact HS2
      isplitl [HT0]; · iexact HT0
      iexact HT1
    ipureintro
    intro t' ht' hl'
    have e : t' = t := Fin.ext (by omega)
    subst e
    exact ⟨gateA _ _ _ _ _ _ _ _ _ _ _ _ _ _ _ _ _ _ _ _ _, upA _ _ _ _ _ _ _ _ _ _ _ _ _ _ _ _ _ _ _ _ _, downA _ _ _ _ _ _ _ _ _ _ _ _ _ _ _ _ _ _ _ _ _⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns
  iexists _
  isplitr; swap
  · iexact H4
  ipureintro
  refine (View.read_writes_of_cover _ _ VO0_4 VO0_4.junk _ (cover0_A_4 c _ _ _ _ _ _ _ _ _ _ _ _ _ _ _ _ _ _ _ _)).trans ?_
  refine (blockA _ _ _ _ _ _ _ _ _ _ _ _ _ _ _ _ _ _ _ _ _).trans ?_
  unfold left; rw [if_pos hl]

/-- The point before, of a point that is not the first. -/
def prior (t : Fin (pipe h).N) : Fin (pipe h).N := ⟨t.val - 1, by omega⟩

/-- Where nothing is fetched anew, the scratch buffers hold the block's own expert's weights already. -/
theorem again (c : Dev nD) (t : Fin (pipe h).N) (hl : Live m (row h t)) (hn : ¬ Anew m (row h t)) {a0 : Buf (Elt Ideal) ((c : Thread nD τ).loc cc0_scratch0)}
    {a1 : Buf (Elt Ideal) ((c : Thread nD τ).loc cc0_scratch1)} {a2 : Buf (Elt Ideal) ((c : Thread nD τ).loc cc0_scratch2)} (ha : Holds h c t.val a0 a1 a2) :
    scM0_0.view.read (Elt Ideal) a0 = k0_pay1 (blk h c 1 t) ∧ scM0_1.view.read (Elt Ideal) a1 = k0_pay2 (blk h c 2 t)
      ∧ scM0_2.view.read (Elt Ideal) a2 = k0_pay3 (blk h c 3 t) := by
  have hz : t.val ≠ 0 := fun e => hn (.inl ((row_val h t).trans e))
  have hb : row h (prior h t) = before (row h t) := Fin.ext (by
    show (row h (prior h t)).val = (row h t).val - 1
    rw [row_val, row_val]; rfl)
  have he : expert m (row h t) = expert m (row h (prior h t)) := by
    rw [hb]; exact Classical.not_not.1 fun e => hn (.inr e)
  have hl' : Live m (row h (prior h t)) := Live.of_le m hl (by rw [row_val, row_val]; show t.val - 1 ≤ t.val; omega)
  have hh := ha (prior h t) (by show t.val - 1 + 1 = t.val; omega) hl'
  have hs := same h c t (prior h t) he
  rw [hh.1, hh.2.1, hh.2.2]
  exact ⟨congrArg k0_pay1 hs.1.symm, congrArg k0_pay2 hs.2.1.symm, congrArg k0_pay3 hs.2.2.symm⟩

set_option maxHeartbeats 4000000 in
theorem pointB (R : sProp 𝕄) (c : Dev nD) (t : Fin (pipe h).N) (hl : Live m (row h t)) (hn : ¬ Anew m (row h t)) :
    iprop(Inv h c t.val ∗ R ∗ Pre h c t) ⊢ wp frame (wpE (defs₀ (F := Ideal)) Variants.none c none) Set.univ (bodyOf h t) fun _ => iprop(Inv h c (t.val + 1) ∗ R ∗ Post h c t) := by
  have hc0 := fun e => hn ((fetches m (at_ h t)).1 e).2
  have hc2 := (lives_at m (at_ h t)).2 hl
  have hc3 := fun e => (dead_at m (at_ h t)).1 e hl
  unfold Pre Post Inv
  iintro ⟨⟨%a0, %a1, %a2, %ha, HS0, HS1, HS2, HT0, HT1⟩, Ho, H0, H1, H2, H3, ⟨%d4, H4⟩⟩
  iapply ((kernelRun0_B c (at_ h t) (stg0 h t) (whole0 h t) (stg1 h t) (whole1 h t) (stg2 h t) (whole2 h t) (stg3 h t) (whole3 h t) (stg4 h t) (whole4 h t) (table m) (lives m) (blk h c (0 : Fin 5) t) (blk h c (1 : Fin 5) t) (blk h c (2 : Fin 5) t) (blk h c (3 : Fin 5) t) a0 a1 a2 hc0 hc2 hc3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, ⟨%e4, H4⟩, HS0, HS1, HS2⟩
  isplitl [HS0 HS1 HS2 HT0 HT1]
  · iexists _; iexists _; iexists _
    isplitr; swap
    · isplitl [HS0]; · iexact HS0
      isplitl [HS1]; · iexact HS1
      isplitl [HS2]; · iexact HS2
      isplitl [HT0]; · iexact HT0
      iexact HT1
    ipureintro
    intro t' ht' hl'
    have e : t' = t := Fin.ext (by omega)
    subst e
    have kp := keptB c (at_ h t') (stg0 h t') (whole0 h t') (stg1 h t') (whole1 h t') (stg2 h t') (whole2 h t') (stg3 h t') (whole3 h t') (stg4 h t') (whole4 h t') (table m) (lives m) (blk h c (0 : Fin 5) t') (blk h c (1 : Fin 5) t') (blk h c (2 : Fin 5) t') (blk h c (3 : Fin 5) t') a0 a1 a2 hc0 hc2 hc3
    have ag := again h c t' hl hn ha
    exact ⟨(congrArg (scM0_0.view.read (Elt Ideal)) kp.1).trans ag.1, (congrArg (scM0_1.view.read (Elt Ideal)) kp.2.1).trans ag.2.1, (congrArg (scM0_2.view.read (Elt Ideal)) kp.2.2).trans ag.2.2⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns
  iexists _
  isplitr; swap
  · iexact H4
  ipureintro
  refine (View.read_writes_of_cover _ _ VO0_4 VO0_4.junk _ (cover0_B_4 c _ _ _ _ _ _ _ _ _ _ _ _ _ _ _ _ _ _ _ _ _ _ _)).trans ?_
  refine (blockB _ _ _ _ _ _ _ _ _ _ _ _ _ _ _ _ _ _ _ _ _ _ _ _).trans ?_
  have ag := again h c t hl hn ha
  unfold left; rw [if_pos hl, ag.1, ag.2.1, ag.2.2]

set_option maxHeartbeats 4000000 in
theorem pointC (R : sProp 𝕄) (c : Dev nD) (t : Fin (pipe h).N) (hl : ¬ Live m (row h t)) :
    iprop(Inv h c t.val ∗ R ∗ Pre h c t) ⊢ wp frame (wpE (defs₀ (F := Ideal)) Variants.none c none) Set.univ (bodyOf h t) fun _ => iprop(Inv h c (t.val + 1) ∗ R ∗ Post h c t) := by
  have hc0 := fun e => hl ((fetches m (at_ h t)).1 e).1
  have hc2 := fun e => hl ((lives_at m (at_ h t)).1 e)
  have hc3 := (dead_at m (at_ h t)).2 hl
  unfold Pre Post Inv
  iintro ⟨⟨%a0, %a1, %a2, %ha, HS0, HS1, HS2, HT0, HT1⟩, Ho, H0, H1, H2, H3, ⟨%d4, H4⟩⟩
  iapply ((kernelRun0_C c (at_ h t) (stg0 h t) (whole0 h t) (stg1 h t) (whole1 h t) (stg2 h t) (whole2 h t) (stg3 h t) (whole3 h t) (stg4 h t) (whole4 h t) (table m) (lives m) (blk h c (0 : Fin 5) t) (blk h c (1 : Fin 5) t) (blk h c (2 : Fin 5) t) (blk h c (3 : Fin 5) t) a0 a1 a2 hc0 hc2 hc3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, ⟨%e4, H4⟩, HS0, HS1, HS2⟩
  isplitl [HS0 HS1 HS2 HT0 HT1]
  · iexists _; iexists _; iexists _
    isplitr; swap
    · isplitl [HS0]; · iexact HS0
      isplitl [HS1]; · iexact HS1
      isplitl [HS2]; · iexact HS2
      isplitl [HT0]; · iexact HT0
      iexact HT1
    ipureintro
    intro t' ht' hl'
    have e : t' = t := Fin.ext (by omega)
    subst e
    exact absurd hl' hl
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns
  iexists _
  isplitr; swap
  · iexact H4
  ipureintro
  refine (View.read_writes_of_cover _ _ VO0_4 VO0_4.junk _ (cover0_C_4 c _ _ _ _ _ _ _ _ _ _ _ _ _ _ _ _ _ _ _ _ _ _ _)).trans ?_
  refine (blockC _ _ _ _ _ _ _ _ _ _ _ _ _ _ _ _ _ _ _ _ _ _ _ _).trans ?_
  unfold left; rw [if_neg hl]

/-- Every point, whatever its case. -/
theorem point (R : sProp 𝕄) (c : Dev nD) (t : Fin (pipe h).N) :
    iprop(Inv h c t.val ∗ R ∗ Pre h c t) ⊢ wp frame (wpE (defs₀ (F := Ideal)) Variants.none c none) Set.univ (bodyOf h t) fun _ => iprop(Inv h c (t.val + 1) ∗ R ∗ Post h c t) := by
  by_cases hl : Live m (row h t)
  · by_cases ha : Anew m (row h t)
    · exact pointA h R c t hl ha
    · exact pointB h R c t hl ha
  · exact pointC h R c t hl

end Exp
end
-- ==== Proof.ExpLaunch.lean ====
/-
  The launch of the experts: from any memory whose table names experts, every execution ends, the arguments unchanged, and the result array
  holds, block by block, what the points leave.
-/
module

public import proofs.«01_k».proof.Proof.ExpBody
public import Idealize.ShloMosaic.Lib.Pipeline.ValueKit.Geometry

@[expose] public section
set_option maxRecDepth 16384
set_option Elab.async false
noncomputable section
namespace Exp
open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable {m : (ℓ : Loc nD τ sig) → Buf (Elt Ideal) ℓ} (h : Named m) (ρ : Dev nD → PrngReg)

theorem obligation (c : Dev nD) : BodyObligation (data h 0 c) (defs₀ (F := Ideal)) Variants.none () Set.univ := fun t => by
  rw [bigSep_W0, bigSep_W0, busy h t]
  simp only [held_0, held_1, held_2, held_3]
  rewrite [show (data h 0 c).Φ t.castSucc = Inv h c t.val from rfl]
  show _ ⊢ wp frame (wpE (defs₀ (F := Ideal)) Variants.none c none) Set.univ (bodyOf h t) fun _ =>
    iprop(Inv h c (t.val + 1) ∗ (data h 0 c).owesAt () t.castSucc ∗ Post h c t)
  iintro ⟨HI, Ho, ⟨%d0, H0⟩, ⟨%d1, H1⟩, ⟨%d2, H2⟩, ⟨%d3, H3⟩, ⟨%d4, H4⟩⟩
  iapply (point h ((data h 0 c).owesAt () t.castSucc) c t)
  isplitl [HI]; · iexact HI
  isplitl [Ho]; · iexact Ho
  unfold Pre
  isplitl [H0]; · iexact H0
  isplitl [H1]; · iexact H1
  isplitl [H2]; · iexact H2
  isplitl [H3]; · iexact H3
  iexists _; iexact H4

/-- The pipeline's resources at launch. -/
def stock : UR sig nD τ :=
  initOf (Pipeline.cells (pipes h) ((launch0 (F := Ideal)).cellOf_inj fun _ => named h))
    (Pipeline.launchToks (pipes h) ((launch0 (F := Ideal)).cellOf_inj fun _ => named h))

theorem all_share (c : Dev nD) (w : Fin (pipe h).W) : (data h 0 c).share w = fullShare := by unfold Dat.share; split <;> rfl

theorem held_tables (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem enter (c : Dev nD) :
    iprop(BI.emp ∗ Pipeline.prefHeld pre0 c (fun _ => fullShare.right) (named h).1 ∗ Pipeline.scopedRest spec0 c) ⊢ (data h 0 c).Φ 0 := by
  rw [held_tables, scopedRest0_eq, show (data h 0 c).Φ 0 = Inv h c 0 from rfl]
  unfold Inv
  iintro ⟨-, ⟨HT0, HT1⟩, ⟨%a0, HS0⟩, ⟨%a1, HS1⟩, ⟨%a2, HS2⟩⟩
  iexists a0; iexists a1; iexists a2
  isplitr
  · ipureintro; intro t ht; exact absurd ht (Nat.succ_ne_zero _)
  isplitl [HS0]; · iexact HS0
  isplitl [HS1]; · iexact HS1
  isplitl [HS2]; · iexact HS2
  isplitl [HT0]; · iexact HT0
  iexact HT1

theorem leave (c : Dev nD) : (data h 0 c).Φ (Fin.last (pipe h).N) ⊢ iprop(BI.emp ∗ Pipeline.scopedRest spec0 c) := by
  rw [scopedRest0_eq, show (data h 0 c).Φ (Fin.last (pipe h).N) = Inv h c (pipe h).N from rfl]
  unfold Inv
  iintro ⟨%a0, %a1, %a2, -, HS0, HS1, HS2, -, -⟩
  isplitr; · iempintro
  isplitl [HS0]; · iexists a0; iexact HS0
  isplitl [HS1]; · iexists a1; iexact HS1
  iexists a2; iexact HS2

/-- Every array at what the pipeline computes, the tables as they were. -/
def Done : PUnit × MemSt nD τ sig (Elt Ideal) → Prop := fun r =>
  ∀ c : Dev nD, (∀ w : Fin (pipe h).W, r.2.mem (((pipe h).win w).arr.view.loc (c : Thread nD τ)) = (data h 0 c).arrAt w (pipe h).N)
    ∧ ∀ j, r.2.mem ((c : Thread nD τ).loc (pre0.ref j)) = (named h).1 j

theorem one_device (c : Dev nD) : c = 0 := Fin.ext (by have : c.val < 1 := c.isLt; show c.val = 0; omega)

theorem tables_here (c : Dev nD) (j : Fin 2) : m ((c : Thread nD τ).loc (pre0.ref j)) = (named h).1 j := by
  rw [one_device c]; rfl

set_option backward.isDefEq.respectTransparency.types false in
set_option maxHeartbeats 4000000 in
theorem runs : θ_run (defs (F := Ideal)) (onTc (τ := τ) (main (F := Ideal))) ⟨m, fun _ => 0, ρ⟩ (fun r => Done h r ∧ r.2.sem = fun _ => 0) :=
  Pipeline.θ_run_region_noSem_pf_quiescent pcfgs (fun _ => named h) (data h) () ((launch0 (F := Ideal)).cellOf_inj fun _ => named h) (0 : Fin 1)
    (launch0 (F := Ideal)).win.to₀ (launch0 (F := Ideal)).pre rounds defs₀ Variants.none m ρ main
    (hbody := fun c => (obligation h c).loose) (hne := (launch0 (F := Ideal)).block_pos)
    (harr := (launch0 (F := Ideal)).arr_whole) (hstage := (launch0 (F := Ideal)).stage_whole) (howed := fun _ _ => rfl)
    (u₀ := stock h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes h) (data h) 0 (launch0 (F := Ideal)).win.arr_inj c (launch0 (F := Ideal)).arr_whole
      (all_share h c) _ _ fun _ => rfl)
    (hpf := tables_here h)
    (X := fun _ => iprop(emp)) (Y := fun _ => iprop(emp)) (Z := fun _ => iprop(emp))
    (hX := fun c => by rw [unscopedRestP0_eq]; iintro -; isplitr <;> iempintro)
    (hin := enter h)
    (hout := leave h)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include h in
/-- Every execution ends, the arguments unchanged and every counter at zero. -/
theorem unchanged :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ e => ⟨fun c => ⟨((e.1 c).2 0).trans (tables_here h c 0).symm, ((e.1 c).2 1).trans (tables_here h c 1).symm,
    ((e.1 c).1 (0 : Fin 5)).trans ((data h 0 c).arrAt_in (0 : Fin 5) rfl _), ((e.1 c).1 (1 : Fin 5)).trans ((data h 0 c).arrAt_in (1 : Fin 5) rfl _),
    ((e.1 c).1 (2 : Fin 5)).trans ((data h 0 c).arrAt_in (2 : Fin 5) rfl _), ((e.1 c).1 (3 : Fin 5)).trans ((data h 0 c).arrAt_in (3 : Fin 5) rfl _)⟩, e.2⟩)
    (runs h ρ)

end Exp
end
-- ==== Proof.ExpSpec.lean ====
/-
  One row through one expert: `((x·G)·σ(x·G) ⊙ (x·U))·D`.
-/
module

public import proofs.«01_k».proof.Proof.InSpec

@[expose] public section
noncomputable section
namespace Exp
open Idealize.ShloMosaic

/-- The product of a row with a column. -/
def inner {n : ℕ} (x w : Fin n → EReal) : EReal := ∑ d, x d * w d

/-- One entry of a row's result at one expert: `g`, `u` are the expert's gate and up weights, `w` the column of its down weights. -/
def expertRow (x : Fin 1024 → EReal) (g u : Fin 1024 → Fin 512 → EReal) (w : Fin 512 → EReal) : EReal :=
  inner (fun f => Proj.silu (inner x fun d => g d f) * inner x fun d => u d f) w

end Exp
end
-- ==== Proof.ExpValue.lean ====
/-
  The experts' whole result: every live block of rows through the expert the table names, every other block zero.
-/
module

public import proofs.«01_k».proof.Proof.ExpLaunch
public import proofs.«01_k».proof.Proof.ExpSpec

@[expose] public section
set_option maxRecDepth 16384
noncomputable section
namespace Exp
open Idealize.ShloMosaic Idealize.ShloMosaic.TcCoe Idealize.ShloMosaic.Tactic Idealize.SL.Sem Cert.Kernel3Ideal Cert.Kernel3Ideal.Gen

/-! ## The point's arithmetic, entry by entry -/

theorem gate_apply (w : Vec Ideal S1x1024x512 .f32) (d : Fin 1024) (f : Fin 512) : k0_pay1 w (ix2 d f) = w (ix3 0 d f) := by
  pointwise [k0_pay1]

theorem up_apply (w : Vec Ideal S1x1024x512 .f32) (d : Fin 1024) (f : Fin 512) : k0_pay2 w (ix2 d f) = w (ix3 0 d f) := by
  pointwise [k0_pay2]

theorem down_apply (w : Vec Ideal S1x512x1024 .f32) (f : Fin 512) (d : Fin 1024) : k0_pay3 w (ix2 f d) = w (ix3 0 f d) := by
  pointwise [k0_pay3]

theorem none_apply (r : Fin 256) (k : Fin 1024) : k0_pay5 (F := Ideal) (ix2 r k) = 0 := by
  pointwise [k0_pay5]

theorem out_apply (x : Vec Ideal S256x1024 .f32) (g u : Vec Ideal S1024x512 .bf16) (w : Vec Ideal S512x1024 .bf16) (r : Fin 256) (k : Fin 1024) :
    k0_pay4 x g u w (ix2 r k)
      = expertRow (fun d => x (ix2 r d)) (fun d f => g (ix2 d f)) (fun d f => u (ix2 d f)) (fun f => w (ix2 f k)) := by
  pointwise [k0_pay4]
  simp only [zero_sub]
  rfl

variable {m : (ℓ : Loc nD τ sig) → Buf (Elt Ideal) ℓ} (h : Named m)

/-- The block a row lies in. -/
def blockAt (n : Fin 73728) : Fin 288 := ⟨n.val / 256, by omega⟩

/-- The result: row `n`, column `k`. -/
def given (c : Dev nD) (n : Fin 73728) (k : Fin 1024) : EReal :=
  if Live m (blockAt n) then
    expertRow (fun d => argX (m := m) c (ix2 n d)) (fun d f => argG (m := m) c (ix3 (pick h (blockAt n)) d f))
      (fun d f => argU (m := m) c (ix3 (pick h (blockAt n)) d f)) (fun f => argD (m := m) c (ix3 (pick h (blockAt n)) f k))
  else 0

def result (c : Dev nD) : Vec Ideal S73728x1024 .f32 := fun j => given h c (j 0) (j 1)

theorem left_apply (c : Dev nD) (t : Fin (pipe h).N) (r : Fin 256) (k : Fin 1024) :
    left h c t (ix2 r k) = given h c ⟨t.val * 256 + r.val, by have : t.val < 288 := t.isLt; omega⟩ k := by
  have ht : t.val < 288 := t.isLt
  have hb : blockAt ⟨t.val * 256 + r.val, by omega⟩ = row h t := Fin.ext (by
    rw [row_val]; show (t.val * 256 + r.val) / 256 = t.val; omega)
  unfold left given
  rw [hb]
  by_cases hl : Live m (row h t)
  · rw [if_pos hl, if_pos hl]
    refine (out_apply _ _ _ _ r k).trans ?_
    have e0 : (fun d => (blk h c 0 t : Vec Ideal S256x1024 .f32) (ix2 r d)) = _ := funext fun d => blk_rows h c t r d
    have e1 : (fun d f => k0_pay1 (blk h c 1 t : Vec Ideal S1x1024x512 .f32) (ix2 d f)) = _ := funext fun d => funext fun f => (gate_apply _ d f).trans (blk_gate h c t 0 d f)
    have e2 : (fun d f => k0_pay2 (blk h c 2 t : Vec Ideal S1x1024x512 .f32) (ix2 d f)) = _ := funext fun d => funext fun f => (up_apply _ d f).trans (blk_up h c t 0 d f)
    have e3 : (fun f => k0_pay3 (blk h c 3 t : Vec Ideal S1x512x1024 .f32) (ix2 f k)) = _ := funext fun f => (down_apply _ f k).trans (blk_down h c t 0 f k)
    exact congr (congr (congr (congrArg expertRow e0) e1) e2) e3
  · rw [if_neg hl, if_neg hl, none_apply]

theorem out_index (t : Fin (pipe h).N) : (BitVec.ofNat 32 (grid0.coords t 0).val).toNat = t.val := by
  have : t.val < 288 := t.isLt
  rw [coord_val t, BitVec.toNat_ofNat]; omega

theorem written (c : Dev nD) (t : Fin (pipe h).N) : (data h 0 c).flushed 4 t = (((pipe h).win 4).blk t).view.read (Elt Ideal) (result h c) := by
  funext (y : S256x1024.Idx)
  show left h c t y = given h c _ _
  refine ((congrArg (left h c t) (eq_ix2 y)).trans (left_apply h c t (y 0) (y 1))).trans ?_
  refine congrArg₂ (given h c) (Fin.ext ?_) (Fin.ext ?_)
  · show t.val * 256 + (y 0).val = (BitVec.ofNat 32 (grid0.coords t 0).val).toNat * 256 + 1 * (y 0).val
    rw [out_index]; omega
  · show (y 1).val = 0 * 1024 + 1 * (y 1).val
    omega

theorem everywhere (j : S73728x1024.Idx) : ∃ t : Fin (pipe h).N, ((pipe h).win 4).flush t = true ∧ j ∈ (((pipe h).win 4).blk t).view.set := by
  have h0 : (j 0).val < 73728 := (j 0).isLt
  have h1 : (j 1).val < 1024 := (j 1).isLt
  let t : Fin (pipe h).N := ⟨(j 0).val / 256, show (j 0).val / 256 < 288 by omega⟩
  refine ⟨t, back h t, ?_⟩
  have e := View.set_slice_whole main_v0 (((pipe h).win 4).rect t)
  refine (congrArg (fun S => j ∈ S) e).mpr ?_
  refine Rect.mem_set_unit.mpr ?_
  intro a
  match a with
  | ⟨0, _⟩ =>
    show (BitVec.ofNat 32 (grid0.coords t 0).val).toNat * 256 ≤ (j 0).val ∧ (j 0).val < (BitVec.ofNat 32 (grid0.coords t 0).val).toNat * 256 + 256
    rw [out_index]; show (j 0).val / 256 * 256 ≤ _ ∧ _ < (j 0).val / 256 * 256 + 256; omega
  | ⟨1, _⟩ =>
    show 0 * 1024 ≤ (j 1).val ∧ (j 1).val < 0 * 1024 + 1024
    omega

theorem whole_result (c : Dev nD) : (data h 0 c).arrAt 4 (pipe h).N = result h c :=
  (data h 0 c).arrAt_eq_of_cover 4 (result h c) (fun t _ => written h c t) (everywhere h)

/-- Every execution ends with the result, the arguments unchanged. -/
theorem ends (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ e c => ⟨((e.1.1 c).1 (4 : Fin 5)).trans (whole_result h c), e.2.1 c⟩)
    (Idealize.ShloMosaic.θ_run_and (runs h ρ) (unchanged h ρ))

end Exp
end
-- ==== Proof.ExpRef.lean ====
/-
  The reference of the experts, entry by entry.
-/
module

public import proofs.«01_k».proof.Proof.ExpSpec
public import proofs.«01_k».proof.Proof.Gen.Reference3Ideal.Run

@[expose] public section
set_option maxRecDepth 16384
noncomputable section
namespace Exp.Ref
open Idealize.ShloMosaic Idealize.ShloMosaic.TcCoe Idealize.ShloMosaic.Tactic Cert.Reference3Ideal Cert.Reference3Ideal.Gen

/-! ## The reference's steps by name -/

variable (B : IVec S288 32) (N : IVec S1 32) (X : FVec Ideal S73728x1024 .f32) (G U : FVec Ideal S32x1024x512 .f32) (D : FVec Ideal S32x512x1024 .f32)

/-- Whether block `b` names expert `e` and is live. -/
def mine : IVec S32x288 1 :=
  andi (cmpi .eq (broadcastInDim S32x288 ![0, 1] bcast_S1x288_S32x288_0_1 (broadcastInDim S1x288 ![1] bcast_S288_S1x288_1 B))
      (broadcastInDim S32x288 ![0, 1] bcast_S32x1_S32x288_0_1 (broadcastInDim S32x1 ![0] bcast_S32_S32x1_0 (iotaInDim S32 32 0))))
    (broadcastInDim S32x288 ![0, 1] bcast_S1x288_S32x288_0_1 (broadcastInDim S1x288 ![1] bcast_S288_S1x288_1
      (cmpi .slt (iotaInDim S288 32 0) (broadcastInDim S288 ![] bcast_S_S288 (shapeCast _ N shapeCasts_S1_S_)))))

/-- The same for every row of the block. -/
def mineRow : IVec S32x73728 1 := shapeCast _ (broadcastInDim S32x288x256 ![0, 1] bcast_S32x288_S32x288x256_0_1 (mine B N)) shapeCasts_S32x288x256_S32x73728

/-- Every row times every expert's weights, the rows before the columns. -/
def times (W : FVec Ideal S32x1024x512 .f32) : FVec Ideal S32x73728x512 .f32 :=
  transpose S32x73728x512 [0, 2, 1] (Host.dotGeneral dot_S32x1024x512_S73728x1024_S32x512x73728_1_1_02_0_n_n none W X) transposes_S32x512x73728_S32x73728x512_0_2_1

def siluOf (z : FVec Ideal S32x73728x512 .f32) : FVec Ideal S32x73728x512 .f32 :=
  mulf z (Host.divf (broadcastInDim S32x73728x512 ![] bcast_S_S32x73728x512 (constant S_ .f32 0x3F800000#32))
    (addf (broadcastInDim S32x73728x512 ![] bcast_S_S32x73728x512 (constant S_ .f32 0x3F800000#32)) (Host.exp (Host.negf z))))

/-- Every row through every expert. -/
def every : FVec Ideal S32x73728x1024 .f32 :=
  Host.dotGeneral dot_S32x73728x512_S32x512x1024_S32x73728x1024_2_1_1_2_0_0 none (mulf (siluOf (times X G)) (times X U)) D

def kept : FVec Ideal S32x73728x1024 .f32 :=
  select (broadcastInDim S32x73728x1024 ![0, 1, 2] bcast_S32x73728x1_S32x73728x1024_0_1_2 (broadcastInDim S32x73728x1 ![0, 1] bcast_S32x73728_S32x73728x1_0_1 (mineRow B N)))
    (every X G U D) (broadcastInDim S32x73728x1024 ![] bcast_S_S32x73728x1024 (id (constant S_ .f32 0x00000000#32)))

def result : FVec Ideal S73728x1024 .f32 :=
  Host.reduceAdd (kept B N X G U D) (constant S_ .f32 0x00000000#32) reducesTo_S32x73728x1024_S73728x1024_d0 h_S_

/-! ## The steps at an entry -/

theorem mine_apply (e : Fin 32) (b : Fin 288) :
    mine B N (ix2 e b) = IntOp.andi (IntOp.cmpi .eq (B (ix1 b)) (BitVec.ofNat 32 e.val)) (IntOp.cmpi .slt (BitVec.ofNat 32 b.val) (N (ix1 0))) := by
  pointwise [mine]

theorem mineRow_apply (e : Fin 32) (n : Fin 73728) : mineRow B N (ix2 e n) = mine B N (ix2 e ⟨n.val / 256, by omega⟩) := by
  refine (shapeCast_apply _ _ _ (ix3 e ⟨n.val / 256, by omega⟩ ⟨n.val % 256, by omega⟩)
    (by rw [Shape.rowMajor_val_two, Shape.rowMajor_val_three]
        show (e.val * 288 + n.val / 256) * 256 + n.val % 256 = e.val * 73728 + n.val
        omega)).trans ?_
  pointwise []

theorem times_apply (W : FVec Ideal S32x1024x512 .f32) (e : Fin 32) (n : Fin 73728) (f : Fin 512) :
    times X W (ix3 e n f) = inner (fun d => X (ix2 n d)) fun d => W (ix3 e d f) := by
  let T := dot_S32x1024x512_S73728x1024_S32x512x73728_1_1_02_0_n_n
  have s : times X W (ix3 e n f) = Host.dotGeneral T none W X (ix3 e f n) := by
    pointwise [times]
  rw [s]
  unfold Host.dotGeneral inner
  rw [Ideal.dotGeneral_apply, ← Equiv.sum_comp (ValueIdx.contrEquiv1 T 1024 rfl rfl).symm]
  refine Finset.sum_congr rfl fun d _ => ?_
  have hd := ValueIdx.contrEquiv1_symm_val T 1024 rfl rfl d
  rw [mul_comm (X (ix2 n d))]
  refine congrArg₂ (fun a b => W a * X b) (funext fun (a : Fin 3) => Fin.ext ?_) (funext fun (a : Fin 2) => Fin.ext ?_)
  · match a with
    | 0 => rfl
    | 1 => exact hd
    | 2 => rfl
  · match a with
    | 0 => rfl
    | 1 => exact hd

theorem silu_apply (z : FVec Ideal S32x73728x512 .f32) (e : Fin 32) (n : Fin 73728) (f : Fin 512) : siluOf z (ix3 e n f) = Proj.silu (z (ix3 e n f)) := by
  pointwise [siluOf]
  rfl

theorem every_apply (e : Fin 32) (n : Fin 73728) (k : Fin 1024) :
    every X G U D (ix3 e n k)
      = expertRow (fun d => X (ix2 n d)) (fun d f => G (ix3 e d f)) (fun d f => U (ix3 e d f)) (fun f => D (ix3 e f k)) := by
  let T := dot_S32x73728x512_S32x512x1024_S32x73728x1024_2_1_1_2_0_0
  unfold every Host.dotGeneral expertRow
  rw [Ideal.dotGeneral_apply, ← Equiv.sum_comp (ValueIdx.contrEquiv1 T 512 rfl rfl).symm]
  refine Finset.sum_congr rfl fun f _ => ?_
  have hf := ValueIdx.contrEquiv1_symm_val T 512 rfl rfl f
  beta_reduce
  rw [← times_apply, ← times_apply, ← silu_apply]
  refine congrArg₂ (fun a b => siluOf (times X G) a * times X U a * D b) (funext fun (a : Fin 3) => Fin.ext ?_) (funext fun (a : Fin 3) => Fin.ext ?_)
  · match a with
    | 0 => rfl
    | 1 => rfl
    | 2 => exact hf
  · match a with
    | 0 => rfl
    | 1 => exact hf
    | 2 => rfl

theorem kept_apply (e : Fin 32) (n : Fin 73728) (k : Fin 1024) :
    kept B N X G U D (ix3 e n k) = if mine B N (ix2 e ⟨n.val / 256, by omega⟩) = 1#1 then every X G U D (ix3 e n k) else 0 := by
  rw [← mineRow_apply]
  pointwise [kept]
  show Scalar.select _ _ (Ideal.ofBits .f32 0x00000000#32) = _
  rw [Ideal.ofBits_zero_f32]
  rfl

theorem result_apply (n : Fin 73728) (k : Fin 1024) : result B N X G U D (ix2 n k) = ∑ e : Fin 32, kept B N X G U D (ix3 e n k) := by
  pointwise [result]

/-- The mask is set just where the block names the expert and its number is below the count. -/
theorem mine_iff (e : Fin 32) (b : Fin 288) :
    mine B N (ix2 e b) = 1#1 ↔ (B (ix1 b)).toNat = e.val ∧ (b.val : ℤ) < (N (ix1 0)).toInt := by
  have both (x y : BitVec 1) : IntOp.andi x y = 1#1 ↔ x = 1#1 ∧ y = 1#1 := by revert x y; decide
  have he : e.val < 32 := e.isLt
  have hb : b.val < 288 := b.isLt
  rw [mine_apply, both]
  refine and_congr ?_ ?_
  · have bit (x : Bool) : BitVec.ofBool x = 1#1 ↔ x = true := by cases x <;> decide
    show BitVec.ofBool (B (ix1 b) == BitVec.ofNat 32 e.val) = 1#1 ↔ _
    rw [bit, beq_iff_eq, ← BitVec.toNat_inj, BitVec.toNat_ofNat, Nat.mod_eq_of_lt (by omega)]
  · have bit (x : Bool) : BitVec.ofBool x = 1#1 ↔ x = true := by cases x <;> decide
    have value : (BitVec.ofNat 32 b.val).toInt = b.val := by
      rw [BitVec.toInt_eq_toNat_of_lt (by rw [BitVec.toNat_ofNat]; omega), BitVec.toNat_ofNat]; omega
    show BitVec.ofBool (BitVec.slt (BitVec.ofNat 32 b.val) (N (ix1 0))) = 1#1 ↔ _
    rw [bit, BitVec.slt_iff_toInt_lt, value]

/-- A row of a live block ends with its result at the expert its block names: the other experts give zero. -/
theorem result_live (n : Fin 73728) (k : Fin 1024) (e : Fin 32) (he : (B (ix1 ⟨n.val / 256, by omega⟩)).toNat = e.val)
    (hl : ((n.val / 256 : ℕ) : ℤ) < (N (ix1 0)).toInt) :
    result B N X G U D (ix2 n k)
      = expertRow (fun d => X (ix2 n d)) (fun d f => G (ix3 e d f)) (fun d f => U (ix3 e d f)) (fun f => D (ix3 e f k)) := by
  rw [result_apply, Finset.sum_eq_single e]
  · rw [kept_apply, if_pos ((mine_iff _ _ _ _).mpr ⟨he, hl⟩), every_apply]
  · intro x _ hx
    rw [kept_apply, if_neg fun q => hx (Fin.ext (((mine_iff _ _ _ _).mp q).1.symm.trans he))]
  · exact fun q => absurd (Finset.mem_univ e) q

/-- A row of a block that is not live ends zero. -/
theorem result_idle (n : Fin 73728) (k : Fin 1024) (hl : ¬ ((n.val / 256 : ℕ) : ℤ) < (N (ix1 0)).toInt) :
    result B N X G U D (ix2 n k) = 0 := by
  rw [result_apply]
  refine Finset.sum_eq_zero fun e _ => ?_
  rw [kept_apply, if_neg fun q => hl ((mine_iff _ _ _ _).mp q).2]

end Exp.Ref
end
-- ==== Proof.ExpJoin.lean ====
/-
  The experts and their reference, from the same arguments, end with the same array.
-/
module

public import proofs.«01_k».proof.Proof.ExpValue
public import proofs.«01_k».proof.Proof.ExpRef

@[expose] public section
set_option maxRecDepth 16384
noncomputable section
namespace Exp
open Idealize.ShloMosaic Idealize.ShloMosaic.TcCoe Cert.Kernel3Ideal Cert.Kernel3Ideal.Gen

variable {m : (ℓ : Loc nD τ sig) → Buf (Elt Ideal) ℓ} (h : Named m)

theorem agree (c : Dev nD) (B : IVec S288 32) (N : IVec S1 32) (X : FVec Ideal S73728x1024 .f32) (G U : FVec Ideal S32x1024x512 .f32) (D : FVec Ideal S32x512x1024 .f32)
    (hB : B = m ((c.tc : Thread nD τ).loc main_arg0)) (hN : N = m ((c.tc : Thread nD τ).loc main_arg1)) (hX : X = argX (m := m) c)
    (hG : G = argG (m := m) c) (hU : U = argU (m := m) c) (hD : D = argD (m := m) c) :
    Ref.result B N X G U D = result h c := by
  obtain rfl : c = 0 := one_device c
  subst hX hG hU hD
  have hb (b : Fin 288) : (B (ix1 b)).toNat = (pick h b).val := by rw [hB]; rfl
  have hn : N (ix1 0) = live m := by rw [hN]; rfl
  funext j
  refine (congrArg _ (eq_ix2 j)).trans ?_
  show _ = given h 0 (j 0) (j 1)
  unfold given
  by_cases hl : Live m (blockAt (j 0))
  · rw [if_pos hl]
    exact Ref.result_live B N _ _ _ _ (j 0) (j 1) (pick h (blockAt (j 0))) (hb _) (by rw [hn]; exact hl)
  · rw [if_neg hl]
    exact Ref.result_idle B N _ _ _ _ (j 0) (j 1) (by rw [hn]; exact hl)

end Exp
end
-- ==== Proof.ComRows.lean ====
/-
  The last call's rows: which row of the experts' outputs each of the 512 copies of a grid point reads, which row of the scratch buffer
  it fills, and what the scratch buffer holds after all of them.
-/
module

public import proofs.«01_k».proof.Proof.Gen.Kernel4Ideal.Launch
public import proofs.«01_k».proof.Proof.Gen.Kernel4Ideal.Skeleton
public import Idealize.ShloMosaic.Lib.Batch
public import Idealize.ShloMosaic.Lib.Ring
public import Idealize.ShloMosaic.Lib.Tactic
public import Idealize.ShloMosaic.Lib.Pointwise

@[expose] public section
set_option maxRecDepth 16384
set_option Elab.async false
noncomputable section
namespace Com
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

/-- The experts' outputs, whole. -/
def yM : Memref sig .tc .hbm S73728x1024 .f32 := Memref.whole main_arg4
/-- The scratch buffer, whole. -/
def sM : Memref sig .tc .vmem S2x256x1024 .f32 := Memref.whole cc0_scratch0

/-- The semaphore that every copy signals. -/
abbrev dsem : DmaSem sig := cc0_scratch1.sem

theorem trips1 : k0_t1_loop.trips = 256 := by decide +kernel
theorem trips2 : k0_t2_loop.trips = 256 := by decide +kernel

/-! ## The offsets of a trip -/

theorem off1_eq : ∀ k : Fin k0_t1_loop.trips, k0_off1 k = ![0, 0, 2 * k.val] := by decide +kernel
theorem off4_eq : ∀ k : Fin k0_t1_loop.trips, k0_off4 k = ![0, 0, 2 * k.val + 1] := by decide +kernel
theorem off2_eq : ∀ k : Fin k0_t1_loop.trips, k0_off2 k = ![k.val, 0] := by decide +kernel
theorem off5_eq : ∀ k : Fin k0_t1_loop.trips, k0_off5 k = ![k.val, 0] := by decide +kernel

/-! ## The rows -/

variable (x0 : S1x1x512.Idx → Elt Ideal .i32)

/-- The position that copy `t` reads. -/
def word (t : Fin 512) : BitVec 32 := x0 (ix3 0 0 t)

/-- Every position is a row of the experts' outputs. -/
def InRows : Prop := ∀ t : Fin 512, (word x0 t).toNat < 73728

/-- The scratch buffer's row that copy `t` fills. -/
def rowOf (t : Fin 512) : Finset S2x256x1024.Idx := Finset.univ.filter fun y => (y 0).val = t.val % 2 ∧ (y 1).val = t.val / 2

/-- The experts' row that copy `t` reads. -/
def srcOf (t : Fin 512) : Finset S73728x1024.Idx := Finset.univ.filter fun y => (y 0).val = (word x0 t).toNat

theorem mem_rowOf (t : Fin 512) (y : S2x256x1024.Idx) : y ∈ rowOf t ↔ (y 0).val = t.val % 2 ∧ (y 1).val = t.val / 2 := by
  unfold rowOf; rw [Finset.mem_filter]; exact and_iff_right (Finset.mem_univ _)

theorem mem_srcOf (t : Fin 512) (y : S73728x1024.Idx) : y ∈ srcOf x0 t ↔ (y 0).val = (word x0 t).toNat := by
  unfold srcOf; rw [Finset.mem_filter]; exact and_iff_right (Finset.mem_univ _)

theorem rowOf_disjoint : ∀ t t' : Fin 512, t ≠ t' → Disjoint (rowOf t) (rowOf t') := fun t t' hne => by
  rw [Finset.disjoint_left]; intro y hy hy'; rw [mem_rowOf] at hy hy'; exact hne (Fin.ext (by omega))

theorem rowOf_cover : Finset.univ.biUnion rowOf = Finset.univ := by
  ext y
  simp only [Finset.mem_biUnion, Finset.mem_univ, true_and, iff_true]
  have h0 : (y 0).val < 2 := (y 0).isLt
  have h1 : (y 1).val < 256 := (y 1).isLt
  exact ⟨⟨2 * (y 1).val + (y 0).val, by omega⟩, (mem_rowOf _ _).mpr (by
    show _ = (2 * (y 1).val + (y 0).val) % 2 ∧ _ = (2 * (y 1).val + (y 0).val) / 2
    omega)⟩

/-- The copy that fills row `y`. -/
def copyOf (y : S2x256x1024.Idx) : Fin 512 :=
  ⟨2 * (y 1).val + (y 0).val, by have h0 : (y 0).val < 2 := (y 0).isLt; have h1 : (y 1).val < 256 := (y 1).isLt; omega⟩

/-- What the scratch buffer holds after the copies. -/
def gathered (Y : S73728x1024.Idx → Elt Ideal .f32) : S2x256x1024.Idx → Elt Ideal .f32 := fun y =>
  Y (ix2 ⟨(word x0 (copyOf y)).toNat % 73728, Nat.mod_lt _ (by decide)⟩ (y 2))

/-! ## The windows of a copy -/

theorem squeeze_at (h : S256x1024.numel = S1x256x1024.numel) (j : S256x1024.Idx) :
    Shape.reshapeEquiv h j = (ix3 0 (j 0) (j 1) : S1x256x1024.Idx) := by
  have e : ∀ hh : S1x256x1024.ShapeCasts S256x1024, shapeCast S256x1024 (fun i : S1x256x1024.Idx => i) hh j = ix3 0 (j 0) (j 1) := fun hh => by
    simp only [pointwise]
  exact e h.symm

/-- Row `o` of plane `p` of the scratch buffer. -/
def dst (p : Fin 3 → ℕ) (hp : ∀ a, p a + S1x256x1024.size a ≤ S2x256x1024.size a) (o : Fin 2 → ℕ) (ho : ∀ a, o a + S1x1024.size a ≤ S256x1024.size a) :
    Memref sig .tc .vmem S1x1024 .f32 :=
  ((sM.slice (Rect.unit (s := S2x256x1024) p S1x256x1024.size hp) (fun _ => rfl)).squeeze S256x1024 squeezes_S1x256x1024_S256x1024).slice
    (Rect.unit (s := S256x1024) o S1x1024.size ho) (fun _ => rfl)

/-- Row `o` of the experts' outputs. -/
def src (o : Fin 2 → ℕ) (ho : ∀ a, o a + S1x1024.size a ≤ S73728x1024.size a) : Memref sig .tc .hbm S1x1024 .f32 :=
  yM.slice (Rect.unit (s := S73728x1024) o S1x1024.size ho) (fun _ => rfl)

theorem src_emb (n : ℕ) (ho) (x : S1x1024.Idx) (hn : n < 73728) : (src ![n, 0] ho).view.emb x = (ix2 ⟨n, hn⟩ (x 1) : S73728x1024.Idx) := by
  have h0 : (x 0).val < 1 := (x 0).isLt
  show (Rect.unit (s := S73728x1024) ![n, 0] S1x1024.size ho).emb x = _
  funext a
  match a with
  | 0 => exact Fin.ext (show n + 1 * (x 0).val = n by omega)
  | 1 => exact Fin.ext (show 0 + 1 * (x 1).val = (x 1).val by omega)

theorem dst_emb (j : Fin 2) (k : Fin 256) (hp ho) (x : S1x1024.Idx) :
    (dst ![j.val, 0, 0] hp ![k.val, 0] ho).view.emb x = (ix3 j k (x 1) : S2x256x1024.Idx) := by
  have h0 : (x 0).val < 1 := (x 0).isLt
  show (Rect.unit (s := S2x256x1024) ![j.val, 0, 0] S1x256x1024.size hp).emb
    (Shape.reshapeEquiv squeezes_S1x256x1024_S256x1024.numel_eq ((Rect.unit (s := S256x1024) ![k.val, 0] S1x1024.size ho).emb x)) = _
  rw [squeeze_at]
  funext a
  match a with
  | 0 => exact Fin.ext (show j.val + 1 * 0 = j.val by omega)
  | 1 => exact Fin.ext (show 0 + 1 * (k.val + 1 * (x 0).val) = k.val by omega)
  | 2 => exact Fin.ext (show 0 + 1 * (0 + 1 * (x 1).val) = (x 1).val by omega)

theorem src_set (t : Fin 512) (ho) (hn : (word x0 t).toNat < 73728) : (src ![(word x0 t).toNat, 0] ho).view.set = srcOf x0 t := by
  refine Finset.ext fun (y : S73728x1024.Idx) => Iff.trans ?_ (mem_srcOf x0 t y).symm
  refine Finset.mem_map.trans ?_
  constructor
  · rintro ⟨x, -, e⟩
    exact congrArg (fun i : S73728x1024.Idx => (i 0).val) (e.symm.trans (src_emb _ ho x hn))
  · intro e
    refine ⟨(ix2 0 (y 1) : S1x1024.Idx), Finset.mem_univ _, (src_emb _ ho _ hn).trans ?_⟩
    funext a
    match a with
    | 0 => exact Fin.ext e.symm
    | 1 => rfl

theorem dst_set (t : Fin 512) (j : Fin 2) (k : Fin 256) (hp ho) (hj : t.val % 2 = j.val) (hk : t.val / 2 = k.val) :
    (dst ![j.val, 0, 0] hp ![k.val, 0] ho).view.set = rowOf t := by
  refine Finset.ext fun (y : S2x256x1024.Idx) => Iff.trans ?_ (mem_rowOf t y).symm
  rw [hj, hk]
  refine Finset.mem_map.trans ?_
  constructor
  · rintro ⟨x, -, e⟩
    have e' := e.symm.trans (dst_emb j k hp ho x)
    exact ⟨congrArg (fun i : S2x256x1024.Idx => (i 0).val) e', congrArg (fun i : S2x256x1024.Idx => (i 1).val) e'⟩
  · rintro ⟨e0, e1⟩
    refine ⟨(ix2 0 (y 2) : S1x1024.Idx), Finset.mem_univ _, (dst_emb j k hp ho _).trans ?_⟩
    funext a
    match a with
    | 0 => exact Fin.ext e0.symm
    | 1 => exact Fin.ext e1.symm
    | 2 => rfl

/-- What a copy leaves on its row is what the scratch buffer holds there after all of them. -/
theorem landed (Y : S73728x1024.Idx → Elt Ideal .f32) (f : S2x256x1024.Idx → Elt Ideal .f32) (t : Fin 512) (j : Fin 2) (k : Fin 256) (hp ho hs)
    (hn : (word x0 t).toNat < 73728) (hj : t.val % 2 = j.val) (hk : t.val / 2 = k.val) :
    ∀ y ∈ rowOf t, (dst ![j.val, 0, 0] hp ![k.val, 0] ho).view.write (Elt Ideal) f
      (ReadAs.same.apply ((src ![(word x0 t).toNat, 0] hs).view.read (Elt Ideal) Y)) Finset.univ y = gathered x0 Y y := by
  intro y hy
  rw [mem_rowOf, hj, hk] at hy
  have e : y = (dst ![j.val, 0, 0] hp ![k.val, 0] ho).view.emb (ix2 0 (y 2) : S1x1024.Idx) := by
    refine Eq.trans ?_ (dst_emb j k hp ho _).symm
    funext a
    match a with
    | 0 => exact Fin.ext hy.1
    | 1 => exact Fin.ext hy.2
    | 2 => rfl
  have ec : copyOf y = t := Fin.ext (by show 2 * (y 1).val + (y 0).val = t.val; rw [hy.1, hy.2]; omega)
  refine (congrArg _ e).trans ((View.write_emb_of_mem _ _ (Finset.mem_univ _)).trans ?_)
  refine (show _ = Y ((src ![(word x0 t).toNat, 0] hs).view.emb (ix2 0 (y 2) : S1x1024.Idx)) from rfl).trans ?_
  refine (congrArg Y (src_emb _ hs _ hn)).trans ?_
  unfold gathered
  refine congrArg Y ?_
  funext a
  match a with
  | 0 => exact Fin.ext (show (word x0 t).toNat = (word x0 (copyOf y)).toNat % 73728 by rw [ec]; exact (Nat.mod_eq_of_lt hn).symm)
  | 1 => rfl

end Com
end
-- ==== Proof.ComCopies.lean ====
/-
  The last call's two loops: the first starts 512 copies on one semaphore, two a trip; the second waits for them, two a trip, and hands
  the scratch buffer back with every row gathered.
-/
module

public import proofs.«01_k».proof.Proof.ComRows

@[expose] public section
set_option maxRecDepth 16384
set_option Elab.async false
noncomputable section
namespace Com
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

variable (c : Dev nD) (x0 : S1x1x512.Idx → Elt Ideal .i32) (Y : S73728x1024.Idx → Elt Ideal .f32) (f0 : S2x256x1024.Idx → Elt Ideal .f32)

/-- What one copy signals. -/
def NN : ℕ := (dst ![0, 0, 0] inb_S2x256x1024_S1x256x1024_0_0_0 ![0, 0] inb_S256x1024_S1x1024_0_0).view.amount (SemLoc.dma (sig := sig) dsem)

theorem NN_pos : 0 < NN := by unfold NN; decide +kernel

/-- The experts' row that copy `t` reads, at the copy's own share. -/
def srcTok (t : Fin 512) : sProp 𝕄 := (((c : Thread nD τ).loc main_arg4) ↦[srcOf x0 t]{Transfers.shareTokN fullShare t.val} Y)

/-- Copy `t` landed, and the row it read handed back. -/
def deliv (t : Fin 512) : sProp 𝕄 :=
  iprop((((c : Thread nD τ).loc cc0_scratch0) ↦[rowOf t]{fullShare} gathered x0 Y) ∗ srcTok c x0 Y t)

instance deliv_storable (t : Fin 512) : BI.Storable (upEmb : UEmb _ 𝕄) (deliv c x0 Y t) := by
  unfold deliv srcTok; infer_instance

/-- What a copy needs. -/
def ready (t : Fin 512) : sProp 𝕄 :=
  iprop((((c : Thread nD τ).loc cc0_scratch0) ↦[rowOf t]{fullShare} f0) ∗ srcTok c x0 Y t)

/-- The copies, `j` of them started and `u` units of them waited for. -/
abbrev batch (j u : ℕ) : sProp 𝕄 :=
  Transfers.Batch (countersEmb (U := Pipeline.UD sig nD τ)) (c : Thread nD τ) (.dma dsem) () NN (deliv c x0 Y) j u

variable (arg1 : Memref sig .tc .smem S1x1x512 .i32)

/-- Before trip `k` of the first loop. -/
def issueAt (k : ℕ) (_ : Unit) : sProp 𝕄 :=
  iprop(batch c x0 Y (2 * k) 0 ∗ bigSep (Ring.rangeSet 512 (2 * k) 512) (ready c x0 Y f0)
    ∗ (arg1.view.loc (c : Thread nD τ) ↦[arg1.view.set]{fullShare} arg1.view.rep x0))

/-- Before trip `k` of the second. -/
def drainAt (k : ℕ) (_ : Unit) : sProp 𝕄 :=
  iprop(⌜k ≤ 256⌝ ∗ (∃ W, owes (c : Thread nD τ) 0 W)
    ∗ (if k < 256 then batch c x0 Y 512 (2 * k * NN)
       else iprop(semVal ((c : Thread nD τ), SemLoc.dma dsem) 0 ∗ bigSep Finset.univ (deliv c x0 Y))))

/-- The word that a trip reads. -/
theorem word_at (r : Rect S1x1x512) (n : Fin 512) (hoff : r.off = ![0, 0, n.val]) (x : r.shape.Idx) (hx : ∀ a, (x a).val = 0) :
    (arg1.access r).read (Elt Ideal) (arg1.view.rep x0) x = word x0 n := by
  refine (show _ = arg1.view.read (Elt Ideal) (arg1.view.rep x0) (r.emb x) from rfl).trans ?_
  rw [View.read_rep]
  unfold word
  refine congrArg x0 ?_
  funext a
  refine Fin.ext ?_
  show r.off a + r.stride a * (x a).val = _
  rw [hx a, hoff, Nat.mul_zero, Nat.add_zero]
  match a with
  | 0 => rfl
  | 1 => rfl
  | 2 => rfl

theorem first_zero (h : 0 < S1x1x1.numel) (a : Fin 3) : (Shape.Idx.first h a).val = 0 := by
  have : (Shape.Idx.first h a).val < S1x1x1.size a := (Shape.Idx.first h a).isLt
  match a with
  | 0 => exact Nat.lt_one_iff.mp this
  | 1 => exact Nat.lt_one_iff.mp this
  | 2 => exact Nat.lt_one_iff.mp this

theorem chk_of {v : BitVec 32} (h : v.toNat < 73728) : ∀ a, (![v.toNat, 0] : Fin 2 → ℕ) a + S1x1024.size a ≤ S73728x1024.size a := fun a => by
  match a with
  | 0 => exact h
  | 1 => exact Nat.le_refl _

/-- After a return, the rest. -/
theorem after_ret {E : Type → Type} {α β : Type} (a : α) (k : α → Prog E β) : (Prog.ret a).bind k = k a := rfl

section Copy

variable (t : Fin 512) (j : Fin 2) (k : Fin 256) {p : Fin 3 → ℕ} (hp : ∀ a, p a + S1x256x1024.size a ≤ S2x256x1024.size a) {o : Fin 2 → ℕ}
  (ho : ∀ a, o a + S1x1024.size a ≤ S256x1024.size a) {q : Fin 2 → ℕ} (hq : ∀ a, q a + S1x1024.size a ≤ S73728x1024.size a)
  (ep : p = ![j.val, 0, 0]) (eo : o = ![k.val, 0]) (eq : q = ![(word x0 t).toNat, 0])
  (hn : (word x0 t).toNat < 73728) (hj : t.val % 2 = j.val) (hk : t.val / 2 = k.val)

include eq hn in
/-- A copy's source is its row of the experts' outputs. -/
theorem source : srcTok c x0 Y t ⊢ ((src q hq).view.loc (c : Thread nD τ) ↦[(src q hq).view.set]{Transfers.shareTokN fullShare t.val} Y : sProp 𝕄) := by
  subst eq
  unfold srcTok
  exact Entails.of_eq (congrArg (fun S : Finset S73728x1024.Idx => (((c : Thread nD τ).loc main_arg4) ↦[S]{Transfers.shareTokN fullShare t.val} Y : sProp 𝕄)) (src_set x0 t hq hn).symm)

include ep eo hj hk in
/-- A copy's destination is its row of the scratch buffer. -/
theorem target : (dst p hp o ho).view.set ⊆ rowOf t := by
  subst ep; subst eo
  exact subset_of_eq (dst_set t j k hp ho hj hk)

include ep eo eq hn hj hk in
/-- A copy that has landed is its delivery. -/
theorem arrive : iprop(((dst p hp o ho).view.loc (c : Thread nD τ) ↦[rowOf t]{fullShare} ((dst p hp o ho).view.write (Elt Ideal) f0 (ReadAs.same.apply ((src q hq).view.read (Elt Ideal) Y)) Finset.univ))
      ∗ ((src q hq).view.loc (c : Thread nD τ) ↦[(src q hq).view.set]{Transfers.shareTokN fullShare t.val} Y)) ⊢ (deliv c x0 Y t : sProp 𝕄) := by
  subst ep; subst eo; subst eq
  unfold deliv srcTok
  refine sep_mono (Entails.of_eq ?_) (Entails.of_eq ?_)
  · exact pointsTo_congr (landed x0 Y f0 t j k hp ho hq hn hj hk)
  · exact congrArg (fun S : Finset S73728x1024.Idx => (((c : Thread nD τ).loc main_arg4) ↦[S]{Transfers.shareTokN fullShare t.val} Y : sProp 𝕄)) (src_set x0 t hq hn)

theorem amount_eq : (dst p hp o ho).view.amount (SemLoc.dma (sig := sig) dsem) = NN := by unfold NN; rfl

include ep eo hj hk in
/-- One copy: its position read, its row's copy started. -/
theorem start (hx : InRows x0) {r : Rect S1x1x512} (er : r.off = ![0, 0, t.val]) {hw : (arg1.access r).Loads} {x : r.shape.Idx} (hz : ∀ a, (x a).val = 0)
    {chk : BitVec 32 → Prop} {dec : ∀ v, Decidable (chk v)} {off : BitVec 32 → Fin 2 → ℕ} {inb : ∀ v, chk v → ∀ a, off v a + S1x1024.size a ≤ S73728x1024.size a}
    (hchk : ∀ v : BitVec 32, v.toNat < 73728 → chk v) (hoff : ∀ v, off v = ![v.toNat, 0])
    {h1 : ∀ v h, (src (off v) (inb v h)).view.WordExact} {h2 : (dst p hp o ho).view.WordExact}
    {h3 : DmaTarget.Typed (nD := nD) .hbm (SemLoc.dma dsem) (DmaTarget.here (τ := τ) (p := .tc) (dst p hp o ho))}
    {K : PUnit → Prog (TpuEff nD τ sig (Elt Ideal) Λ₀ .tc) Unit} {Q : Unit → sProp 𝕄} :
    iprop(batch c x0 Y t.val 0 ∗ ready c x0 Y f0 t ∗ (arg1.view.loc (c : Thread nD τ) ↦[arg1.view.set]{fullShare} arg1.view.rep x0))
      ⊢ iprop((iprop(batch c x0 Y (t.val + 1) 0 ∗ (arg1.view.loc (c : Thread nD τ) ↦[arg1.view.set]{fullShare} arg1.view.rep x0))
            -∗ wp frame (wpE (defs₀ (F := Ideal)) Variants.none (c : Thread nD τ) none) Set.univ (K ⟨⟩) Q)
          -∗ wp frame (wpE (defs₀ (F := Ideal)) Variants.none (c : Thread nD τ) none) Set.univ
            (smemLoadElt (p := .tc) arg1 r hw x fun v => .op (.assume (chk v) (dec v)) fun h =>
              .op (.enqueueDma (src (off v) (inb v h.down)) (.here (dst p hp o ho)) (.dma dsem) (h1 v h.down) h2 h3) K) Q) := by
  have hn := hx t
  unfold ready
  iintro ⟨HB, ⟨HS, HY⟩, HT⟩ Hk
  iapply (wp_smemLoadElt_named (m := arg1) Variants.none (c : Thread nD τ) none Set.univ (S := arg1.view.set) (f := arg1.view.rep x0) (View.set_slice_subset _ _)) $$ HT
  iintro HT %w %ew
  have ew' : w = word x0 t := ew.trans (word_at x0 arg1 r t er x hz)
  subst ew'
  iapply (wp_assume Variants.none (c : Thread nD τ) none Set.univ (hchk _ hn))
  iapply (Transfers.wp_dmaBatch (countersEmb (U := Pipeline.UD sig nD τ)) Variants.none (c : Thread nD τ) none
    (src := src (off (word x0 t)) (inb _ (hchk _ hn))) (dst := dst p hp o ho) () NN (amount_eq hp ho)
    (Sd := rowOf t) (fd := f0) (fs := Y) (target t j k hp ho ep eo hj hk)
    (D := deliv c x0 Y) (j := t.val) (u := 0) t.isLt (Nat.zero_le _)
    (arrive c x0 Y f0 t j k hp ho _ ep eo (hoff _) hn hj hk)) $$ [HB HS HY]
  · isplitl [HY]; · iapply (source c x0 Y t _ (hoff _) hn); iexact HY
    isplitl [HS]; · iexact HS
    iexact HB
  iintro HB
  iapply Hk
  isplitl [HB]; · iexact HB
  iexact HT

end Copy

section Pair

variable (k : Fin 256) {p0 p1 : Fin 3 → ℕ} (hp0 : ∀ a, (![0, 0, 0] : Fin 3 → ℕ) a + S1x256x1024.size a ≤ S2x256x1024.size a) (hp1 : ∀ a, (![1, 0, 0] : Fin 3 → ℕ) a + S1x256x1024.size a ≤ S2x256x1024.size a)
  {o0 o1 : Fin 2 → ℕ} (ho0 : ∀ a, o0 a + S1x1024.size a ≤ S256x1024.size a) (ho1 : ∀ a, o1 a + S1x1024.size a ≤ S256x1024.size a)

/-- The two copies of a trip. -/
theorem pair (eo0 : o0 = ![k.val, 0]) (eo1 : o1 = ![k.val, 0]) (hx : InRows x0)
    {r0 r1 : Rect S1x1x512} (er0 : r0.off = ![0, 0, 2 * k.val]) (er1 : r1.off = ![0, 0, 2 * k.val + 1]) {hw0 : (arg1.access r0).Loads} {hw1 : (arg1.access r1).Loads}
    {z0 : r0.shape.Idx} {z1 : r1.shape.Idx} (hz0 : ∀ a, (z0 a).val = 0) (hz1 : ∀ a, (z1 a).val = 0)
    {chk0 chk1 : BitVec 32 → Prop} {dec0 : ∀ v, Decidable (chk0 v)} {dec1 : ∀ v, Decidable (chk1 v)} {off0 off1 : BitVec 32 → Fin 2 → ℕ}
    {inb0 : ∀ v, chk0 v → ∀ a, off0 v a + S1x1024.size a ≤ S73728x1024.size a} {inb1 : ∀ v, chk1 v → ∀ a, off1 v a + S1x1024.size a ≤ S73728x1024.size a}
    (hchk0 : ∀ v : BitVec 32, v.toNat < 73728 → chk0 v) (hchk1 : ∀ v : BitVec 32, v.toNat < 73728 → chk1 v) (hoff0 : ∀ v, off0 v = ![v.toNat, 0]) (hoff1 : ∀ v, off1 v = ![v.toNat, 0])
    {h1 : ∀ v h, (src (off0 v) (inb0 v h)).view.WordExact} {h2 : (dst ![0, 0, 0] hp0 o0 ho0).view.WordExact}
    {h3 : DmaTarget.Typed (nD := nD) .hbm (SemLoc.dma dsem) (DmaTarget.here (τ := τ) (p := .tc) (dst ![0, 0, 0] hp0 o0 ho0))}
    {g1 : ∀ v h, (src (off1 v) (inb1 v h)).view.WordExact} {g2 : (dst ![1, 0, 0] hp1 o1 ho1).view.WordExact}
    {g3 : DmaTarget.Typed (nD := nD) .hbm (SemLoc.dma dsem) (DmaTarget.here (τ := τ) (p := .tc) (dst ![1, 0, 0] hp1 o1 ho1))} (acc : Unit) :
    issueAt c x0 Y f0 arg1 k.val acc ⊢ wp frame (wpE (defs₀ (F := Ideal)) Variants.none (c : Thread nD τ) none) Set.univ
      (smemLoadElt (p := .tc) arg1 r0 hw0 z0 fun v => .op (.assume (chk0 v) (dec0 v)) fun h =>
        .op (.enqueueDma (src (off0 v) (inb0 v h.down)) (.here (dst ![0, 0, 0] hp0 o0 ho0)) (.dma dsem) (h1 v h.down) h2 h3) fun _ =>
        smemLoadElt (p := .tc) arg1 r1 hw1 z1 fun v => .op (.assume (chk1 v) (dec1 v)) fun h =>
        .op (.enqueueDma (src (off1 v) (inb1 v h.down)) (.here (dst ![1, 0, 0] hp1 o1 ho1)) (.dma dsem) (g1 v h.down) g2 g3) fun _ =>
        .ret ()) (issueAt c x0 Y f0 arg1 (k.val + 1)) := by
  have hk := k.isLt
  unfold issueAt
  rw [Ring.bigSep_rangeSet_head (Φ := ready c x0 Y f0) (lo := 2 * k.val) (by omega) (by omega),
    Ring.bigSep_rangeSet_head (Φ := ready c x0 Y f0) (lo := 2 * k.val + 1) (by omega) (by omega),
    show 2 * (k.val + 1) = 2 * k.val + 1 + 1 by omega]
  iintro ⟨HB, ⟨H0, H1, Hr⟩, HT⟩
  iapply (start c x0 Y f0 arg1 ⟨2 * k.val, by omega⟩ 0 k hp0 ho0 rfl eo0 (show 2 * k.val % 2 = 0 by omega) (show 2 * k.val / 2 = k.val by omega)
    hx er0 hz0 (inb := inb0) hchk0 hoff0) $$ [HB H0 HT]
  · isplitl [HB]; · iexact HB
    isplitl [H0]; · iexact H0
    iexact HT
  iintro ⟨HB, HT⟩
  iapply (start c x0 Y f0 arg1 ⟨2 * k.val + 1, by omega⟩ 1 k hp1 ho1 rfl eo1 (show (2 * k.val + 1) % 2 = 1 by omega) (show (2 * k.val + 1) / 2 = k.val by omega)
    hx er1 hz1 (inb := inb1) hchk1 hoff1) $$ [HB H1 HT]
  · isplitl [HB]; · iexact HB
    isplitl [H1]; · iexact H1
    iexact HT
  iintro ⟨HB, HT⟩
  sl_step
  isplitl [HB]; · iexact HB
  isplitl [Hr]; · iexact Hr
  iexact HT

end Pair

variable (i : grid0.Coords) (harg1 : arg1.IsWhole) (arg2 : Memref sig .tc .vmem S256x1024 .f32) (harg2 : arg2.IsWhole) (arg3 : Memref sig .tc .vmem S256x128 .f32) (harg3 : arg3.IsWhole) (arg4 : Memref sig .tc .vmem S256x256 .f32) (harg4 : arg4.IsWhole) (arg6 : Memref sig .tc .vmem S1024x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole)

/-- One trip of the first loop. -/
abbrev issueBody : Fin k0_t1_loop.trips → Unit → Prog (TpuEff nD τ sig (Elt Ideal) Λ₀ .tc) Unit :=
  k0_t1_body (F := Ideal) i arg1 harg1 arg2 harg2 arg3 harg3 arg4 harg4 (Memref.whole main_arg4) (Memref.isWhole_whole _) arg6 harg6 arg7 harg7 arg8 harg8 arg9 harg9 arg10 harg10 arg11 harg11 (Memref.whole cc0_scratch0) (Memref.isWhole_whole _) cc0_scratch1

/-- One trip of the second. -/
abbrev drainBody : Fin k0_t2_loop.trips → Unit → Prog (TpuEff nD τ sig (Elt Ideal) Λ₀ .tc) Unit :=
  k0_t2_body (F := Ideal) i arg1 harg1 arg2 harg2 arg3 harg3 arg4 harg4 (Memref.whole main_arg4) (Memref.isWhole_whole _) arg6 harg6 arg7 harg7 arg8 harg8 arg9 harg9 arg10 harg10 arg11 harg11 (Memref.whole cc0_scratch0) (Memref.isWhole_whole _) cc0_scratch1

theorem drain_step (k : Fin k0_t2_loop.trips) (acc : Unit) :
    drainAt c x0 Y k.val acc ⊢ wp frame (wpE (defs₀ (F := Ideal)) Variants.none (c : Thread nD τ) none) Set.univ
      (drainBody arg1 i harg1 arg2 harg2 arg3 harg3 arg4 harg4 arg6 harg6 arg7 harg7 arg8 harg8 arg9 harg9 arg10 harg10 arg11 harg11 k acc)
      (drainAt c x0 Y (k.val + 1)) := by
  have hk : k.val < 256 := lt_of_lt_of_eq k.isLt trips2
  have hN := NN_pos
  unfold drainAt drainBody k0_t2_body
  rw [if_pos hk]
  iintro ⟨-, ⟨%W, HO⟩, HB⟩
  iapply (Transfers.wp_waitBatchSized (countersEmb (U := Pipeline.UD sig nD τ)) Variants.none (c : Thread nD τ) none (b := cc0_scratch0) (s := S1x1024) (e := .f32) () (N := NN) rfl (D := deliv c x0 Y)
    (u := 2 * k.val * NN) (by rw [← Nat.succ_mul, Nat.mul_comm NN]; exact Nat.mul_lt_mul_of_pos_right (by omega) hN)) $$ [HB HO]
  · isplitl [HB] <;> iassumption
  iintro ⟨HB, HO⟩
  rcases Nat.lt_or_ge (k.val + 1) 256 with h1 | h1
  · rw [if_pos h1]
    iapply (Transfers.wp_waitBatchSized (countersEmb (U := Pipeline.UD sig nD τ)) Variants.none (c : Thread nD τ) none (b := cc0_scratch0) (s := S1x1024) (e := .f32) () (N := NN) rfl (D := deliv c x0 Y)
      (u := 2 * k.val * NN + NN) (by rw [← Nat.succ_mul, ← Nat.succ_mul, Nat.mul_comm NN]; exact Nat.mul_lt_mul_of_pos_right (by omega) hN)) $$ [HB HO]
    · isplitl [HB] <;> iassumption
    iintro ⟨HB, HO⟩
    simp only [after_ret]
    sl_step
    isplitr; · ipureintro; omega
    isplitl [HO]; · iexists _; iexact HO
    rw [show 2 * (k.val + 1) * NN = 2 * k.val * NN + NN + NN by rw [← Nat.succ_mul, ← Nat.succ_mul]; rfl]
    iexact HB
  · rw [if_neg (Nat.not_lt.mpr h1)]
    iapply (Transfers.wp_waitBatchLastSized (countersEmb (U := Pipeline.UD sig nD τ)) Variants.none (c : Thread nD τ) none (b := cc0_scratch0) (s := S1x1024) (e := .f32) () (N := NN) rfl hN (D := deliv c x0 Y)
      (u := 2 * k.val * NN + NN) (by rw [← Nat.succ_mul, ← Nat.succ_mul, Nat.mul_comm NN]; exact congrArg (· * NN) (by omega))) $$ [HB HO]
    · isplitl [HB] <;> iassumption
    iintro ⟨HD, Hv, HO⟩
    simp only [after_ret]
    sl_step
    isplitr; · ipureintro; omega
    isplitl [HO]; · iexists _; iexact HO
    isplitl [Hv] <;> iassumption

theorem off3_eq (v : BitVec 32) : k0_off3 v = ![v.toNat, 0] := rfl
theorem off6_eq (v : BitVec 32) : k0_off6 v = ![v.toNat, 0] := rfl

/-- A trip of the first loop: read a position, start the copy of its row, twice. -/
theorem issue_eq (k : Fin k0_t1_loop.trips) (acc : Unit) :
    issueBody arg1 i harg1 arg2 harg2 arg3 harg3 arg4 harg4 arg6 harg6 arg7 harg7 arg8 harg8 arg9 harg9 arg10 harg10 arg11 harg11 k acc
      = smemLoadElt (p := .tc) arg1 (Rect.unit (s := S1x1x512) (k0_off1 k) S1x1x1.size (k0_off1_inb k)) (View.loads_smem_one (e := .i32) rfl numel1_S1x1x1) (Shape.Idx.first (numel1_S1x1x1.symm ▸ Nat.one_pos)) fun (v : BitVec 32) =>
        .op (.assume (k0_chk1 v) (k0_chk1.dec v)) fun h =>
        .op (.enqueueDma (src (k0_off3 v) (k0_off3_inb v h.down)) (.here (dst ![0, 0, 0] inb_S2x256x1024_S1x256x1024_0_0_0 (k0_off2 k) (k0_off2_inb k))) (.dma dsem) (View.wordExact_bits rfl) (View.wordExact_bits rfl) ⟨Or.inl rfl, trivial⟩) fun _ =>
        smemLoadElt (p := .tc) arg1 (Rect.unit (s := S1x1x512) (k0_off4 k) S1x1x1.size (k0_off4_inb k)) (View.loads_smem_one (e := .i32) rfl numel1_S1x1x1) (Shape.Idx.first (numel1_S1x1x1.symm ▸ Nat.one_pos)) fun (v : BitVec 32) =>
        .op (.assume (k0_chk2 v) (k0_chk2.dec v)) fun h =>
        .op (.enqueueDma (src (k0_off6 v) (k0_off6_inb v h.down)) (.here (dst ![1, 0, 0] inb_S2x256x1024_S1x256x1024_1_0_0 (k0_off5 k) (k0_off5_inb k))) (.dma dsem) (View.wordExact_bits rfl) (View.wordExact_bits rfl) ⟨Or.inl rfl, trivial⟩) fun _ =>
        .ret () := rfl

theorem issue_step (hx : InRows x0) (k : Fin k0_t1_loop.trips) (acc : Unit) :
    issueAt c x0 Y f0 arg1 k.val acc ⊢ wp frame (wpE (defs₀ (F := Ideal)) Variants.none (c : Thread nD τ) none) Set.univ
      (issueBody arg1 i harg1 arg2 harg2 arg3 harg3 arg4 harg4 arg6 harg6 arg7 harg7 arg8 harg8 arg9 harg9 arg10 harg10 arg11 harg11 k acc)
      (issueAt c x0 Y f0 arg1 (k.val + 1)) := by
  have hk : k.val < 256 := lt_of_lt_of_eq k.isLt trips1
  rw [issue_eq]
  exact pair c x0 Y f0 arg1 ⟨k.val, hk⟩ (r0 := Rect.unit (s := S1x1x512) (k0_off1 k) S1x1x1.size (k0_off1_inb k)) (r1 := Rect.unit (s := S1x1x512) (k0_off4 k) S1x1x1.size (k0_off4_inb k))
    (chk0 := k0_chk1) (chk1 := k0_chk2) (dec0 := k0_chk1.dec) (dec1 := k0_chk2.dec) (inb0 := k0_off3_inb) (inb1 := k0_off6_inb) inb_S2x256x1024_S1x256x1024_0_0_0 inb_S2x256x1024_S1x256x1024_1_0_0 (k0_off2_inb k) (k0_off5_inb k) (off2_eq k) (off5_eq k) hx (off1_eq k) (off4_eq k) (first_zero (numel1_S1x1x1.symm ▸ Nat.one_pos)) (first_zero (numel1_S1x1x1.symm ▸ Nat.one_pos)) (fun _ => chk_of) (fun _ => chk_of) off3_eq off6_eq
    (h1 := fun _ _ => View.wordExact_bits rfl) (h2 := View.wordExact_bits rfl) (h3 := ⟨Or.inl rfl, trivial⟩) (g1 := fun _ _ => View.wordExact_bits rfl) (g2 := View.wordExact_bits rfl) (g3 := ⟨Or.inl rfl, trivial⟩) acc

end Com
end
-- ==== Proof.ComRun.lean ====
/-
  The last call's body: the rows gathered by its two loops, then its block of the result from what was gathered.
-/
module

public import proofs.«01_k».proof.Proof.ComCopies
public import Idealize.ShloMosaic.Lib.VecWindow

@[expose] public section
set_option maxRecDepth 16384
set_option Elab.async false
noncomputable section
namespace Com
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

variable (c : Dev nD) (x0 : S1x1x512.Idx → Elt Ideal .i32) (Y : S73728x1024.Idx → Elt Ideal .f32) (f0 : S2x256x1024.Idx → Elt Ideal .f32)

/-- What is left of copy `t`'s share once its row is taken out. -/
def restOf (t : Fin 512) : sProp 𝕄 :=
  (((c : Thread nD τ).loc main_arg4) ↦[Finset.univ \ srcOf x0 t]{Transfers.shareTokN fullShare t.val} Y)

/-- What is left of the experts' outputs once every copy has its row at its share. -/
def aside : sProp 𝕄 :=
  iprop((((c : Thread nD τ).loc main_arg4) ↦{Transfers.shareDrop fullShare 512} Y) ∗ bigSep Finset.univ (restOf c x0 Y))

/-- The experts' outputs, dealt to the copies. -/
theorem deal : (((c : Thread nD τ).loc main_arg4) ↦{fullShare} Y : sProp 𝕄) ⊣⊢ iprop(aside c x0 Y ∗ bigSep Finset.univ (srcTok c x0 Y)) := by
  have h : bigSep Finset.univ (fun t : Fin 512 => (((c : Thread nD τ).loc main_arg4) ↦{Transfers.shareTok fullShare 512 t} Y : sProp 𝕄))
      ⊣⊢ iprop(bigSep Finset.univ (srcTok c x0 Y) ∗ bigSep Finset.univ (restOf c x0 Y)) := by
    rw [← bigSep_sep']
    exact ⟨bigSep_mono fun t _ => (pointsTo_split_subset (Finset.subset_univ (srcOf x0 t))).1,
      bigSep_mono fun t _ => (pointsTo_split_subset (Finset.subset_univ (srcOf x0 t))).2⟩
  unfold aside
  refine ⟨(Transfers.pointsTo_toks fullShare 512).1.trans ?_, BIBase.Entails.trans ?_ (Transfers.pointsTo_toks fullShare 512).2⟩
  · iintro ⟨HD, HT⟩
    ihave HT' := h.1 $$ HT
    icases HT' with ⟨HS, HR⟩
    isplitl [HD HR]
    · isplitl [HD] <;> iassumption
    iexact HS
  · iintro ⟨⟨HD, HR⟩, HS⟩
    isplitl [HD]; · iexact HD
    iapply h.2
    isplitl [HS] <;> iassumption

/-- The scratch buffer, row by row. -/
theorem rows (f : S2x256x1024.Idx → Elt Ideal .f32) :
    (((c : Thread nD τ).loc cc0_scratch0) ↦{fullShare} f : sProp 𝕄) = bigSep Finset.univ (fun t => ((c : Thread nD τ).loc cc0_scratch0) ↦[rowOf t]{fullShare} f) :=
  Ring.pointsTo_blocks (ℓ := (c : Thread nD τ).loc cc0_scratch0) rowOf rowOf_disjoint rowOf_cover f

/-- What every copy needs, from the scratch buffer and the copies' rows. -/
theorem make_ready : iprop((((c : Thread nD τ).loc cc0_scratch0) ↦{fullShare} f0) ∗ bigSep Finset.univ (srcTok c x0 Y)) ⊢ bigSep (Ring.rangeSet 512 (2 * 0) 512) (ready c x0 Y f0) := by
  rw [rows, ← bigSep_sep', Nat.mul_zero, Ring.rangeSet_univ]
  exact bigSep_mono fun t _ => by unfold ready; exact .refl _

/-- Everything delivered: the scratch buffer gathered, and the copies' rows. -/
theorem all_delivered : bigSep Finset.univ (deliv c x0 Y) ⊢ iprop((((c : Thread nD τ).loc cc0_scratch0) ↦{fullShare} gathered x0 Y) ∗ bigSep Finset.univ (srcTok c x0 Y)) := by
  rw [rows, ← bigSep_sep']
  exact bigSep_mono fun t _ => by unfold deliv; exact .refl _

variable (arg1 : Memref sig .tc .smem S1x1x512 .i32)
variable (i : grid0.Coords) (harg1 : arg1.IsWhole) (arg2 : Memref sig .tc .vmem S256x1024 .f32) (harg2 : arg2.IsWhole) (arg3 : Memref sig .tc .vmem S256x128 .f32) (harg3 : arg3.IsWhole) (arg4 : Memref sig .tc .vmem S256x256 .f32) (harg4 : arg4.IsWhole) (arg6 : Memref sig .tc .vmem S1024x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole)

/-- Before the first trip of the first loop. -/
theorem issue_enter : iprop(batch c x0 Y 0 0 ∗ bigSep (Ring.rangeSet 512 (2 * 0) 512) (ready c x0 Y f0)
    ∗ (arg1.view.loc (c : Thread nD τ) ↦[arg1.view.set]{fullShare} arg1.view.rep x0)) ⊢ issueAt c x0 Y f0 arg1 0 ⟨⟩ := by
  unfold issueAt; exact .rfl

/-- After its last. -/
theorem issue_leave (acc : Unit) : issueAt c x0 Y f0 arg1 k0_t1_loop.trips acc
    ⊢ iprop(batch c x0 Y 512 0 ∗ (arg1.view.loc (c : Thread nD τ) ↦[arg1.view.set]{fullShare} arg1.view.rep x0)) := by
  rw [trips1]; unfold issueAt
  iintro ⟨HB, -, HT⟩
  isplitl [HB]; · iexact HB
  iexact HT

/-- Before the first trip of the second loop. -/
theorem drain_enter (W) : iprop(owes (c : Thread nD τ) 0 W ∗ batch c x0 Y 512 0) ⊢ drainAt c x0 Y 0 ⟨⟩ := by
  unfold drainAt
  rw [if_pos (by decide)]
  iintro ⟨HO, HB⟩
  isplitr; · ipureintro; omega
  isplitl [HO]; · iexists _; iexact HO
  rw [show 2 * 0 * NN = 0 from Nat.zero_mul _]
  iexact HB

/-- After its last. -/
theorem drain_leave (acc : Unit) : drainAt c x0 Y k0_t2_loop.trips acc
    ⊢ iprop((∃ W, owes (c : Thread nD τ) 0 W) ∗ semVal ((c : Thread nD τ), SemLoc.dma dsem) 0 ∗ bigSep Finset.univ (deliv c x0 Y)) := by
  rw [trips2]; unfold drainAt
  rw [if_neg (Nat.lt_irrefl _)]
  iintro ⟨-, HO, Hv, HD⟩
  isplitl [HO]; · iexact HO
  isplitl [Hv] <;> iassumption

/-- The two loops: the scratch buffer gathered, everything else as it was. -/
theorem gather (hx : InRows x0) (W) {β : Type} (K : Unit → Prog (TpuEff nD τ sig (Elt Ideal) Λ₀ .tc) β) (Q : β → sProp 𝕄) :
    iprop((((c : Thread nD τ).loc cc0_scratch0) ↦{fullShare} f0) ∗ (((c : Thread nD τ).loc main_arg4) ↦{fullShare} Y) ∗ semVal ((c : Thread nD τ), SemLoc.dma dsem) 0
        ∗ owes (c : Thread nD τ) 0 W ∗ (arg1.view.loc (c : Thread nD τ) ↦[arg1.view.set]{fullShare} arg1.view.rep x0))
      ⊢ iprop((iprop((((c : Thread nD τ).loc cc0_scratch0) ↦{fullShare} gathered x0 Y) ∗ (((c : Thread nD τ).loc main_arg4) ↦{fullShare} Y) ∗ semVal ((c : Thread nD τ), SemLoc.dma dsem) 0
            ∗ (∃ W, owes (c : Thread nD τ) 0 W) ∗ (arg1.view.loc (c : Thread nD τ) ↦[arg1.view.set]{fullShare} arg1.view.rep x0))
          -∗ wp frame (wpE (defs₀ (F := Ideal)) Variants.none (c : Thread nD τ) none) Set.univ (K ⟨⟩) Q)
        -∗ wp frame (wpE (defs₀ (F := Ideal)) Variants.none (c : Thread nD τ) none) Set.univ
          (Scf.Loop.for k0_t1_loop k0_t1_ok ⟨⟩ (issueBody arg1 i harg1 arg2 harg2 arg3 harg3 arg4 harg4 arg6 harg6 arg7 harg7 arg8 harg8 arg9 harg9 arg10 harg10 arg11 harg11) >>= fun _ =>
            Scf.Loop.for k0_t2_loop k0_t2_ok ⟨⟩ (drainBody arg1 i harg1 arg2 harg2 arg3 harg3 arg4 harg4 arg6 harg6 arg7 harg7 arg8 harg8 arg9 harg9 arg10 harg10 arg11 harg11) >>= K) Q) := by
  iintro ⟨HS, HY, Hv, HO, HA⟩ Hk
  ihave HY' := (deal c x0 Y).1 $$ HY
  icases HY' with ⟨HR, HT⟩
  imod (Transfers.batch_alloc' (Lvl := ℕ) (countersEmb (U := Pipeline.UD sig nD τ)) (c : Thread nD τ) () NN (deliv c x0 Y) (sm := .dma dsem) (E := Set.univ)) $$ Hv with HB
  iapply (Scf.wp_for_bind frame (wpE (defs₀ (F := Ideal)) Variants.none (c : Thread nD τ) none) Set.univ _ _ _ k0_t1_ok ⟨⟩ (issueBody arg1 i harg1 arg2 harg2 arg3 harg3 arg4 harg4 arg6 harg6 arg7 harg7 arg8 harg8 arg9 harg9 arg10 harg10 arg11 harg11)
    (issueAt c x0 Y f0 arg1) (issue_step c x0 Y f0 arg1 i harg1 arg2 harg2 arg3 harg3 arg4 harg4 arg6 harg6 arg7 harg7 arg8 harg8 arg9 harg9 arg10 harg10 arg11 harg11 hx)) $$ [HB HS HT HA]
  · iapply (issue_enter c x0 Y f0 arg1)
    isplitl [HB]; · iexact HB
    isplitl [HS HT]
    · iapply (make_ready c x0 Y f0)
      isplitl [HS] <;> iassumption
    iexact HA
  iintro %acc HI
  ihave HI' := (issue_leave c x0 Y f0 arg1 acc) $$ HI
  icases HI' with ⟨HB, HA⟩
  iapply (Scf.wp_for_bind frame (wpE (defs₀ (F := Ideal)) Variants.none (c : Thread nD τ) none) Set.univ _ _ _ k0_t2_ok ⟨⟩ (drainBody arg1 i harg1 arg2 harg2 arg3 harg3 arg4 harg4 arg6 harg6 arg7 harg7 arg8 harg8 arg9 harg9 arg10 harg10 arg11 harg11)
    (drainAt c x0 Y) (drain_step c x0 Y arg1 i harg1 arg2 harg2 arg3 harg3 arg4 harg4 arg6 harg6 arg7 harg7 arg8 harg8 arg9 harg9 arg10 harg10 arg11 harg11)) $$ [HB HO]
  · iapply (drain_enter c x0 Y W)
    isplitl [HO] <;> iassumption
  iintro %acc HD
  ihave HD' := (drain_leave c x0 Y acc) $$ HD
  icases HD' with ⟨HO, Hv, HD⟩
  ihave HD' := (all_delivered c x0 Y) $$ HD
  icases HD' with ⟨HS, HT⟩
  iapply Hk
  isplitl [HS]; · iexact HS
  isplitl [HR HT]
  · iapply (deal c x0 Y).2
    isplitl [HR] <;> iassumption
  isplitl [Hv]; · iexact Hv
  isplitl [HO] <;> iassumption

/-- A plane of the gathered rows, as the body loads it. -/
def plane0 : Vec Ideal S1x256x1024 .f32 :=
  View.readAt (Elt Ideal) (Memref.whole cc0_scratch0).view (Rect.unit (s := S2x256x1024) ![0, 0, 0] S1x256x1024.size inb_S2x256x1024_S1x256x1024_0_0_0).toLoadRect (gathered x0 Y)
/-- The other. -/
def plane1 : Vec Ideal S1x256x1024 .f32 :=
  View.readAt (Elt Ideal) (Memref.whole cc0_scratch0).view (Rect.unit (s := S2x256x1024) ![1, 0, 0] S1x256x1024.size inb_S2x256x1024_S1x256x1024_1_0_0).toLoadRect (gathered x0 Y)

variable (x1 : S256x1024.Idx → Elt Ideal .f32) (x2 : S256x128.Idx → Elt Ideal .f32) (x3 : S256x256.Idx → Elt Ideal .f32) (x4 : S1024x1024.Idx → Elt Ideal .bf16)
  (x5 : S256x1024.Idx → Elt Ideal .bf16) (x6 x7 x8 : S1x1024.Idx → Elt Ideal .f32)

/-- The scratch buffer, as the body's memref names it. -/
theorem as_view (f : S2x256x1024.Idx → Elt Ideal .f32) : (((c : Thread nD τ).loc cc0_scratch0) ↦{fullShare} f : sProp 𝕄)
    ⊢ (((Memref.whole cc0_scratch0).view.loc (c : Thread nD τ)) ↦{fullShare} f) := .refl

/-- The body's first half: the rows gathered, added to the stream at their weights, normed. -/
theorem half1 (hx : InRows x0) (W) (Q : (Σ' (_ : FVec Ideal S256x1024 .f32) (_ : FVec Ideal S256x1024 .bf16), FVec Ideal S1024x1024 .bf16) → sProp 𝕄) :
    iprop((((c : Thread nD τ).loc cc0_scratch0) ↦{fullShare} f0) ∗ (((c : Thread nD τ).loc main_arg4) ↦{fullShare} Y) ∗ semVal ((c : Thread nD τ), SemLoc.dma dsem) 0
        ∗ owes (c : Thread nD τ) 0 W ∗ (arg1.view.loc (c : Thread nD τ) ↦[arg1.view.set]{fullShare} arg1.view.rep x0)
        ∗ (arg2.view.loc (c : Thread nD τ) ↦[arg2.view.set]{fullShare} arg2.view.rep x1) ∗ (arg3.view.loc (c : Thread nD τ) ↦[arg3.view.set]{fullShare} arg3.view.rep x2)
        ∗ (arg6.view.loc (c : Thread nD τ) ↦[arg6.view.set]{fullShare} arg6.view.rep x4) ∗ (arg8.view.loc (c : Thread nD τ) ↦[arg8.view.set]{fullShare} arg8.view.rep x6))
      ⊢ iprop((iprop((((c : Thread nD τ).loc cc0_scratch0) ↦{fullShare} gathered x0 Y) ∗ (((c : Thread nD τ).loc main_arg4) ↦{fullShare} Y) ∗ semVal ((c : Thread nD τ), SemLoc.dma dsem) 0
            ∗ (∃ W, owes (c : Thread nD τ) 0 W) ∗ (arg1.view.loc (c : Thread nD τ) ↦[arg1.view.set]{fullShare} arg1.view.rep x0)
            ∗ (arg2.view.loc (c : Thread nD τ) ↦[arg2.view.set]{fullShare} arg2.view.rep x1) ∗ (arg3.view.loc (c : Thread nD τ) ↦[arg3.view.set]{fullShare} arg3.view.rep x2)
            ∗ (arg6.view.loc (c : Thread nD τ) ↦[arg6.view.set]{fullShare} arg6.view.rep x4) ∗ (arg8.view.loc (c : Thread nD τ) ↦[arg8.view.set]{fullShare} arg8.view.rep x6))
          -∗ Q ⟨k0_pay2 x2 x1 (plane0 x0 Y) (plane1 x0 Y), k0_pay3 x2 x1 (plane0 x0 Y) (plane1 x0 Y) x6, k0_pay4 x4⟩)
        -∗ wp frame (wpE (defs₀ (F := Ideal)) Variants.none (c : Thread nD τ) none) Set.univ (k0_part1 (F := Ideal) i arg1 harg1 arg2 harg2 arg3 harg3 arg4 harg4 (Memref.whole main_arg4) (Memref.isWhole_whole _) arg6 harg6 arg7 harg7 arg8 harg8 arg9 harg9 arg10 harg10 arg11 harg11 (Memref.whole cc0_scratch0) (Memref.isWhole_whole _) cc0_scratch1) Q) := by
  rw [k0_part1_eq_skeleton]
  unfold k0_part1_skel
  iintro ⟨HS, HY, Hv, HO, HA, H2, H3, H6, H8⟩ Hk
  iapply (gather c x0 Y f0 arg1 i harg1 arg2 harg2 arg3 harg3 arg4 harg4 arg6 harg6 arg7 harg7 arg8 harg8 arg9 harg9 arg10 harg10 arg11 harg11 hx W) $$ [HS HY Hv HO HA]
  · isplitl [HS]; · iexact HS
    isplitl [HY]; · iexact HY
    isplitl [Hv]; · iexact Hv
    isplitl [HO] <;> iassumption
  iintro ⟨HS, HY, Hv, HO, HA⟩
  ihave HS := (as_view c (gathered x0 Y)) $$ HS
  sl_exec
  rw [View.readAt_rep_full arg3.view x2, View.readAt_rep_full arg2.view x1, View.readAt_rep_full arg8.view x6, View.readAt_rep_full arg6.view x4]
  sl_step
  unfold plane0 plane1
  iapply Hk
  isplitl [HS]; · iexact HS
  isplitl [HY]; · iexact HY
  isplitl [Hv]; · iexact Hv
  isplitl [HO]; · iexact HO
  isplitl [HA]; · iexact HA
  isplitl [H2]; · iexact H2
  isplitl [H3]; · iexact H3
  isplitl [H6] <;> iassumption

/-- The body's second half: the gate, the per-layer input's projection and norm, and the norm of the sum. -/
theorem half2 (v15 : FVec Ideal S256x1024 .f32) (v30 : FVec Ideal S256x1024 .bf16) (v32 : FVec Ideal S1024x1024 .bf16)
    (Q : (Σ' (_ : FVec Ideal S1x1024 .f32), FVec Ideal S256x1024 .f32) → sProp 𝕄) :
    iprop((arg4.view.loc (c : Thread nD τ) ↦[arg4.view.set]{fullShare} arg4.view.rep x3) ∗ (arg7.view.loc (c : Thread nD τ) ↦[arg7.view.set]{fullShare} arg7.view.rep x5)
        ∗ (arg9.view.loc (c : Thread nD τ) ↦[arg9.view.set]{fullShare} arg9.view.rep x7) ∗ (arg10.view.loc (c : Thread nD τ) ↦[arg10.view.set]{fullShare} arg10.view.rep x8))
      ⊢ iprop((iprop((arg4.view.loc (c : Thread nD τ) ↦[arg4.view.set]{fullShare} arg4.view.rep x3) ∗ (arg7.view.loc (c : Thread nD τ) ↦[arg7.view.set]{fullShare} arg7.view.rep x5)
        ∗ (arg9.view.loc (c : Thread nD τ) ↦[arg9.view.set]{fullShare} arg9.view.rep x7) ∗ (arg10.view.loc (c : Thread nD τ) ↦[arg10.view.set]{fullShare} arg10.view.rep x8))
          -∗ Q ⟨k0_pay5 x8, k0_pay6 v15 v30 v32 x3 x5 x7⟩)
        -∗ wp frame (wpE (defs₀ (F := Ideal)) Variants.none (c : Thread nD τ) none) Set.univ (k0_part2 (F := Ideal) i arg1 harg1 arg2 harg2 arg3 harg3 arg4 harg4 (Memref.whole main_arg4) (Memref.isWhole_whole _) arg6 harg6 arg7 harg7 arg8 harg8 arg9 harg9 arg10 harg10 arg11 harg11 (Memref.whole cc0_scratch0) (Memref.isWhole_whole _) cc0_scratch1 v15 v30 v32) Q) := by
  rw [k0_part2_eq_skeleton]
  unfold k0_part2_skel
  iintro ⟨H4, H7, H9, H10⟩ Hk
  sl_exec
  rw [View.readAt_rep_full arg4.view x3, View.readAt_rep_full arg7.view x5, View.readAt_rep_full arg9.view x7, View.readAt_rep_full arg10.view x8]
  sl_step
  iapply Hk
  isplitl [H4]; · iexact H4
  isplitl [H7]; · iexact H7
  isplitl [H9] <;> iassumption

/-- One program, then another. -/
theorem in_turn {α β : Type} {P : Prog (TpuEff nD τ sig (Elt Ideal) Λ₀ .tc) α} {K : α → Prog (TpuEff nD τ sig (Elt Ideal) Λ₀ .tc) β} {Q : β → sProp 𝕄} :
    wp frame (wpE (defs₀ (F := Ideal)) Variants.none (c : Thread nD τ) none) Set.univ P (fun a => wp frame (wpE (defs₀ (F := Ideal)) Variants.none (c : Thread nD τ) none) Set.univ (K a) Q)
      ⊢ (wp frame (wpE (defs₀ (F := Ideal)) Variants.none (c : Thread nD τ) none) Set.univ (P >>= K) Q : sProp 𝕄) :=
  Entails.of_eq (wp_bind frame (wpE (defs₀ (F := Ideal)) Variants.none (c : Thread nD τ) none) Set.univ P K Q).symm

/-- The block of the result that a point leaves. -/
def block : FVec Ideal S256x1024 .f32 :=
  k0_pay1 (k0_pay5 x8) (k0_pay6 (k0_pay2 x2 x1 (plane0 x0 Y) (plane1 x0 Y)) (k0_pay3 x2 x1 (plane0 x0 Y) (plane1 x0 Y) x6) (k0_pay4 x4) x3 x5 x7)

/-- The whole body: its block of the result left, everything else as it was. -/
theorem whole (hx : InRows x0) (W : Waits sig Unit) :
    iprop((((c : Thread nD τ).loc cc0_scratch0) ↦{fullShare} f0) ∗ (((c : Thread nD τ).loc main_arg4) ↦{fullShare} Y) ∗ semVal ((c : Thread nD τ), SemLoc.dma dsem) 0
        ∗ owes (c : Thread nD τ) 0 W ∗ (arg1.view.loc (c : Thread nD τ) ↦[arg1.view.set]{fullShare} arg1.view.rep x0)
        ∗ (arg2.view.loc (c : Thread nD τ) ↦[arg2.view.set]{fullShare} arg2.view.rep x1) ∗ (arg3.view.loc (c : Thread nD τ) ↦[arg3.view.set]{fullShare} arg3.view.rep x2)
        ∗ (arg4.view.loc (c : Thread nD τ) ↦[arg4.view.set]{fullShare} arg4.view.rep x3) ∗ (arg6.view.loc (c : Thread nD τ) ↦[arg6.view.set]{fullShare} arg6.view.rep x4)
        ∗ (arg7.view.loc (c : Thread nD τ) ↦[arg7.view.set]{fullShare} arg7.view.rep x5) ∗ (arg8.view.loc (c : Thread nD τ) ↦[arg8.view.set]{fullShare} arg8.view.rep x6)
        ∗ (arg9.view.loc (c : Thread nD τ) ↦[arg9.view.set]{fullShare} arg9.view.rep x7) ∗ (arg10.view.loc (c : Thread nD τ) ↦[arg10.view.set]{fullShare} arg10.view.rep x8)
        ∗ (∃ d, owns (c : Thread nD τ) arg11 fullShare d))
      ⊢ (wp frame (wpE (defs₀ (F := Ideal)) Variants.none (c : Thread nD τ) none) Set.univ (cc0_combine (F := Ideal) i arg1 harg1 arg2 harg2 arg3 harg3 arg4 harg4 (Memref.whole main_arg4) (Memref.isWhole_whole _) arg6 harg6 arg7 harg7 arg8 harg8 arg9 harg9 arg10 harg10 arg11 harg11 (Memref.whole cc0_scratch0) (Memref.isWhole_whole _) cc0_scratch1) fun _ =>
        iprop((((c : Thread nD τ).loc cc0_scratch0) ↦{fullShare} gathered x0 Y) ∗ (((c : Thread nD τ).loc main_arg4) ↦{fullShare} Y) ∗ semVal ((c : Thread nD τ), SemLoc.dma dsem) 0
        ∗ (∃ W, owes (c : Thread nD τ) 0 W) ∗ (arg1.view.loc (c : Thread nD τ) ↦[arg1.view.set]{fullShare} arg1.view.rep x0)
        ∗ (arg2.view.loc (c : Thread nD τ) ↦[arg2.view.set]{fullShare} arg2.view.rep x1) ∗ (arg3.view.loc (c : Thread nD τ) ↦[arg3.view.set]{fullShare} arg3.view.rep x2)
        ∗ (arg4.view.loc (c : Thread nD τ) ↦[arg4.view.set]{fullShare} arg4.view.rep x3) ∗ (arg6.view.loc (c : Thread nD τ) ↦[arg6.view.set]{fullShare} arg6.view.rep x4)
        ∗ (arg7.view.loc (c : Thread nD τ) ↦[arg7.view.set]{fullShare} arg7.view.rep x5) ∗ (arg8.view.loc (c : Thread nD τ) ↦[arg8.view.set]{fullShare} arg8.view.rep x6)
        ∗ (arg9.view.loc (c : Thread nD τ) ↦[arg9.view.set]{fullShare} arg9.view.rep x7) ∗ (arg10.view.loc (c : Thread nD τ) ↦[arg10.view.set]{fullShare} arg10.view.rep x8)
        ∗ owns (c : Thread nD τ) arg11 fullShare (block x0 Y x1 x2 x3 x4 x5 x6 x7 x8)) : sProp 𝕄) := by
  rw [cc0_combine_eq_skeleton]
  unfold cc0_combine_skel
  iintro ⟨HS, HY, Hv, HO, H1, H2, H3, H4, H6, H7, H8, H9, H10, ⟨%d, H11⟩⟩
  iapply (in_turn c)
  iapply (half1 c x0 Y f0 arg1 i harg1 arg2 harg2 arg3 harg3 arg4 harg4 arg6 harg6 arg7 harg7 arg8 harg8 arg9 harg9 arg10 harg10 arg11 harg11 x1 x2 x4 x6 hx W) $$ [HS HY Hv HO H1 H2 H3 H6 H8]
  · isplitl [HS]; · iexact HS
    isplitl [HY]; · iexact HY
    isplitl [Hv]; · iexact Hv
    isplitl [HO]; · iexact HO
    isplitl [H1]; · iexact H1
    isplitl [H2]; · iexact H2
    isplitl [H3]; · iexact H3
    isplitl [H6] <;> iassumption
  iintro ⟨HS, HY, Hv, HO, H1, H2, H3, H6, H8⟩
  dsimp only
  iapply (in_turn c)
  iapply (half2 c arg1 i harg1 arg2 harg2 arg3 harg3 arg4 harg4 arg6 harg6 arg7 harg7 arg8 harg8 arg9 harg9 arg10 harg10 arg11 harg11 x3 x5 x7 x8 _ _ _) $$ [H4 H7 H9 H10]
  · isplitl [H4]; · iexact H4
    isplitl [H7]; · iexact H7
    isplitl [H9] <;> iassumption
  iintro ⟨H4, H7, H9, H10⟩
  dsimp only
  unfold owns
  icases H11 with ⟨%e, -, H11⟩
  sl_exec
  sl_step
  isplitl [HS]; · iexact HS
  isplitl [HY]; · iexact HY
  isplitl [Hv]; · iexact Hv
  isplitl [HO]; · iexact HO
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  iexists _
  isplitr; swap
  · iexact H11
  ipureintro
  exact View.read_writes_full _ _ _ _ _

end Com
end
-- ==== Proof.ComLaunch.lean ====
/-
  Every grid point of the last call, and its launch: from any memory whose positions name rows of the experts' outputs every execution
  ends, the arguments unchanged, and each point leaves its block of the result.
-/
module

public import proofs.«01_k».proof.Proof.ComRun
public import proofs.«01_k».proof.Proof.Gen.Kernel4Ideal.Launch
public import Idealize.ShloMosaic.Lib.Pipeline.Frame
public import Idealize.ShloMosaic.Lib.Pipeline.FrameSuffix
public import Idealize.ShloMosaic.Lib.Pipeline.TableIdle
public import Idealize.ShloMosaic.Lib.Pipeline.ValueKit.Geometry

@[expose] public section
set_option maxRecDepth 16384
set_option Elab.async false
noncomputable section
namespace Com
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (Pipeline.UD sig nD τ) ℕ

variable (m : (ℓ : Loc nD τ sig) → Buf (Elt Ideal) ℓ)

/-! ## What the call finds -/

/-- Each buffer when the call is made: the weights rounded and the gains reshaped. -/
abbrev V (c : Dev nD) (b : Ref sig .tc) : Buf (Elt Ideal) ((c : Thread nD τ).loc b) := StableHlo.after hostOps0 (fun b => m (c, b)) b

theorem fresh_none : (hostOps0 : List (HloOp τ sig (Elt Ideal))).Forall fun op => op.fresh = ∅ := by
  simp only [List.Forall]; repeat' constructor

set_option maxHeartbeats 800000 in
/-- The program up to the call. -/
theorem before_call (𝒱 : Variants) : Pipeline.HMain (Ix := Unit) (Name := ℕ) (U := Pipeline.UD sig nD τ) (Lvl := ℕ) cfgs 0 defs₀ 𝒱 m (main (F := Ideal)) (V m) :=
  Pipeline.hmain_prefix cfgs 0 defs₀ 𝒱 m main hostOps0 hostOps0_sub fresh_none main_chain

theorem arg_0 (c : Dev nD) : V m c main_arg0 = m ((c : Thread nD τ).loc main_arg0) :=
  StableHlo.after_of_forall_not_mem (b := Proc.devRef .tc main_arg0) _ _ (List.forall_iff_forall_mem.mp (by
    simp only [List.Forall, StableHlo.unary_writes, StableHlo.reshape_writes, Finset.mem_singleton]
    repeat' apply And.intro
    all_goals exact StableHlo.devRef_ne_of_ne (by decide)))
theorem arg_1 (c : Dev nD) : V m c main_arg1 = m ((c : Thread nD τ).loc main_arg1) :=
  StableHlo.after_of_forall_not_mem (b := Proc.devRef .tc main_arg1) _ _ (List.forall_iff_forall_mem.mp (by
    simp only [List.Forall, StableHlo.unary_writes, StableHlo.reshape_writes, Finset.mem_singleton]
    repeat' apply And.intro
    all_goals exact StableHlo.devRef_ne_of_ne (by decide)))
theorem arg_2 (c : Dev nD) : V m c main_arg2 = m ((c : Thread nD τ).loc main_arg2) :=
  StableHlo.after_of_forall_not_mem (b := Proc.devRef .tc main_arg2) _ _ (List.forall_iff_forall_mem.mp (by
    simp only [List.Forall, StableHlo.unary_writes, StableHlo.reshape_writes, Finset.mem_singleton]
    repeat' apply And.intro
    all_goals exact StableHlo.devRef_ne_of_ne (by decide)))
theorem arg_3 (c : Dev nD) : V m c main_arg3 = m ((c : Thread nD τ).loc main_arg3) :=
  StableHlo.after_of_forall_not_mem (b := Proc.devRef .tc main_arg3) _ _ (List.forall_iff_forall_mem.mp (by
    simp only [List.Forall, StableHlo.unary_writes, StableHlo.reshape_writes, Finset.mem_singleton]
    repeat' apply And.intro
    all_goals exact StableHlo.devRef_ne_of_ne (by decide)))
theorem arg_4 (c : Dev nD) : V m c main_arg4 = m ((c : Thread nD τ).loc main_arg4) :=
  StableHlo.after_of_forall_not_mem (b := Proc.devRef .tc main_arg4) _ _ (List.forall_iff_forall_mem.mp (by
    simp only [List.Forall, StableHlo.unary_writes, StableHlo.reshape_writes, Finset.mem_singleton]
    repeat' apply And.intro
    all_goals exact StableHlo.devRef_ne_of_ne (by decide)))
theorem arg_5 (c : Dev nD) : V m c main_arg5 = m ((c : Thread nD τ).loc main_arg5) :=
  StableHlo.after_of_forall_not_mem (b := Proc.devRef .tc main_arg5) _ _ (List.forall_iff_forall_mem.mp (by
    simp only [List.Forall, StableHlo.unary_writes, StableHlo.reshape_writes, Finset.mem_singleton]
    repeat' apply And.intro
    all_goals exact StableHlo.devRef_ne_of_ne (by decide)))
theorem arg_6 (c : Dev nD) : V m c main_arg6 = m ((c : Thread nD τ).loc main_arg6) :=
  StableHlo.after_of_forall_not_mem (b := Proc.devRef .tc main_arg6) _ _ (List.forall_iff_forall_mem.mp (by
    simp only [List.Forall, StableHlo.unary_writes, StableHlo.reshape_writes, Finset.mem_singleton]
    repeat' apply And.intro
    all_goals exact StableHlo.devRef_ne_of_ne (by decide)))
theorem arg_7 (c : Dev nD) : V m c main_arg7 = m ((c : Thread nD τ).loc main_arg7) :=
  StableHlo.after_of_forall_not_mem (b := Proc.devRef .tc main_arg7) _ _ (List.forall_iff_forall_mem.mp (by
    simp only [List.Forall, StableHlo.unary_writes, StableHlo.reshape_writes, Finset.mem_singleton]
    repeat' apply And.intro
    all_goals exact StableHlo.devRef_ne_of_ne (by decide)))
theorem arg_8 (c : Dev nD) : V m c main_arg8 = m ((c : Thread nD τ).loc main_arg8) :=
  StableHlo.after_of_forall_not_mem (b := Proc.devRef .tc main_arg8) _ _ (List.forall_iff_forall_mem.mp (by
    simp only [List.Forall, StableHlo.unary_writes, StableHlo.reshape_writes, Finset.mem_singleton]
    repeat' apply And.intro
    all_goals exact StableHlo.devRef_ne_of_ne (by decide)))
theorem arg_9 (c : Dev nD) : V m c main_arg9 = m ((c : Thread nD τ).loc main_arg9) :=
  StableHlo.after_of_forall_not_mem (b := Proc.devRef .tc main_arg9) _ _ (List.forall_iff_forall_mem.mp (by
    simp only [List.Forall, StableHlo.unary_writes, StableHlo.reshape_writes, Finset.mem_singleton]
    repeat' apply And.intro
    all_goals exact StableHlo.devRef_ne_of_ne (by decide)))

/-! ## The transfers' semaphore and the array they read -/

abbrev osem0 : Fin 1 → SemLoc sig := fun _ => SemLoc.dma dsem
theorem own_sems : Pipeline.OwnSemFacts spec0 osem0 := by decide
/-- The experts' outputs stay where they are and are read by the transfers. -/
def H0 : Finset (Ref sig .tc) := {main_arg4}
theorem H0_rest : H0 ⊆ Pipeline.restRefs sig spec0 := by decide

/-- What the call holds between points: the scratch buffer, the semaphore at rest and the experts' outputs. -/
theorem between (c : Dev nD) :
    (Pipeline.ΦD osem0 spec0 H0 (V m) c : sProp 𝕄)
      = iprop((∃ f : Buf (Elt Ideal) ((c : Thread nD τ).loc cc0_scratch0), ((c : Thread nD τ).loc cc0_scratch0) ↦{fullShare} f) ∗ (∃ r, prngReg c r)
          ∗ semVal ((c : Thread nD τ), SemLoc.dma dsem) 0 ∗ (((c : Thread nD τ).loc main_arg4) ↦{fullShare} V m c main_arg4)) := by
  rw [Pipeline.ΦD_eq, scopedRest0_eq, Pipeline.ownSems0_eq_of_list c osem0 [0] (by decide) (by decide),
    BI.bigSep_eq_bigSepL_of_eq [main_arg4] (by decide) (by decide)]
  rfl

/-! ## The data -/

/-- The block of window `w`'s array at point `t`. -/
def blk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The block of the result point `t` leaves. -/
def left (c : Dev nD) (t : Fin cfg0.N) : S256x1024.Idx → Elt Ideal .f32 :=
  block (blk m c 0 t) (V m c main_arg4) (blk m c 1 t) (blk m c 2 t) (blk m c 3 t) (blk m c 4 t) (blk m c 5 t) (blk m c 6 t) (blk m c 7 t) (blk m c 8 t)

/-- The proof data of the pipeline on core `c`. -/
def data (_ : Fin 1) (c : Dev nD) : Dat τ (Elt Ideal) Unit ℕ (Pipeline.UD sig nD τ) ℕ cfg0 c where
  A w := V m c (Pipeline.arrRef spec0 w)
  after w t := match w with
    | ⟨0, _⟩ => blk m c (0 : Fin 10) t
    | ⟨1, _⟩ => blk m c (1 : Fin 10) t
    | ⟨2, _⟩ => blk m c (2 : Fin 10) t
    | ⟨3, _⟩ => blk m c (3 : Fin 10) t
    | ⟨4, _⟩ => blk m c (4 : Fin 10) t
    | ⟨5, _⟩ => blk m c (5 : Fin 10) t
    | ⟨6, _⟩ => blk m c (6 : Fin 10) t
    | ⟨7, _⟩ => blk m c (7 : Fin 10) t
    | ⟨8, _⟩ => blk m c (8 : Fin 10) t
    | ⟨9, _⟩ => left m c t
  Φ _ := Pipeline.ΦD osem0 spec0 H0 (V m) c
  q _ := fullShare
  owed _ := 0

theorem after_0 (c : Dev nD) (t : Fin cfg0.N) : (data m 0 c).after (0 : Fin 10) t = blk m c (0 : Fin 10) t := rfl
theorem held_0 (c : Dev nD) (t : Fin cfg0.N) (d) : (data m 0 c).before (0 : Fin 10) t d = blk m c (0 : Fin 10) t :=
  ((data m 0 c).before_in_eq_fetched (0 : Fin 10) rfl (fun _ => rfl) (fun _ _ _ => rfl) (fun t => by rw [after_0]; unfold Dat.blockOf blk; rfl) t d).trans
    (by unfold Dat.fetched Dat.blockOf blk; rfl)
theorem after_1 (c : Dev nD) (t : Fin cfg0.N) : (data m 0 c).after (1 : Fin 10) t = blk m c (1 : Fin 10) t := rfl
theorem held_1 (c : Dev nD) (t : Fin cfg0.N) (d) : (data m 0 c).before (1 : Fin 10) t d = blk m c (1 : Fin 10) t :=
  ((data m 0 c).before_in_eq_fetched (1 : Fin 10) rfl (fun _ => rfl) (fun _ _ _ => rfl) (fun t => by rw [after_1]; unfold Dat.blockOf blk; rfl) t d).trans
    (by unfold Dat.fetched Dat.blockOf blk; rfl)
theorem after_2 (c : Dev nD) (t : Fin cfg0.N) : (data m 0 c).after (2 : Fin 10) t = blk m c (2 : Fin 10) t := rfl
theorem held_2 (c : Dev nD) (t : Fin cfg0.N) (d) : (data m 0 c).before (2 : Fin 10) t d = blk m c (2 : Fin 10) t :=
  ((data m 0 c).before_in_eq_fetched (2 : Fin 10) rfl (fun _ => rfl) (fun _ _ _ => rfl) (fun t => by rw [after_2]; unfold Dat.blockOf blk; rfl) t d).trans
    (by unfold Dat.fetched Dat.blockOf blk; rfl)
theorem after_3 (c : Dev nD) (t : Fin cfg0.N) : (data m 0 c).after (3 : Fin 10) t = blk m c (3 : Fin 10) t := rfl
theorem held_3 (c : Dev nD) (t : Fin cfg0.N) (d) : (data m 0 c).before (3 : Fin 10) t d = blk m c (3 : Fin 10) t :=
  ((data m 0 c).before_in_eq_fetched (3 : Fin 10) rfl (fun _ => rfl) (fun _ _ _ => rfl) (fun t => by rw [after_3]; unfold Dat.blockOf blk; rfl) t d).trans
    (by unfold Dat.fetched Dat.blockOf blk; rfl)
theorem after_4 (c : Dev nD) (t : Fin cfg0.N) : (data m 0 c).after (4 : Fin 10) t = blk m c (4 : Fin 10) t := rfl
theorem held_4 (c : Dev nD) (t : Fin cfg0.N) (d) : (data m 0 c).before (4 : Fin 10) t d = blk m c (4 : Fin 10) t :=
  ((data m 0 c).before_in_eq_fetched (4 : Fin 10) rfl (fun _ => rfl) (fun _ _ _ => rfl) (fun t => by rw [after_4]; unfold Dat.blockOf blk; rfl) t d).trans
    (by unfold Dat.fetched Dat.blockOf blk; rfl)
theorem after_5 (c : Dev nD) (t : Fin cfg0.N) : (data m 0 c).after (5 : Fin 10) t = blk m c (5 : Fin 10) t := rfl
theorem held_5 (c : Dev nD) (t : Fin cfg0.N) (d) : (data m 0 c).before (5 : Fin 10) t d = blk m c (5 : Fin 10) t :=
  ((data m 0 c).before_in_eq_fetched (5 : Fin 10) rfl (fun _ => rfl) (fun _ _ _ => rfl) (fun t => by rw [after_5]; unfold Dat.blockOf blk; rfl) t d).trans
    (by unfold Dat.fetched Dat.blockOf blk; rfl)
theorem after_6 (c : Dev nD) (t : Fin cfg0.N) : (data m 0 c).after (6 : Fin 10) t = blk m c (6 : Fin 10) t := rfl
theorem held_6 (c : Dev nD) (t : Fin cfg0.N) (d) : (data m 0 c).before (6 : Fin 10) t d = blk m c (6 : Fin 10) t :=
  ((data m 0 c).before_in_eq_fetched (6 : Fin 10) rfl (fun _ => rfl) (fun _ _ _ => rfl) (fun t => by rw [after_6]; unfold Dat.blockOf blk; rfl) t d).trans
    (by unfold Dat.fetched Dat.blockOf blk; rfl)
theorem after_7 (c : Dev nD) (t : Fin cfg0.N) : (data m 0 c).after (7 : Fin 10) t = blk m c (7 : Fin 10) t := rfl
theorem held_7 (c : Dev nD) (t : Fin cfg0.N) (d) : (data m 0 c).before (7 : Fin 10) t d = blk m c (7 : Fin 10) t :=
  ((data m 0 c).before_in_eq_fetched (7 : Fin 10) rfl (fun _ => rfl) (fun _ _ _ => rfl) (fun t => by rw [after_7]; unfold Dat.blockOf blk; rfl) t d).trans
    (by unfold Dat.fetched Dat.blockOf blk; rfl)
theorem after_8 (c : Dev nD) (t : Fin cfg0.N) : (data m 0 c).after (8 : Fin 10) t = blk m c (8 : Fin 10) t := rfl
theorem held_8 (c : Dev nD) (t : Fin cfg0.N) (d) : (data m 0 c).before (8 : Fin 10) t d = blk m c (8 : Fin 10) t :=
  ((data m 0 c).before_in_eq_fetched (8 : Fin 10) rfl (fun _ => rfl) (fun _ _ _ => rfl) (fun t => by rw [after_8]; unfold Dat.blockOf blk; rfl) t d).trans
    (by unfold Dat.fetched Dat.blockOf blk; rfl)

theorem after_9 (c : Dev nD) (t : Fin cfg0.N) : (data m 0 c).after (9 : Fin 10) t = left m c t := rfl

/-- Every point's block of positions names rows of the experts' outputs. -/
def Named : Prop := ∀ (c : Dev nD) (t : Fin cfg0.N), InRows (blk m c 0 t)

/-- The body at point `t`, on its staging buffers. -/
abbrev bodyOf (t : Fin cfg0.N) : Prog (TpuEff nD τ sig (Elt Ideal) Λ₀ .tc) PUnit :=
  cc0_combine (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole main_arg4) (Memref.isWhole_whole _) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) cc0_scratch1

theorem row_of_table (t : Fin cfg0.N) : (defs₀ (F := Ideal)) .tc cfg0.body (cfg0.bodyArgs t (cfg0.slots t)) = bodyOf t := by
  unfold defs₀; rw [Defs.onTc_tc]

variable {m} (h : Named m) (ρ : Dev nD → PrngReg)

include h in
set_option maxHeartbeats 1600000 in
theorem obligation (c : Dev nD) : BodyObligation (data m 0 c) (defs₀ (F := Ideal)) Variants.none () Set.univ := fun t => by
  rw [bigSep_W0, bigSep_W0, row_of_table]
  simp only [held_0, held_1, held_2, held_3, held_4, held_5, held_6, held_7, held_8]
  unfold Dat.owesAt Pipeline.owesWithin
  rw [show (data m 0 c).owed t.castSucc = 0 from rfl, show (data m 0 c).owed t.succ = 0 from rfl,
    show (data m 0 c).Φ t.castSucc = Pipeline.ΦD osem0 spec0 H0 (V m) c from rfl, show (data m 0 c).Φ t.succ = Pipeline.ΦD osem0 spec0 H0 (V m) c from rfl, between]
  iintro ⟨⟨⟨%f, HS⟩, Hr, Hv, HY⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame (wpE (defs₀ (F := Ideal)) Variants.none (c : Thread nD τ) none) Set.univ)
  isplitl [HS HY Hv HO H0 H1 H2 H3 H4 H5 H6 H7 H8 H9]
  · iapply (whole (f0 := f) (hx := h c t) (W := W) (Y := V m c main_arg4) (x1 := blk m c 1 t) (x2 := blk m c 2 t) (x3 := blk m c 3 t) (x4 := blk m c 4 t) (x5 := blk m c 5 t)
    (x6 := blk m c 6 t) (x7 := blk m c 7 t) (x8 := blk m c 8 t))
    isplitl [HS]; · iexact HS
    isplitl [HY]; · iexact HY
    isplitl [Hv]; · iexact Hv
    isplitl [HO]; · iexact HO
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    iexists _; iexact H9
  iintro %u ⟨HS, HY, Hv, HO, H0, H1, H2, H3, H4, H5, H6, H7, H8, H9⟩
  isplitl [HS Hr Hv HY]
  · isplitl [HS]; · iexists _; iexact HS
    isplitl [Hr]; · iexact Hr
    isplitl [Hv] <;> iassumption
  isplitl [HO]
  · icases HO with ⟨%W', HO⟩
    iexists W'; isplitr
    · ipureintro; exact fun _ _ => Or.inl trivial
    iexact HO
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  iexact H9

set_option backward.isDefEq.respectTransparency.types false in
set_option maxHeartbeats 4000000 in
include h in
/-- Every execution ends, every window's array at what the points leave and every other buffer as it was found. -/
theorem runs : θ_run (defs (F := Ideal)) (onTc (τ := τ) (main (F := Ideal))) ⟨m, fun _ => 0, ρ⟩
    (fun r => Pipeline.FramePost cfgs (data m) (0 : Fin 1) (V m) r ∧ r.2.sem = fun _ => 0) :=
  Pipeline.θ_run_frame_dma (Q' := fun r => Pipeline.FramePost cfgs (data m) (0 : Fin 1) (V m) r ∧ r.2.sem = fun _ => 0) cfgs (data m) (0 : Fin 1) launch0 osem0 defs₀ Variants.none own_sems H0 H0_rest m ρ main
    (hbody := fun c => (obligation h c).loose) (hshare := fun c => (data m 0 c).share_full fun _ => rfl) (howed := fun _ _ => rfl)
    (V := V m) (hmain := before_call m Variants.none) (hA := fun _ _ => rfl) (hin := fun _ => .rfl) (hout := fun _ => .rfl)

include h in
/-- Every execution ends, the arguments unchanged and every counter at zero. -/
theorem unchanged :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ e => ⟨fun c => ⟨((e.1 c).1 (0 : Fin 10)).trans (((data m 0 c).arrAt_in (0 : Fin 10) rfl _).trans (arg_0 m c)),
    ((e.1 c).1 (1 : Fin 10)).trans (((data m 0 c).arrAt_in (1 : Fin 10) rfl _).trans (arg_1 m c)),
    ((e.1 c).1 (2 : Fin 10)).trans (((data m 0 c).arrAt_in (2 : Fin 10) rfl _).trans (arg_2 m c)),
    ((e.1 c).1 (3 : Fin 10)).trans (((data m 0 c).arrAt_in (3 : Fin 10) rfl _).trans (arg_3 m c)),
    ((e.1 c).2 main_arg4 (Pipeline.mem_restRefs_of main_arg4 (by decide) (by decide))).trans (arg_4 m c),
    ((e.1 c).2 main_arg5 (Pipeline.mem_restRefs_of main_arg5 (by decide) (by decide))).trans (arg_5 m c),
    ((e.1 c).2 main_arg6 (Pipeline.mem_restRefs_of main_arg6 (by decide) (by decide))).trans (arg_6 m c),
    ((e.1 c).2 main_arg7 (Pipeline.mem_restRefs_of main_arg7 (by decide) (by decide))).trans (arg_7 m c),
    ((e.1 c).2 main_arg8 (Pipeline.mem_restRefs_of main_arg8 (by decide) (by decide))).trans (arg_8 m c),
    ((e.1 c).2 main_arg9 (Pipeline.mem_restRefs_of main_arg9 (by decide) (by decide))).trans (arg_9 m c)⟩, e.2⟩)
    (runs h ρ)

end Com
end
-- ==== Proof.ComBitsRun.lean ====
/-
  The last call's body: the rows gathered by its two loops, then its block of the result from what was gathered.
-/
module

public import proofs.«01_k».proof.Proof.ComBitsCopies
public import Idealize.ShloMosaic.Lib.VecWindow

@[expose] public section
set_option maxRecDepth 16384
set_option Elab.async false
noncomputable section
namespace ComBits
open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (Pipeline.UD sig nD τ) ℕ

variable (c : Dev nD) (x0 : S1x1x512.Idx → Elt Bits .i32) (Y : S73728x1024.Idx → Elt Bits .f32) (f0 : S2x256x1024.Idx → Elt Bits .f32)

/-- What is left of copy `t`'s share once its row is taken out. -/
def restOf (t : Fin 512) : sProp 𝕄 :=
  (((c : Thread nD τ).loc main_arg4) ↦[Finset.univ \ srcOf x0 t]{Transfers.shareTokN fullShare t.val} Y)

/-- What is left of the experts' outputs once every copy has its row at its share. -/
def aside : sProp 𝕄 :=
  iprop((((c : Thread nD τ).loc main_arg4) ↦{Transfers.shareDrop fullShare 512} Y) ∗ bigSep Finset.univ (restOf c x0 Y))

/-- The experts' outputs, dealt to the copies. -/
theorem deal : (((c : Thread nD τ).loc main_arg4) ↦{fullShare} Y : sProp 𝕄) ⊣⊢ iprop(aside c x0 Y ∗ bigSep Finset.univ (srcTok c x0 Y)) := by
  have h : bigSep Finset.univ (fun t : Fin 512 => (((c : Thread nD τ).loc main_arg4) ↦{Transfers.shareTok fullShare 512 t} Y : sProp 𝕄))
      ⊣⊢ iprop(bigSep Finset.univ (srcTok c x0 Y) ∗ bigSep Finset.univ (restOf c x0 Y)) := by
    rw [← bigSep_sep']
    exact ⟨bigSep_mono fun t _ => (pointsTo_split_subset (Finset.subset_univ (srcOf x0 t))).1,
      bigSep_mono fun t _ => (pointsTo_split_subset (Finset.subset_univ (srcOf x0 t))).2⟩
  unfold aside
  refine ⟨(Transfers.pointsTo_toks fullShare 512).1.trans ?_, BIBase.Entails.trans ?_ (Transfers.pointsTo_toks fullShare 512).2⟩
  · iintro ⟨HD, HT⟩
    ihave HT' := h.1 $$ HT
    icases HT' with ⟨HS, HR⟩
    isplitl [HD HR]
    · isplitl [HD] <;> iassumption
    iexact HS
  · iintro ⟨⟨HD, HR⟩, HS⟩
    isplitl [HD]; · iexact HD
    iapply h.2
    isplitl [HS] <;> iassumption

/-- The scratch buffer, row by row. -/
theorem rows (f : S2x256x1024.Idx → Elt Bits .f32) :
    (((c : Thread nD τ).loc cc0_scratch0) ↦{fullShare} f : sProp 𝕄) = bigSep Finset.univ (fun t => ((c : Thread nD τ).loc cc0_scratch0) ↦[rowOf t]{fullShare} f) :=
  Ring.pointsTo_blocks (ℓ := (c : Thread nD τ).loc cc0_scratch0) rowOf rowOf_disjoint rowOf_cover f

/-- What every copy needs, from the scratch buffer and the copies' rows. -/
theorem make_ready : iprop((((c : Thread nD τ).loc cc0_scratch0) ↦{fullShare} f0) ∗ bigSep Finset.univ (srcTok c x0 Y)) ⊢ bigSep (Ring.rangeSet 512 (2 * 0) 512) (ready c x0 Y f0) := by
  rw [rows, ← bigSep_sep', Nat.mul_zero, Ring.rangeSet_univ]
  exact bigSep_mono fun t _ => by unfold ready; exact .refl _

/-- Everything delivered: the scratch buffer gathered, and the copies' rows. -/
theorem all_delivered : bigSep Finset.univ (deliv c x0 Y) ⊢ iprop((((c : Thread nD τ).loc cc0_scratch0) ↦{fullShare} gathered x0 Y) ∗ bigSep Finset.univ (srcTok c x0 Y)) := by
  rw [rows, ← bigSep_sep']
  exact bigSep_mono fun t _ => by unfold deliv; exact .refl _

variable (arg1 : Memref sig .tc .smem S1x1x512 .i32)
variable (i : grid0.Coords) (harg1 : arg1.IsWhole) (arg2 : Memref sig .tc .vmem S256x1024 .f32) (harg2 : arg2.IsWhole) (arg3 : Memref sig .tc .vmem S256x128 .f32) (harg3 : arg3.IsWhole) (arg4 : Memref sig .tc .vmem S256x256 .f32) (harg4 : arg4.IsWhole) (arg6 : Memref sig .tc .vmem S1024x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole)

/-- Before the first trip of the first loop. -/
theorem issue_enter : iprop(batch c x0 Y 0 0 ∗ bigSep (Ring.rangeSet 512 (2 * 0) 512) (ready c x0 Y f0)
    ∗ (arg1.view.loc (c : Thread nD τ) ↦[arg1.view.set]{fullShare} arg1.view.rep x0)) ⊢ issueAt c x0 Y f0 arg1 0 ⟨⟩ := by
  unfold issueAt; exact .rfl

/-- After its last. -/
theorem issue_leave (acc : Unit) : issueAt c x0 Y f0 arg1 k0_t1_loop.trips acc
    ⊢ iprop(batch c x0 Y 512 0 ∗ (arg1.view.loc (c : Thread nD τ) ↦[arg1.view.set]{fullShare} arg1.view.rep x0)) := by
  rw [trips1]; unfold issueAt
  iintro ⟨HB, -, HT⟩
  isplitl [HB]; · iexact HB
  iexact HT

/-- Before the first trip of the second loop. -/
theorem drain_enter (W) : iprop(owes (c : Thread nD τ) 0 W ∗ batch c x0 Y 512 0) ⊢ drainAt c x0 Y 0 ⟨⟩ := by
  unfold drainAt
  rw [if_pos (by decide)]
  iintro ⟨HO, HB⟩
  isplitr; · ipureintro; omega
  isplitl [HO]; · iexists _; iexact HO
  rw [show 2 * 0 * NN = 0 from Nat.zero_mul _]
  iexact HB

/-- After its last. -/
theorem drain_leave (acc : Unit) : drainAt c x0 Y k0_t2_loop.trips acc
    ⊢ iprop((∃ W, owes (c : Thread nD τ) 0 W) ∗ semVal ((c : Thread nD τ), SemLoc.dma dsem) 0 ∗ bigSep Finset.univ (deliv c x0 Y)) := by
  rw [trips2]; unfold drainAt
  rw [if_neg (Nat.lt_irrefl _)]
  iintro ⟨-, HO, Hv, HD⟩
  isplitl [HO]; · iexact HO
  isplitl [Hv] <;> iassumption

/-- The two loops: the scratch buffer gathered, everything else as it was. -/
theorem gather (hx : InRows x0) (W) {β : Type} (K : Unit → Prog (TpuEff nD τ sig (Elt Bits) Λ₀ .tc) β) (Q : β → sProp 𝕄) :
    iprop((((c : Thread nD τ).loc cc0_scratch0) ↦{fullShare} f0) ∗ (((c : Thread nD τ).loc main_arg4) ↦{fullShare} Y) ∗ semVal ((c : Thread nD τ), SemLoc.dma dsem) 0
        ∗ owes (c : Thread nD τ) 0 W ∗ (arg1.view.loc (c : Thread nD τ) ↦[arg1.view.set]{fullShare} arg1.view.rep x0))
      ⊢ iprop((iprop((((c : Thread nD τ).loc cc0_scratch0) ↦{fullShare} gathered x0 Y) ∗ (((c : Thread nD τ).loc main_arg4) ↦{fullShare} Y) ∗ semVal ((c : Thread nD τ), SemLoc.dma dsem) 0
            ∗ (∃ W, owes (c : Thread nD τ) 0 W) ∗ (arg1.view.loc (c : Thread nD τ) ↦[arg1.view.set]{fullShare} arg1.view.rep x0))
          -∗ wp frame (wpE (defs₀ (F := Bits)) Variants.none (c : Thread nD τ) none) Set.univ (K ⟨⟩) Q)
        -∗ wp frame (wpE (defs₀ (F := Bits)) Variants.none (c : Thread nD τ) none) Set.univ
          (Scf.Loop.for k0_t1_loop k0_t1_ok ⟨⟩ (issueBody arg1 i harg1 arg2 harg2 arg3 harg3 arg4 harg4 arg6 harg6 arg7 harg7 arg8 harg8 arg9 harg9 arg10 harg10 arg11 harg11) >>= fun _ =>
            Scf.Loop.for k0_t2_loop k0_t2_ok ⟨⟩ (drainBody arg1 i harg1 arg2 harg2 arg3 harg3 arg4 harg4 arg6 harg6 arg7 harg7 arg8 harg8 arg9 harg9 arg10 harg10 arg11 harg11) >>= K) Q) := by
  iintro ⟨HS, HY, Hv, HO, HA⟩ Hk
  ihave HY' := (deal c x0 Y).1 $$ HY
  icases HY' with ⟨HR, HT⟩
  imod (Transfers.batch_alloc' (Lvl := ℕ) (countersEmb (U := Pipeline.UD sig nD τ)) (c : Thread nD τ) () NN (deliv c x0 Y) (sm := .dma dsem) (E := Set.univ)) $$ Hv with HB
  iapply (Scf.wp_for_bind frame (wpE (defs₀ (F := Bits)) Variants.none (c : Thread nD τ) none) Set.univ _ _ _ k0_t1_ok ⟨⟩ (issueBody arg1 i harg1 arg2 harg2 arg3 harg3 arg4 harg4 arg6 harg6 arg7 harg7 arg8 harg8 arg9 harg9 arg10 harg10 arg11 harg11)
    (issueAt c x0 Y f0 arg1) (issue_step c x0 Y f0 arg1 i harg1 arg2 harg2 arg3 harg3 arg4 harg4 arg6 harg6 arg7 harg7 arg8 harg8 arg9 harg9 arg10 harg10 arg11 harg11 hx)) $$ [HB HS HT HA]
  · iapply (issue_enter c x0 Y f0 arg1)
    isplitl [HB]; · iexact HB
    isplitl [HS HT]
    · iapply (make_ready c x0 Y f0)
      isplitl [HS] <;> iassumption
    iexact HA
  iintro %acc HI
  ihave HI' := (issue_leave c x0 Y f0 arg1 acc) $$ HI
  icases HI' with ⟨HB, HA⟩
  iapply (Scf.wp_for_bind frame (wpE (defs₀ (F := Bits)) Variants.none (c : Thread nD τ) none) Set.univ _ _ _ k0_t2_ok ⟨⟩ (drainBody arg1 i harg1 arg2 harg2 arg3 harg3 arg4 harg4 arg6 harg6 arg7 harg7 arg8 harg8 arg9 harg9 arg10 harg10 arg11 harg11)
    (drainAt c x0 Y) (drain_step c x0 Y arg1 i harg1 arg2 harg2 arg3 harg3 arg4 harg4 arg6 harg6 arg7 harg7 arg8 harg8 arg9 harg9 arg10 harg10 arg11 harg11)) $$ [HB HO]
  · iapply (drain_enter c x0 Y W)
    isplitl [HO] <;> iassumption
  iintro %acc HD
  ihave HD' := (drain_leave c x0 Y acc) $$ HD
  icases HD' with ⟨HO, Hv, HD⟩
  ihave HD' := (all_delivered c x0 Y) $$ HD
  icases HD' with ⟨HS, HT⟩
  iapply Hk
  isplitl [HS]; · iexact HS
  isplitl [HR HT]
  · iapply (deal c x0 Y).2
    isplitl [HR] <;> iassumption
  isplitl [Hv]; · iexact Hv
  isplitl [HO] <;> iassumption

/-- A plane of the gathered rows, as the body loads it. -/
def plane0 : Vec Bits S1x256x1024 .f32 :=
  View.readAt (Elt Bits) (Memref.whole cc0_scratch0).view (Rect.unit (s := S2x256x1024) ![0, 0, 0] S1x256x1024.size inb_S2x256x1024_S1x256x1024_0_0_0).toLoadRect (gathered x0 Y)
/-- The other. -/
def plane1 : Vec Bits S1x256x1024 .f32 :=
  View.readAt (Elt Bits) (Memref.whole cc0_scratch0).view (Rect.unit (s := S2x256x1024) ![1, 0, 0] S1x256x1024.size inb_S2x256x1024_S1x256x1024_1_0_0).toLoadRect (gathered x0 Y)

variable (x1 : S256x1024.Idx → Elt Bits .f32) (x2 : S256x128.Idx → Elt Bits .f32) (x3 : S256x256.Idx → Elt Bits .f32) (x4 : S1024x1024.Idx → Elt Bits .bf16)
  (x5 : S256x1024.Idx → Elt Bits .bf16) (x6 x7 x8 : S1x1024.Idx → Elt Bits .f32)

/-- The scratch buffer, as the body's memref names it. -/
theorem as_view (f : S2x256x1024.Idx → Elt Bits .f32) : (((c : Thread nD τ).loc cc0_scratch0) ↦{fullShare} f : sProp 𝕄)
    ⊢ (((Memref.whole cc0_scratch0).view.loc (c : Thread nD τ)) ↦{fullShare} f) := .refl

/-- The body's first half: the rows gathered, added to the stream at their weights, normed. -/
theorem half1 (hx : InRows x0) (W) (Q : (Σ' (_ : FVec Bits S256x1024 .f32) (_ : FVec Bits S256x1024 .bf16), FVec Bits S1024x1024 .bf16) → sProp 𝕄) :
    iprop((((c : Thread nD τ).loc cc0_scratch0) ↦{fullShare} f0) ∗ (((c : Thread nD τ).loc main_arg4) ↦{fullShare} Y) ∗ semVal ((c : Thread nD τ), SemLoc.dma dsem) 0
        ∗ owes (c : Thread nD τ) 0 W ∗ (arg1.view.loc (c : Thread nD τ) ↦[arg1.view.set]{fullShare} arg1.view.rep x0)
        ∗ (arg2.view.loc (c : Thread nD τ) ↦[arg2.view.set]{fullShare} arg2.view.rep x1) ∗ (arg3.view.loc (c : Thread nD τ) ↦[arg3.view.set]{fullShare} arg3.view.rep x2)
        ∗ (arg6.view.loc (c : Thread nD τ) ↦[arg6.view.set]{fullShare} arg6.view.rep x4) ∗ (arg8.view.loc (c : Thread nD τ) ↦[arg8.view.set]{fullShare} arg8.view.rep x6))
      ⊢ iprop((iprop((((c : Thread nD τ).loc cc0_scratch0) ↦{fullShare} gathered x0 Y) ∗ (((c : Thread nD τ).loc main_arg4) ↦{fullShare} Y) ∗ semVal ((c : Thread nD τ), SemLoc.dma dsem) 0
            ∗ (∃ W, owes (c : Thread nD τ) 0 W) ∗ (arg1.view.loc (c : Thread nD τ) ↦[arg1.view.set]{fullShare} arg1.view.rep x0)
            ∗ (arg2.view.loc (c : Thread nD τ) ↦[arg2.view.set]{fullShare} arg2.view.rep x1) ∗ (arg3.view.loc (c : Thread nD τ) ↦[arg3.view.set]{fullShare} arg3.view.rep x2)
            ∗ (arg6.view.loc (c : Thread nD τ) ↦[arg6.view.set]{fullShare} arg6.view.rep x4) ∗ (arg8.view.loc (c : Thread nD τ) ↦[arg8.view.set]{fullShare} arg8.view.rep x6))
          -∗ Q ⟨k0_pay2 x2 x1 (plane0 x0 Y) (plane1 x0 Y), k0_pay3 x2 x1 (plane0 x0 Y) (plane1 x0 Y) x6, k0_pay4 x4⟩)
        -∗ wp frame (wpE (defs₀ (F := Bits)) Variants.none (c : Thread nD τ) none) Set.univ (k0_part1 (F := Bits) i arg1 harg1 arg2 harg2 arg3 harg3 arg4 harg4 (Memref.whole main_arg4) (Memref.isWhole_whole _) arg6 harg6 arg7 harg7 arg8 harg8 arg9 harg9 arg10 harg10 arg11 harg11 (Memref.whole cc0_scratch0) (Memref.isWhole_whole _) cc0_scratch1) Q) := by
  rw [k0_part1_eq_skeleton]
  unfold k0_part1_skel
  iintro ⟨HS, HY, Hv, HO, HA, H2, H3, H6, H8⟩ Hk
  iapply (gather c x0 Y f0 arg1 i harg1 arg2 harg2 arg3 harg3 arg4 harg4 arg6 harg6 arg7 harg7 arg8 harg8 arg9 harg9 arg10 harg10 arg11 harg11 hx W) $$ [HS HY Hv HO HA]
  · isplitl [HS]; · iexact HS
    isplitl [HY]; · iexact HY
    isplitl [Hv]; · iexact Hv
    isplitl [HO] <;> iassumption
  iintro ⟨HS, HY, Hv, HO, HA⟩
  ihave HS := (as_view c (gathered x0 Y)) $$ HS
  sl_exec
  rw [View.readAt_rep_full arg3.view x2, View.readAt_rep_full arg2.view x1, View.readAt_rep_full arg8.view x6, View.readAt_rep_full arg6.view x4]
  sl_step
  unfold plane0 plane1
  iapply Hk
  isplitl [HS]; · iexact HS
  isplitl [HY]; · iexact HY
  isplitl [Hv]; · iexact Hv
  isplitl [HO]; · iexact HO
  isplitl [HA]; · iexact HA
  isplitl [H2]; · iexact H2
  isplitl [H3]; · iexact H3
  isplitl [H6] <;> iassumption

/-- The body's second half: the gate, the per-layer input's projection and norm, and the norm of the sum. -/
theorem half2 (v15 : FVec Bits S256x1024 .f32) (v30 : FVec Bits S256x1024 .bf16) (v32 : FVec Bits S1024x1024 .bf16)
    (Q : (Σ' (_ : FVec Bits S1x1024 .f32), FVec Bits S256x1024 .f32) → sProp 𝕄) :
    iprop((arg4.view.loc (c : Thread nD τ) ↦[arg4.view.set]{fullShare} arg4.view.rep x3) ∗ (arg7.view.loc (c : Thread nD τ) ↦[arg7.view.set]{fullShare} arg7.view.rep x5)
        ∗ (arg9.view.loc (c : Thread nD τ) ↦[arg9.view.set]{fullShare} arg9.view.rep x7) ∗ (arg10.view.loc (c : Thread nD τ) ↦[arg10.view.set]{fullShare} arg10.view.rep x8))
      ⊢ iprop((iprop((arg4.view.loc (c : Thread nD τ) ↦[arg4.view.set]{fullShare} arg4.view.rep x3) ∗ (arg7.view.loc (c : Thread nD τ) ↦[arg7.view.set]{fullShare} arg7.view.rep x5)
        ∗ (arg9.view.loc (c : Thread nD τ) ↦[arg9.view.set]{fullShare} arg9.view.rep x7) ∗ (arg10.view.loc (c : Thread nD τ) ↦[arg10.view.set]{fullShare} arg10.view.rep x8))
          -∗ Q ⟨k0_pay5 x8, k0_pay6 v15 v30 v32 x3 x5 x7⟩)
        -∗ wp frame (wpE (defs₀ (F := Bits)) Variants.none (c : Thread nD τ) none) Set.univ (k0_part2 (F := Bits) i arg1 harg1 arg2 harg2 arg3 harg3 arg4 harg4 (Memref.whole main_arg4) (Memref.isWhole_whole _) arg6 harg6 arg7 harg7 arg8 harg8 arg9 harg9 arg10 harg10 arg11 harg11 (Memref.whole cc0_scratch0) (Memref.isWhole_whole _) cc0_scratch1 v15 v30 v32) Q) := by
  rw [k0_part2_eq_skeleton]
  unfold k0_part2_skel
  iintro ⟨H4, H7, H9, H10⟩ Hk
  sl_exec
  rw [View.readAt_rep_full arg4.view x3, View.readAt_rep_full arg7.view x5, View.readAt_rep_full arg9.view x7, View.readAt_rep_full arg10.view x8]
  sl_step
  iapply Hk
  isplitl [H4]; · iexact H4
  isplitl [H7]; · iexact H7
  isplitl [H9] <;> iassumption

/-- One program, then another. -/
theorem in_turn {α β : Type} {P : Prog (TpuEff nD τ sig (Elt Bits) Λ₀ .tc) α} {K : α → Prog (TpuEff nD τ sig (Elt Bits) Λ₀ .tc) β} {Q : β → sProp 𝕄} :
    wp frame (wpE (defs₀ (F := Bits)) Variants.none (c : Thread nD τ) none) Set.univ P (fun a => wp frame (wpE (defs₀ (F := Bits)) Variants.none (c : Thread nD τ) none) Set.univ (K a) Q)
      ⊢ (wp frame (wpE (defs₀ (F := Bits)) Variants.none (c : Thread nD τ) none) Set.univ (P >>= K) Q : sProp 𝕄) :=
  Entails.of_eq (wp_bind frame (wpE (defs₀ (F := Bits)) Variants.none (c : Thread nD τ) none) Set.univ P K Q).symm

/-- The block of the result that a point leaves. -/
def block : FVec Bits S256x1024 .f32 :=
  k0_pay1 (k0_pay5 x8) (k0_pay6 (k0_pay2 x2 x1 (plane0 x0 Y) (plane1 x0 Y)) (k0_pay3 x2 x1 (plane0 x0 Y) (plane1 x0 Y) x6) (k0_pay4 x4) x3 x5 x7)

/-- The whole body: its block of the result left, everything else as it was. -/
theorem whole (hx : InRows x0) (W : Waits sig Unit) :
    iprop((((c : Thread nD τ).loc cc0_scratch0) ↦{fullShare} f0) ∗ (((c : Thread nD τ).loc main_arg4) ↦{fullShare} Y) ∗ semVal ((c : Thread nD τ), SemLoc.dma dsem) 0
        ∗ owes (c : Thread nD τ) 0 W ∗ (arg1.view.loc (c : Thread nD τ) ↦[arg1.view.set]{fullShare} arg1.view.rep x0)
        ∗ (arg2.view.loc (c : Thread nD τ) ↦[arg2.view.set]{fullShare} arg2.view.rep x1) ∗ (arg3.view.loc (c : Thread nD τ) ↦[arg3.view.set]{fullShare} arg3.view.rep x2)
        ∗ (arg4.view.loc (c : Thread nD τ) ↦[arg4.view.set]{fullShare} arg4.view.rep x3) ∗ (arg6.view.loc (c : Thread nD τ) ↦[arg6.view.set]{fullShare} arg6.view.rep x4)
        ∗ (arg7.view.loc (c : Thread nD τ) ↦[arg7.view.set]{fullShare} arg7.view.rep x5) ∗ (arg8.view.loc (c : Thread nD τ) ↦[arg8.view.set]{fullShare} arg8.view.rep x6)
        ∗ (arg9.view.loc (c : Thread nD τ) ↦[arg9.view.set]{fullShare} arg9.view.rep x7) ∗ (arg10.view.loc (c : Thread nD τ) ↦[arg10.view.set]{fullShare} arg10.view.rep x8)
        ∗ (∃ d, owns (c : Thread nD τ) arg11 fullShare d))
      ⊢ (wp frame (wpE (defs₀ (F := Bits)) Variants.none (c : Thread nD τ) none) Set.univ (cc0_combine (F := Bits) i arg1 harg1 arg2 harg2 arg3 harg3 arg4 harg4 (Memref.whole main_arg4) (Memref.isWhole_whole _) arg6 harg6 arg7 harg7 arg8 harg8 arg9 harg9 arg10 harg10 arg11 harg11 (Memref.whole cc0_scratch0) (Memref.isWhole_whole _) cc0_scratch1) fun _ =>
        iprop((((c : Thread nD τ).loc cc0_scratch0) ↦{fullShare} gathered x0 Y) ∗ (((c : Thread nD τ).loc main_arg4) ↦{fullShare} Y) ∗ semVal ((c : Thread nD τ), SemLoc.dma dsem) 0
        ∗ (∃ W, owes (c : Thread nD τ) 0 W) ∗ (arg1.view.loc (c : Thread nD τ) ↦[arg1.view.set]{fullShare} arg1.view.rep x0)
        ∗ (arg2.view.loc (c : Thread nD τ) ↦[arg2.view.set]{fullShare} arg2.view.rep x1) ∗ (arg3.view.loc (c : Thread nD τ) ↦[arg3.view.set]{fullShare} arg3.view.rep x2)
        ∗ (arg4.view.loc (c : Thread nD τ) ↦[arg4.view.set]{fullShare} arg4.view.rep x3) ∗ (arg6.view.loc (c : Thread nD τ) ↦[arg6.view.set]{fullShare} arg6.view.rep x4)
        ∗ (arg7.view.loc (c : Thread nD τ) ↦[arg7.view.set]{fullShare} arg7.view.rep x5) ∗ (arg8.view.loc (c : Thread nD τ) ↦[arg8.view.set]{fullShare} arg8.view.rep x6)
        ∗ (arg9.view.loc (c : Thread nD τ) ↦[arg9.view.set]{fullShare} arg9.view.rep x7) ∗ (arg10.view.loc (c : Thread nD τ) ↦[arg10.view.set]{fullShare} arg10.view.rep x8)
        ∗ owns (c : Thread nD τ) arg11 fullShare (block x0 Y x1 x2 x3 x4 x5 x6 x7 x8)) : sProp 𝕄) := by
  rw [cc0_combine_eq_skeleton]
  unfold cc0_combine_skel
  iintro ⟨HS, HY, Hv, HO, H1, H2, H3, H4, H6, H7, H8, H9, H10, ⟨%d, H11⟩⟩
  iapply (in_turn c)
  iapply (half1 c x0 Y f0 arg1 i harg1 arg2 harg2 arg3 harg3 arg4 harg4 arg6 harg6 arg7 harg7 arg8 harg8 arg9 harg9 arg10 harg10 arg11 harg11 x1 x2 x4 x6 hx W) $$ [HS HY Hv HO H1 H2 H3 H6 H8]
  · isplitl [HS]; · iexact HS
    isplitl [HY]; · iexact HY
    isplitl [Hv]; · iexact Hv
    isplitl [HO]; · iexact HO
    isplitl [H1]; · iexact H1
    isplitl [H2]; · iexact H2
    isplitl [H3]; · iexact H3
    isplitl [H6] <;> iassumption
  iintro ⟨HS, HY, Hv, HO, H1, H2, H3, H6, H8⟩
  dsimp only
  iapply (in_turn c)
  iapply (half2 c arg1 i harg1 arg2 harg2 arg3 harg3 arg4 harg4 arg6 harg6 arg7 harg7 arg8 harg8 arg9 harg9 arg10 harg10 arg11 harg11 x3 x5 x7 x8 _ _ _) $$ [H4 H7 H9 H10]
  · isplitl [H4]; · iexact H4
    isplitl [H7]; · iexact H7
    isplitl [H9] <;> iassumption
  iintro ⟨H4, H7, H9, H10⟩
  dsimp only
  unfold owns
  icases H11 with ⟨%e, -, H11⟩
  sl_exec
  sl_step
  isplitl [HS]; · iexact HS
  isplitl [HY]; · iexact HY
  isplitl [Hv]; · iexact Hv
  isplitl [HO]; · iexact HO
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  iexists _
  isplitr; swap
  · iexact H11
  ipureintro
  exact View.read_writes_full _ _ _ _ _

end ComBits
end
-- ==== Proof.ComPre.lean ====
/-
  What the last call's precondition says of the launch memory: every position names a row of the experts' outputs.
-/
module

public import proofs.«01_k».proof.Defs
public import proofs.«01_k».proof.Proof.Gen.Pre_rows_named
public import proofs.«01_k».proof.Proof.ComLaunch
public import proofs.«01_k».proof.Proof.ComBitsLaunch

@[expose] public section
noncomputable section
namespace Com.Pre
open Idealize.ShloMosaic Idealize.ShloMosaic.TcCoe Cert.Pre_rows_named Cert.Pre_rows_named.Gen

/-- The predicate, all ones, bounds every position. -/
theorem word_named {F : FTy → Type} [FloatOps F] (P : IVec S128x1x512 32) (H : FVec F S32768x1024 .f32) (R : FVec F S32768x128 .f32) (E : FVec F S32768x256 .f32)
    (Y : FVec F S73728x1024 .f32) (G : FVec F S1024x1024 .f32) (W : FVec F S256x1024 .f32) (g g' g'' : FVec F S1024 .f32)
    (h : fn (F := F) P H R E Y G W g g' g'' = fun _ => 1#1) (i : S128x1x512.Idx) : (P i).toNat < 73728 := by
  have both (x y : BitVec 1) : IntOp.andi x y = 1#1 ↔ x = 1#1 ∧ y = 1#1 := by revert x y; decide
  have bit (x : Bool) : BitVec.ofBool x = 1#1 ↔ x = true := by cases x <;> decide
  have at_i := congrFun h i
  simp only [fn, constantI, broadcastInDim, cmpi, andi, both] at at_i
  obtain ⟨lo, hi⟩ := at_i
  change BitVec.ofBool ((0#32).sle (P i)) = 1#1 at lo
  change BitVec.ofBool ((P i).sle 73727#32) = 1#1 at hi
  rw [bit, BitVec.sle_iff_toInt_le] at lo hi
  have z : (0#32 : BitVec 32).toInt = 0 := by decide
  have t : (73727#32 : BitVec 32).toInt = 73727 := by decide
  rw [z] at lo
  rw [t] at hi
  have := BitVec.toInt_eq_toNat_cond (P i)
  have := (P i).isLt
  split at * <;> omega

theorem bound (m : (ℓ : Loc Cert.Kernel4Ideal.nD Cert.Kernel4Ideal.τ Cert.Kernel4Ideal.sig) → Buf (Elt Ideal) ℓ)
    (h : Cert.Pre_Kernel4Ideal m) (c : Dev Cert.Kernel4Ideal.nD) (i : S128x1x512.Idx) :
    ((m ((c : Thread Cert.Kernel4Ideal.nD Cert.Kernel4Ideal.τ).loc Cert.Kernel4Ideal.main_arg0) : IVec S128x1x512 32) i).toNat < 73728 :=
  word_named _ _ _ _ _ _ _ _ _ _ (h c) i

theorem named (m : (ℓ : Loc Cert.Kernel4Ideal.nD Cert.Kernel4Ideal.τ Cert.Kernel4Ideal.sig) → Buf (Elt Ideal) ℓ)
    (h : Cert.Pre_Kernel4Ideal m) : Com.Named m := fun c t j => by
  refine (congrArg (fun w : BitVec 32 => w.toNat < 73728) (congrFun (Com.arg_0 m c) _)).mpr ?_
  exact word_named _ _ _ _ _ _ _ _ _ _ (h c) _

theorem named_bits (m : (ℓ : Loc Cert.Kernel4.nD Cert.Kernel4.τ Cert.Kernel4.sig) → Buf (Elt Bits) ℓ)
    (h : Cert.Pre_Kernel4 m) : ComBits.Named m := fun c t j => by
  refine (congrArg (fun w : BitVec 32 => w.toNat < 73728) (congrFun (ComBits.arg_0 m c) _)).mpr ?_
  exact word_named _ _ _ _ _ _ _ _ _ _ (h c) _

end Com.Pre
end
-- ==== Proof.ComSpec.lean ====
/-
  The last call in plain terms: a token's stream with its two experts' rows added by their weights, then the gated projection of the
  token's own embedding, then the final scaling.
-/
module

public import proofs.«01_k».proof.Proof.InSpec

@[expose] public section
noncomputable section
namespace Com
open Idealize.ShloMosaic Proj

/-- The stream after the experts: the rows `y` and `z` come weighted by `a` and `b`. -/
def stream (h : Fin 1024 → EReal) (a b : EReal) (y z : Fin 1024 → EReal) (k : Fin 1024) : EReal := h k + (a * y k + b * z k)

/-- `σ(z)`. -/
def sigm (z : EReal) : EReal := Ideal.div 1 (1 + Ideal.exp (-z))

/-- The stream `h` with the gated projection of the embedding `p` added: `G` are the gate's weights, `W` the projection's. -/
def fed (h : Fin 1024 → EReal) (p : Fin 256 → EReal) (G : Fin 1024 → Fin 1024 → EReal) (W : Fin 256 → Fin 1024 → EReal) (g g' : Fin 1024 → EReal)
    (k : Fin 1024) : EReal :=
  h k + sigm (∑ j, rms h g j * G j k) * rms (fun l => ∑ d, p d * W d l) g' k

/-- One entry of the result. -/
def final (h : Fin 1024 → EReal) (p : Fin 256 → EReal) (G : Fin 1024 → Fin 1024 → EReal) (W : Fin 256 → Fin 1024 → EReal) (g g' g'' : Fin 1024 → EReal)
    (k : Fin 1024) : EReal :=
  rms (fed h p G W g g') g'' k

end Com
end
-- ==== Proof.ComEntry.lean ====
/-
  The last call's block of the result, entry by entry.
-/
module

public import proofs.«01_k».proof.Proof.ComLaunch
public import proofs.«01_k».proof.Proof.ComSpec

@[expose] public section
set_option maxRecDepth 16384
noncomputable section
namespace Com
open Idealize.ShloMosaic Idealize.ShloMosaic.TcCoe Idealize.ShloMosaic.Tactic Idealize.SL.Sem Cert.Kernel4Ideal Cert.Kernel4Ideal.Gen Proj

theorem stream_apply (v2 : Vec Ideal S256x128 .f32) (v5 : Vec Ideal S256x1024 .f32) (v6 v10 : Vec Ideal S1x256x1024 .f32) (r : Fin 256) (k : Fin 1024) :
    k0_pay2 v2 v5 v6 v10 (ix2 r k)
      = stream (fun l => v5 (ix2 r l)) (v2 (ix2 r 2)) (v2 (ix2 r 3)) (fun l => v6 (ix3 0 r l)) (fun l => v10 (ix3 0 r l)) k := by
  pointwise [k0_pay2]
  rfl

theorem scaled_apply (v2 : Vec Ideal S256x128 .f32) (v5 : Vec Ideal S256x1024 .f32) (v6 v10 : Vec Ideal S1x256x1024 .f32) (v16 : Vec Ideal S1x1024 .f32)
    (r : Fin 256) (k : Fin 1024) :
    k0_pay3 v2 v5 v6 v10 v16 (ix2 r k) = rms (fun l => k0_pay2 v2 v5 v6 v10 (ix2 r l)) (fun l => v16 (ix2 0 l)) k := by
  pointwise [k0_pay3]
  rfl

theorem gate_apply (v : Vec Ideal S1024x1024 .bf16) (j k : Fin 1024) : k0_pay4 v (ix2 j k) = v (ix2 j k) := by
  pointwise [k0_pay4]

theorem gain_apply (v : Vec Ideal S1x1024 .f32) (k : Fin 1024) : k0_pay5 v (ix2 0 k) = v (ix2 0 k) := by
  pointwise [k0_pay5]

theorem times_apply (g : FVec Ideal S1x1024 .f32) (v : FVec Ideal S256x1024 .f32) (r : Fin 256) (k : Fin 1024) :
    k0_pay1 g v (ix2 r k) = v (ix2 r k) * g (ix2 0 k) := by
  pointwise [k0_pay1]

theorem fed_apply (v15 : FVec Ideal S256x1024 .f32) (v30 : FVec Ideal S256x1024 .bf16) (v32 : FVec Ideal S1024x1024 .bf16) (v41 : Vec Ideal S256x256 .f32)
    (v43 : Vec Ideal S256x1024 .bf16) (v46 : Vec Ideal S1x1024 .f32) (r : Fin 256) (k : Fin 1024) (u : Fin 1024 → EReal)
    (hu : u = fun l => v15 (ix2 r l) + sigm (∑ j, v30 (ix2 r j) * v32 (ix2 j l))
      * rms (fun q => ∑ d, v41 (ix2 r d) * v43 (ix2 d q)) (fun q => v46 (ix2 0 q)) l) :
    k0_pay6 v15 v30 v32 v41 v43 v46 (ix2 r k) = u k * Ideal.rsqrt (Ideal.div (∑ l, u l * u l) (lit 0x44800000#32) + lit 0x358637BD#32) := by
  subst hu
  pointwise [k0_pay6]
  simp only [zero_sub]
  rfl

end Com
end
-- ==== Proof.ComValue.lean ====
/-
  The last call's whole result.
-/
module

public import proofs.«01_k».proof.Proof.ComEntry
public import Idealize.ShloMosaic.Lib.Claim
public import Idealize.ShloMosaic.Lib.StableHlo.Run

@[expose] public section
set_option maxRecDepth 16384
noncomputable section
namespace Com
open Idealize.ShloMosaic Idealize.ShloMosaic.TcCoe Idealize.ShloMosaic.Tactic Idealize.SL.Sem Cert.Kernel4Ideal Cert.Kernel4Ideal.Gen Proj
open Idealize.ShloMosaic.Pipeline (Dat Cfg Window)

/-! ## The block, from what the windows hold -/

/-- The row of `Y` a position names. -/
abbrev picked (Y : S73728x1024.Idx → EReal) (p : BitVec 32) (l : Fin 1024) : EReal := Y (ix2 ⟨p.toNat % 73728, Nat.mod_lt _ (by decide)⟩ l)

theorem plane0_apply (x0 : S1x1x512.Idx → Elt Ideal .i32) (Y : S73728x1024.Idx → Elt Ideal .f32) (r : Fin 256) (l : Fin 1024) :
    plane0 x0 Y (ix3 0 r l) = picked Y (x0 (ix3 0 0 ⟨2 * r.val + 0, by omega⟩)) l := by
  have e : copyOf (ix3 (⟨0, by omega⟩ : Fin 2) (⟨0 + 1 * r.val, by omega⟩ : Fin 256) l) = ⟨2 * r.val + 0, by omega⟩ :=
    Fin.ext (by show 2 * (0 + 1 * r.val) + 0 = 2 * r.val + 0; omega)
  refine Eq.trans (b := Y (ix2 ⟨(word x0 (copyOf (ix3 (⟨0, by omega⟩ : Fin 2) (⟨0 + 1 * r.val, by omega⟩ : Fin 256) l))).toNat % 73728, Nat.mod_lt _ (by decide)⟩ l)) ?_ ?_
  · unfold plane0
    refine congrArg Y (funext fun (x : Fin 2) => Fin.ext ?_)
    match x with
    | 0 => rfl
    | 1 => show 0 + 1 * l.val = l.val; omega
  · rw [e]; rfl

theorem plane1_apply (x0 : S1x1x512.Idx → Elt Ideal .i32) (Y : S73728x1024.Idx → Elt Ideal .f32) (r : Fin 256) (l : Fin 1024) :
    plane1 x0 Y (ix3 0 r l) = picked Y (x0 (ix3 0 0 ⟨2 * r.val + 1, by omega⟩)) l := by
  have e : copyOf (ix3 (⟨1, by omega⟩ : Fin 2) (⟨0 + 1 * r.val, by omega⟩ : Fin 256) l) = ⟨2 * r.val + 1, by omega⟩ :=
    Fin.ext (by show 2 * (0 + 1 * r.val) + 1 = 2 * r.val + 1; omega)
  refine Eq.trans (b := Y (ix2 ⟨(word x0 (copyOf (ix3 (⟨1, by omega⟩ : Fin 2) (⟨0 + 1 * r.val, by omega⟩ : Fin 256) l))).toNat % 73728, Nat.mod_lt _ (by decide)⟩ l)) ?_ ?_
  · unfold plane1
    refine congrArg Y (funext fun (x : Fin 2) => Fin.ext ?_)
    match x with
    | 0 => rfl
    | 1 => show 0 + 1 * l.val = l.val; omega
  · rw [e]; rfl

theorem block_apply (x0 : S1x1x512.Idx → Elt Ideal .i32) (Y : S73728x1024.Idx → Elt Ideal .f32) (x1 : Vec Ideal S256x1024 .f32) (x2 : Vec Ideal S256x128 .f32)
    (x3 : Vec Ideal S256x256 .f32) (x4 : Vec Ideal S1024x1024 .bf16) (x5 : Vec Ideal S256x1024 .bf16) (x6 x7 x8 : Vec Ideal S1x1024 .f32) (r : Fin 256) (k : Fin 1024) :
    block x0 Y x1 x2 x3 x4 x5 x6 x7 x8 (ix2 r k)
      = final (stream (fun l => x1 (ix2 r l)) (x2 (ix2 r 2)) (x2 (ix2 r 3)) (picked Y (x0 (ix3 0 0 ⟨2 * r.val + 0, by omega⟩))) (picked Y (x0 (ix3 0 0 ⟨2 * r.val + 1, by omega⟩))))
        (fun d => x3 (ix2 r d)) (fun j l => x4 (ix2 j l)) (fun d l => x5 (ix2 d l)) (fun l => x6 (ix2 0 l)) (fun l => x7 (ix2 0 l)) (fun l => x8 (ix2 0 l)) k := by
  have hs : (fun l => k0_pay2 x2 x1 (plane0 x0 Y) (plane1 x0 Y) (ix2 r l))
      = stream (fun l => x1 (ix2 r l)) (x2 (ix2 r 2)) (x2 (ix2 r 3)) (picked Y (x0 (ix3 0 0 ⟨2 * r.val + 0, by omega⟩))) (picked Y (x0 (ix3 0 0 ⟨2 * r.val + 1, by omega⟩))) := by
    funext l
    rw [stream_apply, show (fun l => plane0 x0 Y (ix3 0 r l)) = _ from funext fun l => plane0_apply x0 Y r l,
      show (fun l => plane1 x0 Y (ix3 0 r l)) = _ from funext fun l => plane1_apply x0 Y r l]
  unfold block final
  rw [times_apply, gain_apply, fed_apply (hu := rfl)]
  simp only [scaled_apply, gate_apply]
  rw [← hs]
  rfl

/-! ## The windows' blocks, in the arguments -/

variable {m : (ℓ : Loc nD τ sig) → Buf (Elt Ideal) ℓ} (c : Dev nD)

abbrev argP : IVec S128x1x512 32 := m ((c : Thread nD τ).loc main_arg0)
abbrev argH : Vec Ideal S32768x1024 .f32 := m ((c : Thread nD τ).loc main_arg1)
abbrev argR : Vec Ideal S32768x128 .f32 := m ((c : Thread nD τ).loc main_arg2)
abbrev argE : Vec Ideal S32768x256 .f32 := m ((c : Thread nD τ).loc main_arg3)
abbrev argY : Vec Ideal S73728x1024 .f32 := m ((c : Thread nD τ).loc main_arg4)
abbrev argG : Vec Ideal S1024x1024 .f32 := m ((c : Thread nD τ).loc main_arg5)
abbrev argW : Vec Ideal S256x1024 .f32 := m ((c : Thread nD τ).loc main_arg6)
abbrev arg1st : Vec Ideal S1024 .f32 := m ((c : Thread nD τ).loc main_arg7)
abbrev arg2nd : Vec Ideal S1024 .f32 := m ((c : Thread nD τ).loc main_arg8)
abbrev arg3rd : Vec Ideal S1024 .f32 := m ((c : Thread nD τ).loc main_arg9)

theorem coord_val : ∀ t : Fin grid0.N, (grid0.coords t 0).val = t.val := by decide +kernel

theorem point_index (t : Fin cfg0.N) : (BitVec.ofNat 32 (grid0.coords t 0).val).toNat = t.val := by
  have : t.val < 128 := t.isLt
  rw [coord_val t, BitVec.toNat_ofNat]; omega

/-- Row `r` of point `t`'s blocks. -/
abbrev tok (t : Fin cfg0.N) (r : Fin 256) : Fin 32768 := ⟨t.val * 256 + r.val, by have : t.val < 128 := t.isLt; omega⟩

theorem blk_pos (t : Fin cfg0.N) (j : Fin 512) :
    (blk m c 0 t : IVec S1x1x512 32) (ix3 0 0 j) = argP (m := m) c (ix3 ⟨t.val, t.isLt⟩ 0 j) := by
  refine (congrFun (arg_0 m c) _).trans (congrArg (argP (m := m) c) (funext fun (x : Fin 3) => Fin.ext ?_))
  match x with
  | 0 =>
    show (BitVec.ofNat 32 (grid0.coords t 0).val).toNat * 1 + 1 * 0 = t.val
    rw [point_index]; omega
  | 1 => rfl
  | 2 =>
    show 0 * 512 + 1 * j.val = j.val
    omega

theorem blk_stream (t : Fin cfg0.N) (r : Fin 256) (d : Fin 1024) :
    (blk m c 1 t : Vec Ideal S256x1024 .f32) (ix2 r d) = argH (m := m) c (ix2 (tok t r) d) := by
  refine (congrFun (arg_1 m c) _).trans (congrArg (argH (m := m) c) (funext fun (x : Fin 2) => Fin.ext ?_))
  match x with
  | 0 =>
    show (BitVec.ofNat 32 (grid0.coords t 0).val).toNat * 256 + 1 * r.val = t.val * 256 + r.val
    rw [point_index]; omega
  | 1 =>
    show 0 * 1024 + 1 * d.val = d.val
    omega

theorem blk_route (t : Fin cfg0.N) (r : Fin 256) (d : Fin 128) :
    (blk m c 2 t : Vec Ideal S256x128 .f32) (ix2 r d) = argR (m := m) c (ix2 (tok t r) d) := by
  refine (congrFun (arg_2 m c) _).trans (congrArg (argR (m := m) c) (funext fun (x : Fin 2) => Fin.ext ?_))
  match x with
  | 0 =>
    show (BitVec.ofNat 32 (grid0.coords t 0).val).toNat * 256 + 1 * r.val = t.val * 256 + r.val
    rw [point_index]; omega
  | 1 =>
    show 0 * 128 + 1 * d.val = d.val
    omega

theorem blk_embed (t : Fin cfg0.N) (r : Fin 256) (d : Fin 256) :
    (blk m c 3 t : Vec Ideal S256x256 .f32) (ix2 r d) = argE (m := m) c (ix2 (tok t r) d) := by
  refine (congrFun (arg_3 m c) _).trans (congrArg (argE (m := m) c) (funext fun (x : Fin 2) => Fin.ext ?_))
  match x with
  | 0 =>
    show (BitVec.ofNat 32 (grid0.coords t 0).val).toNat * 256 + 1 * r.val = t.val * 256 + r.val
    rw [point_index]; omega
  | 1 =>
    show 0 * 256 + 1 * d.val = d.val
    omega

theorem host_gate : @Eq (FVec Ideal S1024x1024 .bf16) (V m c main_v0) (truncf .bf16 (argG (m := m) c) bitsLt_bf16_f32) := by
  unfold_abbrev_sides
  after_results

theorem blk_gate (t : Fin cfg0.N) (r : Fin 1024) (d : Fin 1024) :
    (blk m c 4 t : Vec Ideal S1024x1024 .bf16) (ix2 r d) = argG (m := m) c (ix2 r d) := by
  refine (congrFun (host_gate c) _).trans (congrArg (argG (m := m) c) (funext fun (x : Fin 2) => Fin.ext ?_))
  match x with
  | 0 => show 0 * 1024 + 1 * r.val = r.val; omega
  | 1 => show 0 * 1024 + 1 * d.val = d.val; omega

theorem host_proj : @Eq (FVec Ideal S256x1024 .bf16) (V m c main_v1) (truncf .bf16 (argW (m := m) c) bitsLt_bf16_f32) := by
  unfold_abbrev_sides
  after_results

theorem blk_proj (t : Fin cfg0.N) (r : Fin 256) (d : Fin 1024) :
    (blk m c 5 t : Vec Ideal S256x1024 .bf16) (ix2 r d) = argW (m := m) c (ix2 r d) := by
  refine (congrFun (host_proj c) _).trans (congrArg (argW (m := m) c) (funext fun (x : Fin 2) => Fin.ext ?_))
  match x with
  | 0 => show 0 * 256 + 1 * r.val = r.val; omega
  | 1 => show 0 * 1024 + 1 * d.val = d.val; omega

theorem host_1st : @Eq (FVec Ideal S1x1024 .f32) (V m c main_v2) (shapeCast S1x1024 (arg1st (m := m) c) shapeCasts_S1024_S1x1024) := by
  unfold_abbrev_sides
  after_results
  rfl

theorem blk_1st (t : Fin cfg0.N) (l : Fin 1024) :
    (blk m c 6 t : Vec Ideal S1x1024 .f32) (ix2 0 l) = arg1st (m := m) c (ix1 l) := by
  refine (congrFun (host_1st c) _).trans (shapeCast_apply _ _ _ (ix1 l) ?_)
  rw [Shape.rowMajor_val_one, Shape.rowMajor_val_two]
  show l.val = (0 * 1 + 1 * 0) * 1024 + (0 * 1024 + 1 * l.val)
  omega

theorem host_2nd : @Eq (FVec Ideal S1x1024 .f32) (V m c main_v3) (shapeCast S1x1024 (arg2nd (m := m) c) shapeCasts_S1024_S1x1024) := by
  unfold_abbrev_sides
  after_results
  rfl

theorem blk_2nd (t : Fin cfg0.N) (l : Fin 1024) :
    (blk m c 7 t : Vec Ideal S1x1024 .f32) (ix2 0 l) = arg2nd (m := m) c (ix1 l) := by
  refine (congrFun (host_2nd c) _).trans (shapeCast_apply _ _ _ (ix1 l) ?_)
  rw [Shape.rowMajor_val_one, Shape.rowMajor_val_two]
  show l.val = (0 * 1 + 1 * 0) * 1024 + (0 * 1024 + 1 * l.val)
  omega

theorem host_3rd : @Eq (FVec Ideal S1x1024 .f32) (V m c main_v4) (shapeCast S1x1024 (arg3rd (m := m) c) shapeCasts_S1024_S1x1024) := by
  unfold_abbrev_sides
  after_results
  rfl

theorem blk_3rd (t : Fin cfg0.N) (l : Fin 1024) :
    (blk m c 8 t : Vec Ideal S1x1024 .f32) (ix2 0 l) = arg3rd (m := m) c (ix1 l) := by
  refine (congrFun (host_3rd c) _).trans (shapeCast_apply _ _ _ (ix1 l) ?_)
  rw [Shape.rowMajor_val_one, Shape.rowMajor_val_two]
  show l.val = (0 * 1 + 1 * 0) * 1024 + (0 * 1024 + 1 * l.val)
  omega

/-! ## The whole result -/

/-- Position `s` of token `n`. -/
abbrev place (n : Fin 32768) (s : ℕ) (hs : s < 2) : BitVec 32 :=
  argP (m := m) c (ix3 (⟨n.val / 256, by omega⟩ : Fin 128) 0 (⟨2 * (n.val % 256) + s, by omega⟩ : Fin 512))

/-- The result: row `n`, column `k`. -/
def given (n : Fin 32768) (k : Fin 1024) : EReal :=
  final (stream (fun l => argH (m := m) c (ix2 n l)) (argR (m := m) c (ix2 n 2)) (argR (m := m) c (ix2 n 3))
      (picked (argY (m := m) c) (place (m := m) c n 0 (by decide))) (picked (argY (m := m) c) (place (m := m) c n 1 (by decide))))
    (fun d => argE (m := m) c (ix2 n d)) (fun j l => argG (m := m) c (ix2 j l)) (fun d l => argW (m := m) c (ix2 d l))
    (fun l => arg1st (m := m) c (ix1 l)) (fun l => arg2nd (m := m) c (ix1 l)) (fun l => arg3rd (m := m) c (ix1 l)) k

def result : Vec Ideal S32768x1024 .f32 := fun j => given (m := m) c (j 0) (j 1)

theorem left_apply (t : Fin cfg0.N) (r : Fin 256) (k : Fin 1024) : left m c t (ix2 r k) = given (m := m) c (tok t r) k := by
  have ht : t.val < 128 := t.isLt
  have hp (s : ℕ) (hs : s < 2) : (blk m c 0 t : IVec S1x1x512 32) (ix3 0 0 ⟨2 * r.val + s, by omega⟩) = place (m := m) c (tok t r) s hs :=
    (blk_pos c t _).trans (congrArg₂ (fun (a : Fin 128) (b : Fin 512) => argP (m := m) c (ix3 a 0 b))
      (Fin.ext (by show t.val = (t.val * 256 + r.val) / 256; omega)) (Fin.ext (by show 2 * r.val + s = 2 * ((t.val * 256 + r.val) % 256) + s; omega)))
  unfold left given
  refine (block_apply _ _ _ _ _ _ _ _ _ _ r k).trans ?_
  have e1 : (fun l => (blk m c 1 t : Vec Ideal S256x1024 .f32) (ix2 r l)) = _ := funext fun l => blk_stream c t r l
  have e2 := blk_route (m := m) c t r 2
  have e2' := blk_route (m := m) c t r 3
  have e3 : (fun d => (blk m c 3 t : Vec Ideal S256x256 .f32) (ix2 r d)) = _ := funext fun d => blk_embed c t r d
  have e4 : (fun j l => (blk m c 4 t : Vec Ideal S1024x1024 .bf16) (ix2 j l)) = _ := funext fun j => funext fun l => blk_gate c t j l
  have e5 : (fun d l => (blk m c 5 t : Vec Ideal S256x1024 .bf16) (ix2 d l)) = _ := funext fun d => funext fun l => blk_proj c t d l
  have e6 : (fun l => (blk m c 6 t : Vec Ideal S1x1024 .f32) (ix2 0 l)) = _ := funext fun l => blk_1st c t l
  have e7 : (fun l => (blk m c 7 t : Vec Ideal S1x1024 .f32) (ix2 0 l)) = _ := funext fun l => blk_2nd c t l
  have e8 : (fun l => (blk m c 8 t : Vec Ideal S1x1024 .f32) (ix2 0 l)) = _ := funext fun l => blk_3rd c t l
  have e9 := congr (congr (congr (congr (congrArg stream e1) e2) e2')
    (congr (congrArg picked (arg_4 m c)) (hp 0 (by decide)))) (congr (congrArg picked (arg_4 m c)) (hp 1 (by decide)))
  exact congrFun (congr (congr (congr (congr (congr (congr (congrArg final e9) e3) e4) e5) e6) e7) e8) k

theorem written (t : Fin cfg0.N) : (data m 0 c).flushed 9 t = ((cfg0.win 9).blk t).view.read (Elt Ideal) (result (m := m) c) := by
  funext (y : S256x1024.Idx)
  show left m c t y = given c _ _
  refine ((congrArg (left m c t) (eq_ix2 y)).trans (left_apply c t (y 0) (y 1))).trans ?_
  refine congrArg₂ (given (m := m) c) (Fin.ext ?_) (Fin.ext ?_)
  · show t.val * 256 + (y 0).val = (BitVec.ofNat 32 (grid0.coords t 0).val).toNat * 256 + 1 * (y 0).val
    rw [point_index]; omega
  · show (y 1).val = 0 * 1024 + 1 * (y 1).val
    omega

theorem back : ∀ t : Fin cfg0.N, (cfg0.win 9).flush t = true := by decide +kernel

theorem everywhere (j : S32768x1024.Idx) : ∃ t : Fin cfg0.N, (cfg0.win 9).flush t = true ∧ j ∈ ((cfg0.win 9).blk t).view.set := by
  have h0 : (j 0).val < 32768 := (j 0).isLt
  have h1 : (j 1).val < 1024 := (j 1).isLt
  let t : Fin cfg0.N := ⟨(j 0).val / 256, show (j 0).val / 256 < 128 by omega⟩
  refine ⟨t, back t, ?_⟩
  have e := View.set_slice_whole main_v5 ((cfg0.win 9).rect t)
  refine (congrArg (fun S => j ∈ S) e).mpr ?_
  refine Rect.mem_set_unit.mpr ?_
  intro a
  match a with
  | ⟨0, _⟩ =>
    show (BitVec.ofNat 32 (grid0.coords t 0).val).toNat * 256 ≤ (j 0).val ∧ (j 0).val < (BitVec.ofNat 32 (grid0.coords t 0).val).toNat * 256 + 256
    rw [point_index]; show (j 0).val / 256 * 256 ≤ _ ∧ _ < (j 0).val / 256 * 256 + 256; omega
  | ⟨1, _⟩ =>
    show 0 * 1024 ≤ (j 1).val ∧ (j 1).val < 0 * 1024 + 1024
    omega

theorem whole_result : (data m 0 c).arrAt 9 cfg0.N = result (m := m) c :=
  (data m 0 c).arrAt_eq_of_cover 9 (result (m := m) c) (fun t _ => written c t) everywhere

/-- Every execution ends with the result, the arguments unchanged. -/
theorem ends (h : Named m) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = result (m := m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ e c => ⟨((e.1.1 c).1 (9 : Fin 10)).trans (whole_result c), e.2.1 c⟩)
    (Idealize.ShloMosaic.θ_run_and (runs h ρ) (unchanged h ρ))

end Com
end
-- ==== Proof.ComRef.lean ====
/-
  The last call's reference, entry by entry.
-/
module

public import proofs.«01_k».proof.Proof.ComSpec
public import proofs.«01_k».proof.Proof.Gen.Reference4Ideal.Run

@[expose] public section
set_option maxRecDepth 16384
noncomputable section
namespace Com.Ref
open Idealize.ShloMosaic Idealize.ShloMosaic.TcCoe Idealize.ShloMosaic.Tactic Cert.Reference4Ideal Cert.Reference4Ideal.Gen Proj

/-! ## The reference's steps by name -/

section steps
variable (P : IVec S128x1x512 32) (H : FVec Ideal S32768x1024 .f32) (R : FVec Ideal S32768x128 .f32) (E : FVec Ideal S32768x256 .f32)
  (Y : FVec Ideal S73728x1024 .f32) (G : FVec Ideal S1024x1024 .f32) (W : FVec Ideal S256x1024 .f32) (g g' g'' : FVec Ideal S1024 .f32)
  (X : FVec Ideal S32768x1024 .f32)

/-- One position of every token. -/
def column (o : Fin 2 → ℕ) (h : S32768x2.Slices o S32768x1) : IVec S32768 32 :=
  shapeCast S32768 (extractStridedSlice S32768x1 o (shapeCast S32768x2 P shapeCasts_S128x1x512_S32768x2) h) shapeCasts_S32768x1_S32768

/-- The positions, a negative one counted from the end. -/
def wrapped (p : IVec S32768 32) : IVec S32768x1 32 :=
  broadcastInDim S32768x1 ![0] bcast_S32768_S32768x1_0 (select (cmpi .slt p (broadcastInDim S32768 ![] bcast_S_S32768 (constantI S_ 32 0#32)))
    (addi p (broadcastInDim S32768 ![] bcast_S_S32768 (constantI S_ 32 73728#32))) p)

/-- The rows of `Y` at the positions. -/
def rows (p : IVec S32768x1 32) : FVec Ideal S32768x1024 .f32 :=
  Host.gather gather_S73728x1024_S32768x1_S32768x1024_1_0_n_n_0_1_11024 Y p

/-- One column of the routing weights, along every row. -/
def weight (o : Fin 2 → ℕ) (h : S32768x128.Slices o S32768x1) : FVec Ideal S32768x1024 .f32 :=
  broadcastInDim S32768x1024 ![0, 1] bcast_S32768x1_S32768x1024_0_1 (extractStridedSlice S32768x1 o R h)

def streamed : FVec Ideal S32768x1024 .f32 :=
  addf H (addf (mulf (weight R ![0, 2] slices_S32768x128_S32768x1_0_2) (rows Y (wrapped (column P ![0, 0] slices_S32768x2_S32768x1_0_0))))
    (mulf (weight R ![0, 3] slices_S32768x128_S32768x1_0_3) (rows Y (wrapped (column P ![0, 1] slices_S32768x2_S32768x1_0_1)))))

/-- Every token over the root of its mean square, times the gains. -/
def normed : FVec Ideal S32768x1024 .f32 :=
  mulf (mulf X (broadcastInDim S32768x1024 ![0, 1] bcast_S32768x1_S32768x1024_0_1 (Host.rsqrt (addf (Host.divf
    (broadcastInDim S32768x1 ![0] bcast_S32768_S32768x1_0 (Host.reduceAdd (mulf X X) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

def product : FVec Ideal S32768x1024 .f32 := Host.dotGeneral dot_S32768x1024_S1024x1024_S32768x1024_1_0_0_1_n_n none X G

def embedded : FVec Ideal S32768x1024 .f32 := Host.dotGeneral dot_S32768x256_S256x1024_S32768x1024_1_0_0_1_n_n none E W

/-- `1 / (1 + e⁻ˣ)`. -/
def opened : FVec Ideal S32768x1024 .f32 :=
  Host.divf (broadcastInDim S32768x1024 ![] bcast_S_S32768x1024 (constant S_ .f32 0x3F800000#32))
    (addf (broadcastInDim S32768x1024 ![] bcast_S_S32768x1024 (constant S_ .f32 0x3F800000#32)) (Host.exp (Host.negf X)))

/-- The stream `X`, its gated embedding added. -/
def added : FVec Ideal S32768x1024 .f32 := addf X (mulf (opened (product G (normed g X))) (normed g' (embedded E W)))

def result : FVec Ideal S32768x1024 .f32 := normed g'' (added E G W g g' (streamed P H R Y))

end steps

section results
open Idealize.SL.Sem
variable (m : (ℓ : Loc nD τ sig) → Buf (Elt Ideal) ℓ) (c : Dev nD)

theorem res : Value.res_out0 m c = result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) := rfl

end results

/-! ## The steps at an entry -/

section entries
variable (P : IVec S128x1x512 32) (H : FVec Ideal S32768x1024 .f32) (R : FVec Ideal S32768x128 .f32) (E : FVec Ideal S32768x256 .f32)
  (Y : FVec Ideal S73728x1024 .f32) (G : FVec Ideal S1024x1024 .f32) (W : FVec Ideal S256x1024 .f32) (g g' g'' : FVec Ideal S1024 .f32)
  (X : FVec Ideal S32768x1024 .f32)

theorem normed_apply (n : Fin 32768) (l : Fin 1024) : normed g X (ix2 n l) = rms (fun l => X (ix2 n l)) (fun l => g (ix1 l)) l := by
  pointwise [normed]
  rfl

theorem product_apply (n : Fin 32768) (k : Fin 1024) : product G X (ix2 n k) = ∑ j : Fin 1024, X (ix2 n j) * G (ix2 j k) := by
  let T := dot_S32768x1024_S1024x1024_S32768x1024_1_0_0_1_n_n
  unfold product Host.dotGeneral
  rw [Ideal.dotGeneral_apply, ← Equiv.sum_comp (ValueIdx.contrEquiv1 T 1024 rfl rfl).symm]
  refine Finset.sum_congr rfl fun d _ => ?_
  have hd := ValueIdx.contrEquiv1_symm_val T 1024 rfl rfl d
  refine congrArg₂ (fun a b => X a * G b) (funext fun (a : Fin 2) => Fin.ext ?_) (funext fun (a : Fin 2) => Fin.ext ?_)
  · match a with
    | 0 => rfl
    | 1 => exact hd
  · match a with
    | 0 => exact hd
    | 1 => rfl

theorem embedded_apply (n : Fin 32768) (k : Fin 1024) : embedded E W (ix2 n k) = ∑ d : Fin 256, E (ix2 n d) * W (ix2 d k) := by
  let T := dot_S32768x256_S256x1024_S32768x1024_1_0_0_1_n_n
  unfold embedded Host.dotGeneral
  rw [Ideal.dotGeneral_apply, ← Equiv.sum_comp (ValueIdx.contrEquiv1 T 256 rfl rfl).symm]
  refine Finset.sum_congr rfl fun d _ => ?_
  have hd := ValueIdx.contrEquiv1_symm_val T 256 rfl rfl d
  refine congrArg₂ (fun a b => E a * W b) (funext fun (a : Fin 2) => Fin.ext ?_) (funext fun (a : Fin 2) => Fin.ext ?_)
  · match a with
    | 0 => rfl
    | 1 => exact hd
  · match a with
    | 0 => exact hd
    | 1 => rfl

theorem opened_apply (i : S32768x1024.Idx) : opened X i = sigm (X i) := by
  have one : Ideal.ofBits .f32 0x3F800000#32 = 1 := Ideal.ofBits_one_f32
  pointwise [opened]
  unfold sigm
  rw [← one]

theorem added_apply (n : Fin 32768) (k : Fin 1024) :
    added E G W g g' X (ix2 n k)
      = fed (fun l => X (ix2 n l)) (fun d => E (ix2 n d)) (fun j l => G (ix2 j l)) (fun d l => W (ix2 d l)) (fun l => g (ix1 l)) (fun l => g' (ix1 l)) k := by
  show X (ix2 n k) + opened _ (ix2 n k) * normed g' (embedded E W) (ix2 n k) = _
  rw [opened_apply, normed_apply, product_apply]
  unfold fed
  simp only [embedded_apply, normed_apply]

/-- Position `s` of token `n`, in the array of the positions. -/
theorem column_apply (n : Fin 32768) (s : Fin 2) (o : Fin 2 → ℕ) (h : S32768x2.Slices o S32768x1) (h0 : o 0 = 0) (h1 : o 1 = s.val) :
    column P o h (ix1 n) = P (ix3 (⟨n.val / 256, by omega⟩ : Fin 128) 0 (⟨2 * (n.val % 256) + s.val, by omega⟩ : Fin 512)) := by
  refine (shapeCast_apply _ _ _ (ix2 n (0 : Fin 1)) (by
    rw [Shape.rowMajor_val_one, Shape.rowMajor_val_two]
    show n.val * 1 + 0 = n.val
    omega)).trans ?_
  refine (congrArg (shapeCast S32768x2 P shapeCasts_S128x1x512_S32768x2) (a₂ := ix2 n s) (funext fun (a : Fin 2) => Fin.ext ?_)).trans ?_
  · match a with
    | 0 => show o 0 + n.val = n.val; omega
    | 1 => show o 1 + 0 = s.val; omega
  · refine shapeCast_apply _ _ _ _ ?_
    rw [Shape.rowMajor_val_two, Shape.rowMajor_val_three]
    show (n.val / 256 * 1 + 0) * 512 + (2 * (n.val % 256) + s.val) = n.val * 2 + s.val
    omega

/-- A position in range is not moved. -/
theorem wrapped_apply (p : IVec S32768 32) (n : Fin 32768) (hp : (p (ix1 n)).toNat < 73728) : wrapped p (ix2 n 0) = p (ix1 n) := by
  have e : wrapped p (ix2 n 0) = Scalar.select (IntOp.cmpi .slt (p (ix1 n)) 0#32) (p (ix1 n) + 73728#32) (p (ix1 n)) := by
    pointwise [wrapped]
    rfl
  have z : (0#32 : BitVec 32).toInt = 0 := by decide
  have v : (p (ix1 n)).toInt = (p (ix1 n)).toNat := BitVec.toInt_eq_toNat_of_lt (by omega)
  have no : IntOp.cmpi .slt (p (ix1 n)) 0#32 = 0#1 := by
    show BitVec.ofBool ((p (ix1 n)).slt 0#32) = 0#1
    rw [show (p (ix1 n)).slt 0#32 = false from by rw [Bool.eq_false_iff]; intro q; rw [BitVec.slt_iff_toInt_lt, z, v] at q; omega]
    rfl
  rw [e, no]
  rfl

theorem rows_apply (p : IVec S32768x1 32) (n : Fin 32768) (k : Fin 1024) :
    rows Y p (ix2 n k) = Y (ix2 ⟨min (p (ix2 n 0)).toInt.toNat 73727, by omega⟩ k) := by
  let T := gather_S73728x1024_S32768x1_S32768x1024_1_0_n_n_0_1_11024
  unfold rows Host.gather
  refine congrArg Y (funext fun (a : Fin 2) => Fin.ext ?_)
  show T.start (ix2 n k) p a + T.batchCoord (ix2 n k) a + T.offCoord (ix2 n k) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ T.startIndexMap from List.mem_singleton.mpr rfl)]
    have at_n : T.siIdx (ix2 n k) ⟨List.idxOf (0 : Fin 2) T.startIndexMap, List.idxOf_lt_length_iff.2 (List.mem_singleton.mpr rfl)⟩ = ix2 n 0 := by
      funext (b : Fin 2)
      match b with
      | 0 => exact Fin.ext rfl
      | 1 => exact Fin.ext rfl
    rw [at_n]
    rfl
  | 1 =>
    unfold GatherDims.start
    rw [dif_neg (show ¬ (1 : Fin 2) ∈ T.startIndexMap from by decide)]
    show 0 + 0 + k.val = k.val
    omega

theorem weight_apply (n : Fin 32768) (k : Fin 1024) (j : Fin 128) (o : Fin 2 → ℕ) (h : S32768x128.Slices o S32768x1) (h0 : o 0 = 0) (h1 : o 1 = j.val) :
    weight R o h (ix2 n k) = R (ix2 n j) := by
  pointwise [weight]
  exact congrArg₂ (fun a b => R (ix2 a b)) (Fin.ext (by show o 0 + n.val = n.val; omega)) (Fin.ext (by show o 1 + 0 = j.val; omega))

/-- Position `s` of token `n`. -/
abbrev place (n : Fin 32768) (s : Fin 2) : BitVec 32 := P (ix3 (⟨n.val / 256, by omega⟩ : Fin 128) 0 (⟨2 * (n.val % 256) + s.val, by omega⟩ : Fin 512))

theorem taken_apply (n : Fin 32768) (k : Fin 1024) (s : Fin 2) (o : Fin 2 → ℕ) (h : S32768x2.Slices o S32768x1) (h0 : o 0 = 0) (h1 : o 1 = s.val)
    (hp : (place P n s).toNat < 73728) :
    rows Y (wrapped (column P o h)) (ix2 n k) = Y (ix2 ⟨(place P n s).toNat % 73728, Nat.mod_lt _ (by decide)⟩ k) := by
  have e := column_apply P n s o h h0 h1
  rw [rows_apply]
  refine congrArg (fun a => Y (ix2 a k)) (Fin.ext ?_)
  show min (wrapped (column P o h) (ix2 n 0)).toInt.toNat 73727 = (place P n s).toNat % 73728
  rw [wrapped_apply _ _ (by rw [e]; exact hp), e, BitVec.toInt_eq_toNat_of_lt (by show 2 * (place P n s).toNat < 2 ^ 32; omega), Int.toNat_natCast]
  show min (place P n s).toNat 73727 = _
  omega

theorem streamed_apply (n : Fin 32768) (k : Fin 1024) (hp : ∀ s : Fin 2, (place P n s).toNat < 73728) :
    streamed P H R Y (ix2 n k)
      = stream (fun l => H (ix2 n l)) (R (ix2 n 2)) (R (ix2 n 3)) (fun l => Y (ix2 ⟨(place P n 0).toNat % 73728, Nat.mod_lt _ (by decide)⟩ l))
        (fun l => Y (ix2 ⟨(place P n 1).toNat % 73728, Nat.mod_lt _ (by decide)⟩ l)) k := by
  show H (ix2 n k) + (weight R _ _ (ix2 n k) * rows Y _ (ix2 n k) + weight R _ _ (ix2 n k) * rows Y _ (ix2 n k)) = _
  rw [weight_apply R n k 2 _ _ rfl rfl, weight_apply R n k 3 _ _ rfl rfl, taken_apply P Y n k 0 ![0, 0] _ rfl rfl (hp 0), taken_apply P Y n k 1 ![0, 1] _ rfl rfl (hp 1)]
  rfl

theorem result_apply (n : Fin 32768) (k : Fin 1024) (hp : ∀ s : Fin 2, (place P n s).toNat < 73728) :
    result P H R E Y G W g g' g'' (ix2 n k)
      = final (stream (fun l => H (ix2 n l)) (R (ix2 n 2)) (R (ix2 n 3)) (fun l => Y (ix2 ⟨(place P n 0).toNat % 73728, Nat.mod_lt _ (by decide)⟩ l))
          (fun l => Y (ix2 ⟨(place P n 1).toNat % 73728, Nat.mod_lt _ (by decide)⟩ l)))
        (fun d => E (ix2 n d)) (fun j l => G (ix2 j l)) (fun d l => W (ix2 d l)) (fun l => g (ix1 l)) (fun l => g' (ix1 l)) (fun l => g'' (ix1 l)) k := by
  unfold result final
  rw [normed_apply, show (fun l => added E G W g g' (streamed P H R Y) (ix2 n l)) = _ from funext fun l => added_apply E G W g g' _ n l,
    show (fun l => streamed P H R Y (ix2 n l)) = _ from funext fun l => streamed_apply P H R Y n l hp]

end entries

end Com.Ref
end
-- ==== Proof.ComJoin.lean ====
/-
  The last call and its reference, from the same arguments, end with the same array.
-/
module

public import proofs.«01_k».proof.Proof.ComValue
public import proofs.«01_k».proof.Proof.ComRef

@[expose] public section
set_option maxRecDepth 16384
noncomputable section
namespace Com
open Idealize.ShloMosaic Idealize.ShloMosaic.TcCoe Cert.Kernel4Ideal Cert.Kernel4Ideal.Gen

variable {m : (ℓ : Loc nD τ sig) → Buf (Elt Ideal) ℓ}

theorem agree (c : Dev nD) (hp : ∀ i, (argP (m := m) c i).toNat < 73728) (P : IVec S128x1x512 32) (H : FVec Ideal S32768x1024 .f32) (R : FVec Ideal S32768x128 .f32)
    (E : FVec Ideal S32768x256 .f32) (Y : FVec Ideal S73728x1024 .f32) (G : FVec Ideal S1024x1024 .f32) (W : FVec Ideal S256x1024 .f32) (g g' g'' : FVec Ideal S1024 .f32)
    (hP : P = argP (m := m) c) (hH : H = argH (m := m) c) (hR : R = argR (m := m) c) (hE : E = argE (m := m) c) (hY : Y = argY (m := m) c)
    (hG : G = argG (m := m) c) (hW : W = argW (m := m) c) (h1 : g = arg1st (m := m) c) (h2 : g' = arg2nd (m := m) c) (h3 : g'' = arg3rd (m := m) c) :
    Ref.result P H R E Y G W g g' g'' = result (m := m) c := by
  subst hP hH hR hE hY hG hW h1 h2 h3
  funext j
  refine (congrArg _ (eq_ix2 j)).trans ?_
  exact Ref.result_apply _ _ _ _ _ _ _ _ _ _ (j 0) (j 1) fun s => hp _

end Com
end
-- ==== Proof.OutSpec.lean ====
/-
  The output projection in plain terms: a token's entry plus its product with a column of the weights, the token's mixed row given as
  two halves, and the resulting row over the root of its mean square, times the gains.
-/
module

public import proofs.«01_k».proof.Proof.InSpec

@[expose] public section
set_option maxRecDepth 16384
noncomputable section
namespace Out
open Idealize.ShloMosaic

/-- The stream after the projection at column `k`: `x` the token's row, `a` and `b` the halves of its mixed row. -/
def stream (x : Fin 1024 → EReal) (a b : Fin 512 → EReal) (w : Fin 1024 → Fin 1024 → EReal) (k : Fin 1024) : EReal :=
  x k + ∑ d, a d * w ⟨d.val, by omega⟩ k + ∑ d : Fin 512, b d * w ⟨512 + d.val, by omega⟩ k

/-- The two halves of a row, one after the other. -/
def joined (a b : Fin 512 → EReal) (d : Fin 1024) : EReal := if h : d.val < 512 then a ⟨d.val, h⟩ else b ⟨d.val - 512, by omega⟩

/-- The product with the whole row is the sum of the products with its halves. -/
theorem stream_joined (x : Fin 1024 → EReal) (a b : Fin 512 → EReal) (w : Fin 1024 → Fin 1024 → EReal) (k : Fin 1024) :
    x k + ∑ d, joined a b d * w d k = stream x a b w k := by
  unfold stream
  rw [add_assoc]
  congr 1
  refine (Fin.sum_univ_add (a := 512) (b := 512) fun d => joined a b d * w d k).trans ?_
  refine congrArg₂ (· + ·) ?_ ?_
  · refine Finset.sum_congr rfl fun d _ => ?_
    exact congrArg (· * w ⟨d.val, by omega⟩ k) (dif_pos d.isLt)
  · refine Finset.sum_congr rfl fun d _ => ?_
    refine congrArg (· * w ⟨512 + d.val, by omega⟩ k) ((dif_neg (show ¬ 512 + d.val < 512 by omega)).trans (congrArg b (Fin.ext (Nat.add_sub_cancel_left (n := 512) (m := d.val)))))

end Out
end
-- ==== Proof.OutEntry.lean ====
/-
  What the output projection writes to its first two results at a point of the grid, read at an entry.
-/
module

public import proofs.«01_k».proof.Proof.OutSpec
public import proofs.«01_k».proof.Proof.Gen.Kernel5Ideal.Value
public import Idealize.ShloMosaic.Lib.VecWindow
public import Idealize.ShloMosaic.Lib.WritesUnit

@[expose] public section
set_option maxRecDepth 16384
noncomputable section
namespace Out
open Idealize.ShloMosaic Idealize.ShloMosaic.TcCoe Idealize.ShloMosaic.Tactic Idealize.SL.Sem Cert.Kernel5Ideal Cert.Kernel5Ideal.Gen

theorem pay3_apply (x : Vec Ideal S512x1024 .f32) (a : Vec Ideal S512x512 .bf16) (w : Vec Ideal S512x1024 .bf16) (b : Vec Ideal S512x512 .bf16)
    (v : Vec Ideal S512x1024 .bf16) (r : Fin 512) (k : Fin 1024) :
    k0_pay3 x a w b v (ix2 r k)
      = x (ix2 r k) + ∑ d : Fin 512, a (ix2 r d) * w (ix2 d k) + ∑ d : Fin 512, b (ix2 r d) * v (ix2 d k) := by
  pointwise [k0_pay3]

theorem pay4_apply (x : Vec Ideal S512x1024 .f32) (a : Vec Ideal S512x512 .bf16) (w : Vec Ideal S512x1024 .bf16) (b : Vec Ideal S512x512 .bf16)
    (v : Vec Ideal S512x1024 .bf16) (g : Vec Ideal S1x1024 .f32) (r : Fin 512) (k : Fin 1024) :
    k0_pay4 x a w b v g (ix2 r k) = Proj.rms (fun l => k0_pay3 x a w b v (ix2 r l)) (fun l => g (ix2 0 l)) k := by
  pointwise [k0_pay4]
  rfl

variable (c : Dev nD) (i : grid0.Coords)
  (arg1 : Memref sig .tc .vmem S512x1024 .f32) (harg1 : arg1.IsWhole)
  (arg2 : Memref sig .tc .vmem S512x512 .bf16) (harg2 : arg2.IsWhole)
  (arg3 : Memref sig .tc .vmem S512x512 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S1x1024 .f32) (harg6 : arg6.IsWhole)
  (arg7 : Memref sig .tc .vmem S3x1024x128 .bf16) (harg7 : arg7.IsWhole)
  (arg8 : Memref sig .tc .vmem S1x128 .f32) (harg8 : arg8.IsWhole)
  (arg9 : Memref sig .tc .vmem S512x1024 .f32) (harg9 : arg9.IsWhole)
  (arg10 : Memref sig .tc .vmem S512x1024 .f32) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S1x128 .f32) (harg13 : arg13.IsWhole)
  (x0 : Vec Ideal S512x1024 .f32) (x1 x2 : Vec Ideal S512x512 .bf16) (x3 x4 : Vec Ideal S512x1024 .bf16) (x5 : Vec Ideal S1x1024 .f32)
  (x6 : Vec Ideal S3x1024x128 .bf16) (x7 : Vec Ideal S1x128 .f32)

theorem outA_8 (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = k0_pay3 x0 x1 x3 x2 x4 := by
  unfold out0_A_8 kernelRun0_A
  dsimp only
  sl_unfold_words
  rw [View.read_writes_full, View.readAt_full arg1.view, harg1.read_unread, View.readAt_full arg2.view, harg2.read_unread, View.readAt_full arg4.view, harg4.read_unread, View.readAt_full arg3.view, harg3.read_unread, View.readAt_full arg5.view, harg5.read_unread]

theorem outA_9 (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = k0_pay4 x0 x1 x3 x2 x4 x5 := by
  unfold out0_A_9 kernelRun0_A
  dsimp only
  sl_unfold_words
  rw [View.read_writes_full, View.readAt_full arg1.view, harg1.read_unread, View.readAt_full arg2.view, harg2.read_unread, View.readAt_full arg4.view, harg4.read_unread, View.readAt_full arg3.view, harg3.read_unread, View.readAt_full arg5.view, harg5.read_unread, View.readAt_full arg6.view, harg6.read_unread]

theorem outB_8 (hc0 : ¬cond0_0 i) (xs0 : Vec Ideal S1x128 .f32) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0
      = k0_pay3 x0 x1 x3 x2 x4 := by
  unfold out0_B_8 kernelRun0_B
  dsimp only
  sl_unfold_words
  rw [View.read_writes_full, View.readAt_full arg1.view, harg1.read_unread, View.readAt_full arg2.view, harg2.read_unread, View.readAt_full arg4.view, harg4.read_unread, View.readAt_full arg3.view, harg3.read_unread, View.readAt_full arg5.view, harg5.read_unread]

theorem outB_9 (hc0 : ¬cond0_0 i) (xs0 : Vec Ideal S1x128 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0
      = k0_pay4 x0 x1 x3 x2 x4 x5 := by
  unfold out0_B_9 kernelRun0_B
  dsimp only
  sl_unfold_words
  rw [View.read_writes_full, View.readAt_full arg1.view, harg1.read_unread, View.readAt_full arg2.view, harg2.read_unread, View.readAt_full arg4.view, harg4.read_unread, View.readAt_full arg3.view, harg3.read_unread, View.readAt_full arg5.view, harg5.read_unread, View.readAt_full arg6.view, harg6.read_unread]

end Out
end
-- ==== Proof.OutHost.lean ====
/-
  The arrays the output projection is given, read at an entry: the weights in two halves and the gains as a row.
-/
module

public import proofs.«01_k».proof.Proof.OutSpec
public import proofs.«01_k».proof.Proof.Gen.Kernel5Ideal.Value

@[expose] public section
set_option maxRecDepth 16384
noncomputable section
namespace Out
open Idealize.ShloMosaic Idealize.ShloMosaic.TcCoe Idealize.ShloMosaic.Tactic Idealize.SL.Sem Cert.Kernel5Ideal Cert.Kernel5Ideal.Gen

variable (m : (ℓ : Loc nD τ sig) → Buf (Elt Ideal) ℓ) (c : Dev nD)

abbrev argX : Vec Ideal S32768x1024 .f32 := m ((c : Thread nD τ).loc main_arg0)
abbrev argA : Vec Ideal S32768x512 .bf16 := m ((c : Thread nD τ).loc main_arg1)
abbrev argB : Vec Ideal S32768x512 .bf16 := m ((c : Thread nD τ).loc main_arg2)
abbrev argW : Vec Ideal S1024x1024 .f32 := m ((c : Thread nD τ).loc main_arg3)
abbrev argG : Vec Ideal S1024 .f32 := m ((c : Thread nD τ).loc main_arg4)

theorem host_gain (l : Fin 1024) : (V m c main_v29 : Vec Ideal S1x1024 .f32) (ix2 0 l) = argG m c (ix1 l) := by
  have e : @Eq (FVec Ideal S1x1024 .f32) (V m c main_v29) <| shapeCast S1x1024 (argG m c) shapeCasts_S1024_S1x1024 := by
    unfold_abbrev_sides
    after_results
    rfl
  rw [e]
  exact shapeCast_apply _ _ _ (ix1 l) (by rw [Shape.rowMajor_val_one, Shape.rowMajor_val_two]; show l.val = 0 * 1024 + l.val; omega)

theorem host_upper (l : Fin 512) (k : Fin 1024) : (V m c main_v26 : Vec Ideal S512x1024 .bf16) (ix2 l k) = argW m c (ix2 ⟨l.val, by omega⟩ k) := by
  have e : @Eq (FVec Ideal S512x1024 .bf16) (V m c main_v26) <| truncf .bf16 (extractStridedSlice S512x1024 ![0, 0] (argW m c) slices_S1024x1024_S512x1024_0_0) bitsLt_bf16_f32 := by
    unfold_abbrev_sides
    after_results
  rw [e]
  pointwise

theorem host_lower (l : Fin 512) (k : Fin 1024) : (V m c main_v28 : Vec Ideal S512x1024 .bf16) (ix2 l k) = argW m c (ix2 ⟨512 + l.val, by omega⟩ k) := by
  have e : @Eq (FVec Ideal S512x1024 .bf16) (V m c main_v28) <| truncf .bf16 (extractStridedSlice S512x1024 ![512, 0] (argW m c) slices_S1024x1024_S512x1024_512_0) bitsLt_bf16_f32 := by
    unfold_abbrev_sides
    after_results
  rw [e]
  pointwise

end Out
end
-- ==== Proof.OutFinal.lean ====
/-
  The output projection's first two results, entry by entry.
-/
module

public import proofs.«01_k».proof.Proof.OutEntry
public import proofs.«01_k».proof.Proof.OutHost

@[expose] public section
set_option maxRecDepth 16384
noncomputable section
namespace Out
open Idealize.ShloMosaic Idealize.ShloMosaic.TcCoe Idealize.ShloMosaic.Tactic Idealize.SL.Sem Cert.Kernel5Ideal Cert.Kernel5Ideal.Gen Cert.Kernel5Ideal.Value

/-! ## The blocks -/

theorem index_tokens : ∀ t : Fin cfg0.N, cc0_transform_0 (grid0.coords t) 0 = t.val ∧ cc0_transform_0 (grid0.coords t) 1 = 0 :=
  (by decide +kernel : ∀ t : Fin grid0.N, cc0_transform_0 (grid0.coords t) 0 = t.val ∧ cc0_transform_0 (grid0.coords t) 1 = 0)

theorem index_first : ∀ t : Fin cfg0.N, cc0_transform_1 (grid0.coords t) 0 = t.val ∧ cc0_transform_1 (grid0.coords t) 1 = 0 :=
  (by decide +kernel : ∀ t : Fin grid0.N, cc0_transform_1 (grid0.coords t) 0 = t.val ∧ cc0_transform_1 (grid0.coords t) 1 = 0)

theorem index_second : ∀ t : Fin cfg0.N, cc0_transform_2 (grid0.coords t) 0 = t.val ∧ cc0_transform_2 (grid0.coords t) 1 = 0 :=
  (by decide +kernel : ∀ t : Fin grid0.N, cc0_transform_2 (grid0.coords t) 0 = t.val ∧ cc0_transform_2 (grid0.coords t) 1 = 0)

variable (m : (ℓ : Loc nD τ sig) → Buf (Elt Ideal) ℓ) (c : Dev nD)

theorem points (t : Fin cfg0.N) : t.val < 64 := lt_of_lt_of_eq t.isLt (show cfg0.N = 64 from N_0)

/-- Token `r` of the block of point `t`. -/
def token (t : Fin cfg0.N) (r : Fin 512) : Fin 32768 := ⟨512 * t.val + r.val, by have := points t; omega⟩

theorem read_tokens (t : Fin cfg0.N) (r : Fin 512) (l : Fin 1024) :
    (iblk m c 0 t : Vec Ideal S512x1024 .f32) (ix2 r l) = argX m c (ix2 (token t r) l) := by
  have e := index_tokens t
  refine (congrArg (V m c main_arg0) (funext fun a => Fin.ext ?_)).trans (congrFun (V_main_arg0 m c) (ix2 (token t r) l))
  match a with
  | 0 =>
    show cc0_transform_0 (grid0.coords t) 0 * 512 + 1 * r.val = 512 * t.val + r.val
    rw [e.1]; omega
  | 1 =>
    show cc0_transform_0 (grid0.coords t) 1 * 1024 + 1 * l.val = l.val
    rw [e.2]; omega

theorem read_first (t : Fin cfg0.N) (r : Fin 512) (l : Fin 512) :
    (iblk m c 1 t : Vec Ideal S512x512 .bf16) (ix2 r l) = argA m c (ix2 (token t r) l) := by
  have e := index_first t
  refine (congrArg (V m c main_arg1) (funext fun a => Fin.ext ?_)).trans (congrFun (V_main_arg1 m c) (ix2 (token t r) l))
  match a with
  | 0 =>
    show cc0_transform_1 (grid0.coords t) 0 * 512 + 1 * r.val = 512 * t.val + r.val
    rw [e.1]; omega
  | 1 =>
    show cc0_transform_1 (grid0.coords t) 1 * 512 + 1 * l.val = l.val
    rw [e.2]; omega

theorem read_second (t : Fin cfg0.N) (r : Fin 512) (l : Fin 512) :
    (iblk m c 2 t : Vec Ideal S512x512 .bf16) (ix2 r l) = argB m c (ix2 (token t r) l) := by
  have e := index_second t
  refine (congrArg (V m c main_arg2) (funext fun a => Fin.ext ?_)).trans (congrFun (V_main_arg2 m c) (ix2 (token t r) l))
  match a with
  | 0 =>
    show cc0_transform_2 (grid0.coords t) 0 * 512 + 1 * r.val = 512 * t.val + r.val
    rw [e.1]; omega
  | 1 =>
    show cc0_transform_2 (grid0.coords t) 1 * 512 + 1 * l.val = l.val
    rw [e.2]; omega

theorem read_upper (t : Fin cfg0.N) (r : Fin 512) (l : Fin 1024) :
    (iblk m c 3 t : Vec Ideal S512x1024 .bf16) (ix2 r l) = argW m c (ix2 ⟨r.val, by omega⟩ l) := by
  refine (congrArg (V m c main_v26) (funext fun a => Fin.ext ?_)).trans (host_upper m c r l)
  match a with
  | 0 =>
    show 0 * 512 + 1 * r.val = r.val
    omega
  | 1 =>
    show 0 * 1024 + 1 * l.val = l.val
    omega

theorem read_lower (t : Fin cfg0.N) (r : Fin 512) (l : Fin 1024) :
    (iblk m c 4 t : Vec Ideal S512x1024 .bf16) (ix2 r l) = argW m c (ix2 ⟨512 + r.val, by omega⟩ l) := by
  refine (congrArg (V m c main_v28) (funext fun a => Fin.ext ?_)).trans (host_lower m c r l)
  match a with
  | 0 =>
    show 0 * 512 + 1 * r.val = r.val
    omega
  | 1 =>
    show 0 * 1024 + 1 * l.val = l.val
    omega

theorem read_gain (t : Fin cfg0.N) (l : Fin 1024) :
    (iblk m c 5 t : Vec Ideal S1x1024 .f32) (ix2 0 l) = argG m c (ix1 l) := by
  refine (congrArg (V m c main_v29) (funext fun a => Fin.ext ?_)).trans (host_gain m c l)
  match a with
  | 0 =>
    show 0 * 1 + 1 * 0 = 0
    omega
  | 1 =>
    show 0 * 1024 + 1 * l.val = l.val
    omega

/-! ## What each point leaves -/

/-- The stream after the projection at token `n`. -/
abbrev streamAt (n : Fin 32768) : Fin 1024 → EReal :=
  stream (fun l => argX m c (ix2 n l)) (fun d => argA m c (ix2 n d)) (fun d => argB m c (ix2 n d)) (fun d k => argW m c (ix2 d k))

theorem stream_block (t : Fin cfg0.N) (r : Fin 512) (k : Fin 1024) :
    k0_pay3 (iblk m c 0 t) (iblk m c 1 t) (iblk m c 3 t) (iblk m c 2 t) (iblk m c 4 t) (ix2 r k) = streamAt m c (token t r) k := by
  refine (pay3_apply _ _ _ _ _ r k).trans ?_
  refine congrArg₂ (· + ·) (congrArg₂ (· + ·) (read_tokens m c t r k) ?_) ?_
  · exact Finset.sum_congr rfl fun d _ => congrArg₂ (· * ·) (read_first m c t r d) (read_upper m c t d k)
  · exact Finset.sum_congr rfl fun d _ => congrArg₂ (· * ·) (read_second m c t r d) (read_lower m c t d k)

theorem scaled_block (t : Fin cfg0.N) (r : Fin 512) (k : Fin 1024) :
    k0_pay4 (iblk m c 0 t) (iblk m c 1 t) (iblk m c 3 t) (iblk m c 2 t) (iblk m c 4 t) (iblk m c 5 t) (ix2 r k)
      = Proj.rms (streamAt m c (token t r)) (fun l => argG m c (ix1 l)) k := by
  refine (pay4_apply _ _ _ _ _ _ r k).trans ?_
  exact congrArg₂ (fun x g => Proj.rms x g k) (funext fun l => stream_block m c t r l) (funext fun l => read_gain m c t l)

theorem at_8 (t : Fin cfg0.N) (r : Fin 512) (k : Fin 1024) :
    ((outsAt0 m c t.val t.isLt).1 : Vec Ideal S512x1024 .f32) (ix2 r k) = streamAt m c (token t r) k := by
  refine Eq.trans ?_ (stream_block m c t r k)
  by_cases h0 : t.val % 64 = 0
  · rw [outsAt0_A m c t h0]
    dsimp only
    exact congrFun (outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0)) (ix2 r k)
  · rw [outsAt0_B m c t h0]
    dsimp only
    exact congrFun (outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (lt_of_le_of_lt (Nat.sub_le _ _) t.isLt)).2.2.2.2) (ix2 r k)

theorem at_9 (t : Fin cfg0.N) (r : Fin 512) (k : Fin 1024) :
    ((outsAt0 m c t.val t.isLt).2.1 : Vec Ideal S512x1024 .f32) (ix2 r k) = Proj.rms (streamAt m c (token t r)) (fun l => argG m c (ix1 l)) k := by
  refine Eq.trans ?_ (scaled_block m c t r k)
  by_cases h0 : t.val % 64 = 0
  · rw [outsAt0_A m c t h0]
    dsimp only
    exact congrFun (outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0)) (ix2 r k)
  · rw [outsAt0_B m c t h0]
    dsimp only
    exact congrFun (outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (lt_of_le_of_lt (Nat.sub_le _ _) t.isLt)).2.2.2.2) (ix2 r k)

/-! ## The results -/

theorem final_8 (n : Fin 32768) (k : Fin 1024) : (G8 m c : Vec Ideal S32768x1024 .f32) (ix2 n k) = streamAt m c n k := by
  have ht : pt8Of (ix2 n k) = n.val / 512 := by
    show 1 * (n.val / 512 - 0) + 1 * (k.val / 1024 - 0) = n.val / 512
    omega
  have hp : pt8Of (ix2 n k) < cfg0.N := by
    rw [show cfg0.N = 64 from N_0, ht]
    omega
  unfold G8
  rw [dif_pos hp, ← outsAt0_sweep m c _ hp,
    show loc8Of (ix2 n k) = ix2 (⟨n.val % 512, by omega⟩ : Fin 512) k from funext fun a => Fin.ext (by
      match a with
      | 0 => rfl
      | 1 => show k.val % 1024 = k.val; omega)]
  refine (at_8 m c ⟨pt8Of (ix2 n k), hp⟩ ⟨n.val % 512, by omega⟩ k).trans ?_
  refine congrArg (fun q => streamAt m c q k) (Fin.ext ?_)
  show 512 * pt8Of (ix2 n k) + n.val % 512 = n.val
  rw [ht]
  omega

theorem final_9 (n : Fin 32768) (k : Fin 1024) : (G9 m c : Vec Ideal S32768x1024 .f32) (ix2 n k) = Proj.rms (streamAt m c n) (fun l => argG m c (ix1 l)) k := by
  have ht : pt9Of (ix2 n k) = n.val / 512 := by
    show 1 * (n.val / 512 - 0) + 1 * (k.val / 1024 - 0) = n.val / 512
    omega
  have hp : pt9Of (ix2 n k) < cfg0.N := by
    rw [show cfg0.N = 64 from N_0, ht]
    omega
  unfold G9
  rw [dif_pos hp, ← outsAt0_sweep m c _ hp,
    show loc9Of (ix2 n k) = ix2 (⟨n.val % 512, by omega⟩ : Fin 512) k from funext fun a => Fin.ext (by
      match a with
      | 0 => rfl
      | 1 => show k.val % 1024 = k.val; omega)]
  refine (at_9 m c ⟨pt9Of (ix2 n k), hp⟩ ⟨n.val % 512, by omega⟩ k).trans ?_
  refine congrArg (fun q => Proj.rms (streamAt m c q) (fun l => argG m c (ix1 l)) k) (Fin.ext ?_)
  show 512 * pt9Of (ix2 n k) + n.val % 512 = n.val
  rw [ht]
  omega

end Out
end
-- ==== Proof.OutRef.lean ====
/-
  The output projection's reference, entry by entry.
-/
module

public import proofs.«01_k».proof.Proof.OutSpec
public import proofs.«01_k».proof.Proof.Gen.Reference5Ideal.Run

@[expose] public section
set_option maxRecDepth 16384
noncomputable section
namespace Out.Ref
open Idealize.ShloMosaic Idealize.ShloMosaic.TcCoe Idealize.ShloMosaic.Tactic Cert.Reference5Ideal Cert.Reference5Ideal.Gen

variable (X : FVec Ideal S32768x1024 .f32) (A B : FVec Ideal S32768x512 .bf16) (W : FVec Ideal S1024x1024 .f32) (G : FVec Ideal S1024 .f32)

/-- The mixed rows, their halves side by side. -/
def mixed : FVec Ideal S32768x1024 .f32 :=
  extf .f32 (concatenate S32768x1024 1 [⟨S32768x512, A⟩, ⟨S32768x512, B⟩] concatenates_S32768x512_S32768x512_S32768x1024_d1) bitsLt_bf16_f32

/-- The stream after the projection. -/
def after : FVec Ideal S32768x1024 .f32 :=
  addf X (Host.dotGeneral dot_S32768x1024_S1024x1024_S32768x1024_1_0_0_1_n_n none (mixed A B) W)

/-- Every row over the root of its mean square, times the gains. -/
def normed : FVec Ideal S32768x1024 .f32 :=
  mulf (mulf X (broadcastInDim S32768x1024 ![0, 1] bcast_S32768x1_S32768x1024_0_1 (Host.rsqrt (addf (Host.divf
    (broadcastInDim S32768x1 ![0] bcast_S32768_S32768x1_0 (Host.reduceAdd (mulf X X) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 G))

theorem mixed_apply (n : Fin 32768) (d : Fin 1024) : mixed A B (ix2 n d) = joined (fun d => A (ix2 n d)) (fun d => B (ix2 n d)) d := by
  pointwise [mixed]
  unfold joined
  by_cases h : d.val < 512
  · rw [dif_pos h]
  · rw [dif_neg h]

theorem after_apply (n : Fin 32768) (k : Fin 1024) :
    after X A B W (ix2 n k)
      = stream (fun l => X (ix2 n l)) (fun d => A (ix2 n d)) (fun d => B (ix2 n d)) (fun d k => W (ix2 d k)) k := by
  refine Eq.trans ?_ (stream_joined (fun l => X (ix2 n l)) _ _ (fun d k => W (ix2 d k)) k)
  refine congrArg (X (ix2 n k) + ·) ?_
  let D := dot_S32768x1024_S1024x1024_S32768x1024_1_0_0_1_n_n
  unfold Host.dotGeneral
  rw [Ideal.dotGeneral_apply, ← Equiv.sum_comp (ValueIdx.contrEquiv1 D 1024 rfl rfl).symm]
  refine Finset.sum_congr rfl fun d _ => ?_
  have hd := ValueIdx.contrEquiv1_symm_val D 1024 rfl rfl d
  rw [← mixed_apply]
  refine congrArg₂ (fun a b => mixed A B a * W b) (funext fun a => Fin.ext ?_) (funext fun a => Fin.ext ?_)
  · match a with
    | 0 => rfl
    | 1 => exact hd
  · match a with
    | 0 => exact hd
    | 1 => rfl

theorem normed_apply (n : Fin 32768) (k : Fin 1024) : normed X G (ix2 n k) = Proj.rms (fun l => X (ix2 n l)) (fun l => G (ix1 l)) k := by
  pointwise [normed]
  rfl

theorem scaled_apply (n : Fin 32768) (k : Fin 1024) :
    normed (after X A B W) G (ix2 n k)
      = Proj.rms (stream (fun l => X (ix2 n l)) (fun d => A (ix2 n d)) (fun d => B (ix2 n d)) (fun d k => W (ix2 d k))) (fun l => G (ix1 l)) k := by
  refine (normed_apply _ G n k).trans ?_
  exact congrArg (fun x => Proj.rms x (fun l => G (ix1 l)) k) (funext fun l => after_apply X A B W n l)

end Out.Ref
end
-- ==== Proof.OutJoin.lean ====
/-
  The output projection's first two results are its reference's.
-/
module

public import proofs.«01_k».proof.Proof.OutFinal
public import proofs.«01_k».proof.Proof.OutRef

@[expose] public section
set_option maxRecDepth 16384
noncomputable section
namespace Out
open Idealize.ShloMosaic Idealize.ShloMosaic.TcCoe Idealize.ShloMosaic.Tactic Idealize.SL.Sem Cert.Kernel5Ideal Cert.Kernel5Ideal.Gen Cert.Kernel5Ideal.Value

variable (m : (ℓ : Loc nD τ sig) → Buf (Elt Ideal) ℓ) (c : Dev nD)
  (X : FVec Ideal S32768x1024 .f32) (A B : FVec Ideal S32768x512 .bf16) (W : FVec Ideal S1024x1024 .f32) (G : FVec Ideal S1024 .f32)

theorem agree_stream (hX : X = argX m c) (hA : A = argA m c) (hB : B = argB m c) (hW : W = argW m c) :
    Ref.after X A B W = G8 m c := by
  subst hX hA hB hW
  funext j
  exact (congrArg _ (eq_ix2 j)).trans (((Ref.after_apply _ _ _ _ (j 0) (j 1)).trans (final_8 m c (j 0) (j 1)).symm).trans (congrArg (G8 m c) (eq_ix2 j)).symm)

theorem agree_scaled (hX : X = argX m c) (hA : A = argA m c) (hB : B = argB m c) (hW : W = argW m c) (hG : G = argG m c) :
    Ref.normed (Ref.after X A B W) G = G9 m c := by
  subst hX hA hB hW hG
  funext j
  exact (congrArg _ (eq_ix2 j)).trans (((Ref.scaled_apply _ _ _ _ _ (j 0) (j 1)).trans (final_9 m c (j 0) (j 1)).symm).trans (congrArg (G9 m c) (eq_ix2 j)).symm)

end Out
end
-- ==== Proof.lean ====
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Pre_rows_named
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Ref
public import proofs.«01_k».proof.Proof.Finite
public import proofs.«01_k».proof.Proof.InValue
public import proofs.«01_k».proof.Proof.Gen.Pre_experts_named
public import proofs.«01_k».proof.Proof.ExpPre
public import proofs.«01_k».proof.Proof.ExpBitsLaunch
public import proofs.«01_k».proof.Proof.ExpJoin
public import proofs.«01_k».proof.Proof.ComPre
public import proofs.«01_k».proof.Proof.ComJoin
public import proofs.«01_k».proof.Proof.OutJoin
public import Idealize.ShloMosaic.Adequacy
public import Idealize.ShloMosaic.Init

@[expose] public section

noncomputable section

namespace Cert.Proof

open Idealize.ShloMosaic Idealize.SL.Sem Cert.Kernel

/-- The reference ends with its arguments unchanged and, having no semaphores, with none above zero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From finite queries and keys both programs end with the attention of the arguments. -/
theorem value : Cert.algebraic_KernelIdeal_ReferenceIdeal_pre_finite (hPre_finite := Cert.Pre_finite.Gen.facts) :=
  fun m ρ m' ρ' hpre hag => by
    refine ⟨fun c => Att.target m c, ?_, ?_⟩
    · refine (θ_run Cert.KernelIdeal.defs _ _).mono (fun r h c => ?_) (Cert.KernelIdeal.Value.run_blocks m ρ)
      have hr := Att.real_args m hpre c
      exact ⟨(h c).1.trans (Att.final m c hr.1 hr.2), (h c).2⟩
    · refine (θ_run Cert.ReferenceIdeal.defs _ _).mono (fun r h c => ?_) (Cert.ReferenceIdeal.Value.run (F := Ideal) m' ρ')
      have hr := Att.real_args m hpre c
      refine ⟨(h c).1.trans ?_, (h c).2⟩
      refine (Att.Ref.res_eq m' c).trans ?_
      rw [(hag c).1, (hag c).2.1, (hag c).2.2]
      funext j
      refine (congrArg _ (eq_ix2 j)).trans ?_
      exact Att.Ref.result_eq _ _ _ hr.1 hr.2 (j 0) (j 1)

theorem frame_reference2 : Cert.quiescent_Reference2Ideal := fun m ρ _ =>
  (θ_run Cert.Reference2Ideal.defs _ _).mono (fun r h => ⟨fun c => (h c).2.2.2.2.2.2.2.2,
      Idealize.ShloMosaic.sem_eq_zero_of_no_sems (by decide) r.2⟩)
    (Cert.Reference2Ideal.Value.run (F := Ideal) m ρ)

/-- From any arguments the input projections and their reference end with the same eight arrays. -/
theorem value2 : Cert.algebraic_Kernel2Ideal_Reference2Ideal := fun m ρ m' ρ' _ hag => by
  refine ⟨fun c => Cert.Kernel2Ideal.Value.G8 m c, fun c => Cert.Kernel2Ideal.Value.G9 m c, fun c => Cert.Kernel2Ideal.Value.G10 m c,
    fun c => Cert.Kernel2Ideal.Value.G11 m c, fun c => Cert.Kernel2Ideal.Value.G12 m c, fun c => Cert.Kernel2Ideal.Value.G13 m c,
    fun c => Cert.Kernel2Ideal.Value.G14 m c, fun c => Cert.Kernel2Ideal.Value.G15 m c, Cert.Kernel2Ideal.Value.run m ρ, ?_⟩
  refine (θ_run Cert.Reference2Ideal.defs _ _).mono (fun r h c => ?_) (Cert.Reference2Ideal.Value.run (F := Ideal) m' ρ')
  have hs : Proj.Same m m' c := hag c
  refine ⟨?_, ?_, ?_, ?_, ?_, ?_, ?_, ?_, (h c).2.2.2.2.2.2.2.2⟩
  · refine (h c).1.trans (funext fun j => ?_)
    exact (congrArg _ (eq_ix2 j)).trans ((Proj.same_8 hs (j 0) (j 1)).trans (congrArg (Cert.Kernel2Ideal.Value.G8 m c) (eq_ix2 j)).symm)
  · refine (h c).2.1.trans (funext fun j => ?_)
    exact (congrArg _ (eq_ix2 j)).trans ((Proj.same_9 hs (j 0) (j 1)).trans (congrArg (Cert.Kernel2Ideal.Value.G9 m c) (eq_ix2 j)).symm)
  · refine (h c).2.2.1.trans (funext fun j => ?_)
    exact (congrArg _ (eq_ix2 j)).trans ((Proj.same_10 hs (j 0) (j 1)).trans (congrArg (Cert.Kernel2Ideal.Value.G10 m c) (eq_ix2 j)).symm)
  · refine (h c).2.2.2.1.trans (funext fun j => ?_)
    exact (congrArg _ (eq_ix2 j)).trans ((Proj.same_11 hs (j 0) (j 1)).trans (congrArg (Cert.Kernel2Ideal.Value.G11 m c) (eq_ix2 j)).symm)
  · refine (h c).2.2.2.2.1.trans (funext fun j => ?_)
    exact (congrArg _ (eq_ix2 j)).trans (((Proj.Ref.final_gates m' c (j 0) (j 1)).trans (Proj.same_12 hs (j 0) (j 1))).trans (congrArg (Cert.Kernel2Ideal.Value.G12 m c) (eq_ix2 j)).symm)
  · refine (h c).2.2.2.2.2.1.trans (funext fun j => ?_)
    exact (congrArg _ (eq_ix2 j)).trans ((Proj.same_13 hs (j 0) (j 1)).trans (congrArg (Cert.Kernel2Ideal.Value.G13 m c) (eq_ix2 j)).symm)
  · refine (h c).2.2.2.2.2.2.1.trans (funext fun j => ?_)
    exact (congrArg _ (eq_ix2 j)).trans ((Proj.same_14 hs (j 0) (j 1)).trans (congrArg (Cert.Kernel2Ideal.Value.G14 m c) (eq_ix2 j)).symm)
  · refine (h c).2.2.2.2.2.2.2.1.trans (funext fun j => ?_)
    exact (congrArg _ (eq_ix2 j)).trans ((Proj.same_15 hs (j 0) (j 1)).trans (congrArg (Cert.Kernel2Ideal.Value.G15 m c) (eq_ix2 j)).symm)

theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- From tables naming only the thirty-two experts, the experts and their reference end with the same array. -/
theorem value3 : Cert.algebraic_Kernel3Ideal_Reference3Ideal (hPre_experts_named := Cert.Pre_experts_named.Gen.facts) :=
  fun m ρ m' ρ' hpre hag => by
    have hm : Exp.Named m := Exp.Pre.named m hpre
    refine ⟨fun c => Exp.result hm c, Exp.ends hm ρ, ?_⟩
    refine (θ_run Cert.Reference3Ideal.defs _ _).mono (fun r h c => ⟨(h c).1.trans ?_, (h c).2⟩) (Cert.Reference3Ideal.Value.run (F := Ideal) m' ρ')
    exact Exp.agree hm c _ _ _ _ _ _ (hag c).1 (hag c).2.1 (hag c).2.2.1 (hag c).2.2.2.1 (hag c).2.2.2.2.1 (hag c).2.2.2.2.2

theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- From positions naming rows of the experts' outputs, the last call and its reference end with the same array. -/
theorem value4 : Cert.algebraic_Kernel4Ideal_Reference4Ideal (hPre_rows_named := Cert.Pre_rows_named.Gen.facts) :=
  fun m ρ m' ρ' hpre hag => by
    refine ⟨fun c => Com.result (m := m) c, Com.ends (Com.Pre.named m hpre) ρ, ?_⟩
    refine (θ_run Cert.Reference4Ideal.defs _ _).mono (fun r h c => ⟨(h c).1.trans ?_, (h c).2⟩) (Cert.Reference4Ideal.Value.run (F := Ideal) m' ρ')
    refine (Com.Ref.res m' c).trans ?_
    obtain ⟨e0, e1, e2, e3, e4, e5, e6, e7, e8, e9⟩ := hag c
    exact Com.agree c (Com.Pre.bound m hpre c) _ _ _ _ _ _ _ _ _ _ e0 e1 e2 e3 e4 e5 e6 e7 e8 e9

theorem frame_reference5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- From any arguments the output projection and its reference end with the same stream and the same scaled rows. -/
theorem value5 : Cert.algebraic_Kernel5Ideal_Reference5Ideal := fun m ρ m' ρ' _ hag => by
  refine ⟨fun c => Cert.Kernel5Ideal.Value.G8 m c, fun c => Cert.Kernel5Ideal.Value.G9 m c, ?_, ?_⟩
  · exact (θ_run Cert.Kernel5Ideal.defs _ _).mono (fun r h c => ⟨(h c).1, (h c).2.1, (h c).2.2.2.2⟩) (Cert.Kernel5Ideal.Value.run m ρ)
  · refine (θ_run Cert.Reference5Ideal.defs _ _).mono (fun r h c => ⟨(h c).1.trans ?_, (h c).2.1.trans ?_, (h c).2.2⟩)
      (Cert.Reference5Ideal.Value.run (F := Ideal) m' ρ')
    · exact Out.agree_stream m c _ _ _ _ (hag c).1 (hag c).2.1 (hag c).2.2.1 (hag c).2.2.2.1
    · exact Out.agree_scaled m c _ _ _ _ _ (hag c).1 (hag c).2.1 (hag c).2.2.1 (hag c).2.2.2.1 (hag c).2.2.2.2.1

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts, Cert.Pre_experts_named.Gen.facts, Cert.Pre_rows_named.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ hp => ExpBits.unchanged (Exp.Pre.named_bits m hp) ρ,
  fun m ρ hp => Exp.unchanged (Exp.Pre.named m hp) ρ,
  frame_reference3,
  fun m ρ _ => frame_reference3 m ρ trivial,
  fun m ρ hp => ComBits.unchanged (Com.Pre.named_bits m hp) ρ,
  fun m ρ hp => Com.unchanged (Com.Pre.named m hp) ρ,
  frame_reference4,
  fun m ρ _ => frame_reference4 m ρ trivial,
  fun m ρ _ => Cert.Kernel5.Gen.frame m ρ,
  fun m ρ _ => Cert.Kernel5Ideal.Gen.frame m ρ,
  frame_reference5,
  trivial,
  value,
  trivial,
  value2,
  trivial,
  value3,
  trivial,
  value4,
  trivial,
  value5⟩

end Cert.Proof

end
